-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.bf16_pair.PackStatement Cert.Kernel3Ideal.S256x1024
  ∧ IdealRules.bf16_pair.Statement Cert.Kernel3Ideal.S256x2x128 Cert.Kernel3Ideal.S256x1x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v13_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.shift_out.By16TwiceStatement Cert.Kernel4Ideal.S16x128

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S16384x3072 : Shape := ⟨2, ![16384, 3072]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S64 : S_.BroadcastsInDim S64 (![] : Fin 0 → Fin S64.rank)

variable [Facts]

def fn {F : FTy → Type} [FloatOps F] (main_arg0 : FVec F S16384x3072 .bf16) (main_arg1 : FVec F S64 .f32) (main_arg2 : FVec F S64 .f32) (main_arg3 : FVec F S64 .f32) (main_arg4 : FVec F S64 .f32) (main_arg5 : FVec F S128 .f32) : IVec S16384x3072 1 × IVec S64 1 × IVec S64 1 × IVec S64 1 × IVec S64 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg3
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg4
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  (main_v3, main_v6, main_v9, main_v12, main_v15)
-- ==== Kernel.lean ====
abbrev S16384x3072 : Shape := ⟨2, ![16384, 3072]⟩
abbrev S64 : Shape := ⟨1, ![64]⟩
abbrev S128 : Shape := ⟨1, ![128]⟩
abbrev S1x64 : Shape := ⟨2, ![1, 64]⟩
abbrev S1x128 : Shape := ⟨2, ![1, 128]⟩
abbrev S16384x1024 : Shape := ⟨2, ![16384, 1024]⟩
abbrev S256x1024 : Shape := ⟨2, ![256, 1024]⟩
abbrev S2048x1024 : Shape := ⟨2, ![2048, 1024]⟩
abbrev S8x8x144x256 : Shape := ⟨4, ![8, 8, 144, 256]⟩
abbrev S8x512x128 : Shape := ⟨3, ![8, 512, 128]⟩
abbrev S144x512 : Shape := ⟨2, ![144, 512]⟩
abbrev S1x512 : Shape := ⟨2, ![1, 512]⟩
abbrev S256x512 : Shape := ⟨2, ![256, 512]⟩
abbrev S256x128 : Shape := ⟨2, ![256, 128]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S1 : Shape := ⟨1, ![1]⟩
abbrev S1x1 : Shape := ⟨2, ![1, 1]⟩
abbrev S1x256x128 : Shape := ⟨3, ![1, 256, 128]⟩
abbrev S1x512x128 : Shape := ⟨3, ![1, 512, 128]⟩
abbrev S512x128 : Shape := ⟨2, ![512, 128]⟩
abbrev S512 : Shape := ⟨1, ![512]⟩
abbrev S1x1x144x256 : Shape := ⟨4, ![1, 1, 144, 256]⟩
abbrev S144x256 : Shape := ⟨2, ![144, 256]⟩
abbrev S128x512 : Shape := ⟨2, ![128, 512]⟩
abbrev S256 : Shape := ⟨1, ![256]⟩
abbrev S1x256 : Shape := ⟨2, ![1, 256]⟩

abbrev nBuf : Space → Nat
  | .hbm => 12
  | .vmem => 47
  | .smem => 0
  | _ => 0

abbrev bufTy : (tb : Table) → Fin (tcTables nBuf tb) → BufTy
  | .hbm, ⟨0, _⟩ => ⟨S16384x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S16384x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x128, .f32⟩
  | .local _ .vmem, ⟨11, _⟩ => ⟨S256x1024, .bf16⟩
  | .local _ .vmem, ⟨12, _⟩ => ⟨S256x1024, .bf16⟩
  | .local _ .vmem, ⟨13, _⟩ => ⟨S8x8x144x256, .bf16⟩
  | .local _ .vmem, ⟨14, _⟩ => ⟨S8x512x128, .bf16⟩
  | .local _ .vmem, ⟨15, _⟩ => ⟨S144x512, .f32⟩
  | .local _ .vmem, ⟨16, _⟩ => ⟨S144x512, .f32⟩
  | .local _ .vmem, ⟨17, _⟩ => ⟨S144x512, .f32⟩
  | .local _ .vmem, ⟨18, _⟩ => ⟨S144x512, .f32⟩
  | .local _ .vmem, ⟨19, _⟩ => ⟨S144x512, .f32⟩
  | .local _ .vmem, ⟨20, _⟩ => ⟨S144x512, .f32⟩
  | .local _ .vmem, ⟨21, _⟩ => ⟨S144x512, .f32⟩
  | .local _ .vmem, ⟨22, _⟩ => ⟨S144x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_scratch11 : Ref sig .tc := ⟨.vmem, 24, rfl⟩
abbrev cc0_scratch12 : Ref sig .tc := ⟨.vmem, 25, rfl⟩
abbrev cc0_scratch13 : Ref sig .tc := ⟨.vmem, 26, rfl⟩
abbrev cc0_scratch14 : Ref sig .tc := ⟨.vmem, 27, rfl⟩
abbrev cc0_scratch15 : Ref sig .tc := ⟨.vmem, 28, rfl⟩
abbrev cc0_scratch16 : Ref sig .tc := ⟨.vmem, 29, rfl⟩
abbrev cc0_scratch17 : Ref sig .tc := ⟨.vmem, 30, rfl⟩
abbrev cc0_scratch18 : Ref sig .tc := ⟨.vmem, 31, rfl⟩
abbrev cc0_scratch19 : Ref sig .tc := ⟨.vmem, 32, rfl⟩
abbrev cc0_scratch20 : Ref sig .tc := ⟨.vmem, 33, rfl⟩
abbrev cc0_scratch21 : Ref sig .tc := ⟨.vmem, 34, rfl⟩
abbrev cc0_scratch22 : Ref sig .tc := ⟨.vmem, 35, rfl⟩
abbrev cc0_scratch23 : Ref sig .tc := ⟨.vmem, 36, rfl⟩
abbrev cc0_scratch24 : Ref sig .tc := ⟨.vmem, 37, rfl⟩
abbrev cc0_scratch25 : Ref sig .tc := ⟨.vmem, 38, rfl⟩
abbrev cc0_scratch26 : Ref sig .tc := ⟨.vmem, 39, rfl⟩
abbrev cc0_scratch27 : Ref sig .tc := ⟨.vmem, 40, rfl⟩
abbrev cc0_scratch28 : Ref sig .tc := ⟨.vmem, 41, rfl⟩
abbrev cc0_scratch29 : Ref sig .tc := ⟨.vmem, 42, rfl⟩
abbrev cc0_scratch30 : Ref sig .tc := ⟨.vmem, 43, rfl⟩
abbrev cc0_scratch31 : Ref sig .tc := ⟨.vmem, 44, rfl⟩
abbrev cc0_scratch32 : Ref sig .tc := ⟨.vmem, 45, rfl⟩
abbrev cc0_scratch33 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 1, 8], ![false, false, false]⟩

def k0_mult1 : BitVec 32 :=
  let c0_i32_139 : BitVec 32 := 0#32
  c0_i32_139
def k0_mult2 : BitVec 32 :=
  let c0_i32_147 : BitVec 32 := 0#32
  c0_i32_147
def k0_mult3 : BitVec 32 :=
  let c0_i32_155 : BitVec 32 := 0#32
  c0_i32_155
def k0_mult4 : BitVec 32 :=
  let c0_i32_163 : BitVec 32 := 0#32
  c0_i32_163
def k0_mult5 : BitVec 32 :=
  let c0_i32_171 : BitVec 32 := 0#32
  c0_i32_171
def k0_mult6 : BitVec 32 :=
  let c0_i32_179 : BitVec 32 := 0#32
  c0_i32_179
def k0_mult7 : BitVec 32 :=
  let c0_i32_187 : BitVec 32 := 0#32
  c0_i32_187
def k0_mult8 : BitVec 32 :=
  let c0_i32_195 : BitVec 32 := 0#32
  c0_i32_195
@[reducible] def k0_t1_loop (i : grid0.Coords) : Scf.Loop 32 :=
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_211 : BitVec 32 := 1#32
  ⟨c0_i32_209, v315, c1_i32_211⟩
def k0_mult9 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_318 : BitVec 32 := 1#32
  let v591 : BitVec 32 := Scalar.addi v590 c1_i32_318
  let c256_i32 : BitVec 32 := 256#32
  let v592 : BitVec 32 := Scalar.muli v591 c256_i32
  v592
def k0_off1 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_318 : BitVec 32 := 1#32
  let v591 : BitVec 32 := Scalar.addi v590 c1_i32_318
  let c256_i32 : BitVec 32 := 256#32
  let v592 : BitVec 32 := Scalar.muli v591 c256_i32
  let v593 : BitVec 32 := v592
  let v594 : Index := Scalar.indexCast v593
  let c0_319 : Index := 0#32
  ![v594.toNat, 0]
def k0_off2 (i : grid0.Coords) (k0_t1 : Fin (k0_t1_loop i).trips) : Fin 4 → Nat :=
  let c0_331 : Index := 0#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v613 : Index := Scalar.indexCast v590
  let c0_332 : Index := 0#32
  let c0_333 : Index := 0#32
  ![0, v613.toNat, 0, 0]
def k0_mult10 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_341 : BitVec 32 := 1#32
  let v627 : BitVec 32 := Scalar.addi v590 c1_i32_341
  let c256_i32_342 : BitVec 32 := 256#32
  let v628 : BitVec 32 := Scalar.muli v627 c256_i32_342
  v628
def k0_off3 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_341 : BitVec 32 := 1#32
  let v627 : BitVec 32 := Scalar.addi v590 c1_i32_341
  let c256_i32_342 : BitVec 32 := 256#32
  let v628 : BitVec 32 := Scalar.muli v627 c256_i32_342
  let v629 : BitVec 32 := v628
  let v630 : Index := Scalar.indexCast v629
  let c128_343 : Index := 128#32
  ![v630.toNat, 128]
def k0_off4 (i : grid0.Coords) (k0_t1 : Fin (k0_t1_loop i).trips) : Fin 4 → Nat :=
  let c1_355 : Index := 1#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v649 : Index := Scalar.indexCast v590
  let c0_356 : Index := 0#32
  let c0_357 : Index := 0#32
  ![1, v649.toNat, 0, 0]
def k0_mult11 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_365 : BitVec 32 := 1#32
  let v663 : BitVec 32 := Scalar.addi v590 c1_i32_365
  let c256_i32_366 : BitVec 32 := 256#32
  let v664 : BitVec 32 := Scalar.muli v663 c256_i32_366
  v664
def k0_off5 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_365 : BitVec 32 := 1#32
  let v663 : BitVec 32 := Scalar.addi v590 c1_i32_365
  let c256_i32_366 : BitVec 32 := 256#32
  let v664 : BitVec 32 := Scalar.muli v663 c256_i32_366
  let v665 : BitVec 32 := v664
  let v666 : Index := Scalar.indexCast v665
  let c256_367 : Index := 256#32
  ![v666.toNat, 256]
def k0_off6 (i : grid0.Coords) (k0_t1 : Fin (k0_t1_loop i).trips) : Fin 4 → Nat :=
  let c2_379 : Index := 2#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v685 : Index := Scalar.indexCast v590
  let c0_380 : Index := 0#32
  let c0_381 : Index := 0#32
  ![2, v685.toNat, 0, 0]
def k0_mult12 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_389 : BitVec 32 := 1#32
  let v699 : BitVec 32 := Scalar.addi v590 c1_i32_389
  let c256_i32_390 : BitVec 32 := 256#32
  let v700 : BitVec 32 := Scalar.muli v699 c256_i32_390
  v700
def k0_off7 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_389 : BitVec 32 := 1#32
  let v699 : BitVec 32 := Scalar.addi v590 c1_i32_389
  let c256_i32_390 : BitVec 32 := 256#32
  let v700 : BitVec 32 := Scalar.muli v699 c256_i32_390
  let v701 : BitVec 32 := v700
  let v702 : Index := Scalar.indexCast v701
  let c384_391 : Index := 384#32
  ![v702.toNat, 384]
def k0_off8 (i : grid0.Coords) (k0_t1 : Fin (k0_t1_loop i).trips) : Fin 4 → Nat :=
  let c3_403 : Index := 3#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v721 : Index := Scalar.indexCast v590
  let c0_404 : Index := 0#32
  let c0_405 : Index := 0#32
  ![3, v721.toNat, 0, 0]
def k0_mult13 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_413 : BitVec 32 := 1#32
  let v735 : BitVec 32 := Scalar.addi v590 c1_i32_413
  let c256_i32_414 : BitVec 32 := 256#32
  let v736 : BitVec 32 := Scalar.muli v735 c256_i32_414
  v736
def k0_off9 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_413 : BitVec 32 := 1#32
  let v735 : BitVec 32 := Scalar.addi v590 c1_i32_413
  let c256_i32_414 : BitVec 32 := 256#32
  let v736 : BitVec 32 := Scalar.muli v735 c256_i32_414
  let v737 : BitVec 32 := v736
  let v738 : Index := Scalar.indexCast v737
  let c512_415 : Index := 512#32
  ![v738.toNat, 512]
def k0_off10 (i : grid0.Coords) (k0_t1 : Fin (k0_t1_loop i).trips) : Fin 4 → Nat :=
  let c4_427 : Index := 4#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v757 : Index := Scalar.indexCast v590
  let c0_428 : Index := 0#32
  let c0_429 : Index := 0#32
  ![4, v757.toNat, 0, 0]
def k0_mult14 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_437 : BitVec 32 := 1#32
  let v771 : BitVec 32 := Scalar.addi v590 c1_i32_437
  let c256_i32_438 : BitVec 32 := 256#32
  let v772 : BitVec 32 := Scalar.muli v771 c256_i32_438
  v772
def k0_off11 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_437 : BitVec 32 := 1#32
  let v771 : BitVec 32 := Scalar.addi v590 c1_i32_437
  let c256_i32_438 : BitVec 32 := 256#32
  let v772 : BitVec 32 := Scalar.muli v771 c256_i32_438
  let v773 : BitVec 32 := v772
  let v774 : Index := Scalar.indexCast v773
  let c640_439 : Index := 640#32
  ![v774.toNat, 640]
def k0_off12 (i : grid0.Coords) (k0_t1 : Fin (k0_t1_loop i).trips) : Fin 4 → Nat :=
  let c5_451 : Index := 5#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v793 : Index := Scalar.indexCast v590
  let c0_452 : Index := 0#32
  let c0_453 : Index := 0#32
  ![5, v793.toNat, 0, 0]
def k0_mult15 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_461 : BitVec 32 := 1#32
  let v807 : BitVec 32 := Scalar.addi v590 c1_i32_461
  let c256_i32_462 : BitVec 32 := 256#32
  let v808 : BitVec 32 := Scalar.muli v807 c256_i32_462
  v808
def k0_off13 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_461 : BitVec 32 := 1#32
  let v807 : BitVec 32 := Scalar.addi v590 c1_i32_461
  let c256_i32_462 : BitVec 32 := 256#32
  let v808 : BitVec 32 := Scalar.muli v807 c256_i32_462
  let v809 : BitVec 32 := v808
  let v810 : Index := Scalar.indexCast v809
  let c768_463 : Index := 768#32
  ![v810.toNat, 768]
def k0_off14 (i : grid0.Coords) (k0_t1 : Fin (k0_t1_loop i).trips) : Fin 4 → Nat :=
  let c6_475 : Index := 6#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v829 : Index := Scalar.indexCast v590
  let c0_476 : Index := 0#32
  let c0_477 : Index := 0#32
  ![6, v829.toNat, 0, 0]
def k0_mult16 (i : grid0.Coords) (k0_t1 : Fin (k0_t1_loop i).trips) : BitVec 32 :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_485 : BitVec 32 := 1#32
  let v843 : BitVec 32 := Scalar.addi v590 c1_i32_485
  let c256_i32_486 : BitVec 32 := 256#32
  let v844 : BitVec 32 := Scalar.muli v843 c256_i32_486
  v844
def k0_off15 (i : grid0.Coords) (k0_t1 : Fin (k0_t1_loop i).trips) : Fin 2 → Nat :=
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let c1_i32_485 : BitVec 32 := 1#32
  let v843 : BitVec 32 := Scalar.addi v590 c1_i32_485
  let c256_i32_486 : BitVec 32 := 256#32
  let v844 : BitVec 32 := Scalar.muli v843 c256_i32_486
  let v845 : BitVec 32 := v844
  let v846 : Index := Scalar.indexCast v845
  let c896_487 : Index := 896#32
  ![v846.toNat, 896]
def k0_off16 (i : grid0.Coords) (k0_t1 : Fin (k0_t1_loop i).trips) : Fin 4 → Nat :=
  let c7_499 : Index := 7#32
  let c2_i32_317 : BitVec 32 := 2#32
  let c0_i32_209 : BitVec 32 := 0#32
  let c1_i32_211 : BitVec 32 := 1#32
  let arg46 : BitVec 32 := Scf.iv c0_i32_209 c1_i32_211 k0_t1
  let v590 : BitVec 32 := Scalar.muli c2_i32_317 arg46
  let v865 : Index := Scalar.indexCast v590
  let c0_500 : Index := 0#32
  let c0_501 : Index := 0#32
  ![7, v865.toNat, 0, 0]
def k0_mult17 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_511 : BitVec 32 := 1#32
  let v881 : BitVec 32 := Scalar.addi v880 c1_i32_511
  let c256_i32_512 : BitVec 32 := 256#32
  let v882 : BitVec 32 := Scalar.muli v881 c256_i32_512
  v882
def k0_off17 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_511 : BitVec 32 := 1#32
  let v881 : BitVec 32 := Scalar.addi v880 c1_i32_511
  let c256_i32_512 : BitVec 32 := 256#32
  let v882 : BitVec 32 := Scalar.muli v881 c256_i32_512
  let v883 : BitVec 32 := v882
  let v884 : Index := Scalar.indexCast v883
  let c0_513 : Index := 0#32
  ![v884.toNat, 0]
def k0_off18 (i : grid0.Coords) (k0_t1 : Fin (k0_t1_loop i).trips) : Fin 4 → Nat :=
  let c0_525 : Index := 0#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v903 : Index := Scalar.indexCast v880
  let c0_526 : Index := 0#32
  let c0_527 : Index := 0#32
  ![0, v903.toNat, 0, 0]
def k0_mult18 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_535 : BitVec 32 := 1#32
  let v917 : BitVec 32 := Scalar.addi v880 c1_i32_535
  let c256_i32_536 : BitVec 32 := 256#32
  let v918 : BitVec 32 := Scalar.muli v917 c256_i32_536
  v918
def k0_off19 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_535 : BitVec 32 := 1#32
  let v917 : BitVec 32 := Scalar.addi v880 c1_i32_535
  let c256_i32_536 : BitVec 32 := 256#32
  let v918 : BitVec 32 := Scalar.muli v917 c256_i32_536
  let v919 : BitVec 32 := v918
  let v920 : Index := Scalar.indexCast v919
  let c128_537 : Index := 128#32
  ![v920.toNat, 128]
def k0_off20 (i : grid0.Coords) (k0_t1 : Fin (k0_t1_loop i).trips) : Fin 4 → Nat :=
  let c1_549 : Index := 1#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v939 : Index := Scalar.indexCast v880
  let c0_550 : Index := 0#32
  let c0_551 : Index := 0#32
  ![1, v939.toNat, 0, 0]
def k0_mult19 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_559 : BitVec 32 := 1#32
  let v953 : BitVec 32 := Scalar.addi v880 c1_i32_559
  let c256_i32_560 : BitVec 32 := 256#32
  let v954 : BitVec 32 := Scalar.muli v953 c256_i32_560
  v954
def k0_off21 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_559 : BitVec 32 := 1#32
  let v953 : BitVec 32 := Scalar.addi v880 c1_i32_559
  let c256_i32_560 : BitVec 32 := 256#32
  let v954 : BitVec 32 := Scalar.muli v953 c256_i32_560
  let v955 : BitVec 32 := v954
  let v956 : Index := Scalar.indexCast v955
  let c256_561 : Index := 256#32
  ![v956.toNat, 256]
def k0_off22 (i : grid0.Coords) (k0_t1 : Fin (k0_t1_loop i).trips) : Fin 4 → Nat :=
  let c2_573 : Index := 2#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v975 : Index := Scalar.indexCast v880
  let c0_574 : Index := 0#32
  let c0_575 : Index := 0#32
  ![2, v975.toNat, 0, 0]
def k0_mult20 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_583 : BitVec 32 := 1#32
  let v989 : BitVec 32 := Scalar.addi v880 c1_i32_583
  let c256_i32_584 : BitVec 32 := 256#32
  let v990 : BitVec 32 := Scalar.muli v989 c256_i32_584
  v990
def k0_off23 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_583 : BitVec 32 := 1#32
  let v989 : BitVec 32 := Scalar.addi v880 c1_i32_583
  let c256_i32_584 : BitVec 32 := 256#32
  let v990 : BitVec 32 := Scalar.muli v989 c256_i32_584
  let v991 : BitVec 32 := v990
  let v992 : Index := Scalar.indexCast v991
  let c384_585 : Index := 384#32
  ![v992.toNat, 384]
def k0_off24 (i : grid0.Coords) (k0_t1 : Fin (k0_t1_loop i).trips) : Fin 4 → Nat :=
  let c3_597 : Index := 3#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v1011 : Index := Scalar.indexCast v880
  let c0_598 : Index := 0#32
  let c0_599 : Index := 0#32
  ![3, v1011.toNat, 0, 0]
def k0_mult21 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_607 : BitVec 32 := 1#32
  let v1025 : BitVec 32 := Scalar.addi v880 c1_i32_607
  let c256_i32_608 : BitVec 32 := 256#32
  let v1026 : BitVec 32 := Scalar.muli v1025 c256_i32_608
  v1026
def k0_off25 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_607 : BitVec 32 := 1#32
  let v1025 : BitVec 32 := Scalar.addi v880 c1_i32_607
  let c256_i32_608 : BitVec 32 := 256#32
  let v1026 : BitVec 32 := Scalar.muli v1025 c256_i32_608
  let v1027 : BitVec 32 := v1026
  let v1028 : Index := Scalar.indexCast v1027
  let c512_609 : Index := 512#32
  ![v1028.toNat, 512]
def k0_off26 (i : grid0.Coords) (k0_t1 : Fin (k0_t1_loop i).trips) : Fin 4 → Nat :=
  let c4_621 : Index := 4#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v1047 : Index := Scalar.indexCast v880
  let c0_622 : Index := 0#32
  let c0_623 : Index := 0#32
  ![4, v1047.toNat, 0, 0]
def k0_mult22 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_631 : BitVec 32 := 1#32
  let v1061 : BitVec 32 := Scalar.addi v880 c1_i32_631
  let c256_i32_632 : BitVec 32 := 256#32
  let v1062 : BitVec 32 := Scalar.muli v1061 c256_i32_632
  v1062
def k0_off27 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_631 : BitVec 32 := 1#32
  let v1061 : BitVec 32 := Scalar.addi v880 c1_i32_631
  let c256_i32_632 : BitVec 32 := 256#32
  let v1062 : BitVec 32 := Scalar.muli v1061 c256_i32_632
  let v1063 : BitVec 32 := v1062
  let v1064 : Index := Scalar.indexCast v1063
  let c640_633 : Index := 640#32
  ![v1064.toNat, 640]
def k0_off28 (i : grid0.Coords) (k0_t1 : Fin (k0_t1_loop i).trips) : Fin 4 → Nat :=
  let c5_645 : Index := 5#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v1083 : Index := Scalar.indexCast v880
  let c0_646 : Index := 0#32
  let c0_647 : Index := 0#32
  ![5, v1083.toNat, 0, 0]
def k0_mult23 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_655 : BitVec 32 := 1#32
  let v1097 : BitVec 32 := Scalar.addi v880 c1_i32_655
  let c256_i32_656 : BitVec 32 := 256#32
  let v1098 : BitVec 32 := Scalar.muli v1097 c256_i32_656
  v1098
def k0_off29 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_655 : BitVec 32 := 1#32
  let v1097 : BitVec 32 := Scalar.addi v880 c1_i32_655
  let c256_i32_656 : BitVec 32 := 256#32
  let v1098 : BitVec 32 := Scalar.muli v1097 c256_i32_656
  let v1099 : BitVec 32 := v1098
  let v1100 : Index := Scalar.indexCast v1099
  let c768_657 : Index := 768#32
  ![v1100.toNat, 768]
def k0_off30 (i : grid0.Coords) (k0_t1 : Fin (k0_t1_loop i).trips) : Fin 4 → Nat :=
  let c6_669 : Index := 6#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v1119 : Index := Scalar.indexCast v880
  let c0_670 : Index := 0#32
  let c0_671 : Index := 0#32
  ![6, v1119.toNat, 0, 0]
def k0_mult24 (i : grid0.Coords) (k0_t1 : Fin (k0_t1_loop i).trips) : BitVec 32 :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_679 : BitVec 32 := 1#32
  let v1133 : BitVec 32 := Scalar.addi v880 c1_i32_679
  let c256_i32_680 : BitVec 32 := 256#32
  let v1134 : BitVec 32 := Scalar.muli v1133 c256_i32_680
  v1134
def k0_off31 (i : grid0.Coords) (k0_t1 : Fin (k0_t1_loop i).trips) : Fin 2 → Nat :=
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let c1_i32_679 : BitVec 32 := 1#32
  let v1133 : BitVec 32 := Scalar.addi v880 c1_i32_679
  let c256_i32_680 : BitVec 32 := 256#32
  let v1134 : BitVec 32 := Scalar.muli v1133 c256_i32_680
  let v1135 : BitVec 32 := v1134
  let v1136 : Index := Scalar.indexCast v1135
  let c896_681 : Index := 896#32
  ![v1136.toNat, 896]
def k0_off32 (i : grid0.Coords) (k0_t1 : Fin (k0_t1_loop i).trips) : Fin 4 → Nat :=
  let c7_693 : Index := 7#32
  let c2_i32_509 : BitVec 32 := 2#32
  let c0_i32_209 : BitVec 32 := 0#32
  let c1_i32_211 : BitVec 32 := 1#32
  let arg46 : BitVec 32 := Scf.iv c0_i32_209 c1_i32_211 k0_t1
  let v879 : BitVec 32 := Scalar.muli c2_i32_509 arg46
  let c1_i32_510 : BitVec 32 := 1#32
  let v880 : BitVec 32 := Scalar.addi v879 c1_i32_510
  let v1155 : Index := Scalar.indexCast v880
  let c0_694 : Index := 0#32
  let c0_695 : Index := 0#32
  ![7, v1155.toNat, 0, 0]
@[reducible] def k0_t2_loop (i : grid0.Coords) : Scf.Loop 32 :=
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let v312 : BitVec 32 := Scalar.addi c0_i32_209 v311
  let c1_i32_212 : BitVec 32 := 1#32
  ⟨v315, v312, c1_i32_212⟩
def k0_mult25 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_318 : BitVec 32 := 1#32
  let v591 : BitVec 32 := Scalar.addi v590 c1_i32_318
  let c256_i32 : BitVec 32 := 256#32
  let v592 : BitVec 32 := Scalar.muli v591 c256_i32
  v592
def k0_off33 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_318 : BitVec 32 := 1#32
  let v591 : BitVec 32 := Scalar.addi v590 c1_i32_318
  let c256_i32 : BitVec 32 := 256#32
  let v592 : BitVec 32 := Scalar.muli v591 c256_i32
  let v593 : BitVec 32 := v592
  let v594 : Index := Scalar.indexCast v593
  let c0_319 : Index := 0#32
  ![v594.toNat, 0]
def k0_off34 (i : grid0.Coords) (k0_t2 : Fin (k0_t2_loop i).trips) : Fin 4 → Nat :=
  let c0_331 : Index := 0#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v613 : Index := Scalar.indexCast v590
  let c0_332 : Index := 0#32
  let c0_333 : Index := 0#32
  ![0, v613.toNat, 0, 0]
def k0_mult26 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_341 : BitVec 32 := 1#32
  let v627 : BitVec 32 := Scalar.addi v590 c1_i32_341
  let c256_i32_342 : BitVec 32 := 256#32
  let v628 : BitVec 32 := Scalar.muli v627 c256_i32_342
  v628
def k0_off35 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_341 : BitVec 32 := 1#32
  let v627 : BitVec 32 := Scalar.addi v590 c1_i32_341
  let c256_i32_342 : BitVec 32 := 256#32
  let v628 : BitVec 32 := Scalar.muli v627 c256_i32_342
  let v629 : BitVec 32 := v628
  let v630 : Index := Scalar.indexCast v629
  let c128_343 : Index := 128#32
  ![v630.toNat, 128]
def k0_off36 (i : grid0.Coords) (k0_t2 : Fin (k0_t2_loop i).trips) : Fin 4 → Nat :=
  let c1_355 : Index := 1#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v649 : Index := Scalar.indexCast v590
  let c0_356 : Index := 0#32
  let c0_357 : Index := 0#32
  ![1, v649.toNat, 0, 0]
def k0_mult27 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_365 : BitVec 32 := 1#32
  let v663 : BitVec 32 := Scalar.addi v590 c1_i32_365
  let c256_i32_366 : BitVec 32 := 256#32
  let v664 : BitVec 32 := Scalar.muli v663 c256_i32_366
  v664
def k0_off37 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_365 : BitVec 32 := 1#32
  let v663 : BitVec 32 := Scalar.addi v590 c1_i32_365
  let c256_i32_366 : BitVec 32 := 256#32
  let v664 : BitVec 32 := Scalar.muli v663 c256_i32_366
  let v665 : BitVec 32 := v664
  let v666 : Index := Scalar.indexCast v665
  let c256_367 : Index := 256#32
  ![v666.toNat, 256]
def k0_off38 (i : grid0.Coords) (k0_t2 : Fin (k0_t2_loop i).trips) : Fin 4 → Nat :=
  let c2_379 : Index := 2#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v685 : Index := Scalar.indexCast v590
  let c0_380 : Index := 0#32
  let c0_381 : Index := 0#32
  ![2, v685.toNat, 0, 0]
def k0_mult28 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_389 : BitVec 32 := 1#32
  let v699 : BitVec 32 := Scalar.addi v590 c1_i32_389
  let c256_i32_390 : BitVec 32 := 256#32
  let v700 : BitVec 32 := Scalar.muli v699 c256_i32_390
  v700
def k0_off39 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_389 : BitVec 32 := 1#32
  let v699 : BitVec 32 := Scalar.addi v590 c1_i32_389
  let c256_i32_390 : BitVec 32 := 256#32
  let v700 : BitVec 32 := Scalar.muli v699 c256_i32_390
  let v701 : BitVec 32 := v700
  let v702 : Index := Scalar.indexCast v701
  let c384_391 : Index := 384#32
  ![v702.toNat, 384]
def k0_off40 (i : grid0.Coords) (k0_t2 : Fin (k0_t2_loop i).trips) : Fin 4 → Nat :=
  let c3_403 : Index := 3#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v721 : Index := Scalar.indexCast v590
  let c0_404 : Index := 0#32
  let c0_405 : Index := 0#32
  ![3, v721.toNat, 0, 0]
def k0_mult29 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_413 : BitVec 32 := 1#32
  let v735 : BitVec 32 := Scalar.addi v590 c1_i32_413
  let c256_i32_414 : BitVec 32 := 256#32
  let v736 : BitVec 32 := Scalar.muli v735 c256_i32_414
  v736
def k0_off41 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_413 : BitVec 32 := 1#32
  let v735 : BitVec 32 := Scalar.addi v590 c1_i32_413
  let c256_i32_414 : BitVec 32 := 256#32
  let v736 : BitVec 32 := Scalar.muli v735 c256_i32_414
  let v737 : BitVec 32 := v736
  let v738 : Index := Scalar.indexCast v737
  let c512_415 : Index := 512#32
  ![v738.toNat, 512]
def k0_off42 (i : grid0.Coords) (k0_t2 : Fin (k0_t2_loop i).trips) : Fin 4 → Nat :=
  let c4_427 : Index := 4#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v757 : Index := Scalar.indexCast v590
  let c0_428 : Index := 0#32
  let c0_429 : Index := 0#32
  ![4, v757.toNat, 0, 0]
def k0_mult30 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_437 : BitVec 32 := 1#32
  let v771 : BitVec 32 := Scalar.addi v590 c1_i32_437
  let c256_i32_438 : BitVec 32 := 256#32
  let v772 : BitVec 32 := Scalar.muli v771 c256_i32_438
  v772
def k0_off43 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_437 : BitVec 32 := 1#32
  let v771 : BitVec 32 := Scalar.addi v590 c1_i32_437
  let c256_i32_438 : BitVec 32 := 256#32
  let v772 : BitVec 32 := Scalar.muli v771 c256_i32_438
  let v773 : BitVec 32 := v772
  let v774 : Index := Scalar.indexCast v773
  let c640_439 : Index := 640#32
  ![v774.toNat, 640]
def k0_off44 (i : grid0.Coords) (k0_t2 : Fin (k0_t2_loop i).trips) : Fin 4 → Nat :=
  let c5_451 : Index := 5#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v793 : Index := Scalar.indexCast v590
  let c0_452 : Index := 0#32
  let c0_453 : Index := 0#32
  ![5, v793.toNat, 0, 0]
def k0_mult31 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_461 : BitVec 32 := 1#32
  let v807 : BitVec 32 := Scalar.addi v590 c1_i32_461
  let c256_i32_462 : BitVec 32 := 256#32
  let v808 : BitVec 32 := Scalar.muli v807 c256_i32_462
  v808
def k0_off45 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_461 : BitVec 32 := 1#32
  let v807 : BitVec 32 := Scalar.addi v590 c1_i32_461
  let c256_i32_462 : BitVec 32 := 256#32
  let v808 : BitVec 32 := Scalar.muli v807 c256_i32_462
  let v809 : BitVec 32 := v808
  let v810 : Index := Scalar.indexCast v809
  let c768_463 : Index := 768#32
  ![v810.toNat, 768]
def k0_off46 (i : grid0.Coords) (k0_t2 : Fin (k0_t2_loop i).trips) : Fin 4 → Nat :=
  let c6_475 : Index := 6#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v829 : Index := Scalar.indexCast v590
  let c0_476 : Index := 0#32
  let c0_477 : Index := 0#32
  ![6, v829.toNat, 0, 0]
def k0_mult32 (i : grid0.Coords) (k0_t2 : Fin (k0_t2_loop i).trips) : BitVec 32 :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_485 : BitVec 32 := 1#32
  let v843 : BitVec 32 := Scalar.addi v590 c1_i32_485
  let c256_i32_486 : BitVec 32 := 256#32
  let v844 : BitVec 32 := Scalar.muli v843 c256_i32_486
  v844
def k0_off47 (i : grid0.Coords) (k0_t2 : Fin (k0_t2_loop i).trips) : Fin 2 → Nat :=
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let c1_i32_485 : BitVec 32 := 1#32
  let v843 : BitVec 32 := Scalar.addi v590 c1_i32_485
  let c256_i32_486 : BitVec 32 := 256#32
  let v844 : BitVec 32 := Scalar.muli v843 c256_i32_486
  let v845 : BitVec 32 := v844
  let v846 : Index := Scalar.indexCast v845
  let c896_487 : Index := 896#32
  ![v846.toNat, 896]
def k0_off48 (i : grid0.Coords) (k0_t2 : Fin (k0_t2_loop i).trips) : Fin 4 → Nat :=
  let c7_499 : Index := 7#32
  let c2_i32_317 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v590 : BitVec 32 := Scalar.muli c2_i32_317 arg46
  let v865 : Index := Scalar.indexCast v590
  let c0_500 : Index := 0#32
  let c0_501 : Index := 0#32
  ![7, v865.toNat, 0, 0]
def k0_mult33 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_511 : BitVec 32 := 1#32
  let v881 : BitVec 32 := Scalar.addi v880 c1_i32_511
  let c256_i32_512 : BitVec 32 := 256#32
  let v882 : BitVec 32 := Scalar.muli v881 c256_i32_512
  v882
def k0_off49 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_511 : BitVec 32 := 1#32
  let v881 : BitVec 32 := Scalar.addi v880 c1_i32_511
  let c256_i32_512 : BitVec 32 := 256#32
  let v882 : BitVec 32 := Scalar.muli v881 c256_i32_512
  let v883 : BitVec 32 := v882
  let v884 : Index := Scalar.indexCast v883
  let c0_513 : Index := 0#32
  ![v884.toNat, 0]
def k0_off50 (i : grid0.Coords) (k0_t2 : Fin (k0_t2_loop i).trips) : Fin 4 → Nat :=
  let c0_525 : Index := 0#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v903 : Index := Scalar.indexCast v880
  let c0_526 : Index := 0#32
  let c0_527 : Index := 0#32
  ![0, v903.toNat, 0, 0]
def k0_mult34 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_535 : BitVec 32 := 1#32
  let v917 : BitVec 32 := Scalar.addi v880 c1_i32_535
  let c256_i32_536 : BitVec 32 := 256#32
  let v918 : BitVec 32 := Scalar.muli v917 c256_i32_536
  v918
def k0_off51 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_535 : BitVec 32 := 1#32
  let v917 : BitVec 32 := Scalar.addi v880 c1_i32_535
  let c256_i32_536 : BitVec 32 := 256#32
  let v918 : BitVec 32 := Scalar.muli v917 c256_i32_536
  let v919 : BitVec 32 := v918
  let v920 : Index := Scalar.indexCast v919
  let c128_537 : Index := 128#32
  ![v920.toNat, 128]
def k0_off52 (i : grid0.Coords) (k0_t2 : Fin (k0_t2_loop i).trips) : Fin 4 → Nat :=
  let c1_549 : Index := 1#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v939 : Index := Scalar.indexCast v880
  let c0_550 : Index := 0#32
  let c0_551 : Index := 0#32
  ![1, v939.toNat, 0, 0]
def k0_mult35 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_559 : BitVec 32 := 1#32
  let v953 : BitVec 32 := Scalar.addi v880 c1_i32_559
  let c256_i32_560 : BitVec 32 := 256#32
  let v954 : BitVec 32 := Scalar.muli v953 c256_i32_560
  v954
def k0_off53 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_559 : BitVec 32 := 1#32
  let v953 : BitVec 32 := Scalar.addi v880 c1_i32_559
  let c256_i32_560 : BitVec 32 := 256#32
  let v954 : BitVec 32 := Scalar.muli v953 c256_i32_560
  let v955 : BitVec 32 := v954
  let v956 : Index := Scalar.indexCast v955
  let c256_561 : Index := 256#32
  ![v956.toNat, 256]
def k0_off54 (i : grid0.Coords) (k0_t2 : Fin (k0_t2_loop i).trips) : Fin 4 → Nat :=
  let c2_573 : Index := 2#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v975 : Index := Scalar.indexCast v880
  let c0_574 : Index := 0#32
  let c0_575 : Index := 0#32
  ![2, v975.toNat, 0, 0]
def k0_mult36 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_583 : BitVec 32 := 1#32
  let v989 : BitVec 32 := Scalar.addi v880 c1_i32_583
  let c256_i32_584 : BitVec 32 := 256#32
  let v990 : BitVec 32 := Scalar.muli v989 c256_i32_584
  v990
def k0_off55 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_583 : BitVec 32 := 1#32
  let v989 : BitVec 32 := Scalar.addi v880 c1_i32_583
  let c256_i32_584 : BitVec 32 := 256#32
  let v990 : BitVec 32 := Scalar.muli v989 c256_i32_584
  let v991 : BitVec 32 := v990
  let v992 : Index := Scalar.indexCast v991
  let c384_585 : Index := 384#32
  ![v992.toNat, 384]
def k0_off56 (i : grid0.Coords) (k0_t2 : Fin (k0_t2_loop i).trips) : Fin 4 → Nat :=
  let c3_597 : Index := 3#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v1011 : Index := Scalar.indexCast v880
  let c0_598 : Index := 0#32
  let c0_599 : Index := 0#32
  ![3, v1011.toNat, 0, 0]
def k0_mult37 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_607 : BitVec 32 := 1#32
  let v1025 : BitVec 32 := Scalar.addi v880 c1_i32_607
  let c256_i32_608 : BitVec 32 := 256#32
  let v1026 : BitVec 32 := Scalar.muli v1025 c256_i32_608
  v1026
def k0_off57 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_607 : BitVec 32 := 1#32
  let v1025 : BitVec 32 := Scalar.addi v880 c1_i32_607
  let c256_i32_608 : BitVec 32 := 256#32
  let v1026 : BitVec 32 := Scalar.muli v1025 c256_i32_608
  let v1027 : BitVec 32 := v1026
  let v1028 : Index := Scalar.indexCast v1027
  let c512_609 : Index := 512#32
  ![v1028.toNat, 512]
def k0_off58 (i : grid0.Coords) (k0_t2 : Fin (k0_t2_loop i).trips) : Fin 4 → Nat :=
  let c4_621 : Index := 4#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v1047 : Index := Scalar.indexCast v880
  let c0_622 : Index := 0#32
  let c0_623 : Index := 0#32
  ![4, v1047.toNat, 0, 0]
def k0_mult38 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_631 : BitVec 32 := 1#32
  let v1061 : BitVec 32 := Scalar.addi v880 c1_i32_631
  let c256_i32_632 : BitVec 32 := 256#32
  let v1062 : BitVec 32 := Scalar.muli v1061 c256_i32_632
  v1062
def k0_off59 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_631 : BitVec 32 := 1#32
  let v1061 : BitVec 32 := Scalar.addi v880 c1_i32_631
  let c256_i32_632 : BitVec 32 := 256#32
  let v1062 : BitVec 32 := Scalar.muli v1061 c256_i32_632
  let v1063 : BitVec 32 := v1062
  let v1064 : Index := Scalar.indexCast v1063
  let c640_633 : Index := 640#32
  ![v1064.toNat, 640]
def k0_off60 (i : grid0.Coords) (k0_t2 : Fin (k0_t2_loop i).trips) : Fin 4 → Nat :=
  let c5_645 : Index := 5#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v1083 : Index := Scalar.indexCast v880
  let c0_646 : Index := 0#32
  let c0_647 : Index := 0#32
  ![5, v1083.toNat, 0, 0]
def k0_mult39 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_655 : BitVec 32 := 1#32
  let v1097 : BitVec 32 := Scalar.addi v880 c1_i32_655
  let c256_i32_656 : BitVec 32 := 256#32
  let v1098 : BitVec 32 := Scalar.muli v1097 c256_i32_656
  v1098
def k0_off61 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_655 : BitVec 32 := 1#32
  let v1097 : BitVec 32 := Scalar.addi v880 c1_i32_655
  let c256_i32_656 : BitVec 32 := 256#32
  let v1098 : BitVec 32 := Scalar.muli v1097 c256_i32_656
  let v1099 : BitVec 32 := v1098
  let v1100 : Index := Scalar.indexCast v1099
  let c768_657 : Index := 768#32
  ![v1100.toNat, 768]
def k0_off62 (i : grid0.Coords) (k0_t2 : Fin (k0_t2_loop i).trips) : Fin 4 → Nat :=
  let c6_669 : Index := 6#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v1119 : Index := Scalar.indexCast v880
  let c0_670 : Index := 0#32
  let c0_671 : Index := 0#32
  ![6, v1119.toNat, 0, 0]
def k0_mult40 (i : grid0.Coords) (k0_t2 : Fin (k0_t2_loop i).trips) : BitVec 32 :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_679 : BitVec 32 := 1#32
  let v1133 : BitVec 32 := Scalar.addi v880 c1_i32_679
  let c256_i32_680 : BitVec 32 := 256#32
  let v1134 : BitVec 32 := Scalar.muli v1133 c256_i32_680
  v1134
def k0_off63 (i : grid0.Coords) (k0_t2 : Fin (k0_t2_loop i).trips) : Fin 2 → Nat :=
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let c1_i32_679 : BitVec 32 := 1#32
  let v1133 : BitVec 32 := Scalar.addi v880 c1_i32_679
  let c256_i32_680 : BitVec 32 := 256#32
  let v1134 : BitVec 32 := Scalar.muli v1133 c256_i32_680
  let v1135 : BitVec 32 := v1134
  let v1136 : Index := Scalar.indexCast v1135
  let c896_681 : Index := 896#32
  ![v1136.toNat, 896]
def k0_off64 (i : grid0.Coords) (k0_t2 : Fin (k0_t2_loop i).trips) : Fin 4 → Nat :=
  let c7_693 : Index := 7#32
  let c2_i32_509 : BitVec 32 := 2#32
  let c0_i32_209 : BitVec 32 := 0#32
  let arg2 : BitVec 32 := BitVec.ofNat 32 (i 2).val
  let c0_i32_203 : BitVec 32 := 0#32
  let v295 : BitVec 1 := Scalar.cmpi .sgt arg2 c0_i32_203
  let v296 : BitVec 32 := Scalar.extui v295
  let c0_i32_204 : BitVec 32 := 0#32
  let v297 : BitVec 1 := Scalar.cmpi .slt arg2 c0_i32_204
  let v298 : BitVec 32 := Scalar.extui v297
  let v299 : BitVec 32 := Scalar.subi v296 v298
  let c2_i32 : BitVec 32 := 2#32
  let c0_i32_205 : BitVec 32 := 0#32
  let v300 : BitVec 1 := Scalar.cmpi .sgt c2_i32 c0_i32_205
  let v301 : BitVec 32 := Scalar.extui v300
  let c0_i32_206 : BitVec 32 := 0#32
  let v302 : BitVec 1 := Scalar.cmpi .slt c2_i32 c0_i32_206
  let v303 : BitVec 32 := Scalar.extui v302
  let v304 : BitVec 32 := Scalar.subi v301 v303
  let v305 : BitVec 1 := Scalar.cmpi .ne v299 v304
  let v306 : BitVec 32 := Scalar.remsi arg2 c2_i32
  let c0_i32_207 : BitVec 32 := 0#32
  let v307 : BitVec 1 := Scalar.cmpi .ne v306 c0_i32_207
  let v308 : BitVec 1 := Scalar.andi v305 v307
  let v294 : BitVec 32 := Scalar.divsi arg2 c2_i32
  let c1_i32 : BitVec 32 := 1#32
  let v309 : BitVec 32 := Scalar.subi v294 c1_i32
  let v310 : BitVec 32 := Scalar.select v308 v309 v294
  let v311 : BitVec 32 := Scalar.subi v310 c0_i32_209
  let c1_i32_210 : BitVec 32 := 1#32
  let v313 : BitVec 32 := Scalar.divsi v311 c1_i32_210
  let v314 : BitVec 32 := Scalar.muli v313 c1_i32_210
  let v315 : BitVec 32 := Scalar.addi c0_i32_209 v314
  let c1_i32_212 : BitVec 32 := 1#32
  let arg46 : BitVec 32 := Scf.iv v315 c1_i32_212 k0_t2
  let v879 : BitVec 32 := Scalar.muli c2_i32_509 arg46
  let c1_i32_510 : BitVec 32 := 1#32
  let v880 : BitVec 32 := Scalar.addi v879 c1_i32_510
  let v1155 : Index := Scalar.indexCast v880
  let c0_694 : Index := 0#32
  let c0_695 : Index := 0#32
  ![7, v1155.toNat, 0, 0]
def k0_cond2 (i : grid0.Coords) : BitVec 1 :=
  let arg2 : BitVec 32 := BitVec.ofNat 32 (i 2).val
  let c2_i32_213 : BitVec 32 := 2#32
  let c0_i32_214 : BitVec 32 := 0#32
  let v316 : BitVec 1 := Scalar.cmpi .eq c2_i32_213 c0_i32_214
  let c1_i32_215 : BitVec 32 := 1#32
  let v317 : BitVec 32 := Scalar.select v316 c1_i32_215 c2_i32_213
  let v318 : BitVec 32 := Scalar.remsi arg2 v317
  let c0_i32_217 : BitVec 32 := 0#32
  let v320 : BitVec 1 := Scalar.cmpi .slt v318 c0_i32_217
  let c0_i32_218 : BitVec 32 := 0#32
  let v321 : BitVec 1 := Scalar.cmpi .slt v317 c0_i32_218
  let v322 : BitVec 1 := Scalar.xori v320 v321
  let c0_i32_216 : BitVec 32 := 0#32
  let v319 : BitVec 1 := Scalar.cmpi .ne v318 c0_i32_216
  let v323 : BitVec 1 := Scalar.andi v322 v319
  let v324 : BitVec 32 := Scalar.addi v318 v317
  let v325 : BitVec 32 := Scalar.select v323 v324 v318
  let c1_i32_219 : BitVec 32 := 1#32
  let v326 : BitVec 1 := Scalar.cmpi .eq v325 c1_i32_219
  let v327 : BitVec 32 := Scalar.extui v326
  let c0_i32_220 : BitVec 32 := 0#32
  let v328 : BitVec 1 := Scalar.cmpi .ne v327 c0_i32_220
  v328

def k0_mult41 (i : grid0.Coords) : BitVec 32 :=
  let arg2 : BitVec 32 := BitVec.ofNat 32 (i 2).val
  let c1_i32_317 : BitVec 32 := 1#32
  let v590 : BitVec 32 := Scalar.subi arg2 c1_i32_317
  let c1_i32_318 : BitVec 32 := 1#32
  let v591 : BitVec 32 := Scalar.addi v590 c1_i32_318
  let c256_i32 : BitVec 32 := 256#32
  let v592 : BitVec 32 := Scalar.muli v591 c256_i32
  v592
def k0_off65 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_318 : BitVec 32 := 1#32
  let v591 : BitVec 32 := Scalar.addi v590 c1_i32_318
  let c256_i32 : BitVec 32 := 256#32
  let v592 : BitVec 32 := Scalar.muli v591 c256_i32
  let v593 : BitVec 32 := v592
  let v594 : Index := Scalar.indexCast v593
  let c0_319 : Index := 0#32
  ![v594.toNat, 0]
def k0_off66 (i : grid0.Coords) : Fin 4 → Nat :=
  let c0_331 : Index := 0#32
  let arg2 : BitVec 32 := BitVec.ofNat 32 (i 2).val
  let c1_i32_317 : BitVec 32 := 1#32
  let v590 : BitVec 32 := Scalar.subi arg2 c1_i32_317
  let v613 : Index := Scalar.indexCast v590
  let c0_332 : Index := 0#32
  let c0_333 : Index := 0#32
  ![0, v613.toNat, 0, 0]
def k0_mult42 (i : grid0.Coords) : BitVec 32 :=
  let arg2 : BitVec 32 := BitVec.ofNat 32 (i 2).val
  let c1_i32_317 : BitVec 32 := 1#32
  let v590 : BitVec 32 := Scalar.subi arg2 c1_i32_317
  let c1_i32_341 : BitVec 32 := 1#32
  let v627 : BitVec 32 := Scalar.addi v590 c1_i32_341
  let c256_i32_342 : BitVec 32 := 256#32
  let v628 : BitVec 32 := Scalar.muli v627 c256_i32_342
  v628
def k0_off67 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_341 : BitVec 32 := 1#32
  let v627 : BitVec 32 := Scalar.addi v590 c1_i32_341
  let c256_i32_342 : BitVec 32 := 256#32
  let v628 : BitVec 32 := Scalar.muli v627 c256_i32_342
  let v629 : BitVec 32 := v628
  let v630 : Index := Scalar.indexCast v629
  let c128_343 : Index := 128#32
  ![v630.toNat, 128]
def k0_off68 (i : grid0.Coords) : Fin 4 → Nat :=
  let c1_355 : Index := 1#32
  let arg2 : BitVec 32 := BitVec.ofNat 32 (i 2).val
  let c1_i32_317 : BitVec 32 := 1#32
  let v590 : BitVec 32 := Scalar.subi arg2 c1_i32_317
  let v649 : Index := Scalar.indexCast v590
  let c0_356 : Index := 0#32
  let c0_357 : Index := 0#32
  ![1, v649.toNat, 0, 0]
def k0_mult43 (i : grid0.Coords) : BitVec 32 :=
  let arg2 : BitVec 32 := BitVec.ofNat 32 (i 2).val
  let c1_i32_317 : BitVec 32 := 1#32
  let v590 : BitVec 32 := Scalar.subi arg2 c1_i32_317
  let c1_i32_365 : BitVec 32 := 1#32
  let v663 : BitVec 32 := Scalar.addi v590 c1_i32_365
  let c256_i32_366 : BitVec 32 := 256#32
  let v664 : BitVec 32 := Scalar.muli v663 c256_i32_366
  v664
def k0_off69 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_365 : BitVec 32 := 1#32
  let v663 : BitVec 32 := Scalar.addi v590 c1_i32_365
  let c256_i32_366 : BitVec 32 := 256#32
  let v664 : BitVec 32 := Scalar.muli v663 c256_i32_366
  let v665 : BitVec 32 := v664
  let v666 : Index := Scalar.indexCast v665
  let c256_367 : Index := 256#32
  ![v666.toNat, 256]
def k0_off70 (i : grid0.Coords) : Fin 4 → Nat :=
  let c2_379 : Index := 2#32
  let arg2 : BitVec 32 := BitVec.ofNat 32 (i 2).val
  let c1_i32_317 : BitVec 32 := 1#32
  let v590 : BitVec 32 := Scalar.subi arg2 c1_i32_317
  let v685 : Index := Scalar.indexCast v590
  let c0_380 : Index := 0#32
  let c0_381 : Index := 0#32
  ![2, v685.toNat, 0, 0]
def k0_mult44 (i : grid0.Coords) : BitVec 32 :=
  let arg2 : BitVec 32 := BitVec.ofNat 32 (i 2).val
  let c1_i32_317 : BitVec 32 := 1#32
  let v590 : BitVec 32 := Scalar.subi arg2 c1_i32_317
  let c1_i32_389 : BitVec 32 := 1#32
  let v699 : BitVec 32 := Scalar.addi v590 c1_i32_389
  let c256_i32_390 : BitVec 32 := 256#32
  let v700 : BitVec 32 := Scalar.muli v699 c256_i32_390
  v700
def k0_off71 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_389 : BitVec 32 := 1#32
  let v699 : BitVec 32 := Scalar.addi v590 c1_i32_389
  let c256_i32_390 : BitVec 32 := 256#32
  let v700 : BitVec 32 := Scalar.muli v699 c256_i32_390
  let v701 : BitVec 32 := v700
  let v702 : Index := Scalar.indexCast v701
  let c384_391 : Index := 384#32
  ![v702.toNat, 384]
def k0_off72 (i : grid0.Coords) : Fin 4 → Nat :=
  let c3_403 : Index := 3#32
  let arg2 : BitVec 32 := BitVec.ofNat 32 (i 2).val
  let c1_i32_317 : BitVec 32 := 1#32
  let v590 : BitVec 32 := Scalar.subi arg2 c1_i32_317
  let v721 : Index := Scalar.indexCast v590
  let c0_404 : Index := 0#32
  let c0_405 : Index := 0#32
  ![3, v721.toNat, 0, 0]
def k0_mult45 (i : grid0.Coords) : BitVec 32 :=
  let arg2 : BitVec 32 := BitVec.ofNat 32 (i 2).val
  let c1_i32_317 : BitVec 32 := 1#32
  let v590 : BitVec 32 := Scalar.subi arg2 c1_i32_317
  let c1_i32_413 : BitVec 32 := 1#32
  let v735 : BitVec 32 := Scalar.addi v590 c1_i32_413
  let c256_i32_414 : BitVec 32 := 256#32
  let v736 : BitVec 32 := Scalar.muli v735 c256_i32_414
  v736
def k0_off73 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_413 : BitVec 32 := 1#32
  let v735 : BitVec 32 := Scalar.addi v590 c1_i32_413
  let c256_i32_414 : BitVec 32 := 256#32
  let v736 : BitVec 32 := Scalar.muli v735 c256_i32_414
  let v737 : BitVec 32 := v736
  let v738 : Index := Scalar.indexCast v737
  let c512_415 : Index := 512#32
  ![v738.toNat, 512]
def k0_off74 (i : grid0.Coords) : Fin 4 → Nat :=
  let c4_427 : Index := 4#32
  let arg2 : BitVec 32 := BitVec.ofNat 32 (i 2).val
  let c1_i32_317 : BitVec 32 := 1#32
  let v590 : BitVec 32 := Scalar.subi arg2 c1_i32_317
  let v757 : Index := Scalar.indexCast v590
  let c0_428 : Index := 0#32
  let c0_429 : Index := 0#32
  ![4, v757.toNat, 0, 0]
def k0_mult46 (i : grid0.Coords) : BitVec 32 :=
  let arg2 : BitVec 32 := BitVec.ofNat 32 (i 2).val
  let c1_i32_317 : BitVec 32 := 1#32
  let v590 : BitVec 32 := Scalar.subi arg2 c1_i32_317
  let c1_i32_437 : BitVec 32 := 1#32
  let v771 : BitVec 32 := Scalar.addi v590 c1_i32_437
  let c256_i32_438 : BitVec 32 := 256#32
  let v772 : BitVec 32 := Scalar.muli v771 c256_i32_438
  v772
def k0_off75 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_437 : BitVec 32 := 1#32
  let v771 : BitVec 32 := Scalar.addi v590 c1_i32_437
  let c256_i32_438 : BitVec 32 := 256#32
  let v772 : BitVec 32 := Scalar.muli v771 c256_i32_438
  let v773 : BitVec 32 := v772
  let v774 : Index := Scalar.indexCast v773
  let c640_439 : Index := 640#32
  ![v774.toNat, 640]
def k0_off76 (i : grid0.Coords) : Fin 4 → Nat :=
  let c5_451 : Index := 5#32
  let arg2 : BitVec 32 := BitVec.ofNat 32 (i 2).val
  let c1_i32_317 : BitVec 32 := 1#32
  let v590 : BitVec 32 := Scalar.subi arg2 c1_i32_317
  let v793 : Index := Scalar.indexCast v590
  let c0_452 : Index := 0#32
  let c0_453 : Index := 0#32
  ![5, v793.toNat, 0, 0]
def k0_mult47 (i : grid0.Coords) : BitVec 32 :=
  let arg2 : BitVec 32 := BitVec.ofNat 32 (i 2).val
  let c1_i32_317 : BitVec 32 := 1#32
  let v590 : BitVec 32 := Scalar.subi arg2 c1_i32_317
  let c1_i32_461 : BitVec 32 := 1#32
  let v807 : BitVec 32 := Scalar.addi v590 c1_i32_461
  let c256_i32_462 : BitVec 32 := 256#32
  let v808 : BitVec 32 := Scalar.muli v807 c256_i32_462
  v808
def k0_off77 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_461 : BitVec 32 := 1#32
  let v807 : BitVec 32 := Scalar.addi v590 c1_i32_461
  let c256_i32_462 : BitVec 32 := 256#32
  let v808 : BitVec 32 := Scalar.muli v807 c256_i32_462
  let v809 : BitVec 32 := v808
  let v810 : Index := Scalar.indexCast v809
  let c768_463 : Index := 768#32
  ![v810.toNat, 768]
def k0_off78 (i : grid0.Coords) : Fin 4 → Nat :=
  let c6_475 : Index := 6#32
  let arg2 : BitVec 32 := BitVec.ofNat 32 (i 2).val
  let c1_i32_317 : BitVec 32 := 1#32
  let v590 : BitVec 32 := Scalar.subi arg2 c1_i32_317
  let v829 : Index := Scalar.indexCast v590
  let c0_476 : Index := 0#32
  let c0_477 : Index := 0#32
  ![6, v829.toNat, 0, 0]
def k0_mult48 (i : grid0.Coords) : BitVec 32 :=
  let arg2 : BitVec 32 := BitVec.ofNat 32 (i 2).val
  let c1_i32_317 : BitVec 32 := 1#32
  let v590 : BitVec 32 := Scalar.subi arg2 c1_i32_317
  let c1_i32_485 : BitVec 32 := 1#32
  let v843 : BitVec 32 := Scalar.addi v590 c1_i32_485
  let c256_i32_486 : BitVec 32 := 256#32
  let v844 : BitVec 32 := Scalar.muli v843 c256_i32_486
  v844
def k0_off79 (i : grid0.Coords) : Fin 2 → Nat :=
  let arg2 : BitVec 32 := BitVec.ofNat 32 (i 2).val
  let c1_i32_317 : BitVec 32 := 1#32
  let v590 : BitVec 32 := Scalar.subi arg2 c1_i32_317
  let c1_i32_485 : BitVec 32 := 1#32
  let v843 : BitVec 32 := Scalar.addi v590 c1_i32_485
  let c256_i32_486 : BitVec 32 := 256#32
  let v844 : BitVec 32 := Scalar.muli v843 c256_i32_486
  let v845 : BitVec 32 := v844
  let v846 : Index := Scalar.indexCast v845
  let c896_487 : Index := 896#32
  ![v846.toNat, 896]
def k0_off80 (i : grid0.Coords) : Fin 4 → Nat :=
  let c7_499 : Index := 7#32
  let arg2 : BitVec 32 := BitVec.ofNat 32 (i 2).val
  let c1_i32_317 : BitVec 32 := 1#32
  let v590 : BitVec 32 := Scalar.subi arg2 c1_i32_317
  let v865 : Index := Scalar.indexCast v590
  let c0_500 : Index := 0#32
  let c0_501 : Index := 0#32
  ![7, v865.toNat, 0, 0]
def k0_off81 (i : grid0.Coords) : Fin 4 → Nat :=
  let c0_517 : Index := 0#32
  let arg2 : BitVec 32 := BitVec.ofNat 32 (i 2).val
  let v900 : Index := Scalar.indexCast arg2
  let c0_518 : Index := 0#32
  let c0_519 : Index := 0#32
  ![0, v900.toNat, 0, 0]
def k0_off82 (i : grid0.Coords) : Fin 4 → Nat :=
  let c1_535 : Index := 1#32
  let arg2 : BitVec 32 := BitVec.ofNat 32 (i 2).val
  let v935 : Index := Scalar.indexCast arg2
  let c0_536 : Index := 0#32
  let c0_537 : Index := 0#32
  ![1, v935.toNat, 0, 0]
def k0_off83 (i : grid0.Coords) : Fin 4 → Nat :=
  let c2_553 : Index := 2#32
  let arg2 : BitVec 32 := BitVec.ofNat 32 (i 2).val
  let v970 : Index := Scalar.indexCast arg2
  let c0_554 : Index := 0#32
  let c0_555 : Index := 0#32
  ![2, v970.toNat, 0, 0]
def k0_off84 (i : grid0.Coords) : Fin 4 → Nat :=
  let c3_571 : Index := 3#32
  let arg2 : BitVec 32 := BitVec.ofNat 32 (i 2).val
  let v1005 : Index := Scalar.indexCast arg2
  let c0_572 : Index := 0#32
  let c0_573 : Index := 0#32
  ![3, v1005.toNat, 0, 0]
def k0_off85 (i : grid0.Coords) : Fin 4 → Nat :=
  let c4_589 : Index := 4#32
  let arg2 : BitVec 32 := BitVec.ofNat 32 (i 2).val
  let v1040 : Index := Scalar.indexCast arg2
  let c0_590 : Index := 0#32
  let c0_591 : Index := 0#32
  ![4, v1040.toNat, 0, 0]
def k0_off86 (i : grid0.Coords) : Fin 4 → Nat :=
  let c5_607 : Index := 5#32
  let arg2 : BitVec 32 := BitVec.ofNat 32 (i 2).val
  let v1075 : Index := Scalar.indexCast arg2
  let c0_608 : Index := 0#32
  let c0_609 : Index := 0#32
  ![5, v1075.toNat, 0, 0]
def k0_off87 (i : grid0.Coords) : Fin 4 → Nat :=
  let c6_625 : Index := 6#32
  let arg2 : BitVec 32 := BitVec.ofNat 32 (i 2).val
  let v1110 : Index := Scalar.indexCast arg2
  let c0_626 : Index := 0#32
  let c0_627 : Index := 0#32
  ![6, v1110.toNat, 0, 0]
def k0_off88 (i : grid0.Coords) : Fin 4 → Nat :=
  let c7_643 : Index := 7#32
  let arg2 : BitVec 32 := BitVec.ofNat 32 (i 2).val
  let v1145 : Index := Scalar.indexCast arg2
  let c0_644 : Index := 0#32
  let c0_645 : Index := 0#32
  ![7, v1145.toNat, 0, 0]
def k0_cond3 (i : grid0.Coords) : BitVec 1 :=
  let arg2 : BitVec 32 := BitVec.ofNat 32 (i 2).val
  let c2_i32_221 : BitVec 32 := 2#32
  let c0_i32_222 : BitVec 32 := 0#32
  let v329 : BitVec 1 := Scalar.cmpi .eq c2_i32_221 c0_i32_222
  let c1_i32_223 : BitVec 32 := 1#32
  let v330 : BitVec 32 := Scalar.select v329 c1_i32_223 c2_i32_221
  let v331 : BitVec 32 := Scalar.remsi arg2 v330
  let c0_i32_225 : BitVec 32 := 0#32
  let v333 : BitVec 1 := Scalar.cmpi .slt v331 c0_i32_225
  let c0_i32_226 : BitVec 32 := 0#32
  let v334 : BitVec 1 := Scalar.cmpi .slt v330 c0_i32_226
  let v335 : BitVec 1 := Scalar.xori v333 v334
  let c0_i32_224 : BitVec 32 := 0#32
  let v332 : BitVec 1 := Scalar.cmpi .ne v331 c0_i32_224
  let v336 : BitVec 1 := Scalar.andi v335 v332
  let v337 : BitVec 32 := Scalar.addi v331 v330
  let v338 : BitVec 32 := Scalar.select v336 v337 v331
  let c0_i32_227 : BitVec 32 := 0#32
  let v339 : BitVec 1 := Scalar.cmpi .eq v338 c0_i32_227
  let v340 : BitVec 32 := Scalar.extui v339
  let c0_i32_228 : BitVec 32 := 0#32
  let v341 : BitVec 1 := Scalar.cmpi .ne v340 c0_i32_228
  v341

def k0_off89 (i : grid0.Coords) : Fin 4 → Nat :=
  let c0_324 : Index := 0#32
  let arg2 : BitVec 32 := BitVec.ofNat 32 (i 2).val
  let v611 : Index := Scalar.indexCast arg2
  let c0_325 : Index := 0#32
  let c0_326 : Index := 0#32
  ![0, v611.toNat, 0, 0]
def k0_off90 (i : grid0.Coords) : Fin 4 → Nat :=
  let c1_342 : Index := 1#32
  let arg2 : BitVec 32 := BitVec.ofNat 32 (i 2).val
  let v646 : Index := Scalar.indexCast arg2
  let c0_343 : Index := 0#32
  let c0_344 : Index := 0#32
  ![1, v646.toNat, 0, 0]
def k0_off91 (i : grid0.Coords) : Fin 4 → Nat :=
  let c2_360 : Index := 2#32
  let arg2 : BitVec 32 := BitVec.ofNat 32 (i 2).val
  let v681 : Index := Scalar.indexCast arg2
  let c0_361 : Index := 0#32
  let c0_362 : Index := 0#32
  ![2, v681.toNat, 0, 0]
def k0_off92 (i : grid0.Coords) : Fin 4 → Nat :=
  let c3_378 : Index := 3#32
  let arg2 : BitVec 32 := BitVec.ofNat 32 (i 2).val
  let v716 : Index := Scalar.indexCast arg2
  let c0_379 : Index := 0#32
  let c0_380 : Index := 0#32
  ![3, v716.toNat, 0, 0]
def k0_off93 (i : grid0.Coords) : Fin 4 → Nat :=
  let c4_396 : Index := 4#32
  let arg2 : BitVec 32 := BitVec.ofNat 32 (i 2).val
  let v751 : Index := Scalar.indexCast arg2
  let c0_397 : Index := 0#32
  let c0_398 : Index := 0#32
  ![4, v751.toNat, 0, 0]
def k0_off94 (i : grid0.Coords) : Fin 4 → Nat :=
  let c5_414 : Index := 5#32
  let arg2 : BitVec 32 := BitVec.ofNat 32 (i 2).val
  let v786 : Index := Scalar.indexCast arg2
  let c0_415 : Index := 0#32
  let c0_416 : Index := 0#32
  ![5, v786.toNat, 0, 0]
def k0_off95 (i : grid0.Coords) : Fin 4 → Nat :=
  let c6_432 : Index := 6#32
  let arg2 : BitVec 32 := BitVec.ofNat 32 (i 2).val
  let v821 : Index := Scalar.indexCast arg2
  let c0_433 : Index := 0#32
  let c0_434 : Index := 0#32
  ![6, v821.toNat, 0, 0]
def k0_off96 (i : grid0.Coords) : Fin 4 → Nat :=
  let c7_450 : Index := 7#32
  let arg2 : BitVec 32 := BitVec.ofNat 32 (i 2).val
  let v856 : Index := Scalar.indexCast arg2
  let c0_451 : Index := 0#32
  let c0_452 : Index := 0#32
  ![7, v856.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S64 : Shape := ⟨1, ![64]⟩
abbrev S128 : Shape := ⟨1, ![128]⟩
abbrev S8x2048x3072 : Shape := ⟨3, ![8, 2048, 3072]⟩
abbrev S8x2048x1024 : Shape := ⟨3, ![8, 2048, 1024]⟩
abbrev S8x2048x8x2x64 : Shape := ⟨5, ![8, 2048, 8, 2, 64]⟩
abbrev S8x2048x8x128 : Shape := ⟨4, ![8, 2048, 8, 128]⟩
abbrev S_ : Shape := ⟨0, ![]⟩
abbrev S8x8x2x2048x2048 : Shape := ⟨5, ![8, 8, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16384x3072, .f32⟩
  | .hbm, ⟨7, _⟩ => ⟨S8x2048x3072, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x8x2x64, .f32⟩
  | .hbm, ⟨12, _⟩ => ⟨S8x2048x8x2x64, .f32⟩
  | .hbm, ⟨13, _⟩ => ⟨S8x2048x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x8x2x2048x2048, .f32⟩
  | .hbm, ⟨26, _⟩ => ⟨S_, .f32⟩
  | .hbm, ⟨27, _⟩ => ⟨S8x8x2x2048x2048, .f32⟩
  | .hbm, ⟨28, _⟩ => ⟨S8x8x2x2048x2048, .f32⟩
  | .hbm, ⟨29, _⟩ => ⟨S2048, .i32⟩
  | .hbm, ⟨30, _⟩ => ⟨S2048x1, .i32⟩
  | .hbm, ⟨31, _⟩ => ⟨S1x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x8x2x2048x2048, .i1⟩
  | .hbm, ⟨38, _⟩ => ⟨S8x8x2x2048x2048, .f32⟩
  | .hbm, ⟨39, _⟩ => ⟨S8x8x2x2048x2048, .f32⟩
  | .hbm, ⟨40, _⟩ => ⟨S_, .f32⟩
  | .hbm, ⟨41, _⟩ => ⟨S8x8x2x2048, .f32⟩
  | .hbm, ⟨42, _⟩ => ⟨S_, .f32⟩
  | .hbm, ⟨43, _⟩ => ⟨S8x8x2x2048, .f32⟩
  | .hbm, ⟨44, _⟩ => ⟨S8x8x2x2048, .f32⟩
  | .hbm, ⟨45, _⟩ => ⟨S8x8x2x2048x1, .f32⟩
  | .hbm, ⟨46, _⟩ => ⟨S8x8x2x2048x2048, .f32⟩
  | .hbm, ⟨47, _⟩ => ⟨S8x8x2x2048x2048, .f32⟩
  | .hbm, ⟨48, _⟩ => ⟨S8x8x2x2048x2048, .f32⟩
  | .hbm, ⟨49, _⟩ => ⟨S_, .f32⟩
  | .hbm, ⟨50, _⟩ => ⟨S8x8x2x2048, .f32⟩
  | .hbm, ⟨51, _⟩ => ⟨S8x8x2x2048x1, .f32⟩
  | .hbm, ⟨52, _⟩ => ⟨S8x8x2x2048x2048, .f32⟩
  | .hbm, ⟨53, _⟩ => ⟨S8x8x2x2048x2048, .f32⟩
  | .hbm, ⟨54, _⟩ => ⟨S8x8x1x2048x2048, .f32⟩
  | .hbm, ⟨55, _⟩ => ⟨S8x8x2048x2048, .f32⟩
  | .hbm, ⟨56, _⟩ => ⟨S8x8x1x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x128x2048, .f32⟩
  | .hbm, ⟨62, _⟩ => ⟨S8x2048x8x128, .f32⟩
  | .hbm, ⟨63, _⟩ => ⟨S8x2048x8x128, .f32⟩
  | .hbm, ⟨64, _⟩ => ⟨S_, .f32⟩
  | .hbm, ⟨65, _⟩ => ⟨S8x2048x8, .f32⟩
  | .hbm, ⟨66, _⟩ => ⟨S8x2048x8x1, .f32⟩
  | .hbm, ⟨67, _⟩ => ⟨S_, .f32⟩
  | .hbm, ⟨68, _⟩ => ⟨S8x2048x8x1, .f32⟩
  | .hbm, ⟨69, _⟩ => ⟨S8x2048x8x1, .f32⟩
  | .hbm, ⟨70, _⟩ => ⟨S_, .f32⟩
  | .hbm, ⟨71, _⟩ => ⟨S8x2048x8x1, .f32⟩
  | .hbm, ⟨72, _⟩ => ⟨S8x2048x8x1, .f32⟩
  | .hbm, ⟨73, _⟩ => ⟨S8x2048x8x1, .f32⟩
  | .hbm, ⟨74, _⟩ => ⟨S8x2048x8x128, .f32⟩
  | .hbm, ⟨75, _⟩ => ⟨S8x2048x8x128, .f32⟩
  | .hbm, ⟨76, _⟩ => ⟨S1x1x1x128, .f32⟩
  | .hbm, ⟨77, _⟩ => ⟨S8x2048x8x128, .f32⟩
  | .hbm, ⟨78, _⟩ => ⟨S8x2048x8x128, .f32⟩
  | .hbm, ⟨79, _⟩ => ⟨S_, .f32⟩
  | .hbm, ⟨80, _⟩ => ⟨S8x2048x8x128, .f32⟩
  | .hbm, ⟨81, _⟩ => ⟨S8x2048x8x128, .f32⟩
  | .hbm, ⟨82, _⟩ => ⟨S8x2048x8x128, .bf16⟩
  | .hbm, ⟨83, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x5120 : Shape := ⟨2, ![2048, 5120]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5120, .f32⟩
  | .hbm, ⟨3, _⟩ => ⟨S1x2048, .f32⟩
  | .hbm, ⟨4, _⟩ => ⟨S2048x5120, .bf16⟩
  | .hbm, ⟨5, _⟩ => ⟨S16384x2048, .bf16⟩
  | .hbm, ⟨6, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x2048 : Shape := ⟨2, ![16384, 2048]⟩
abbrev S2048 : Shape := ⟨1, ![2048]⟩
abbrev S2048x5120 : Shape := ⟨2, ![2048, 5120]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5120, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x2048, .f32⟩
  | .hbm, ⟨20, _⟩ => ⟨S16384x2048, .f32⟩
  | .hbm, ⟨21, _⟩ => ⟨S16384x2048, .bf16⟩
  | .hbm, ⟨22, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S16384x2048 : Shape := ⟨2, ![16384, 2048]⟩
abbrev S16384x1024 : Shape := ⟨2, ![16384, 1024]⟩
abbrev S2048x2048 : Shape := ⟨2, ![2048, 2048]⟩
abbrev S2048 : Shape := ⟨1, ![2048]⟩
abbrev S2048x8 : Shape := ⟨2, ![2048, 8]⟩
abbrev S2048x64 : Shape := ⟨2, ![2048, 64]⟩
abbrev S8 : Shape := ⟨1, ![8]⟩
abbrev S8x8 : Shape := ⟨2, ![8, 8]⟩
abbrev S_ : Shape := ⟨0, ![]⟩
abbrev S2048x56 : Shape := ⟨2, ![2048, 56]⟩
abbrev S2048x128 : Shape := ⟨2, ![2048, 128]⟩
abbrev S64 : Shape := ⟨1, ![64]⟩
abbrev S56 : Shape := ⟨1, ![56]⟩
abbrev S128 : Shape := ⟨1, ![128]⟩
abbrev S1x128 : Shape := ⟨2, ![1, 128]⟩
abbrev S2048x256 : Shape := ⟨2, ![2048, 256]⟩
abbrev S1x2048 : Shape := ⟨2, ![1, 2048]⟩
abbrev S16384x128 : Shape := ⟨2, ![16384, 128]⟩
abbrev S262144x128 : Shape := ⟨2, ![262144, 128]⟩
abbrev S512x2048 : Shape := ⟨2, ![512, 2048]⟩
abbrev S512x1024 : Shape := ⟨2, ![512, 1024]⟩
abbrev S512x128 : Shape := ⟨2, ![512, 128]⟩
abbrev S8192x128 : Shape := ⟨2, ![8192, 128]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S4096x128 : Shape := ⟨2, ![4096, 128]⟩
abbrev S4096x2x128 : Shape := ⟨3, ![4096, 2, 128]⟩
abbrev S256x2x128 : Shape := ⟨3, ![256, 2, 128]⟩
abbrev S256x1x128 : Shape := ⟨3, ![256, 1, 128]⟩

abbrev nBuf : Space → Nat
  | .hbm => 27
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048, .f32⟩
  | .hbm, ⟨5, _⟩ => ⟨S2048x8, .f32⟩
  | .hbm, ⟨6, _⟩ => ⟨S2048x64, .f32⟩
  | .hbm, ⟨7, _⟩ => ⟨S8, .f32⟩
  | .hbm, ⟨8, _⟩ => ⟨S8x8, .f32⟩
  | .hbm, ⟨9, _⟩ => ⟨S_, .f32⟩
  | .hbm, ⟨10, _⟩ => ⟨S2048x56, .f32⟩
  | .hbm, ⟨11, _⟩ => ⟨S2048x128, .f32⟩
  | .hbm, ⟨12, _⟩ => ⟨S2048x128, .bf16⟩
  | .hbm, ⟨13, _⟩ => ⟨S2048x128, .f32⟩
  | .hbm, ⟨14, _⟩ => ⟨S2048x128, .f32⟩
  | .hbm, ⟨15, _⟩ => ⟨S2048x128, .bf16⟩
  | .hbm, ⟨16, _⟩ => ⟨S64, .f32⟩
  | .hbm, ⟨17, _⟩ => ⟨S_, .f32⟩
  | .hbm, ⟨18, _⟩ => ⟨S56, .f32⟩
  | .hbm, ⟨19, _⟩ => ⟨S128, .f32⟩
  | .hbm, ⟨20, _⟩ => ⟨S1x128, .f32⟩
  | .hbm, ⟨21, _⟩ => ⟨S2048x256, .bf16⟩
  | .hbm, ⟨22, _⟩ => ⟨S2048x2048, .bf16⟩
  | .hbm, ⟨23, _⟩ => ⟨S1x2048, .f32⟩
  | .hbm, ⟨24, _⟩ => ⟨S16384x2048, .f32⟩
  | .hbm, ⟨25, _⟩ => ⟨S16384x128, .f32⟩
  | .hbm, ⟨26, _⟩ => ⟨S262144x128, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x256, .bf16⟩
  | .local _ .vmem, ⟨9, _⟩ => ⟨S1x128, .f32⟩
  | .local _ .vmem, ⟨10, _⟩ => ⟨S512x2048, .f32⟩
  | .local _ .vmem, ⟨11, _⟩ => ⟨S512x2048, .f32⟩
  | .local _ .vmem, ⟨12, _⟩ => ⟨S512x128, .f32⟩
  | .local _ .vmem, ⟨13, _⟩ => ⟨S512x128, .f32⟩
  | .local _ .vmem, ⟨14, _⟩ => ⟨S8192x128, .bf16⟩
  | .local _ .vmem, ⟨15, _⟩ => ⟨S8192x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
variable {F : FTy → Type} [FloatOps F]
-- ==== Reference3Ideal.lean ====
abbrev S16384x2048 : Shape := ⟨2, ![16384, 2048]⟩
abbrev S16384x1024 : Shape := ⟨2, ![16384, 1024]⟩
abbrev S2048x2048 : Shape := ⟨2, ![2048, 2048]⟩
abbrev S2048 : Shape := ⟨1, ![2048]⟩
abbrev S2048x8 : Shape := ⟨2, ![2048, 8]⟩
abbrev S2048x64 : Shape := ⟨2, ![2048, 64]⟩
abbrev S8 : Shape := ⟨1, ![8]⟩
abbrev S8x8 : Shape := ⟨2, ![8, 8]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048, .f32⟩
  | .hbm, ⟨5, _⟩ => ⟨S2048x8, .f32⟩
  | .hbm, ⟨6, _⟩ => ⟨S2048x64, .f32⟩
  | .hbm, ⟨7, _⟩ => ⟨S8, .f32⟩
  | .hbm, ⟨8, _⟩ => ⟨S8x8, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel4.lean ====
abbrev S16384x2048 : Shape := ⟨2, ![16384, 2048]⟩
abbrev S2048x5120 : Shape := ⟨2, ![2048, 5120]⟩
abbrev S31x1024 : Shape := ⟨2, ![31, 1024]⟩
abbrev S1024 : Shape := ⟨1, ![1024]⟩
abbrev S31x1x1024 : Shape := ⟨3, ![31, 1, 1024]⟩
abbrev S31x8x1024 : Shape := ⟨3, ![31, 8, 1024]⟩
abbrev S1x1024 : Shape := ⟨2, ![1, 1024]⟩
abbrev S16384x1024 : Shape := ⟨2, ![16384, 1024]⟩
abbrev S16384x3072 : Shape := ⟨2, ![16384, 3072]⟩
abbrev S256x1024 : Shape := ⟨2, ![256, 1024]⟩
abbrev S256x2048 : Shape := ⟨2, ![256, 2048]⟩
abbrev S2048x1024 : Shape := ⟨2, ![2048, 1024]⟩
abbrev S256x3072 : Shape := ⟨2, ![256, 3072]⟩
abbrev S288x1024 : Shape := ⟨2, ![288, 1024]⟩
abbrev S7x280x1024 : Shape := ⟨3, ![7, 280, 1024]⟩
abbrev S32x1024 : Shape := ⟨2, ![32, 1024]⟩
abbrev S64x1024 : Shape := ⟨2, ![64, 1024]⟩
abbrev S1x64x1024 : Shape := ⟨3, ![1, 64, 1024]⟩
abbrev S24x1024 : Shape := ⟨2, ![24, 1024]⟩
abbrev S1x24x1024 : Shape := ⟨3, ![1, 24, 1024]⟩
abbrev S1x128 : Shape := ⟨2, ![1, 128]⟩
abbrev S1x1x128 : Shape := ⟨3, ![1, 1, 128]⟩
abbrev S16x8x128 : Shape := ⟨3, ![16, 8, 128]⟩
abbrev S1x128x128 : Shape := ⟨3, ![1, 128, 128]⟩
abbrev S128x128 : Shape := ⟨2, ![128, 128]⟩
abbrev S1x8x128 : Shape := ⟨3, ![1, 8, 128]⟩
abbrev S8x128 : Shape := ⟨2, ![8, 128]⟩
abbrev S16x128 : Shape := ⟨2, ![16, 128]⟩
abbrev S256x512 : Shape := ⟨2, ![256, 512]⟩
abbrev S512x256 : Shape := ⟨2, ![512, 256]⟩
abbrev S256x256 : Shape := ⟨2, ![256, 256]⟩
abbrev S128x1024 : Shape := ⟨2, ![128, 1024]⟩
abbrev S128 : Shape := ⟨1, ![128]⟩
abbrev S128x1 : Shape := ⟨2, ![128, 1]⟩

abbrev nBuf : Space → Nat
  | .hbm => 15
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x5120, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x5120, .bf16⟩
  | .hbm, ⟨8, _⟩ => ⟨S31x1x1024, .f32⟩
  | .hbm, ⟨9, _⟩ => ⟨S31x8x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .bf16⟩
  | .hbm, ⟨14, _⟩ => ⟨S16384x3072, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S31x8x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S256x1024, .bf16⟩
  | .local _ .vmem, ⟨14, _⟩ => ⟨S256x1024, .bf16⟩
  | .local _ .vmem, ⟨15, _⟩ => ⟨S256x3072, .bf16⟩
  | .local _ .vmem, ⟨16, _⟩ => ⟨S256x3072, .bf16⟩
  | .local _ .vmem, ⟨17, _⟩ => ⟨S288x1024, .f32⟩
  | .local _ .vmem, ⟨18, _⟩ => ⟨S256x1024, .f32⟩
  | .local _ .vmem, ⟨19, _⟩ => ⟨S7x280x1024, .f32⟩
  | .local _ .vmem, ⟨20, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [BitOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel4Ideal.lean ====
variable {F : FTy → Type} [FloatOps F]
-- ==== Reference4Ideal.lean ====
abbrev S16384x2048 : Shape := ⟨2, ![16384, 2048]⟩
abbrev S2048x5120 : Shape := ⟨2, ![2048, 5120]⟩
abbrev S31x1024 : Shape := ⟨2, ![31, 1024]⟩
abbrev S1024 : Shape := ⟨1, ![1024]⟩
abbrev S2048x3072 : Shape := ⟨2, ![2048, 3072]⟩
abbrev S16384x3072 : Shape := ⟨2, ![16384, 3072]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x5120, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16384x2048, .f32⟩
  | .hbm, ⟨8, _⟩ => ⟨S2048x3072, .f32⟩
  | .hbm, ⟨9, _⟩ => ⟨S16384x3072, .f32⟩
  | .hbm, ⟨10, _⟩ => ⟨S16384x3072, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Proof.Straight.lean ====
/-
  Straight-line programs over a family of memrefs. A program that only loads and stores unit-stride rectangles of
  the memrefs `M b` is described by `Runs`: from the contents `σ` of all of them it ends in a result and contents
  that satisfy `Q`. `Runs` speaks of values alone; `Runs.sound` says once what it means for the machine: who owns
  every memref of the family at `σ` can run the program and ends owning all of them at the contents `Q` describes.
-/
module

public import Idealize.ShloMosaic.Lib.VecWindow
public import Idealize.ShloMosaic.Lib.Tactic
public import Idealize.ShloMosaic.Lib.Scf

@[expose] public section

noncomputable section

namespace Cert.Straight

open Idealize.ShloMosaic
open Idealize.SL Idealize.SL.BI Idealize.SL.RA
open scoped Idealize.SL.BI
open Idealize.SL.BI.BIBase Idealize.SL.BI.Laws Idealize.SL.ProofMode Idealize.SL.Sem

variable {nD : Nat} {τ : Topo} {sig : RefSig} {Val : EltTy → Type} {Λ : Labels} {κ : Proc τ} {sp : CoreSpace}
variable {B : Type} {shp : B → Shape} {el : B → EltTy}

/-- The contents of every memref of the family. -/
abbrev Cont (Val : EltTy → Type) (shp : B → Shape) (el : B → EltTy) : Type := (b : B) → (shp b).Idx → Val (el b)

/-- From contents `σ`, the program ends in a result and contents satisfying `Q`. -/
inductive Runs [DecidableEq B] (M : (b : B) → Memref sig κ.kind sp (shp b) (el b)) :
    {α : Type} → Prog (TpuEff nD τ sig Val Λ κ) α → Cont Val shp el → (α → Cont Val shp el → Prop) → Prop
  | ret {α : Type} {a : α} {σ : Cont Val shp el} {Q : α → Cont Val shp el → Prop} : Q a σ → Runs M (.ret a) σ Q
  | load {α : Type} (b : B) {off size : Fin (shp b).rank → ℕ} {inb : ∀ a, off a + size a ≤ (shp b).size a}
      {hl : (M b).view.LoadsAt (Rect.unit off size inb).toLoadRect} {k : _ → Prog (TpuEff nD τ sig Val Λ κ) α}
      {σ : Cont Val shp el} {Q : α → Cont Val shp el → Prop} :
      Runs M (k (VecWindow.window (σ b) off size inb)) σ Q → Runs M (.op (.load (M b) (Rect.unit off size inb).toLoadRect hl) k) σ Q
  | store {α : Type} (b : B) {off size : Fin (shp b).rank → ℕ} {inb : ∀ a, off a + size a ≤ (shp b).size a}
      {w : (Rect.unit off size inb).shape.Idx → Val (el b)} {hx : ((M b).access (Rect.unit off size inb)).Stores Finset.univ}
      {hm : Finset.univ = Finset.univ ∨ ∀ a, (Rect.unit off size inb).stride a = 1}
      {k : PUnit → Prog (TpuEff nD τ sig Val Λ κ) α}
      {σ : Cont Val shp el} {Q : α → Cont Val shp el → Prop} :
      Runs M (k ⟨⟩) (Function.update σ b (VecWindow.put (σ b) off size w)) Q
        → Runs M (.op (.store (M b) (Rect.unit off size inb) w Finset.univ hx hm) k) σ Q

namespace Runs

variable [DecidableEq B] {M : (b : B) → Memref sig κ.kind sp (shp b) (el b)}

/-- What is guaranteed may be weakened. -/
theorem mono {α : Type} {p : Prog (TpuEff nD τ sig Val Λ κ) α} {σ : Cont Val shp el} {Q Q' : α → Cont Val shp el → Prop}
    (h : Runs M p σ Q) (hQ : ∀ a σ', Q a σ' → Q' a σ') : Runs M p σ Q' := by
  induction h with
  | ret h => exact .ret (hQ _ _ h)
  | load b _ ih => exact .load b (ih hQ)
  | store b _ ih => exact .store b (ih hQ)

/-- One program and then another, through what holds in between. -/
theorem bind_of {α β : Type} {p : Prog (TpuEff nD τ sig Val Λ κ) α} {k : α → Prog (TpuEff nD τ sig Val Λ κ) β} {σ : Cont Val shp el}
    {P : α → Cont Val shp el → Prop} {Q : β → Cont Val shp el → Prop} (h : Runs M p σ P)
    (hk : ∀ a σ', P a σ' → Runs M (k a) σ' Q) : Runs M (p >>= k) σ Q := by
  induction h with
  | ret h => exact hk _ _ h
  | load b _ ih => exact .load b (ih hk)
  | store b _ ih => exact .store b (ih hk)

/-- One program and then another. -/
theorem bind {α β : Type} {p : Prog (TpuEff nD τ sig Val Λ κ) α} {k : α → Prog (TpuEff nD τ sig Val Λ κ) β} {σ : Cont Val shp el}
    {Q : β → Cont Val shp el → Prop} (h : Runs M p σ fun a σ' => Runs M (k a) σ' Q) : Runs M (p >>= k) σ Q :=
  bind_of h fun _ _ h => h

/-- A counted loop keeps what each trip takes from its number to the next. -/
theorem loop {w : ℕ} {lb ub st : BitVec w} {hok : Scf.OK lb ub st}
    {body : Fin (Scf.trips lb ub st) → PUnit → Prog (TpuEff nD τ sig Val Λ κ) PUnit} (I : ℕ → Cont Val shp el → Prop)
    (step : ∀ (t : Fin (Scf.trips lb ub st)) (u : PUnit) (σ : Cont Val shp el), I t.val σ → Runs M (body t u) σ fun _ σ' => I (t.val + 1) σ')
    {σ : Cont Val shp el} {u : PUnit} (h0 : I 0 σ) :
    Runs M (Scf.for lb ub st hok u body) σ fun _ σ' => I (Scf.trips lb ub st) σ' := by
  rw [Scf.for_eq]
  have key : ∀ (l : List (Fin (Scf.trips lb ub st))) (n : ℕ) (u : PUnit) (σ : Cont Val shp el),
      (l.map Fin.val = List.range' n l.length) → I n σ → Runs M (Scf.forFrom body l u) σ fun _ σ' => I (n + l.length) σ' := by
    intro l
    induction l with
    | nil => exact fun n u σ _ h => .ret h
    | cons t l ih =>
      intro n u σ hl h
      rw [List.length_cons, List.range'_succ, List.map_cons, List.cons.injEq] at hl
      refine bind ((step t u σ (hl.1 ▸ h)).mono fun a σ' h' => ?_)
      have := ih (n + 1) a σ' hl.2 (hl.1 ▸ h')
      rwa [show n + 1 + l.length = n + (t :: l).length by rw [List.length_cons]; omega] at this
  have := key (List.finRange (Scf.trips lb ub st)) 0 u σ (by
    rw [List.length_finRange, ← List.range_eq_range']
    exact List.map_coe_finRange_eq_range) h0
  rwa [List.length_finRange, Nat.zero_add] at this

end Runs

section Sound

variable {Ix : Type} [DecidableEq Ix] {Name : Type} [DecidableEq Name] {U : Type} [URA U] {Lvl : Type} [Preorder Lvl]

local notation "𝕄" => MT nD τ sig Ix Val Name U Lvl

variable [Fintype B] [DecidableEq B]

/-- Thread `c` owns every memref of the family, at the contents `σ`. -/
def Own (c : Thread nD τ) (M : (b : B) → Memref sig c.2.kind sp (shp b) (el b)) (σ : Cont Val shp el) : sProp 𝕄 :=
  bigSep Finset.univ fun b => owns c (M b) fullShare (σ b)

variable (defs : Defs nD τ sig Val Λ) (𝒱 : Variants) (c : Thread nD τ) (bd : Option 𝒱.V) (E : Set Name)

theorem own_take (M : (b : B) → Memref sig c.2.kind sp (shp b) (el b)) (σ : Cont Val shp el) (b : B) :
    (Own c M σ : sProp 𝕄) = iprop(owns c (M b) fullShare (σ b) ∗ bigSep (Finset.univ.erase b) fun b => owns c (M b) fullShare (σ b)) :=
  bigSep_erase (Finset.mem_univ b)

theorem own_put (M : (b : B) → Memref sig c.2.kind sp (shp b) (el b)) (σ : Cont Val shp el) (b : B) (x : (shp b).Idx → Val (el b)) :
    (Own c M (Function.update σ b x) : sProp 𝕄)
      = iprop(owns c (M b) fullShare x ∗ bigSep (Finset.univ.erase b) fun b => owns c (M b) fullShare (σ b)) := by
  rw [own_take c M _ b, Function.update_self]
  refine congrArg (fun R : sProp 𝕄 => iprop(owns c (M b) fullShare x ∗ R)) (bigSep_congr fun b' hb' => ?_)
  rw [Function.update_of_ne (Finset.ne_of_mem_erase hb')]

/-- What a program that `Runs` does to the machine. -/
theorem Runs.sound {Γ : PendingWaitsCtx sig Ix} {M : (b : B) → Memref sig c.2.kind sp (shp b) (el b)} {α : Type}
    {p : Prog (TpuEff nD τ sig Val Λ c.2) α} {σ : Cont Val shp el} {Q : α → Cont Val shp el → Prop} (h : Runs M p σ Q) :
    (Own c M σ : sProp 𝕄) ⊢ wp frame (wpE' defs 𝒱 c bd Γ) E p fun a => iprop(∃ σ', ⌜Q a σ'⌝ ∗ Own c M σ') := by
  induction h with
  | ret h =>
    refine .trans ?_ (le_wp_ret _ _ _ _ _)
    iintro H
    iexists _
    isplitr; · ipureintro; exact h
    iexact H
  | load b _ ih =>
    rename_i off size inb hl k σ Q hk
    rw [own_take c M σ b]
    unfold owns
    iintro ⟨⟨%f, %hf, Hf⟩, HR⟩
    iapply (wp_load 𝒱 c bd E (k := k) (hl := hl) ((M b).view.setOn_subset_set _)) $$ Hf
    iintro Hf
    have e : (M b).view.readAt Val (Rect.unit off size inb).toLoadRect f = VecWindow.window (σ b) off size inb := by
      rw [View.readAt_unit _ f inb rfl inb, hf]
    rw [e]
    iapply ih
    rw [own_take c M σ b]
    unfold owns
    isplitl [Hf]
    · iexists f
      isplitr; · ipureintro; exact hf
      iexact Hf
    iexact HR
  | store b _ ih =>
    rename_i off size inb w hx hm k σ Q hk
    rw [own_take c M σ b]
    unfold owns
    iintro ⟨⟨%f, %hf, Hf⟩, HR⟩
    iapply (wp_store 𝒱 c bd E (m := M b) (w := w) (k := k) (hx := hx) (hm := hm) (S := (M b).view.set) (f := f) (by
      rw [View.setOn_univ, View.set_slice]; exact (M b).view.setOn_subset_set _)) $$ Hf
    iintro Hf
    iapply ih
    rw [own_put c M σ b]
    unfold owns
    isplitl [Hf]
    · iexists (((M b).access (Rect.unit off size inb)).write Val f w Finset.univ)
      isplitr
      · ipureintro
        exact (View.read_writes_cons_put (M b).view f inb w [] rfl).trans (by rw [← hf]; rfl)
      iexact Hf
    iexact HR

end Sound

end Cert.Straight

end
-- ==== Proof.Steps.lean ====
/-
  The attention kernel's text, head by head. Its thirty-four scratch buffers and nine blocks are named by `Cell`; what
  it does to one of the eight heads — fill the head's queries, compute a block of scores, take one step of the online
  softmax, write the result — is stated here once for every head, as a program over a family of memrefs.
-/
module

public import proofs.«01_k».proof.Proof.Straight
public import proofs.«01_k».proof.Proof.Gen.KernelIdeal

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Facts Cert.KernelIdeal.Facts₀

variable {F : FTy → Type} [FloatOps F] [Named F]

/-! ## The buffers -/

/-- The kernel's memrefs: its blocks (the four vectors of lambda, queries, keys, values, the weights, the result), the
    transposed values, the queries split in halves, and per head the accumulator, the maxima and two score blocks. -/
inductive Cell where
  | lq1 | lk1 | lq2 | lk2 | q | k | v | sw | out | vxt | qq
  | acc (u : Fin 8) | mx (u : Fin 8) | s (b : Bool) (u : Fin 8)
  deriving DecidableEq

/-- All the memrefs, blocks first and then scratch in the kernel's order. -/
def cells : List Cell :=
  [.lq1, .lk1, .lq2, .lk2, .q, .k, .v, .sw, .out, .vxt, .qq,
   .acc 0, .acc 1, .acc 2, .acc 3, .acc 4, .acc 5, .acc 6, .acc 7,
   .mx 0, .mx 1, .mx 2, .mx 3, .mx 4, .mx 5, .mx 6, .mx 7,
   .s false 0, .s false 1, .s false 2, .s false 3, .s false 4, .s false 5, .s false 6, .s false 7,
   .s true 0, .s true 1, .s true 2, .s true 3, .s true 4, .s true 5, .s true 6, .s true 7]

theorem cells_complete : ∀ b : Cell, b ∈ cells := by
  intro b
  cases b with
  | acc u => revert u; decide
  | mx u => revert u; decide
  | s b u => revert b u; decide
  | _ => decide

instance : Fintype Cell := ⟨⟨cells, by decide⟩, cells_complete⟩

@[reducible] def shp : Cell → Shape
  | .lq1 | .lk1 | .lq2 | .lk2 => S1x64
  | .q | .out => S256x1024
  | .k | .v => S2048x1024
  | .sw => S1x128
  | .vxt => S8x8x144x256
  | .qq => S8x512x128
  | .acc _ => S144x512
  | .mx _ => S1x512
  | .s _ _ => S256x512

@[reducible] def el : Cell → EltTy
  | .lq1 | .lk1 | .lq2 | .lk2 | .sw | .acc _ | .mx _ | .s _ _ => .f32
  | .q | .out | .k | .v | .vxt | .qq => .bf16

/-- The memrefs the kernel runs on. -/
abbrev Mems : Type := (b : Cell) → Memref sig .tc .vmem (shp b) (el b)

/-! ## Values -/

/-- What the mask writes. -/
def maskC : F .f32 := Named.named κ "mask" 0xF149F2CA#32

/-- The factor lambda from the blocks of its four vectors. -/
def lamOf (a b c d : FVec F S1x64 .f32) : FVec F S1x1 .f32 :=
  addf (subf
      (exp (shapeCast S1x1 (multiReduction .add [1] S1 (mulf (shapeCast S1x64 a shapeCasts_S1x64_S1x64) (shapeCast S1x64 b shapeCasts_S1x64_S1x64))
        0x00000000#32 reduces_S1x64_S1 (.inl rfl) rfl) shapeCasts_S1_S1x1))
      (exp (shapeCast S1x1 (multiReduction .add [1] S1 (mulf (shapeCast S1x64 c shapeCasts_S1x64_S1x64) (shapeCast S1x64 d shapeCasts_S1x64_S1x64))
        0x00000000#32 reduces_S1x64_S1 (.inl rfl) rfl) shapeCasts_S1_S1x1)))
    (broadcast S1x1 (Scalar.ofBits .f32 0x3E4CCCCD#32))

/-- A head's scaled queries. -/
def scaledQ (q : FVec F S256x128 .bf16) : FVec F S256x128 .bf16 := mulf q (broadcast S256x128 (Scalar.ofBits .bf16 0x3E00#16))

/-- The scaled queries of the head's first component: the lanes below 64. -/
def qLow (q : FVec F S256x128 .bf16) : FVec F S1x256x128 .bf16 :=
  shapeCast S1x256x128 (select (cmpi .slt (iota .tc S256x128 32 [1] iota_S256x128_d1_w32) (broadcast S256x128 64#32)) (scaledQ q)
    (broadcast S256x128 (Scalar.ofBits .bf16 0x0000#16))) shapeCasts_S256x128_S1x256x128

/-- The scaled queries of the head's second component: the lanes from 64. -/
def qHigh (q : FVec F S256x128 .bf16) : FVec F S1x256x128 .bf16 :=
  shapeCast S1x256x128 (select (cmpi .sge (iota .tc S256x128 32 [1] iota_S256x128_d1_w32) (broadcast S256x128 64#32)) (scaledQ q)
    (broadcast S256x128 (Scalar.ofBits .bf16 0x0000#16))) shapeCasts_S256x128_S1x256x128

/-- A block of values, transposed. -/
def vT (v : FVec F S256x128 .bf16) : FVec F S1x1x128x256 .bf16 :=
  shapeCast S1x1x128x256 (truncf .bf16 (transpose S128x256 [1, 0] (extf .f32 v bitsLt_bf16_f32) transposes_S256x128_p1_0_S128x256) bitsLt_bf16_f32)
    shapeCasts_S128x256_S1x1x128x256

/-- The rows of ones under the transposed values. -/
def vOnes : FVec F S1x1x16x256 .bf16 :=
  shapeCast S1x1x16x256 (broadcast S16x256 (Scalar.ofBits .bf16 0x3F80#16)) shapeCasts_S16x256_S1x1x16x256

def acc0 : FVec F S144x512 .f32 := shapeCast S144x512 (broadcast S144x512 (Scalar.ofBits .f32 0x00000000#32)) shapeCasts_S144x512_S144x512
def mx0 : FVec F S1x512 .f32 := shapeCast S1x512 (broadcast S1x512 maskC) shapeCasts_S1x512_S1x512

/-- A block of scores: keys down, the queries of both components across. -/
def scoreOf (kb : FVec F S256x128 .bf16) (q : FVec F S1x512x128 .bf16) : FVec F S256x512 .f32 :=
  shapeCast S256x512 (matmul dot_S256x128_S512x128_S256x512_1_1_0_0_n_n none kb (shapeCast S512x128 q shapeCasts_S1x512x128_S512x128)
    (constant S256x512 .f32 0x00000000#32)) shapeCasts_S256x512_S256x512

/-- The scores on the diagonal block, those of later keys masked. -/
def maskedOf (st : FVec F S256x512 .f32) : FVec F S256x512 .f32 :=
  select (cmpi .sle (iota .tc S256x512 32 [0] iota_S256x512_d0_w32)
      (select (cmpi .sge (iota .tc S256x512 32 [1] iota_S256x512_d1_w32) (broadcast S256x512 256#32))
        (subi (iota .tc S256x512 32 [1] iota_S256x512_d1_w32) (broadcast S256x512 256#32)) (iota .tc S256x512 32 [1] iota_S256x512_d1_w32)))
    st (broadcast S256x512 maskC)

/-- The running maxima after a block of scores. -/
def maxOf (st : FVec F S256x512 .f32) (m : FVec F S1x512 .f32) : FVec F S1x512 .f32 :=
  maximumf m (shapeCast S1x512 (multiReduction .maximumf [0] S512 st 0xFF800000#32 reduces_S256x512_S512 (.inl rfl) rfl) shapeCasts_S512_S1x512)

/-- The accumulator after a block of scores. -/
def accOf (st : FVec F S256x512 .f32) (m : FVec F S1x512 .f32) (vx : FVec F S1x1x144x256 .bf16) (acc : FVec F S144x512 .f32) :
    FVec F S144x512 .f32 :=
  addf (mulf (broadcastTo S144x512 (exp (subf m (maxOf st m))) broadcasts_S1x512_S144x512) acc)
    (matmul dot_S144x256_S256x512_S144x512_1_0_0_1_n_n none (shapeCast S144x256 vx shapeCasts_S1x1x144x256_S144x256)
      (truncf .bf16 (exp (subf st (broadcastTo S256x512 (maxOf st m) broadcasts_S1x512_S256x512))) bitsLt_bf16_f32)
      (constant S144x512 .f32 0x00000000#32))

/-- The quotients by the denominators, both components. -/
def quotOf (acc : FVec F S144x512 .f32) : FVec F S128x512 .f32 :=
  mulf (extractStridedSlice S128x512 ![0, 0] acc slices_S144x512_o0_0_S128x512)
    (broadcastTo S128x512 (divf (broadcast S1x512 (Scalar.ofBits .f32 0x3F800000#32))
      (extractStridedSlice S1x512 ![128, 0] acc slices_S144x512_o128_0_S1x512)) broadcasts_S1x512_S128x512)

/-- The difference of the two components' attention. -/
def diffOf (acc : FVec F S144x512 .f32) (lam : FVec F S1x1 .f32) : FVec F S128x256 .f32 :=
  subf (extractStridedSlice S128x256 ![0, 0] (quotOf acc) slices_S128x512_o0_0_S128x256)
    (mulf (broadcastTo S128x256 lam broadcasts_S1x1_S128x256) (extractStridedSlice S128x256 ![0, 256] (quotOf acc) slices_S128x512_o0_256_S128x256))

/-- The normalised difference, transposed back. -/
def normOf (ot : FVec F S128x256 .f32) : FVec F S256x128 .f32 :=
  transpose S256x128 [1, 0] (mulf ot (broadcastTo S128x256 (rsqrt (addf (divf
      (shapeCast S1x256 (multiReduction .add [0] S256 (mulf ot ot) 0x00000000#32 reduces_S128x256_S256 (.inl rfl) rfl) shapeCasts_S256_S1x256)
      (broadcast S1x256 (Scalar.ofBits .f32 0x43000000#32))) (broadcast S1x256 (Scalar.ofBits .f32 0x3727C5AC#32)))) broadcasts_S1x256_S128x256))
    transposes_S128x256_p1_0_S256x128

/-- A head's columns of the result. -/
def outOf (acc : FVec F S144x512 .f32) (lam : FVec F S1x1 .f32) (sw : FVec F S1x128 .f32) : FVec F S256x128 .bf16 :=
  truncf .bf16 (mulf (mulf (normOf (diffOf acc lam)) (broadcastTo S256x128 (shapeCast S1x128 sw shapeCasts_S1x128_S1x128) broadcasts_S1x128_S256x128))
    (broadcast S256x128 (Scalar.ofBits .f32 0x3F4CCCCD#32))) bitsLt_bf16_f32

/-! ## Rectangles -/

theorem inbQQ (u : Fin 8) : ∀ a, (![u.val, 0, 0] : Fin 3 → ℕ) a + S1x512x128.size a ≤ S8x512x128.size a := by revert u; decide
theorem inbQLow (u : Fin 8) : ∀ a, (![u.val, 0, 0] : Fin 3 → ℕ) a + S1x256x128.size a ≤ S8x512x128.size a := by revert u; decide
theorem inbQHigh (u : Fin 8) : ∀ a, (![u.val, 256, 0] : Fin 3 → ℕ) a + S1x256x128.size a ≤ S8x512x128.size a := by revert u; decide
theorem inbCol (u : Fin 8) : ∀ a, (![0, 128 * u.val] : Fin 2 → ℕ) a + S256x128.size a ≤ S256x1024.size a := by revert u; decide
theorem inbRow (j u : Fin 8) : ∀ a, (![256 * j.val, 128 * u.val] : Fin 2 → ℕ) a + S256x128.size a ≤ S2048x1024.size a := by revert j u; decide
theorem inbK0 (u : Fin 8) : ∀ a, (![0, 128 * u.val] : Fin 2 → ℕ) a + S256x128.size a ≤ S2048x1024.size a := by revert u; decide
theorem inbVX (u j : Fin 8) : ∀ a, (![u.val, j.val, 0, 0] : Fin 4 → ℕ) a + S1x1x144x256.size a ≤ S8x8x144x256.size a := by revert u j; decide
theorem inbVT (u j : Fin 8) : ∀ a, (![u.val, j.val, 0, 0] : Fin 4 → ℕ) a + S1x1x128x256.size a ≤ S8x8x144x256.size a := by revert u j; decide
theorem inbVO (u j : Fin 8) : ∀ a, (![u.val, j.val, 128, 0] : Fin 4 → ℕ) a + S1x1x16x256.size a ≤ S8x8x144x256.size a := by revert u j; decide

theorem packedQLow (u : Fin 8) : (Rect.unit (s := S8x512x128) ![u.val, 0, 0] S1x256x128.size (inbQLow u)).PackedRows (EltTy.packing .bf16) := by revert u; decide
theorem packedQHigh (u : Fin 8) : (Rect.unit (s := S8x512x128) ![u.val, 256, 0] S1x256x128.size (inbQHigh u)).PackedRows (EltTy.packing .bf16) := by revert u; decide
theorem packedCol (u : Fin 8) : (Rect.unit (s := S256x1024) ![0, 128 * u.val] S256x128.size (inbCol u)).PackedRows (EltTy.packing .bf16) := by revert u; decide
theorem packedVT (u j : Fin 8) : (Rect.unit (s := S8x8x144x256) ![u.val, j.val, 0, 0] S1x1x128x256.size (inbVT u j)).PackedRows (EltTy.packing .bf16) := by revert u j; decide
theorem packedVO (u j : Fin 8) : (Rect.unit (s := S8x8x144x256) ![u.val, j.val, 128, 0] S1x1x16x256.size (inbVO u j)).PackedRows (EltTy.packing .bf16) := by revert u j; decide

/-! ## Programs -/

/-- The kernel's programs. -/
abbrev Pr (F : FTy → Type) (α : Type) : Type 1 := Prog (TpuEff nD τ sig (Elt F) Λ₀ .tc) α

/-- The same for each of some heads, in order. -/
def each (f : Fin 8 → Pr F PUnit) : List (Fin 8) → Pr F PUnit
  | [] => pure ⟨⟩
  | u :: l => f u >>= fun _ => each f l

/-- The eight heads. -/
abbrev heads : List (Fin 8) := [0, 1, 2, 3, 4, 5, 6, 7]

section Programs

variable (M : Mems) (hM : ∀ b, (M b).IsWhole)

/-- Transpose one block of a head's values into scratch, ones under it. -/
def putV (u j : Fin 8) : Pr F PUnit := do
  let v : Vec F S256x128 .bf16 ← Prog.lift (.load (M .v) (Rect.unit (s := S2048x1024) ![256 * j.val, 128 * u.val] S256x128.size (inbRow j u)).toLoadRect (View.loadsAt_vmem h_S256x128))
  let _ : Vec F S1x1x128x256 .bf16 ← Prog.lift (.load (M .vxt) (Rect.unit (s := S8x8x144x256) ![u.val, j.val, 0, 0] S1x1x128x256.size (inbVT u j)).toLoadRect (View.loadsAt_vmem h_S1x1x128x256))
  Prog.lift (.store (M .vxt) (Rect.unit (s := S8x8x144x256) ![u.val, j.val, 0, 0] S1x1x128x256.size (inbVT u j)) (vT v) Finset.univ (View.stores_vmem h_S1x1x128x256 ((hM .vxt).storeExact_slice rfl _ (packedVT u j)) (fun _ => rfl)) (.inl rfl))
  let _ : Vec F S1x1x16x256 .bf16 ← Prog.lift (.load (M .vxt) (Rect.unit (s := S8x8x144x256) ![u.val, j.val, 128, 0] S1x1x16x256.size (inbVO u j)).toLoadRect (View.loadsAt_vmem h_S1x1x16x256))
  Prog.lift (.store (M .vxt) (Rect.unit (s := S8x8x144x256) ![u.val, j.val, 128, 0] S1x1x16x256.size (inbVO u j)) vOnes Finset.univ (View.stores_vmem h_S1x1x16x256 ((hM .vxt).storeExact_slice rfl _ (packedVO u j)) (fun _ => rfl)) (.inl rfl))

/-- All blocks of a head's values. -/
def putVs (u : Fin 8) : Pr F PUnit := each (putV M hM u) heads

/-- Compute lambda. -/
def loadLam : Pr F (FVec F S1x1 .f32) := do
  let a : Vec F S1x64 .f32 ← Prog.lift (.load (M .lq1) (Rect.unit (s := S1x64) ![0, 0] S1x64.size inb_S1x64_S1x64_0_0).toLoadRect (View.loadsAt_vmem h_S1x64))
  let b : Vec F S1x64 .f32 ← Prog.lift (.load (M .lk1) (Rect.unit (s := S1x64) ![0, 0] S1x64.size inb_S1x64_S1x64_0_0).toLoadRect (View.loadsAt_vmem h_S1x64))
  let c : Vec F S1x64 .f32 ← Prog.lift (.load (M .lq2) (Rect.unit (s := S1x64) ![0, 0] S1x64.size inb_S1x64_S1x64_0_0).toLoadRect (View.loadsAt_vmem h_S1x64))
  let d : Vec F S1x64 .f32 ← Prog.lift (.load (M .lk2) (Rect.unit (s := S1x64) ![0, 0] S1x64.size inb_S1x64_S1x64_0_0).toLoadRect (View.loadsAt_vmem h_S1x64))
  pure (lamOf a b c d)

/-- Set a head's queries, accumulator and maxima. -/
def initHead (u : Fin 8) : Pr F PUnit := do
  let q : Vec F S256x128 .bf16 ← Prog.lift (.load (M .q) (Rect.unit (s := S256x1024) ![0, 128 * u.val] S256x128.size (inbCol u)).toLoadRect (View.loadsAt_vmem h_S256x128))
  let _ : Vec F S1x256x128 .bf16 ← Prog.lift (.load (M .qq) (Rect.unit (s := S8x512x128) ![u.val, 0, 0] S1x256x128.size (inbQLow u)).toLoadRect (View.loadsAt_vmem h_S1x256x128))
  Prog.lift (.store (M .qq) (Rect.unit (s := S8x512x128) ![u.val, 0, 0] S1x256x128.size (inbQLow u)) (qLow q) Finset.univ (View.stores_vmem h_S1x256x128 ((hM .qq).storeExact_slice rfl _ (packedQLow u)) (fun _ => rfl)) (.inl rfl))
  let _ : Vec F S1x256x128 .bf16 ← Prog.lift (.load (M .qq) (Rect.unit (s := S8x512x128) ![u.val, 256, 0] S1x256x128.size (inbQHigh u)).toLoadRect (View.loadsAt_vmem h_S1x256x128))
  Prog.lift (.store (M .qq) (Rect.unit (s := S8x512x128) ![u.val, 256, 0] S1x256x128.size (inbQHigh u)) (qHigh q) Finset.univ (View.stores_vmem h_S1x256x128 ((hM .qq).storeExact_slice rfl _ (packedQHigh u)) (fun _ => rfl)) (.inl rfl))
  let _ : Vec F S144x512 .f32 ← Prog.lift (.load (M (.acc u)) (Rect.unit (s := S144x512) ![0, 0] S144x512.size inb_S144x512_S144x512_0_0).toLoadRect (View.loadsAt_vmem h_S144x512))
  Prog.lift (.store (M (.acc u)) (Rect.unit (s := S144x512) ![0, 0] S144x512.size inb_S144x512_S144x512_0_0) acc0 Finset.univ (View.stores_vmem_bits_univ h_S144x512 rfl) (.inl rfl))
  let _ : Vec F S1x512 .f32 ← Prog.lift (.load (M (.mx u)) (Rect.unit (s := S1x512) ![0, 0] S1x512.size inb_S1x512_S1x512_0_0).toLoadRect (View.loadsAt_vmem h_S1x512))
  Prog.lift (.store (M (.mx u)) (Rect.unit (s := S1x512) ![0, 0] S1x512.size inb_S1x512_S1x512_0_0) mx0 Finset.univ (View.stores_vmem_bits_univ h_S1x512 rfl) (.inl rfl))

/-- Compute the scores of the keys at `off` into one of a head's score blocks. -/
def score (b : Bool) (u : Fin 8) (off : Fin 2 → ℕ) (inb : ∀ a, off a + S256x128.size a ≤ S2048x1024.size a) : Pr F PUnit := do
  let kb : Vec F S256x128 .bf16 ← Prog.lift (.load (M .k) (Rect.unit (s := S2048x1024) off S256x128.size inb).toLoadRect (View.loadsAt_vmem h_S256x128))
  let q : Vec F S1x512x128 .bf16 ← Prog.lift (.load (M .qq) (Rect.unit (s := S8x512x128) ![u.val, 0, 0] S1x512x128.size (inbQQ u)).toLoadRect (View.loadsAt_vmem h_S1x512x128))
  let _ : Vec F S256x512 .f32 ← Prog.lift (.load (M (.s b u)) (Rect.unit (s := S256x512) ![0, 0] S256x512.size inb_S256x512_S256x512_0_0).toLoadRect (View.loadsAt_vmem h_S256x512))
  Prog.lift (.store (M (.s b u)) (Rect.unit (s := S256x512) ![0, 0] S256x512.size inb_S256x512_S256x512_0_0) (scoreOf kb q) Finset.univ (View.stores_vmem_bits_univ h_S256x512 rfl) (.inl rfl))

/-- One step of a head's online softmax over one of its score blocks, read through `g`, with the values at `off`. -/
def soft (g : FVec F S256x512 .f32 → FVec F S256x512 .f32) (b : Bool) (u : Fin 8) (off : Fin 4 → ℕ) (inb : ∀ a, off a + S1x1x144x256.size a ≤ S8x8x144x256.size a) : Pr F PUnit := do
  let st : Vec F S256x512 .f32 ← Prog.lift (.load (M (.s b u)) (Rect.unit (s := S256x512) ![0, 0] S256x512.size inb_S256x512_S256x512_0_0).toLoadRect (View.loadsAt_vmem h_S256x512))
  let m : Vec F S1x512 .f32 ← Prog.lift (.load (M (.mx u)) (Rect.unit (s := S1x512) ![0, 0] S1x512.size inb_S1x512_S1x512_0_0).toLoadRect (View.loadsAt_vmem h_S1x512))
  let vx : Vec F S1x1x144x256 .bf16 ← Prog.lift (.load (M .vxt) (Rect.unit (s := S8x8x144x256) off S1x1x144x256.size inb).toLoadRect (View.loadsAt_vmem h_S1x1x144x256))
  let acc : Vec F S144x512 .f32 ← Prog.lift (.load (M (.acc u)) (Rect.unit (s := S144x512) ![0, 0] S144x512.size inb_S144x512_S144x512_0_0).toLoadRect (View.loadsAt_vmem h_S144x512))
  let _ : Vec F S144x512 .f32 ← Prog.lift (.load (M (.acc u)) (Rect.unit (s := S144x512) ![0, 0] S144x512.size inb_S144x512_S144x512_0_0).toLoadRect (View.loadsAt_vmem h_S144x512))
  Prog.lift (.store (M (.acc u)) (Rect.unit (s := S144x512) ![0, 0] S144x512.size inb_S144x512_S144x512_0_0) (shapeCast S144x512 (accOf (g st) m vx acc) shapeCasts_S144x512_S144x512) Finset.univ (View.stores_vmem_bits_univ h_S144x512 rfl) (.inl rfl))
  let _ : Vec F S1x512 .f32 ← Prog.lift (.load (M (.mx u)) (Rect.unit (s := S1x512) ![0, 0] S1x512.size inb_S1x512_S1x512_0_0).toLoadRect (View.loadsAt_vmem h_S1x512))
  Prog.lift (.store (M (.mx u)) (Rect.unit (s := S1x512) ![0, 0] S1x512.size inb_S1x512_S1x512_0_0) (shapeCast S1x512 (maxOf (g st) m) shapeCasts_S1x512_S1x512) Finset.univ (View.stores_vmem_bits_univ h_S1x512 rfl) (.inl rfl))

/-- A head's part of a half trip: the next block's scores, and the softmax step over this block's. -/
def half (b : Bool) (ko : Fin 8 → Fin 2 → ℕ) (hk : ∀ u a, ko u a + S256x128.size a ≤ S2048x1024.size a)
    (vo : Fin 8 → Fin 4 → ℕ) (hv : ∀ u a, vo u a + S1x1x144x256.size a ≤ S8x8x144x256.size a) (u : Fin 8) : Pr F PUnit := do
  score M (!b) u (ko u) (hk u)
  soft M id b u (vo u) (hv u)

/-- Write a head's columns of the result. -/
def finish (lam : FVec F S1x1 .f32) (u : Fin 8) : Pr F PUnit := do
  let acc : Vec F S144x512 .f32 ← Prog.lift (.load (M (.acc u)) (Rect.unit (s := S144x512) ![0, 0] S144x512.size inb_S144x512_S144x512_0_0).toLoadRect (View.loadsAt_vmem h_S144x512))
  let sw : Vec F S1x128 .f32 ← Prog.lift (.load (M .sw) (Rect.unit (s := S1x128) ![0, 0] S1x128.size inb_S1x128_S1x128_0_0).toLoadRect (View.loadsAt_vmem h_S1x128))
  let _ : Vec F S256x128 .bf16 ← Prog.lift (.load (M .out) (Rect.unit (s := S256x1024) ![0, 128 * u.val] S256x128.size (inbCol u)).toLoadRect (View.loadsAt_vmem h_S256x128))
  Prog.lift (.store (M .out) (Rect.unit (s := S256x1024) ![0, 128 * u.val] S256x128.size (inbCol u)) (outOf acc lam sw) Finset.univ (View.stores_vmem h_S256x128 ((hM .out).storeExact_slice rfl _ (packedCol u)) (fun _ => rfl)) (.inl rfl))

end Programs

end Cert.KernelIdeal.Attn

end
-- ==== Proof.Heads.lean ====
/-
  What the kernel's steps do to one head. The state of a head is its part of every buffer; each step of `Steps` changes
  the state of its own head by a function of values and leaves the blocks and the other heads alone.
-/
module

public import proofs.«01_k».proof.Proof.Steps

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Facts Cert.KernelIdeal.Facts₀
open Cert.Straight
open VecWindow (window put)

/-! ## Windows -/

section Windows

variable {α : Type} {s : Shape}

/-- A window of the shape's own sizes is everything. -/
theorem window_full (x : s.Idx → α) (off : Fin s.rank → ℕ) (inb : ∀ a, off a + s.size a ≤ s.size a) : window x off s.size inb = x :=
  funext fun y => congrArg x (Rect.emb_unit_full inb y)

/-- So is what is put over all of it. -/
theorem put_full (x : s.Idx → α) (off : Fin s.rank → ℕ) (inb : ∀ a, off a + s.size a ≤ s.size a) (w : s.Idx → α) : put x off s.size w = w :=
  (window_full _ off inb).symm.trans (VecWindow.window_put_same x off s.size inb w)

/-- A put inside a window is a put into what the window reads. -/
theorem window_put_within (x : s.Idx → α) (off size off' size' rel : Fin s.rank → ℕ) (inb' : ∀ a, off' a + size' a ≤ s.size a)
    (w : ((a : Fin s.rank) → Fin (size a)) → α) (h : ∀ a, off a = off' a + rel a) :
    window (put x off size w) off' size' inb' = put (s := ⟨s.rank, size'⟩) (window x off' size' inb') rel size w := by
  funext y
  have e : ∀ a, ((Rect.unit off' size' inb').emb y a).val = off' a + 1 * (y a).val := fun _ => rfl
  show (if h : _ then w (Rect.unitLocal (s := s) (off := off) (size := size) ((Rect.unit off' size' inb').emb y) h) else _)
    = (if h : _ then w (Rect.unitLocal (s := ⟨s.rank, size'⟩) (off := rel) (size := size) y h) else _)
  by_cases hy : ∀ a, rel a ≤ (y a).val ∧ (y a).val < rel a + size a
  · rw [dif_pos hy, dif_pos fun a => by have := hy a; have := e a; have := h a; omega]
    exact congrArg w (funext fun a => Fin.ext (by
      show ((Rect.unit off' size' inb').emb y a).val - off a = (y a).val - rel a
      have := e a; have := h a; omega))
  · rw [dif_neg hy, dif_neg fun hc => hy fun a => by have := hc a; have := e a; have := h a; omega]
    rfl

end Windows

/-! ## The state of a head -/

variable {F : FTy → Type} [FloatOps F] [Named F]

/-- The contents of all the kernel's memrefs. -/
abbrev St (F : FTy → Type) : Type := Cont (Elt F) shp el

/-- The contents of the blocks the kernel only reads. -/
structure Ins (F : FTy → Type) where
  lq1 : FVec F S1x64 .f32
  lk1 : FVec F S1x64 .f32
  lq2 : FVec F S1x64 .f32
  lk2 : FVec F S1x64 .f32
  q : FVec F S256x1024 .bf16
  k : FVec F S2048x1024 .bf16
  v : FVec F S2048x1024 .bf16
  sw : FVec F S1x128 .f32

def ins (σ : St F) : Ins F := ⟨σ .lq1, σ .lk1, σ .lq2, σ .lk2, σ .q, σ .k, σ .v, σ .sw⟩

/-- A head's part of what the kernel writes. -/
structure HS (F : FTy → Type) where
  acc : FVec F S144x512 .f32
  mx : FVec F S1x512 .f32
  s : Bool → FVec F S256x512 .f32
  qq : FVec F S1x512x128 .bf16
  vx : Fin 8 → FVec F S1x1x144x256 .bf16
  out : FVec F S256x128 .bf16

def head (u : Fin 8) (σ : St F) : HS F :=
  ⟨σ (.acc u), σ (.mx u), fun b => σ (.s b u), window (σ .qq) ![u.val, 0, 0] S1x512x128.size (inbQQ u),
    fun j => window (σ .vxt) ![u.val, j.val, 0, 0] S1x1x144x256.size (inbVX u j),
    window (σ .out) ![0, 128 * u.val] S256x128.size (inbCol u)⟩

/-! ## What a store changes -/

theorem head_acc (u u' : Fin 8) (σ : St F) (x : FVec F S144x512 .f32) :
    head u' (Function.update σ (.acc u) x) = if u' = u then { head u' σ with acc := x } else head u' σ := by
  by_cases h : u' = u
  · subst h; rw [if_pos rfl]; simp [head, Function.update]
  · rw [if_neg h]; simp [head, Function.update, h]

theorem head_mx (u u' : Fin 8) (σ : St F) (x : FVec F S1x512 .f32) :
    head u' (Function.update σ (.mx u) x) = if u' = u then { head u' σ with mx := x } else head u' σ := by
  by_cases h : u' = u
  · subst h; rw [if_pos rfl]; simp [head, Function.update]
  · rw [if_neg h]; simp [head, Function.update, h]

theorem head_s (b : Bool) (u u' : Fin 8) (σ : St F) (x : FVec F S256x512 .f32) :
    head u' (Function.update σ (.s b u) x) = if u' = u then { head u' σ with s := Function.update (head u' σ).s b x } else head u' σ := by
  by_cases h : u' = u
  · subst h; rw [if_pos rfl]
    have : (fun b' => Function.update σ (.s b u') x (.s b' u')) = Function.update (fun b' => σ (.s b' u')) b x := by
      funext b'
      by_cases hb : b' = b
      · subst hb; simp
      · simp [Function.update_of_ne, hb]
    simp only [head, this]
    simp [Function.update]
  · rw [if_neg h]; simp [head, Function.update, h]

theorem head_qq (o : ℕ) (u u' : Fin 8) (σ : St F) (w : FVec F S1x256x128 .bf16) :
    head u' (Function.update σ .qq (put (σ .qq) ![u.val, o, 0] S1x256x128.size w))
      = if u' = u then { head u' σ with qq := put (s := S1x512x128) (head u' σ).qq ![0, o, 0] S1x256x128.size w } else head u' σ := by
  by_cases h : u' = u
  · subst h; rw [if_pos rfl]
    have := window_put_within (s := S8x512x128) (σ .qq) ![u'.val, o, 0] S1x256x128.size ![u'.val, 0, 0] S1x512x128.size ![0, o, 0] (inbQQ u') w
      (by intro a; fin_cases a <;> simp)
    simp only [head, Function.update_self, this]
    simp [Function.update]
  · rw [if_neg h]
    have := VecWindow.window_put_of_disjoint (s := S8x512x128) (σ .qq) ![u.val, o, 0] S1x256x128.size ![u'.val, 0, 0] S1x512x128.size (inbQQ u') w 0
      (by have : u'.val ≠ u.val := fun e => h (Fin.ext e)
          show u'.val + 1 ≤ u.val ∨ u.val + 1 ≤ u'.val
          omega)
    simp only [head, Function.update_self, this]
    simp [Function.update]

theorem head_vxt (o n : ℕ) (u j u' : Fin 8) (σ : St F) (w : FVec F (⟨4, ![1, 1, n, 256]⟩ : Shape) .bf16) :
    head u' (Function.update σ .vxt (put (σ .vxt) ![u.val, j.val, o, 0] ![1, 1, n, 256] w))
      = if u' = u then { head u' σ with vx := Function.update (head u' σ).vx j (put (s := S1x1x144x256) ((head u' σ).vx j) ![0, 0, o, 0] ![1, 1, n, 256] w) }
        else head u' σ := by
  by_cases h : u' = u
  · subst h; rw [if_pos rfl]
    have : (fun j' : Fin 8 => window (s := S8x8x144x256) (put (s := S8x8x144x256) (σ .vxt) ![u'.val, j.val, o, 0] ![1, 1, n, 256] w) ![u'.val, j'.val, 0, 0] S1x1x144x256.size (inbVX u' j'))
        = Function.update (head u' σ).vx j (put (s := S1x1x144x256) ((head u' σ).vx j) ![0, 0, o, 0] ![1, 1, n, 256] w) := by
      funext j'
      by_cases hj : j' = j
      · subst hj
        rw [Function.update_self]
        exact window_put_within (s := S8x8x144x256) (σ .vxt) ![u'.val, j'.val, o, 0] ![1, 1, n, 256] ![u'.val, j'.val, 0, 0] S1x1x144x256.size ![0, 0, o, 0] (inbVX u' j') w
          (by intro a; fin_cases a <;> simp)
      · rw [Function.update_of_ne hj]
        exact VecWindow.window_put_of_disjoint (s := S8x8x144x256) (σ .vxt) ![u'.val, j.val, o, 0] ![1, 1, n, 256] ![u'.val, j'.val, 0, 0] S1x1x144x256.size (inbVX u' j') w 1
          (by have : j'.val ≠ j.val := fun e => hj (Fin.ext e)
              show j'.val + 1 ≤ j.val ∨ j.val + 1 ≤ j'.val
              omega)
    rw [← this]
    simp [head, Function.update]
  · rw [if_neg h]
    have : (fun j' : Fin 8 => window (s := S8x8x144x256) (put (s := S8x8x144x256) (σ .vxt) ![u.val, j.val, o, 0] ![1, 1, n, 256] w) ![u'.val, j'.val, 0, 0] S1x1x144x256.size (inbVX u' j'))
        = (head u' σ).vx := by
      funext j'
      exact VecWindow.window_put_of_disjoint (s := S8x8x144x256) (σ .vxt) ![u.val, j.val, o, 0] ![1, 1, n, 256] ![u'.val, j'.val, 0, 0] S1x1x144x256.size (inbVX u' j') w 0
        (by have : u'.val ≠ u.val := fun e => h (Fin.ext e)
            show u'.val + 1 ≤ u.val ∨ u.val + 1 ≤ u'.val
            omega)
    show HS.mk _ _ _ _ _ _ = HS.mk _ _ _ _ _ _
    simp only [Function.update_self, this]
    simp [Function.update, head]

theorem head_out (u u' : Fin 8) (σ : St F) (w : FVec F S256x128 .bf16) :
    head u' (Function.update σ .out (put (σ .out) ![0, 128 * u.val] S256x128.size w)) = if u' = u then { head u' σ with out := w } else head u' σ := by
  by_cases h : u' = u
  · subst h; rw [if_pos rfl]
    have := VecWindow.window_put_same (s := S256x1024) (σ .out) ![0, 128 * u'.val] S256x128.size (inbCol u') w
    simp only [head, Function.update_self, this]
    simp [Function.update]
  · rw [if_neg h]
    have := VecWindow.window_put_of_disjoint (s := S256x1024) (σ .out) ![0, 128 * u.val] S256x128.size ![0, 128 * u'.val] S256x128.size (inbCol u') w 1
      (by have : u'.val ≠ u.val := fun e => h (Fin.ext e)
          show 128 * u'.val + 128 ≤ 128 * u.val ∨ 128 * u.val + 128 ≤ 128 * u'.val
          omega)
    simp only [head, Function.update_self, this]
    simp [Function.update]

/-- The blocks the kernel only reads. -/
def isIn : Cell → Bool
  | .lq1 | .lk1 | .lq2 | .lk2 | .q | .k | .v | .sw => true
  | _ => false

theorem ins_update (b : Cell) (σ : St F) (x : (shp b).Idx → Elt F (el b)) (hb : isIn b = false) : ins (Function.update σ b x) = ins σ := by
  cases b <;> first | (simp [isIn] at hb; done) | simp [ins, Function.update]

/-! ## Steps -/

/-- A program for each head that changes that head alone, by the function `g` of the blocks, the head and its state. -/
def Acts (M : Mems) (f : Fin 8 → Pr F PUnit) (g : Ins F → Fin 8 → HS F → HS F) : Prop :=
  ∀ u σ, Runs M (f u) σ fun _ σ' => ins σ' = ins σ ∧ ∀ u', head u' σ' = if u' = u then g (ins σ) u (head u σ) else head u' σ

/-- One step after another. -/
theorem Acts.seq {M : Mems} {f f' : Fin 8 → Pr F PUnit} {g g' : Ins F → Fin 8 → HS F → HS F} (h : Acts M f g) (h' : Acts M f' g') :
    Acts M (fun u => f u >>= fun _ => f' u) (fun B u x => g' B u (g B u x)) := by
  intro u σ
  refine Runs.bind_of (h u σ) fun _ σ₁ ⟨e₁, h₁⟩ => (h' u σ₁).mono fun _ σ₂ ⟨e₂, h₂⟩ => ⟨e₂.trans e₁, fun u' => ?_⟩
  rw [h₂ u', e₁, h₁ u, h₁ u', if_pos rfl]
  split <;> rfl

/-- The same step for some numbers, one after another. -/
theorem Acts.list {M : Mems} {f : Fin 8 → Fin 8 → Pr F PUnit} {g : Fin 8 → Ins F → Fin 8 → HS F → HS F} (h : ∀ j, Acts M (fun u => f u j) (g j))
    (l : List (Fin 8)) : Acts M (fun u => each (f u) l) (fun B u x => l.foldl (fun x j => g j B u x) x) := by
  induction l with
  | nil =>
    intro u σ
    refine .ret ⟨rfl, fun u' => ?_⟩
    split
    · rename_i e; subst e; rfl
    · rfl
  | cons j l ih => exact (h j).seq ih

/-- A step for each of some heads changes each of them. -/
theorem Acts.each {M : Mems} {f : Fin 8 → Pr F PUnit} {g : Ins F → Fin 8 → HS F → HS F} (h : Acts M f g) (l : List (Fin 8)) (hl : l.Nodup) (σ : St F) :
    Runs M (Attn.each f l) σ fun _ σ' => ins σ' = ins σ ∧ ∀ u', head u' σ' = if u' ∈ l then g (ins σ) u' (head u' σ) else head u' σ := by
  induction l generalizing σ with
  | nil => exact .ret ⟨rfl, fun u' => by rw [if_neg (by simp)]⟩
  | cons u l ih =>
    refine Runs.bind_of (h u σ) fun _ σ₁ ⟨e₁, h₁⟩ => (ih (List.nodup_cons.mp hl).2 σ₁).mono fun _ σ₂ ⟨e₂, h₂⟩ => ⟨e₂.trans e₁, fun u' => ?_⟩
    rw [h₂ u', e₁, h₁ u']
    by_cases hu : u' = u
    · subst hu
      rw [if_neg (List.nodup_cons.mp hl).1, if_pos rfl, if_pos List.mem_cons_self]
    · simp only [List.mem_cons, hu, false_or, if_false]

/-- A step for all the heads. -/
theorem Acts.all {M : Mems} {f : Fin 8 → Pr F PUnit} {g : Ins F → Fin 8 → HS F → HS F} (h : Acts M f g) (σ : St F) :
    Runs M (Attn.each f heads) σ fun _ σ' => ins σ' = ins σ ∧ ∀ u, head u σ' = g (ins σ) u (head u σ) :=
  (h.each heads (by decide) σ).mono fun _ σ' ⟨e, h⟩ => ⟨e, fun u => (h u).trans (if_pos (by revert u; decide))⟩

/-! ## The kernel's steps -/

/-- A block of values with the ones under it, over what was there. -/
def gPutV (j : Fin 8) (B : Ins F) (u : Fin 8) (x : HS F) : HS F :=
  { x with vx := Function.update x.vx j (put (s := S1x1x144x256)
      (put (s := S1x1x144x256) (x.vx j) ![0, 0, 0, 0] S1x1x128x256.size
        (vT (window (s := S2048x1024) B.v ![256 * j.val, 128 * u.val] S256x128.size (inbRow j u))))
      ![0, 0, 128, 0] S1x1x16x256.size vOnes) }

theorem acts_putV (M : Mems) (hM : ∀ b, (M b).IsWhole) (j : Fin 8) : Acts (F := F) M (fun u => putV M hM u j) (gPutV j) := by
  intro u σ
  refine Runs.bind (.load Cell.v (.ret ?_))
  refine Runs.bind (.load Cell.vxt (.ret ?_))
  refine Runs.bind (.store Cell.vxt (.ret ?_))
  refine Runs.bind (.load Cell.vxt (.ret ?_))
  refine .store Cell.vxt (.ret ⟨?_, fun u' => ?_⟩)
  · rw [ins_update _ _ _ rfl, ins_update _ _ _ rfl]
  · refine (head_vxt 128 16 u j u' _ _).trans ?_
    have e := head_vxt 0 128 u j u' σ (vT (window (s := S2048x1024) (σ .v) ![256 * j.val, 128 * u.val] S256x128.size (inbRow j u)))
    by_cases h : u' = u
    · subst h
      rw [if_pos rfl] at e ⊢
      rw [if_pos rfl]
      refine (congrArg (fun y : HS F => { y with vx := Function.update y.vx j (put (s := S1x1x144x256) (y.vx j) ![0, 0, 128, 0] ![1, 1, 16, 256] vOnes) }) e).trans ?_
      simp only [Function.update_self, Function.update_idem]
      rfl
    · rw [if_neg h] at e ⊢
      rw [if_neg h]
      exact e

/-- A head's queries, and a fresh accumulator and maxima. -/
def gInit (B : Ins F) (u : Fin 8) (x : HS F) : HS F :=
  { x with
    qq := put (s := S1x512x128) (put (s := S1x512x128) x.qq ![0, 0, 0] S1x256x128.size (qLow (window (s := S256x1024) B.q ![0, 128 * u.val] S256x128.size (inbCol u))))
      ![0, 256, 0] S1x256x128.size (qHigh (window (s := S256x1024) B.q ![0, 128 * u.val] S256x128.size (inbCol u)))
    acc := acc0
    mx := mx0 }

theorem acts_init (M : Mems) (hM : ∀ b, (M b).IsWhole) : Acts (F := F) M (initHead M hM) gInit := by
  intro u σ
  refine Runs.bind (.load Cell.q (.ret ?_))
  refine Runs.bind (.load Cell.qq (.ret ?_))
  refine Runs.bind (.store Cell.qq (.ret ?_))
  refine Runs.bind (.load Cell.qq (.ret ?_))
  refine Runs.bind (.store Cell.qq (.ret ?_))
  refine Runs.bind (.load (Cell.acc u) (.ret ?_))
  refine Runs.bind (.store (Cell.acc u) (.ret ?_))
  refine Runs.bind (.load (Cell.mx u) (.ret ?_))
  refine .store (Cell.mx u) (.ret ⟨?_, fun u' => ?_⟩)
  · simp only [ins_update _ _ _ (show isIn .qq = false from rfl), ins_update _ _ _ (show isIn (.acc u) = false from rfl), ins_update _ _ _ (show isIn (.mx u) = false from rfl)]
  · rw [put_full (s := S144x512) _ _ inb_S144x512_S144x512_0_0, put_full (s := S1x512) _ _ inb_S1x512_S1x512_0_0, head_mx, head_acc]
    have e₁ := head_qq 0 u u' σ (qLow (window (s := S256x1024) (σ .q) ![0, 128 * u.val] S256x128.size (inbCol u)))
    have e₂ := head_qq 256 u u' (Function.update σ .qq (put (σ .qq) ![u.val, 0, 0] S1x256x128.size (qLow (window (s := S256x1024) (σ .q) ![0, 128 * u.val] S256x128.size (inbCol u)))))
      (qHigh (window (s := S256x1024) (σ .q) ![0, 128 * u.val] S256x128.size (inbCol u)))
    by_cases h : u' = u
    · subst h
      simp only [if_pos rfl] at e₁ e₂ ⊢
      rw [e₁] at e₂
      rw [e₂]
      rfl
    · simp only [if_neg h] at e₁ e₂ ⊢
      exact e₂.trans e₁

/-- The scores of a block of keys. -/
def gScore (b : Bool) (off : Fin 8 → Fin 2 → ℕ) (inb : ∀ u a, off u a + S256x128.size a ≤ S2048x1024.size a) (B : Ins F) (u : Fin 8) (x : HS F) : HS F :=
  { x with s := Function.update x.s b (scoreOf (window (s := S2048x1024) B.k (off u) S256x128.size (inb u)) x.qq) }

theorem acts_score (M : Mems) (b : Bool) (off : Fin 8 → Fin 2 → ℕ) (inb : ∀ u a, off u a + S256x128.size a ≤ S2048x1024.size a) :
    Acts (F := F) M (fun u => score M b u (off u) (inb u)) (gScore b off inb) := by
  intro u σ
  refine Runs.bind (.load Cell.k (.ret ?_))
  refine Runs.bind (.load Cell.qq (.ret ?_))
  refine Runs.bind (.load (Cell.s b u) (.ret ?_))
  refine .store (Cell.s b u) (.ret ⟨ins_update _ _ _ rfl, fun u' => ?_⟩)
  rw [put_full (s := S256x512) _ _ inb_S256x512_S256x512_0_0, head_s]
  split
  · rename_i h; subst h; rfl
  · rfl

/-- A step of the online softmax. -/
def gSoft (g : FVec F S256x512 .f32 → FVec F S256x512 .f32) (b : Bool) (x : HS F) (vx : FVec F S1x1x144x256 .bf16) : HS F :=
  { x with
    acc := shapeCast S144x512 (accOf (g (x.s b)) x.mx vx x.acc) shapeCasts_S144x512_S144x512
    mx := shapeCast S1x512 (maxOf (g (x.s b)) x.mx) shapeCasts_S1x512_S1x512 }

theorem acts_soft (M : Mems) (g : FVec F S256x512 .f32 → FVec F S256x512 .f32) (b : Bool) (j : Fin 8) (off : Fin 8 → Fin 4 → ℕ)
    (hoff : ∀ u, off u = ![u.val, j.val, 0, 0]) (inb : ∀ u a, off u a + S1x1x144x256.size a ≤ S8x8x144x256.size a) :
    Acts (F := F) M (fun u => soft M g b u (off u) (inb u)) (fun _ _ x => gSoft g b x (x.vx j)) := by
  obtain rfl : off = fun u => ![u.val, j.val, 0, 0] := funext hoff
  intro u σ
  refine Runs.bind (.load (Cell.s b u) (.ret ?_))
  refine Runs.bind (.load (Cell.mx u) (.ret ?_))
  refine Runs.bind (.load Cell.vxt (.ret ?_))
  refine Runs.bind (.load (Cell.acc u) (.ret ?_))
  refine Runs.bind (.load (Cell.acc u) (.ret ?_))
  refine Runs.bind (.store (Cell.acc u) (.ret ?_))
  refine Runs.bind (.load (Cell.mx u) (.ret ?_))
  refine .store (Cell.mx u) (.ret ⟨(ins_update _ _ _ rfl).trans (ins_update _ _ _ rfl), fun u' => ?_⟩)
  rw [put_full (s := S144x512) _ _ inb_S144x512_S144x512_0_0, put_full (s := S1x512) _ _ inb_S1x512_S1x512_0_0, head_mx, head_acc]
  simp only [window_full (s := S144x512) _ _ inb_S144x512_S144x512_0_0, window_full (s := S1x512) _ _ inb_S1x512_S1x512_0_0, window_full (s := S256x512) _ _ inb_S256x512_S256x512_0_0]
  by_cases h : u' = u
  · subst h
    simp only [if_pos rfl]
    rfl
  · simp only [if_neg h]

/-- The head's columns of the result. -/
def gFinish (lam : FVec F S1x1 .f32) (B : Ins F) (_ : Fin 8) (x : HS F) : HS F := { x with out := outOf x.acc lam B.sw }

theorem acts_finish (M : Mems) (hM : ∀ b, (M b).IsWhole) (lam : FVec F S1x1 .f32) : Acts (F := F) M (finish M hM lam) (gFinish lam) := by
  intro u σ
  refine Runs.bind (.load (Cell.acc u) (.ret ?_))
  refine Runs.bind (.load Cell.sw (.ret ?_))
  refine Runs.bind (.load Cell.out (.ret ?_))
  refine .store Cell.out (.ret ⟨ins_update _ _ _ rfl, fun u' => ?_⟩)
  simp only [window_full (s := S144x512) _ _ inb_S144x512_S144x512_0_0, window_full (s := S1x128) _ _ inb_S1x128_S1x128_0_0]
  refine (head_out u u' σ _).trans ?_
  by_cases h : u' = u
  · subst h
    simp only [if_pos rfl]
    rfl
  · simp only [if_neg h]

theorem runs_lam (M : Mems) (σ : St F) :
    Runs M (loadLam M) σ fun a σ' => a = lamOf (ins σ).lq1 (ins σ).lk1 (ins σ).lq2 (ins σ).lk2 ∧ σ' = σ := by
  refine Runs.bind (.load Cell.lq1 (.ret ?_))
  refine Runs.bind (.load Cell.lk1 (.ret ?_))
  refine Runs.bind (.load Cell.lq2 (.ret ?_))
  refine Runs.bind (.load Cell.lk2 (.ret ?_))
  refine .ret ⟨?_, rfl⟩
  simp only [window_full (s := S1x64) _ _ inb_S1x64_S1x64_0_0]
  rfl

end Cert.KernelIdeal.Attn

end
-- ==== Proof.Text.lean ====
/-
  The printed kernel is the text of `Steps`, head by head: the same memory operations in the same order. The two are
  compared one operation at a time.
-/
module
public import proofs.«01_k».proof.Proof.Steps
public import proofs.«01_k».proof.Proof.Gen.KernelIdeal.Skeleton
@[expose] public section
set_option maxRecDepth 65536
noncomputable section
namespace Cert.KernelIdeal.Attn
open Idealize.ShloMosaic Idealize.ShloMosaic.TcCoe
open Idealize.SL Idealize.SL.Sem
open Cert.KernelIdeal Cert.KernelIdeal.Facts Cert.KernelIdeal.Facts₀
variable {F : FTy → Type} [FloatOps F] [Named F]

/-- Where a loop trip's blocks of keys and values lie, for its first and its second half. -/
def koA (i : grid0.Coords) (t : Fin (k0_t1_loop i).trips) : Fin 8 → Fin 2 → ℕ :=
  ![k0_off1 i t, k0_off3 i t, k0_off5 i t, k0_off7 i t, k0_off9 i t, k0_off11 i t, k0_off13 i t, k0_off15 i t]
def voA (i : grid0.Coords) (t : Fin (k0_t1_loop i).trips) : Fin 8 → Fin 4 → ℕ :=
  ![k0_off2 i t, k0_off4 i t, k0_off6 i t, k0_off8 i t, k0_off10 i t, k0_off12 i t, k0_off14 i t, k0_off16 i t]
def koB (i : grid0.Coords) (t : Fin (k0_t1_loop i).trips) : Fin 8 → Fin 2 → ℕ :=
  ![k0_off17 i t, k0_off19 i t, k0_off21 i t, k0_off23 i t, k0_off25 i t, k0_off27 i t, k0_off29 i t, k0_off31 i t]
def voB (i : grid0.Coords) (t : Fin (k0_t1_loop i).trips) : Fin 8 → Fin 4 → ℕ :=
  ![k0_off18 i t, k0_off20 i t, k0_off22 i t, k0_off24 i t, k0_off26 i t, k0_off28 i t, k0_off30 i t, k0_off32 i t]
theorem koA_inb (i : grid0.Coords) (t : Fin (k0_t1_loop i).trips) (u : Fin 8) : ∀ a, koA i t u a + S256x128.size a ≤ S2048x1024.size a :=
  match u with
  | 0 => k0_off1_inb i t | 1 => k0_off3_inb i t | 2 => k0_off5_inb i t | 3 => k0_off7_inb i t
  | 4 => k0_off9_inb i t | 5 => k0_off11_inb i t | 6 => k0_off13_inb i t | 7 => k0_off15_inb i t
theorem voA_inb (i : grid0.Coords) (t : Fin (k0_t1_loop i).trips) (u : Fin 8) : ∀ a, voA i t u a + S1x1x144x256.size a ≤ S8x8x144x256.size a :=
  match u with
  | 0 => k0_off2_inb i t | 1 => k0_off4_inb i t | 2 => k0_off6_inb i t | 3 => k0_off8_inb i t
  | 4 => k0_off10_inb i t | 5 => k0_off12_inb i t | 6 => k0_off14_inb i t | 7 => k0_off16_inb i t
theorem koB_inb (i : grid0.Coords) (t : Fin (k0_t1_loop i).trips) (u : Fin 8) : ∀ a, koB i t u a + S256x128.size a ≤ S2048x1024.size a :=
  match u with
  | 0 => k0_off17_inb i t | 1 => k0_off19_inb i t | 2 => k0_off21_inb i t | 3 => k0_off23_inb i t
  | 4 => k0_off25_inb i t | 5 => k0_off27_inb i t | 6 => k0_off29_inb i t | 7 => k0_off31_inb i t
theorem voB_inb (i : grid0.Coords) (t : Fin (k0_t1_loop i).trips) (u : Fin 8) : ∀ a, voB i t u a + S1x1x144x256.size a ≤ S8x8x144x256.size a :=
  match u with
  | 0 => k0_off18_inb i t | 1 => k0_off20_inb i t | 2 => k0_off22_inb i t | 3 => k0_off24_inb i t
  | 4 => k0_off26_inb i t | 5 => k0_off28_inb i t | 6 => k0_off30_inb i t | 7 => k0_off32_inb i t

/-- Where the last full block's scores and the values under them lie, when the diagonal block's number is odd. -/
def koC (i : grid0.Coords) : Fin 8 → Fin 2 → ℕ :=
  ![k0_off65 i, k0_off67 i, k0_off69 i, k0_off71 i, k0_off73 i, k0_off75 i, k0_off77 i, k0_off79 i]
def voC (i : grid0.Coords) : Fin 8 → Fin 4 → ℕ :=
  ![k0_off66 i, k0_off68 i, k0_off70 i, k0_off72 i, k0_off74 i, k0_off76 i, k0_off78 i, k0_off80 i]
/-- Where the diagonal block's values lie, by parity. -/
def voD (i : grid0.Coords) : Fin 8 → Fin 4 → ℕ :=
  ![k0_off81 i, k0_off82 i, k0_off83 i, k0_off84 i, k0_off85 i, k0_off86 i, k0_off87 i, k0_off88 i]
def voE (i : grid0.Coords) : Fin 8 → Fin 4 → ℕ :=
  ![k0_off89 i, k0_off90 i, k0_off91 i, k0_off92 i, k0_off93 i, k0_off94 i, k0_off95 i, k0_off96 i]
theorem koC_inb (i : grid0.Coords) (h : k0_cond2 i = 1#1) (u : Fin 8) : ∀ a, koC i u a + S256x128.size a ≤ S2048x1024.size a :=
  match u with
  | 0 => k0_off65_inb i h
  | 1 => k0_off67_inb i h
  | 2 => k0_off69_inb i h
  | 3 => k0_off71_inb i h
  | 4 => k0_off73_inb i h
  | 5 => k0_off75_inb i h
  | 6 => k0_off77_inb i h
  | 7 => k0_off79_inb i h
theorem voC_inb (i : grid0.Coords) (h : k0_cond2 i = 1#1) (u : Fin 8) : ∀ a, voC i u a + S1x1x144x256.size a ≤ S8x8x144x256.size a :=
  match u with
  | 0 => k0_off66_inb i h
  | 1 => k0_off68_inb i h
  | 2 => k0_off70_inb i h
  | 3 => k0_off72_inb i h
  | 4 => k0_off74_inb i h
  | 5 => k0_off76_inb i h
  | 6 => k0_off78_inb i h
  | 7 => k0_off80_inb i h
theorem voD_inb (i : grid0.Coords) (h : k0_cond2 i = 1#1) (u : Fin 8) : ∀ a, voD i u a + S1x1x144x256.size a ≤ S8x8x144x256.size a :=
  match u with
  | 0 => k0_off81_inb i h
  | 1 => k0_off82_inb i h
  | 2 => k0_off83_inb i h
  | 3 => k0_off84_inb i h
  | 4 => k0_off85_inb i h
  | 5 => k0_off86_inb i h
  | 6 => k0_off87_inb i h
  | 7 => k0_off88_inb i h
theorem voE_inb (i : grid0.Coords) (h : k0_cond3 i = 1#1) (u : Fin 8) : ∀ a, voE i u a + S1x1x144x256.size a ≤ S8x8x144x256.size a :=
  match u with
  | 0 => k0_off89_inb i h
  | 1 => k0_off90_inb i h
  | 2 => k0_off91_inb i h
  | 3 => k0_off92_inb i h
  | 4 => k0_off93_inb i h
  | 5 => k0_off94_inb i h
  | 6 => k0_off95_inb i h
  | 7 => k0_off96_inb i h

/-- The printed kernel on a family of memrefs. -/
def kernelOn (M : Mems) (hM : ∀ b, (M b).IsWhole) (i : grid0.Coords) : Pr F PUnit :=
  cc0_diff_attn i (M .lq1) (hM .lq1) (M .lk1) (hM .lk1) (M .lq2) (hM .lq2) (M .lk2) (hM .lk2) (M .q) (hM .q) (M .k) (hM .k) (M .v) (hM .v) (M .sw) (hM .sw) (M .out) (hM .out) (M .vxt) (hM .vxt) (M .qq) (hM .qq) (M (.acc 0)) (hM (.acc 0)) (M (.acc 1)) (hM (.acc 1)) (M (.acc 2)) (hM (.acc 2)) (M (.acc 3)) (hM (.acc 3)) (M (.acc 4)) (hM (.acc 4)) (M (.acc 5)) (hM (.acc 5)) (M (.acc 6)) (hM (.acc 6)) (M (.acc 7)) (hM (.acc 7)) (M (.mx 0)) (hM (.mx 0)) (M (.mx 1)) (hM (.mx 1)) (M (.mx 2)) (hM (.mx 2)) (M (.mx 3)) (hM (.mx 3)) (M (.mx 4)) (hM (.mx 4)) (M (.mx 5)) (hM (.mx 5)) (M (.mx 6)) (hM (.mx 6)) (M (.mx 7)) (hM (.mx 7)) (M (.s false 0)) (hM (.s false 0)) (M (.s false 1)) (hM (.s false 1)) (M (.s false 2)) (hM (.s false 2)) (M (.s false 3)) (hM (.s false 3)) (M (.s false 4)) (hM (.s false 4)) (M (.s false 5)) (hM (.s false 5)) (M (.s false 6)) (hM (.s false 6)) (M (.s false 7)) (hM (.s false 7)) (M (.s true 0)) (hM (.s true 0)) (M (.s true 1)) (hM (.s true 1)) (M (.s true 2)) (hM (.s true 2)) (M (.s true 3)) (hM (.s true 3)) (M (.s true 4)) (hM (.s true 4)) (M (.s true 5)) (hM (.s true 5)) (M (.s true 6)) (hM (.s true 6)) (M (.s true 7)) (hM (.s true 7))

/-- The flag that starts a batch entry: its values are yet to be transposed. -/
def startV (i : grid0.Coords) : BitVec 1 :=
  Scalar.cmpi .ne (Scalar.extui (Scalar.cmpi .eq (BitVec.ofNat 32 (i 2).val) 0#32) : BitVec 32) 0#32

/-- A loop trip: two blocks of keys, for every head. -/
def trip (M : Mems) (i : grid0.Coords) (t : Fin (k0_t1_loop i).trips) : Pr F Unit := do
  each (half M false (koA i t) (koA_inb i t) (voA i t) (voA_inb i t)) heads
  each (half M true (koB i t) (koB_inb i t) (voB i t) (voB_inb i t)) heads

/-- A program run only if a condition holds. -/
def when (c : Prop) [Decidable c] (x : c → Pr F PUnit) : Pr F PUnit := if h : c then x h else pure ⟨⟩

/-- The whole kernel; `B` is the body of its second loop, which takes no trips. -/
def whole (M : Mems) (hM : ∀ b, (M b).IsWhole) (i : grid0.Coords) (B : Fin (k0_t2_loop i).trips → Unit → Pr F Unit) : Pr F PUnit := do
  when (startV i = 1#1) fun _ => each (putVs M hM) heads
  let lam ← loadLam M
  each (initHead M hM) heads
  each (fun u => score M false u ![0, 128 * u.val] (inbK0 u)) heads
  Scf.Loop.for (k0_t1_loop i) (k0_t1_ok i) ⟨⟩ (fun t _ => trip M i t)
  Scf.Loop.for (k0_t2_loop i) (k0_t2_ok i) ⟨⟩ B
  when (k0_cond2 i = 1#1) fun h => do
    each (half M false (koC i) (koC_inb i h) (voC i) (voC_inb i h)) heads
    each (fun u => soft M maskedOf true u (voD i u) (voD_inb i h u)) heads
  when (k0_cond3 i = 1#1) fun h => each (fun u => soft M maskedOf false u (voE i u) (voE_inb i h u)) heads
  each (finish M hM lam) heads

/-- Two programs that start with the same operation and go on alike are the same. -/
theorem op_congr.{w} {E : Type → Type w} {α β : Type} {p q : Prog E α} (e : E β) (k k' : β → Prog E α) (hp : p = .op e k) (hq : q = .op e k')
    (h : ∀ v, k v = k' v) : p = q := by rw [hp, hq, funext h]

/-- Two programs that start with the same test are the same if they are so whatever it tells. -/
theorem branch_congr.{w} {E : Type → Type w} {α β : Type} {p q : Prog E α} {c : Prop} {_ : Decidable c} (a : c → Prog E β) (b : Prog E β)
    (g : β → Prog E α) (x : c → Prog E PUnit) (f : PUnit → Prog E α)
    (hp : p = (dite c a fun _ => b) >>= g) (hq : q = (dite c x fun _ => pure ⟨⟩) >>= f) (hb : b >>= g = f ⟨⟩)
    (ha : ∀ h, b >>= g = f ⟨⟩ → a h >>= g = x h >>= f) : p = q := by
  rw [hp, hq]
  split
  · exact ha _ hb
  · exact hb

/-- Two programs that start with the same loop and go on alike are the same. -/
theorem loop_congr {β γ : Type} {p q : Pr F β} {lb ub st : BitVec 32} {hl : Scf.OK lb ub st} (b b' : Fin (Scf.trips lb ub st) → Unit → Pr F Unit) (f : Unit → Pr F γ) (g : γ → Pr F β)
    (f' : Unit → Pr F β) (hp : p = (Scf.for lb ub st hl ⟨⟩ b >>= f) >>= g) (hq : q = Scf.for lb ub st hl ⟨⟩ b' >>= f')
    (hb : ∀ t a, b t a = b' t a) (h : f ⟨⟩ >>= g = f' ⟨⟩) : p = q := by
  rw [hp, hq, funext fun t => funext (hb t), ← show (fun v => f v >>= g) = f' from funext fun _ => h]
  exact Prog.bind_assoc _ f g

set_option maxHeartbeats 0 in
/-- What follows the flag's test. -/
theorem kernelOn_eq (M : Mems) (hM : ∀ b, (M b).IsWhole) (i : grid0.Coords) :
    ∃ B, (kernelOn M hM i : Pr F PUnit) = whole M hM i B := by
  apply Exists.intro
  apply branch_congr
  · exact rfl
  · exact rfl
  · repeat (apply op_congr; exact rfl; exact rfl; intro v)
    apply loop_congr
    · exact rfl
    · exact rfl
    · intro t a
      unfold trip
      repeat (apply op_congr; exact rfl; exact rfl; intro v)
      exact rfl
    · apply loop_congr
      · exact rfl
      · exact rfl
      · intro t a
        exact rfl
      · apply branch_congr
        · exact rfl
        · exact rfl
        · apply branch_congr
          · exact rfl
          · exact rfl
          · repeat (apply op_congr; exact rfl; exact rfl; intro v)
            exact rfl
          · intro h hb
            iterate 64 (apply op_congr; exact rfl; exact rfl; intro v)
            exact hb
        · intro h hb
          repeat (apply op_congr; exact rfl; exact rfl; intro v)
          exact hb
  · intro h hb
    iterate 320 (apply op_congr; exact rfl; exact rfl; intro v)
    exact hb
end Cert.KernelIdeal.Attn
end
-- ==== Proof.Whole.lean ====
/-
  The kernel as a function of its blocks. Every grid point's result is, head by head: the online softmax's recursion
  over the key blocks below the diagonal one, a last step over the diagonal block with later keys masked, and the
  closing normalisation.
-/
module

public import proofs.«01_k».proof.Proof.Heads
public import proofs.«01_k».proof.Proof.Text

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Facts Cert.KernelIdeal.Facts₀
open Cert.Straight
open VecWindow (window put)

/-! ## The grid point's numbers -/

/-- The point with query block `x`, of the first batch entry: nothing the kernel computes with depends on the entry. -/
def at3 (x : Fin 8) : grid0.Coords := fun a => match a with
  | 0 => (0 : Fin 8)
  | 1 => (0 : Fin 1)
  | 2 => x

theorem trips1_at : ∀ x : Fin 8, (k0_t1_loop (at3 x)).trips = x.val / 2 := by decide +kernel
theorem trips2_at : ∀ x : Fin 8, (k0_t2_loop (at3 x)).trips = 0 := by decide +kernel
theorem start_at : ∀ x : Fin 8, startV (at3 x) = 1#1 ↔ x.val = 0 := by decide +kernel
theorem cond2_at : ∀ x : Fin 8, k0_cond2 (at3 x) = 1#1 ↔ x.val % 2 = 1 := by decide +kernel
theorem cond3_at : ∀ x : Fin 8, k0_cond3 (at3 x) = 1#1 ↔ x.val % 2 = 0 := by decide +kernel
theorem koA_at : ∀ (x : Fin 8) (t : Fin (k0_t1_loop (at3 x)).trips) (u : Fin 8), koA (at3 x) t u = ![256 * (2 * t.val + 1), 128 * u.val] := by decide +kernel
theorem voA_at : ∀ (x : Fin 8) (t : Fin (k0_t1_loop (at3 x)).trips) (u : Fin 8), voA (at3 x) t u = ![u.val, 2 * t.val, 0, 0] := by decide +kernel
theorem koB_at : ∀ (x : Fin 8) (t : Fin (k0_t1_loop (at3 x)).trips) (u : Fin 8), koB (at3 x) t u = ![256 * (2 * t.val + 2), 128 * u.val] := by decide +kernel
theorem voB_at : ∀ (x : Fin 8) (t : Fin (k0_t1_loop (at3 x)).trips) (u : Fin 8), voB (at3 x) t u = ![u.val, 2 * t.val + 1, 0, 0] := by decide +kernel
theorem koC_at : ∀ (x : Fin 8) (u : Fin 8), koC (at3 x) u = ![256 * x.val, 128 * u.val] := by decide +kernel
theorem voC_at : ∀ (x : Fin 8) (_ : k0_cond2 (at3 x) = 1#1) (u : Fin 8), voC (at3 x) u = ![u.val, x.val - 1, 0, 0] := by decide +kernel
theorem voD_at : ∀ (x : Fin 8) (u : Fin 8), voD (at3 x) u = ![u.val, x.val, 0, 0] := by decide +kernel
theorem voE_at : ∀ (x : Fin 8) (u : Fin 8), voE (at3 x) u = ![u.val, x.val, 0, 0] := by decide +kernel

variable {F : FTy → Type} [FloatOps F] [Named F]

/-! ## The function -/

/-- A head's queries, component one over component two. -/
def qH (q : FVec F S256x1024 .bf16) (u : Fin 8) : FVec F S1x512x128 .bf16 :=
  put (s := S1x512x128) (put (s := S1x512x128) (fun _ => Scalar.ofBits .bf16 0x0000#16) ![0, 0, 0] S1x256x128.size (qLow (window (s := S256x1024) q ![0, 128 * u.val] S256x128.size (inbCol u))))
    ![0, 256, 0] S1x256x128.size (qHigh (window (s := S256x1024) q ![0, 128 * u.val] S256x128.size (inbCol u)))

/-- A head's values of key block `j`, transposed over ones. -/
def vX (v : FVec F S2048x1024 .bf16) (u j : Fin 8) : FVec F S1x1x144x256 .bf16 :=
  put (s := S1x1x144x256) (put (s := S1x1x144x256) (fun _ => Scalar.ofBits .bf16 0x0000#16) ![0, 0, 0, 0] S1x1x128x256.size
      (vT (window (s := S2048x1024) v ![256 * j.val, 128 * u.val] S256x128.size (inbRow j u))))
    ![0, 0, 128, 0] S1x1x16x256.size vOnes

/-- A head's scores against key block `j`. -/
def sB (B : Ins F) (u j : Fin 8) : FVec F S256x512 .f32 :=
  scoreOf (window (s := S2048x1024) B.k ![256 * j.val, 128 * u.val] S256x128.size (inbRow j u)) (qH B.q u)

/-- One step of the online softmax. -/
def stepOf (st : FVec F S256x512 .f32) (vx : FVec F S1x1x144x256 .bf16) (x : FVec F S144x512 .f32 × FVec F S1x512 .f32) : FVec F S144x512 .f32 × FVec F S1x512 .f32 :=
  (shapeCast S144x512 (accOf st x.2 vx x.1) shapeCasts_S144x512_S144x512, shapeCast S1x512 (maxOf st x.2) shapeCasts_S1x512_S1x512)

/-- Block number `j` of the eight. -/
def blk (j : ℕ) : Fin 8 := Fin.ofNat 8 j

/-- A head's accumulator and maxima after the first key blocks. -/
def below (B : Ins F) (u : Fin 8) : ℕ → FVec F S144x512 .f32 × FVec F S1x512 .f32
  | 0 => (acc0, mx0)
  | j + 1 => stepOf (sB B u (blk j)) (vX B.v u (blk j)) (below B u j)

/-- A head's columns of the result of query block `n`. -/
def result (B : Ins F) (u n : Fin 8) : FVec F S256x128 .bf16 :=
  outOf (stepOf (maskedOf (sB B u n)) (vX B.v u n) (below B u n.val)).1 (lamOf B.lq1 B.lk1 B.lq2 B.lk2) B.sw

/-! ## The steps compute it -/

/-- Two puts that together cover the shape leave nothing of what was there. -/
theorem put_put_cover {α : Type} {s : Shape} (x x' : s.Idx → α) (off size off' size' : Fin s.rank → ℕ) (w : ((a : Fin s.rank) → Fin (size a)) → α)
    (w' : ((a : Fin s.rank) → Fin (size' a)) → α)
    (h : ∀ y : s.Idx, (∀ a, off' a ≤ (y a).val ∧ (y a).val < off' a + size' a) ∨ ∀ a, off a ≤ (y a).val ∧ (y a).val < off a + size a) :
    put (put x off size w) off' size' w' = put (put x' off size w) off' size' w' := by
  funext y
  unfold put
  by_cases h' : ∀ a, off' a ≤ (y a).val ∧ (y a).val < off' a + size' a
  · rw [dif_pos h', dif_pos h']
  · rw [dif_neg h', dif_neg h', dif_pos ((h y).resolve_left h'), dif_pos ((h y).resolve_left h')]

theorem gInit_eq (B : Ins F) (u : Fin 8) (x : HS F) : gInit B u x = { x with qq := qH B.q u, acc := acc0, mx := mx0 } := by
  unfold gInit qH
  rw [put_put_cover (s := S1x512x128) x.qq (fun _ => Scalar.ofBits .bf16 0x0000#16)]
  intro y
  have h0 : (y 0).val < 1 := (y 0).isLt
  have h1 : (y 1).val < 512 := (y 1).isLt
  have h2 : (y 2).val < 128 := (y 2).isLt
  rcases Nat.lt_or_ge (y 1).val 256 with h | h
  · refine .inr fun a => ?_
    fin_cases a
    · exact ⟨Nat.zero_le _, h0⟩
    · exact ⟨Nat.zero_le _, h⟩
    · exact ⟨Nat.zero_le _, h2⟩
  · refine .inl fun a => ?_
    fin_cases a
    · exact ⟨Nat.zero_le _, h0⟩
    · exact ⟨h, h1⟩
    · exact ⟨Nat.zero_le _, h2⟩

theorem gPutV_eq (j : Fin 8) (B : Ins F) (u : Fin 8) (x : HS F) : gPutV j B u x = { x with vx := Function.update x.vx j (vX B.v u j) } := by
  unfold gPutV vX
  rw [put_put_cover (s := S1x1x144x256) (x.vx j) (fun _ => Scalar.ofBits .bf16 0x0000#16)]
  intro y
  have h0 : (y 0).val < 1 := (y 0).isLt
  have h1 : (y 1).val < 1 := (y 1).isLt
  have h2 : (y 2).val < 144 := (y 2).isLt
  have h3 : (y 3).val < 256 := (y 3).isLt
  rcases Nat.lt_or_ge (y 2).val 128 with h | h
  · refine .inr fun a => ?_
    fin_cases a
    · exact ⟨Nat.zero_le _, h0⟩
    · exact ⟨Nat.zero_le _, h1⟩
    · exact ⟨Nat.zero_le _, h⟩
    · exact ⟨Nat.zero_le _, h3⟩
  · refine .inl fun a => ?_
    fin_cases a
    · exact ⟨Nat.zero_le _, h0⟩
    · exact ⟨Nat.zero_le _, h1⟩
    · exact ⟨h, h2⟩
    · exact ⟨Nat.zero_le _, h3⟩

theorem gPutVs_eq (B : Ins F) (u : Fin 8) (x : HS F) : heads.foldl (fun x j => gPutV j B u x) x = { x with vx := vX B.v u } := by
  have key : ∀ (l : List (Fin 8)) (x : HS F), l.foldl (fun x j => gPutV j B u x) x
      = { x with vx := fun j => if j ∈ l then vX B.v u j else x.vx j } := by
    intro l
    induction l with
    | nil => intro x; simp
    | cons j l ih =>
      intro x
      rw [List.foldl_cons, ih, gPutV_eq]
      congr 1
      funext j'
      simp only [List.mem_cons]
      by_cases h : j' ∈ l
      · rw [if_pos h, if_pos (.inr h)]
      · rw [if_neg h]
        by_cases hj : j' = j
        · subst hj; rw [Function.update_self, if_pos (.inl rfl)]
        · rw [Function.update_of_ne hj, if_neg (by tauto)]
  rw [key]
  congr 1
  funext j
  exact if_pos (by revert j; decide)

/-- Where a head stands before key block `j`. -/
structure Stands (B : Ins F) (u : Fin 8) (j : ℕ) (b : Bool) (x : HS F) : Prop where
  acc : x.acc = (below B u j).1
  mx : x.mx = (below B u j).2
  s : x.s b = sB B u (blk j)
  qq : x.qq = qH B.q u
  vx : x.vx = vX B.v u

/-- The scores of key block `j`. -/
def gS (b : Bool) (j : Fin 8) (B : Ins F) (u : Fin 8) (x : HS F) : HS F :=
  { x with s := Function.update x.s b (scoreOf (window (s := S2048x1024) B.k ![256 * j.val, 128 * u.val] S256x128.size (inbRow j u)) x.qq) }

theorem acts_scoreAt (M : Mems) (b : Bool) (j : Fin 8) (off : Fin 8 → Fin 2 → ℕ) (hoff : ∀ u, off u = ![256 * j.val, 128 * u.val])
    (inb : ∀ u a, off u a + S256x128.size a ≤ S2048x1024.size a) :
    Acts (F := F) M (fun u => score M b u (off u) (inb u)) (gS b j) := by
  obtain rfl : off = fun u => ![256 * j.val, 128 * u.val] := funext hoff
  exact acts_score M b _ inb

theorem acts_half (M : Mems) (b : Bool) (j j' : Fin 8) (ko : Fin 8 → Fin 2 → ℕ) (hk : ∀ u a, ko u a + S256x128.size a ≤ S2048x1024.size a)
    (vo : Fin 8 → Fin 4 → ℕ) (hv : ∀ u a, vo u a + S1x1x144x256.size a ≤ S8x8x144x256.size a)
    (eko : ∀ u, ko u = ![256 * j'.val, 128 * u.val]) (evo : ∀ u, vo u = ![u.val, j.val, 0, 0]) :
    Acts (F := F) M (half M b ko hk vo hv) (fun B u x => gSoft id b (gS (!b) j' B u x) ((gS (!b) j' B u x).vx j)) :=
  (acts_scoreAt M (!b) j' ko eko hk).seq (acts_soft M id b j vo evo hv)

theorem Stands.half {B : Ins F} {u : Fin 8} {j : ℕ} {b : Bool} {x : HS F} (h : Stands B u j b x) :
    Stands B u (j + 1) (!b) (gSoft id b (gS (!b) (blk (j + 1)) B u x) ((gS (!b) (blk (j + 1)) B u x).vx (blk j))) := by
  have hs : (gS (!b) (blk (j + 1)) B u x).s b = sB B u (blk j) := by
    show Function.update x.s (!b) _ b = _
    rw [Function.update_of_ne (by cases b <;> decide), h.s]
  refine ⟨?_, ?_, ?_, h.qq, h.vx⟩
  · show shapeCast S144x512 (accOf ((gS (!b) (blk (j + 1)) B u x).s b) x.mx (x.vx (blk j)) x.acc) _ = _
    rw [hs, h.mx, h.vx, h.acc]; rfl
  · show shapeCast S1x512 (maxOf ((gS (!b) (blk (j + 1)) B u x).s b) x.mx) _ = _
    rw [hs, h.mx]; rfl
  · show Function.update x.s (!b) _ (!b) = _
    rw [Function.update_self, h.qq]; rfl

/-- The last step and the closing normalisation. -/
theorem Stands.last {B : Ins F} {u n : Fin 8} {b : Bool} {x : HS F} (h : Stands B u n.val b x) :
    (gSoft maskedOf b x (x.vx n)).vx = vX B.v u
      ∧ (gFinish (lamOf B.lq1 B.lk1 B.lq2 B.lk2) B u (gSoft maskedOf b x (x.vx n))).out = result B u n := by
  refine ⟨h.vx, ?_⟩
  show outOf (shapeCast S144x512 (accOf (maskedOf (x.s b)) x.mx (x.vx n) x.acc) _) _ _ = _
  rw [h.s, h.mx, h.vx, h.acc, show blk n.val = n from Fin.ext (Nat.mod_eq_of_lt n.isLt)]
  rfl

/-! ## The whole -/

theorem runs_when {M : Mems} {c : Prop} [Decidable c] {x : c → Pr F PUnit} {σ : St F} {Q : PUnit → St F → Prop} (ht : ∀ h, Runs M (x h) σ Q) (hf : ¬ c → Q ⟨⟩ σ) :
    Runs M (when c x) σ Q := by
  unfold when
  split
  · exact ht _
  · exact .ret (hf ‹_›)

theorem whole_runs_at (M : Mems) (hM : ∀ b, (M b).IsWhole) (n : Fin 8) (L : Fin (k0_t2_loop (at3 n)).trips → Unit → Pr F Unit) (σ : St F)
    (hv : n.val ≠ 0 → ∀ u, (head u σ).vx = vX (ins σ).v u) :
    Runs M (whole M hM (at3 n) L) σ fun _ σ' => ins σ' = ins σ ∧ ∀ u, (head u σ').vx = vX (ins σ).v u ∧ (head u σ').out = result (ins σ) u n := by
  unfold whole
  -- the values
  refine Runs.bind_of (P := fun _ σ' => ins σ' = ins σ ∧ ∀ u, (head u σ').vx = vX (ins σ).v u) ?_ fun _ σ₁ ⟨e₁, h₁⟩ => ?_
  · refine runs_when (fun _ => ?_) fun h => ⟨rfl, hv fun h0 => h ((start_at n).mpr h0)⟩
    refine ((Acts.list (fun j => acts_putV M hM j) heads).all σ).mono fun _ σ' ⟨e, h⟩ => ⟨e, fun u => ?_⟩
    rw [h u, gPutVs_eq]
  -- lambda
  refine Runs.bind_of (runs_lam M σ₁) fun lam σ₁' ⟨el, es⟩ => ?_
  subst es
  -- the heads' queries
  refine Runs.bind_of ((acts_init M hM).all σ₁') fun _ σ₂ ⟨e₂, h₂⟩ => ?_
  -- the first scores
  refine Runs.bind_of ((acts_scoreAt M false 0 _ (fun u => rfl) inbK0).all σ₂) fun _ σ₃ ⟨e₃, h₃⟩ => ?_
  have i₃ : ins σ₃ = ins σ := e₃.trans (e₂.trans e₁)
  have s₃ : ∀ u, Stands (ins σ) u 0 false (head u σ₃) := fun u => by
    rw [h₃ u, h₂ u, gInit_eq, e₂, e₁]
    exact ⟨rfl, rfl, rfl, rfl, h₁ u⟩
  -- the loop
  refine Runs.bind_of (P := fun _ σ' => ins σ' = ins σ ∧ ∀ u, Stands (ins σ) u (2 * (n.val / 2)) false (head u σ')) ?_ fun _ σ₄ ⟨i₄, s₄⟩ => ?_
  · refine (Runs.loop (fun t σ' => ins σ' = ins σ ∧ ∀ u, Stands (ins σ) u (2 * t) false (head u σ')) (fun t a σ' ⟨i', s'⟩ => ?_) ⟨i₃, s₃⟩).mono
      fun _ σ' h => by rwa [show Scf.trips _ _ _ = n.val / 2 from trips1_at n] at h
    have ht : t.val < n.val / 2 := (trips1_at n) ▸ t.isLt
    have hb : ∀ j, j < 8 → (blk j).val = j := fun j hj => Nat.mod_eq_of_lt hj
    refine Runs.bind_of ((acts_half M false (blk (2 * t.val)) (blk (2 * t.val + 1)) _ (koA_inb (at3 n) t) _ (voA_inb (at3 n) t)
      (fun u => (koA_at n t u).trans (by rw [hb _ (by omega)])) (fun u => (voA_at n t u).trans (by rw [hb _ (by omega)]))).all σ') fun _ σa ⟨ea, ha⟩ => ?_
    refine ((acts_half M true (blk (2 * t.val + 1)) (blk (2 * t.val + 2)) _ (koB_inb (at3 n) t) _ (voB_inb (at3 n) t)
      (fun u => (koB_at n t u).trans (by rw [hb _ (by omega)])) (fun u => (voB_at n t u).trans (by rw [hb _ (by omega)]))).all σa).mono fun _ σb ⟨eb, hb'⟩ =>
        ⟨eb.trans (ea.trans i'), fun u => ?_⟩
    rw [hb' u, ha u, ea, i']
    exact (s' u).half.half
  -- the loop of no trips
  refine Runs.bind_of (P := fun _ σ' => σ' = σ₄) ?_ fun _ σ₄' e₄' => ?_
  · refine (Runs.loop (fun _ σ' => σ' = σ₄) (fun t => ?_) rfl)
    have ht : t.val < (k0_t2_loop (at3 n)).trips := t.isLt
    rw [trips2_at n] at ht
    exact absurd ht (Nat.not_lt_zero _)
  subst e₄'
  -- the diagonal block
  refine Runs.bind_of (P := fun _ σ' => ins σ' = ins σ ∧ ((n.val % 2 = 1 → ∀ u, ∃ b x, Stands (ins σ) u n.val b x ∧ head u σ' = gSoft maskedOf b x (x.vx n))
      ∧ (n.val % 2 = 0 → ∀ u, Stands (ins σ) u n.val false (head u σ')))) ?_ fun _ σ₅ ⟨i₅, so, se⟩ => ?_
  · refine runs_when (fun hc => ?_) fun hc => ⟨i₄, fun ho => absurd ((cond2_at n).mpr ho) hc, fun he u => ?_⟩
    · have ho := (cond2_at n).mp hc
      have hb : blk (2 * (n.val / 2) + 1) = n := Fin.ext ((Nat.mod_eq_of_lt (by omega)).trans (by omega))
      refine Runs.bind_of ((acts_half M false (blk (2 * (n.val / 2))) (blk (2 * (n.val / 2) + 1)) _ (koC_inb (at3 n) hc) _ (voC_inb (at3 n) hc)
        (fun u => (koC_at n u).trans (by rw [hb])) (fun u => (voC_at n hc u).trans (by
          rw [show (blk (2 * (n.val / 2))).val = n.val - 1 from (Nat.mod_eq_of_lt (by omega)).trans (by omega)]))).all σ₄') fun _ σa ⟨ea, ha⟩ => ?_
      refine ((acts_soft M maskedOf true n _ (voD_at n) (voD_inb (at3 n) hc)).all σa).mono fun _ σb ⟨eb, hb'⟩ =>
        ⟨eb.trans (ea.trans i₄), fun _ u => ⟨true, head u σa, ?_, hb' u⟩, fun he => absurd he (by omega)⟩
      rw [ha u, i₄]
      have hs := (s₄ u).half
      rwa [show 2 * (n.val / 2) + 1 = n.val by omega] at hs ⊢
    · have hs := s₄ u
      rwa [show 2 * (n.val / 2) = n.val by omega] at hs
  refine Runs.bind_of (P := fun _ σ' => ins σ' = ins σ ∧ ∀ u, ∃ b x, Stands (ins σ) u n.val b x ∧ head u σ' = gSoft maskedOf b x (x.vx n)) ?_ fun _ σ₆ ⟨i₆, s₆⟩ => ?_
  · refine runs_when (fun hc => ?_) fun hc => ⟨i₅, so ((Nat.mod_two_eq_zero_or_one _).resolve_left fun h => hc ((cond3_at n).mpr h))⟩
    exact ((acts_soft M maskedOf false n _ (voE_at n) (voE_inb (at3 n) hc)).all σ₅).mono fun _ σb ⟨eb, hb'⟩ =>
      ⟨eb.trans i₅, fun u => ⟨false, head u σ₅, se ((cond3_at n).mp hc) u, hb' u⟩⟩
  -- the result
  refine ((acts_finish M hM lam).all σ₆).mono fun _ σ' ⟨e, h⟩ => ⟨e.trans i₆, fun u => ?_⟩
  obtain ⟨b, x, hx, ex⟩ := s₆ u
  rw [h u, el, e₁, i₆, ex]
  exact hx.last

/-- The kernel's run at a grid point: from blocks, and, past the batch entry's first point, the transposed values of
    that entry in scratch, it leaves the blocks and those values, and the result in its block. -/
theorem kernel_runs (M : Mems) (hM : ∀ b, (M b).IsWhole) (i : grid0.Coords) (σ : St F)
    (hv : (i 2).val ≠ 0 → ∀ u, (head u σ).vx = vX (ins σ).v u) :
    Runs M (kernelOn M hM i) σ fun _ σ' => ins σ' = ins σ ∧ ∀ u, (head u σ').vx = vX (ins σ).v u ∧ (head u σ').out = result (ins σ) u (i 2) := by
  have e : (kernelOn M hM i : Pr F PUnit) = kernelOn M hM (at3 (i 2)) := rfl
  obtain ⟨L, hL⟩ := kernelOn_eq (F := F) M hM (at3 (i 2))
  rw [e, hL]
  exact whole_runs_at M hM (i 2) L σ hv

end Cert.KernelIdeal.Attn

end
-- ==== Proof.Point.lean ====
/-
  The kernel at a point of the grid, as the pipeline calls it: its memrefs there, what its blocks hold, what it leaves,
  and what is carried in scratch from point to point.
-/
module

public import proofs.«01_k».proof.Proof.Whole
public import proofs.«01_k».proof.Proof.Gen.KernelIdeal.Frame
public import Idealize.ShloMosaic.Lib.Pipeline.BigSepL

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Straight
open VecWindow (window put)

/-! ## The memrefs at a point -/

/-- The kernel's scratch buffers. -/
def scr : List Cell :=
  [.vxt, .qq,
   .acc 0, .acc 1, .acc 2, .acc 3, .acc 4, .acc 5, .acc 6, .acc 7,
   .mx 0, .mx 1, .mx 2, .mx 3, .mx 4, .mx 5, .mx 6, .mx 7,
   .s false 0, .s false 1, .s false 2, .s false 3, .s false 4, .s false 5, .s false 6, .s false 7,
   .s true 0, .s true 1, .s true 2, .s true 3, .s true 4, .s true 5, .s true 6, .s true 7]

/-- The kernel's blocks. -/
def blocks : List Cell := [.lq1, .lk1, .lq2, .lk2, .q, .k, .v, .sw, .out]

/-- Each head's buffers of one kind. -/
def accR : Fin 8 → Ref sig .tc
  | 0 => cc0_scratch2 | 1 => cc0_scratch3 | 2 => cc0_scratch4 | 3 => cc0_scratch5 | 4 => cc0_scratch6 | 5 => cc0_scratch7 | 6 => cc0_scratch8 | 7 => cc0_scratch9
def mxR : Fin 8 → Ref sig .tc
  | 0 => cc0_scratch10 | 1 => cc0_scratch11 | 2 => cc0_scratch12 | 3 => cc0_scratch13 | 4 => cc0_scratch14 | 5 => cc0_scratch15 | 6 => cc0_scratch16 | 7 => cc0_scratch17
def saR : Fin 8 → Ref sig .tc
  | 0 => cc0_scratch18 | 1 => cc0_scratch19 | 2 => cc0_scratch20 | 3 => cc0_scratch21 | 4 => cc0_scratch22 | 5 => cc0_scratch23 | 6 => cc0_scratch24 | 7 => cc0_scratch25
def sbR : Fin 8 → Ref sig .tc
  | 0 => cc0_scratch26 | 1 => cc0_scratch27 | 2 => cc0_scratch28 | 3 => cc0_scratch29 | 4 => cc0_scratch30 | 5 => cc0_scratch31 | 6 => cc0_scratch32 | 7 => cc0_scratch33

/-- The buffer of a scratch memref (of a block: any). -/
def refOf : Cell → Ref sig .tc
  | .vxt => cc0_scratch0
  | .qq => cc0_scratch1
  | .acc u => accR u
  | .mx u => mxR u
  | .s false u => saR u
  | .s true u => sbR u
  | _ => cc0_scratch0

/-- The same buffers as memrefs. -/
def accM : Fin 8 → Memref sig .tc .vmem S144x512 .f32
  | 0 => Memref.whole cc0_scratch2 | 1 => Memref.whole cc0_scratch3 | 2 => Memref.whole cc0_scratch4 | 3 => Memref.whole cc0_scratch5 | 4 => Memref.whole cc0_scratch6 | 5 => Memref.whole cc0_scratch7 | 6 => Memref.whole cc0_scratch8 | 7 => Memref.whole cc0_scratch9
theorem accM_whole : ∀ u, (accM u).IsWhole
  | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _
def mxM : Fin 8 → Memref sig .tc .vmem S1x512 .f32
  | 0 => Memref.whole cc0_scratch10 | 1 => Memref.whole cc0_scratch11 | 2 => Memref.whole cc0_scratch12 | 3 => Memref.whole cc0_scratch13 | 4 => Memref.whole cc0_scratch14 | 5 => Memref.whole cc0_scratch15 | 6 => Memref.whole cc0_scratch16 | 7 => Memref.whole cc0_scratch17
theorem mxM_whole : ∀ u, (mxM u).IsWhole
  | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _
def saM : Fin 8 → Memref sig .tc .vmem S256x512 .f32
  | 0 => Memref.whole cc0_scratch18 | 1 => Memref.whole cc0_scratch19 | 2 => Memref.whole cc0_scratch20 | 3 => Memref.whole cc0_scratch21 | 4 => Memref.whole cc0_scratch22 | 5 => Memref.whole cc0_scratch23 | 6 => Memref.whole cc0_scratch24 | 7 => Memref.whole cc0_scratch25
theorem saM_whole : ∀ u, (saM u).IsWhole
  | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _
def sbM : Fin 8 → Memref sig .tc .vmem S256x512 .f32
  | 0 => Memref.whole cc0_scratch26 | 1 => Memref.whole cc0_scratch27 | 2 => Memref.whole cc0_scratch28 | 3 => Memref.whole cc0_scratch29 | 4 => Memref.whole cc0_scratch30 | 5 => Memref.whole cc0_scratch31 | 6 => Memref.whole cc0_scratch32 | 7 => Memref.whole cc0_scratch33
theorem sbM_whole : ∀ u, (sbM u).IsWhole
  | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _

/-- The memrefs the kernel is called on at point `t`: each window's current buffer, and the scratch. -/
def mems (t : Fin cfg0.N) : Mems
  | .lq1 => win0_0.stage (cfg0.slots t 0)
  | .lk1 => win0_1.stage (cfg0.slots t 1)
  | .lq2 => win0_2.stage (cfg0.slots t 2)
  | .lk2 => win0_3.stage (cfg0.slots t 3)
  | .q => win0_4.stage (cfg0.slots t 4)
  | .k => win0_5.stage (cfg0.slots t 5)
  | .v => win0_6.stage (cfg0.slots t 6)
  | .sw => win0_7.stage (cfg0.slots t 7)
  | .out => win0_8.stage (cfg0.slots t 8)
  | .vxt => Memref.whole cc0_scratch0
  | .qq => Memref.whole cc0_scratch1
  | .acc u => accM u
  | .mx u => mxM u
  | .s false u => saM u
  | .s true u => sbM u

theorem mems_whole (t : Fin cfg0.N) : ∀ b, (mems t b).IsWhole
  | .lq1 => hstage0_0 ((cfg0.slots t 0).cast nbuf0_0)
  | .lk1 => hstage0_1 ((cfg0.slots t 1).cast nbuf0_1)
  | .lq2 => hstage0_2 ((cfg0.slots t 2).cast nbuf0_2)
  | .lk2 => hstage0_3 ((cfg0.slots t 3).cast nbuf0_3)
  | .q => hstage0_4 ((cfg0.slots t 4).cast nbuf0_4)
  | .k => hstage0_5 ((cfg0.slots t 5).cast nbuf0_5)
  | .v => hstage0_6 ((cfg0.slots t 6).cast nbuf0_6)
  | .sw => hstage0_7 ((cfg0.slots t 7).cast nbuf0_7)
  | .out => hstage0_8 ((cfg0.slots t 8).cast nbuf0_8)
  | .vxt => Memref.isWhole_whole _
  | .qq => Memref.isWhole_whole _
  | .acc u => accM_whole u
  | .mx u => mxM_whole u
  | .s false u => saM_whole u
  | .s true u => sbM_whole u

variable {F : FTy → Type} [FloatOps F] [Named F]

local notation "𝕄" => MT nD τ sig Unit (Elt F) ℕ (UR sig nD τ) ℕ

/-- The body the pipeline calls at point `t` is the kernel on these memrefs. -/
theorem bodyAt0_eq (t : Fin cfg0.N) : (bodyAt0 t : Pr F PUnit) = kernelOn (mems t) (mems_whole t) (grid0.coords t) := rfl

/-! ## Scratch -/

/-- The grid's first point. -/
abbrev p0 : Fin cfg0.N := ⟨0, by decide⟩

/-- The scratch at contents `σ`. -/
def Scr (c : Dev nD) (t : Fin cfg0.N) (σ : St F) : sProp 𝕄 := bigSepL scr fun b => owns (c : Thread nD τ) (mems t b) fullShare (σ b)

/-- The scratch does not depend on the point. -/
theorem Scr_point (c : Dev nD) (t t' : Fin cfg0.N) (σ : St F) : (Scr c t σ : sProp 𝕄) = Scr c t' σ := rfl

/-- A scratch buffer at some contents. -/
theorem scr_owns (c : Dev nD) (t : Fin cfg0.N) : ∀ b ∈ scr,
    (iprop(∃ f : Buf (Elt F) ((c.tc : Thread nD τ).loc (refOf b)), ((c.tc : Thread nD τ).loc (refOf b)) ↦{fullShare} f) : sProp 𝕄)
      = iprop(∃ d, owns (c : Thread nD τ) (mems t b) fullShare d) := by
  have hw : ∀ b : Ref sig .tc, (iprop(∃ f : Buf (Elt F) ((c.tc : Thread nD τ).loc b), ((c.tc : Thread nD τ).loc b) ↦{fullShare} f) : sProp 𝕄)
      = iprop(∃ d, owns (c : Thread nD τ) (Memref.whole b) fullShare d) := fun b => by simp only [owns_whole]
  intro b hb
  cases b with
  | vxt => exact hw _
  | qq => exact hw _
  | acc u => fin_cases u <;> exact hw _
  | mx u => fin_cases u <;> exact hw _
  | s b u => cases b <;> fin_cases u <;> exact hw _
  | _ => exact absurd hb (by decide)

theorem scopedRest_scr (c : Dev nD) (t : Fin cfg0.N) :
    (Pipeline.scopedRest (Ix := Unit) (Name := ℕ) (U := UR sig nD τ) (Lvl := ℕ) (Val := Elt F) spec0 c : sProp 𝕄)
      = bigSepL scr fun b => iprop(∃ d, owns (c : Thread nD τ) (mems t b) fullShare d) := by
  rw [Pipeline.scopedRest_eq_of_list spec0 c (scr.map refOf) (by decide +kernel) (by decide +kernel), bigSepL_map]
  exact (bigSepL_mono fun b hb => Entails.of_eq (scr_owns c t b hb)).antisymm (bigSepL_mono fun b hb => Entails.of_eq (scr_owns c t b hb).symm)

/-- All the kernel's memrefs at `σ` are its blocks and its scratch. -/
theorem own_split (c : Dev nD) (t : Fin cfg0.N) (σ : St F) :
    (Own (c : Thread nD τ) (mems t) σ : sProp 𝕄)
      = iprop((owns (c : Thread nD τ) (mems t .lq1) fullShare (σ .lq1) ∗ owns (c : Thread nD τ) (mems t .lk1) fullShare (σ .lk1)
          ∗ owns (c : Thread nD τ) (mems t .lq2) fullShare (σ .lq2) ∗ owns (c : Thread nD τ) (mems t .lk2) fullShare (σ .lk2)
          ∗ owns (c : Thread nD τ) (mems t .q) fullShare (σ .q) ∗ owns (c : Thread nD τ) (mems t .k) fullShare (σ .k)
          ∗ owns (c : Thread nD τ) (mems t Cell.v) fullShare (σ Cell.v) ∗ owns (c : Thread nD τ) (mems t .sw) fullShare (σ .sw)
          ∗ owns (c : Thread nD τ) (mems t .out) fullShare (σ .out)) ∗ Scr c t σ) := by
  unfold Own
  rw [bigSep_univ_eq_bigSepL (blocks ++ scr) (by decide) (by decide), bigSepL_append]
  rfl

/-- Scratch at some contents is scratch at the contents of some state. -/
theorem scr_some (c : Dev nD) (t : Fin cfg0.N) :
    (bigSepL scr fun b => iprop(∃ d, owns (c : Thread nD τ) (mems t b) fullShare d) : sProp 𝕄) ⊢ iprop(∃ σ : St F, Scr c t σ) := by
  haveI : ∀ b : Cell, Nonempty ((shp b).Idx → Elt F (el b)) := fun b => ⟨fun _ => match b with
    | .lq1 | .lk1 | .lq2 | .lk2 | .sw | .acc _ | .mx _ | .s _ _ => (Scalar.ofBits .f32 0x00000000#32 : F .f32)
    | .q | .out | .k | .v | .vxt | .qq => (Scalar.ofBits .bf16 0x0000#16 : F .bf16)⟩
  have e : ∀ Φ : Cell → sProp 𝕄, bigSepL scr Φ = bigSep scr.toFinset Φ := fun Φ => (bigSep_eq_bigSepL scr (by decide) Φ).symm
  unfold Scr
  simp only [e]
  exact bigSep_exists_pi scr.toFinset fun b d => owns (c : Thread nD τ) (mems t b) fullShare d

/-- and the other way. -/
theorem scr_any (c : Dev nD) (t : Fin cfg0.N) (σ : St F) :
    (Scr c t σ : sProp 𝕄) ⊢ bigSepL scr fun b => iprop(∃ d, owns (c : Thread nD τ) (mems t b) fullShare d) :=
  bigSepL_mono fun b _ => by iintro H; iexists σ b; iexact H

/-! ## What the kernel finds and leaves -/

variable (m : (ℓ : Loc nD τ sig) → Buf (Elt F) ℓ) (ρ : Dev nD → PrngReg)

/-- The blocks the kernel reads at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩

/-- The block of the result of blocks `B`: each head's columns. -/
def outBlock (B : Ins F) (n : Fin 8) : FVec F S256x1024 .bf16 := fun y =>
  result B ⟨(y 1).val / 128, by have : (y 1).val < 1024 := (y 1).isLt; omega⟩ n
    (fun a => match a with
      | ⟨0, _⟩ => (⟨(y 0).val, (y 0).isLt⟩ : Fin 256)
      | ⟨1, _⟩ => (⟨(y 1).val % 128, Nat.mod_lt _ (by decide)⟩ : Fin 128))

/-- A block whose heads' columns are the heads' results is that block. -/
theorem eq_outBlock (σ : St F) (B : Ins F) (n : Fin 8) (h : ∀ u, (head u σ).out = result B u n) : σ .out = outBlock B n := by
  funext y
  have h1 : (y 1).val < 1024 := (y 1).isLt
  unfold outBlock
  rw [← h]
  refine congrArg (σ .out) (funext fun a => Fin.ext ?_)
  match a with
  | ⟨0, _⟩ => show (y 0).val = 0 + 1 * (y 0).val; omega
  | ⟨1, _⟩ => show (y 1).val = 128 * ((y 1).val / 128) + 1 * ((y 1).val % 128); omega

/-- What is carried in scratch into point `n`: past a batch entry's first point, that entry's values, transposed. -/
def Carried (c : Dev nD) (n : ℕ) (σ : St F) : Prop :=
  ∀ hn : n < cfg0.N, n % 8 ≠ 0 → ∀ u, (head u σ).vx = vX (iblk m c 6 ⟨n, hn⟩) u

/-- The kernel's state at point `t` from the scratch `σ` and the result's buffer `d`. -/
def stateAt (c : Dev nD) (t : Fin cfg0.N) (d : FVec F S256x1024 .bf16) (σ : St F) : St F
  | .lq1 => iblk m c 0 t
  | .lk1 => iblk m c 1 t
  | .lq2 => iblk m c 2 t
  | .lk2 => iblk m c 3 t
  | .q => iblk m c 4 t
  | .k => iblk m c 5 t
  | Cell.v => iblk m c 6 t
  | .sw => iblk m c 7 t
  | .out => d
  | b => σ b

/-- The point's number of its query block. -/
theorem coords_2 : ∀ t : Fin cfg0.N, (grid0.coords t 2).val = t.val % 8 :=
  (by decide +kernel : ∀ t : Fin grid0.N, (grid0.coords t 2).val = t.val % 8)

/-- The invariant before point `n`. -/
def phi (c : Dev nD) (n : ℕ) : sProp 𝕄 :=
  iprop((∃ σ : St F, ⌜Carried m c n σ⌝ ∗ Scr c p0 σ) ∗ ∃ r, prngReg c r)

/-- The pipeline's data: each input block stays, the result is the kernel's function of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (insAt m c t) (grid0.coords t 2)
  Φ t := phi m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlock (insAt m c t) (grid0.coords t 2) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-- Within a batch entry the values' block stays. -/
theorem values_stay (c : Dev nD) (t : Fin cfg0.N) (hn : t.val + 1 < cfg0.N) (h : (t.val + 1) % 8 ≠ 0) :
    iblk m c 6 ⟨t.val + 1, hn⟩ = iblk m c 6 t := by
  have hi : (cfg0.win 6).index ⟨t.val + 1, hn⟩ = (cfg0.win 6).index t := by
    by_contra hne
    exact h ((fetch0_6 ⟨t.val + 1, hn⟩).mp (by
      unfold Window.fetch
      rw [Bool.and_eq_true]
      refine ⟨rfl, ?_⟩
      rw [Bool.or_eq_true]
      exact .inr (decide_eq_true ⟨Nat.succ_pos _, hne⟩)))
  exact (dats m 0 c).fetched_congr 6 hi rfl (iblk m c 6 t)

set_option maxHeartbeats 1600000 in
/-- The kernel at a point: from its blocks and what is carried to the result and what is carried on. -/
theorem sound_point (c : Dev nD) (t : Fin cfg0.N) (d : FVec F S256x1024 .bf16) (σ : St F) (hσ : Carried m c t.val σ) :
    (Own (c : Thread nD τ) (mems t) (stateAt m c t d σ) : sProp 𝕄)
      ⊢ wp frame (wpE (defs₀ (F := F)) Variants.none c none) Set.univ (bodyAt0 t) fun _ =>
        iprop(∃ σ' : St F, ⌜ins σ' = insAt m c t ∧ σ' .out = outBlock (insAt m c t) (grid0.coords t 2) ∧ Carried m c (t.val + 1) σ'⌝
          ∗ Own (c : Thread nD τ) (mems t) σ') := by
  rw [bodyAt0_eq]
  have hr := kernel_runs (mems t) (mems_whole t) (grid0.coords t) (stateAt m c t d σ) fun h0 u =>
    hσ t.isLt (by rwa [coords_2] at h0) u
  refine Runs.sound _ _ _ _ _ (hr.mono fun _ σ' ⟨e, h⟩ => ⟨e, eq_outBlock σ' _ _ fun u => (h u).2, fun hn h8 u => ?_⟩)
  rw [(h u).1, values_stay m c t hn h8]
  rfl

end Cert.KernelIdeal.Attn

end
-- ==== Proof.Run.lean ====
/-
  The run of the whole program: every point's body does what `Point` says, so the arrays end at what the points leave
  and everything else is as it was.
-/
module

public import proofs.«01_k».proof.Proof.Point
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Straight

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mems t Cell.lq1) fullShare ((dats m 0 c).before 0 t d))
    ∗ (∃ d, owns (c : Thread nD τ) (mems t Cell.lk1) fullShare ((dats m 0 c).before 1 t d))
    ∗ (∃ d, owns (c : Thread nD τ) (mems t Cell.lq2) fullShare ((dats m 0 c).before 2 t d))
    ∗ (∃ d, owns (c : Thread nD τ) (mems t Cell.lk2) fullShare ((dats m 0 c).before 3 t d))
    ∗ (∃ d, owns (c : Thread nD τ) (mems t Cell.q) fullShare ((dats m 0 c).before 4 t d))
    ∗ (∃ d, owns (c : Thread nD τ) (mems t Cell.k) fullShare ((dats m 0 c).before 5 t d))
    ∗ (∃ d, owns (c : Thread nD τ) (mems t Cell.v) fullShare ((dats m 0 c).before 6 t d))
    ∗ (∃ d, owns (c : Thread nD τ) (mems t Cell.sw) fullShare ((dats m 0 c).before 7 t d))
    ∗ (∃ d, owns (c : Thread nD τ) (mems t Cell.out) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (mems t Cell.lq1) fullShare ((dats m 0 c).after 0 t)
    ∗ owns (c : Thread nD τ) (mems t Cell.lk1) fullShare ((dats m 0 c).after 1 t)
    ∗ owns (c : Thread nD τ) (mems t Cell.lq2) fullShare ((dats m 0 c).after 2 t)
    ∗ owns (c : Thread nD τ) (mems t Cell.lk2) fullShare ((dats m 0 c).after 3 t)
    ∗ owns (c : Thread nD τ) (mems t Cell.q) fullShare ((dats m 0 c).after 4 t)
    ∗ owns (c : Thread nD τ) (mems t Cell.k) fullShare ((dats m 0 c).after 5 t)
    ∗ owns (c : Thread nD τ) (mems t Cell.v) fullShare ((dats m 0 c).after 6 t)
    ∗ owns (c : Thread nD τ) (mems t Cell.sw) fullShare ((dats m 0 c).after 7 t)
    ∗ owns (c : Thread nD τ) (mems t Cell.out) fullShare ((dats m 0 c).after 8 t))

/-- The state's memrefs are the blocks the pipeline brought and the scratch. -/
theorem own_stateAt (c : Dev nD) (t : Fin cfg0.N) (d : FVec F S256x1024 .bf16) (σ : St F) :
    (Own (c : Thread nD τ) (mems t) (stateAt m c t d σ) : sProp 𝕄)
      = iprop((owns (c : Thread nD τ) (mems t Cell.lq1) fullShare (iblk m c 0 t) ∗ owns (c : Thread nD τ) (mems t Cell.lk1) fullShare (iblk m c 1 t) ∗ owns (c : Thread nD τ) (mems t Cell.lq2) fullShare (iblk m c 2 t) ∗ owns (c : Thread nD τ) (mems t Cell.lk2) fullShare (iblk m c 3 t) ∗ owns (c : Thread nD τ) (mems t Cell.q) fullShare (iblk m c 4 t) ∗ owns (c : Thread nD τ) (mems t Cell.k) fullShare (iblk m c 5 t) ∗ owns (c : Thread nD τ) (mems t Cell.v) fullShare (iblk m c 6 t) ∗ owns (c : Thread nD τ) (mems t Cell.sw) fullShare (iblk m c 7 t)
          ∗ owns (c : Thread nD τ) (mems t .out) fullShare d) ∗ Scr c t σ) :=
  (own_split c t _).trans rfl

/-- The blocks and the scratch of a state the kernel may end in. -/
theorem own_after (c : Dev nD) (t : Fin cfg0.N) (σ : St F) (e : ins σ = insAt m c t) (eo : σ .out = outBlock (insAt m c t) (grid0.coords t 2)) :
    (Own (c : Thread nD τ) (mems t) σ : sProp 𝕄)
      = iprop((owns (c : Thread nD τ) (mems t Cell.lq1) fullShare (iblk m c 0 t) ∗ owns (c : Thread nD τ) (mems t Cell.lk1) fullShare (iblk m c 1 t) ∗ owns (c : Thread nD τ) (mems t Cell.lq2) fullShare (iblk m c 2 t) ∗ owns (c : Thread nD τ) (mems t Cell.lk2) fullShare (iblk m c 3 t) ∗ owns (c : Thread nD τ) (mems t Cell.q) fullShare (iblk m c 4 t) ∗ owns (c : Thread nD τ) (mems t Cell.k) fullShare (iblk m c 5 t) ∗ owns (c : Thread nD τ) (mems t Cell.v) fullShare (iblk m c 6 t) ∗ owns (c : Thread nD τ) (mems t Cell.sw) fullShare (iblk m c 7 t)
          ∗ owns (c : Thread nD τ) (mems t .out) fullShare (outBlock (insAt m c t) (grid0.coords t 2))) ∗ Scr c t σ) := by
  rw [own_split, eo, show σ Cell.lq1 = iblk m c 0 t from congrArg Ins.lq1 e, show σ Cell.lk1 = iblk m c 1 t from congrArg Ins.lk1 e, show σ Cell.lq2 = iblk m c 2 t from congrArg Ins.lq2 e, show σ Cell.lk2 = iblk m c 3 t from congrArg Ins.lk2 e, show σ Cell.q = iblk m c 4 t from congrArg Ins.q e, show σ Cell.k = iblk m c 5 t from congrArg Ins.k e, show σ Cell.v = iblk m c 6 t from congrArg Ins.v e, show σ Cell.sw = iblk m c 7 t from congrArg Ins.sw e]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8,
    show (dats m 0 c).Φ t.castSucc = phi m c t.val from rfl, show (dats m 0 c).Φ t.succ = phi m c (t.val + 1) from rfl]
  unfold phi
  iintro ⟨⟨⟨%σ, %hσ, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hp := sound_point m c t ((dats m 0 c).before 8 t d8) σ hσ
  rw [own_stateAt] at hp
  iapply (wp_wand_r _ _ _)
  isplitl [HS H0 H1 H2 H3 H4 H5 H6 H7 H8]
  · iapply hp
    isplitr [HS]
    swap; · rw [Scr_point c t p0]; iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %a ⟨%σ', %h, HO⟩
  obtain ⟨e, eo, hc⟩ := h
  ihave HO := (Entails.of_eq (own_after m c t σ' e eo)) $$ HO
  icases HO with ⟨⟨H0, H1, H2, H3, H4, H5, H6, H7, H8⟩, HS⟩
  isplitl [HS Hg]
  · isplitl [HS]
    · iexists σ'
      isplitr; · ipureintro; exact hc
      iapply (Entails.of_eq (Scr_point c t p0 σ')); iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

/-- What the launch asks of every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant at the start, -/
theorem hin (c : Dev nD) : Pipeline.ΦA spec0 c ⊢ (dats m 0 c).Φ 0 := by
  rw [show (dats m 0 c).Φ 0 = phi m c 0 from rfl]
  unfold phi Pipeline.ΦA
  rw [scopedRest_scr c p0]
  iintro ⟨HS, Hg⟩
  isplitl [HS]
  · ihave H := (scr_some c p0) $$ HS
    icases H with ⟨%σ, HS⟩
    iexists σ
    isplitr; · ipureintro; exact fun _ h => absurd rfl h
    iexact HS
  iexact Hg

/-- and at the end. -/
theorem hout (c : Dev nD) : (dats m 0 c).Φ (Fin.last cfg0.N) ⊢ Pipeline.ΦA spec0 c := by
  rw [show (dats m 0 c).Φ (Fin.last cfg0.N) = phi m c cfg0.N from rfl]
  unfold phi Pipeline.ΦA
  rw [scopedRest_scr c p0]
  iintro ⟨⟨%σ, %hσ, HS⟩, Hg⟩
  isplitl [HS]
  · iapply (scr_any c p0 σ); iexact HS
  iexact Hg

set_option backward.isDefEq.respectTransparency.types false in
/-- The run: every array of the pipeline ends at what its data says, every other buffer as found, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Attn

end
-- ==== Proof.Softmax.lean ====
/-
  The online softmax over the extended reals. The running maximum and an accumulator stand for one real number, the sum
  of the weights' exponentials times the values so far; a step over a block of scores adds the block's sum to it, whatever
  the maxima are. A quotient of two such numbers is a quotient of sums, and so is the softmax taken at once.
-/
module

public import Idealize.ShloMosaic.PureOps.Ideal.Laws

@[expose] public section

noncomputable section

namespace Cert.Softmax

open Idealize.ShloMosaic

/-- Sums of reals are sums of extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The exponential of a score as a real: zero at minus infinity. -/
def ex (t : EReal) : ℝ := (Ideal.exp t).toReal

theorem ex_bot : ex ⊥ = 0 := (rfl : ex ⊥ = (0 : EReal).toReal).trans EReal.toReal_zero

theorem ex_coe (r : ℝ) : ex (r : EReal) = Real.exp r := (rfl : ex (r : EReal) = ((Real.exp r : ℝ) : EReal).toReal).trans (EReal.toReal_coe _)

theorem ex_nonneg (t : EReal) : 0 ≤ ex t := by
  induction t using EReal.rec with
  | bot => rw [ex_bot]
  | coe r => rw [ex_coe]; exact (Real.exp_pos r).le
  | top => exact (rfl : ex ⊤ = (⊤ : EReal).toReal) ▸ le_of_eq EReal.toReal_top.symm

theorem exp_sub {t : EReal} (ht : t ≠ ⊤) (M : ℝ) : Ideal.exp (t - (M : EReal)) = ((ex t * Real.exp (-M) : ℝ) : EReal) := by
  induction t using EReal.rec with
  | bot => rw [sub_eq_add_neg, EReal.bot_add, ex_bot, zero_mul]; rfl
  | coe r => rw [← EReal.coe_sub, ex_coe, ← Real.exp_add, ← sub_eq_add_neg]; rfl
  | top => exact absurd rfl ht

/-- The maximum of scores below infinity, one of them a real, is a real. -/
theorem fold_max_real {ι : Type} [Fintype ι] (f : ι → EReal) (hf : ∀ i, f i ≠ ⊤) (i₀ : ι) (h₀ : f i₀ ≠ ⊥) :
    ∃ M : ℝ, Finset.fold max (⊥ : EReal) f Finset.univ = (M : EReal) := by
  have h1 : Finset.fold max (⊥ : EReal) f Finset.univ < ⊤ :=
    Finset.fold_max_lt ⊤ |>.mpr ⟨bot_lt_top, fun i _ => lt_top_iff_ne_top.mpr (hf i)⟩
  have h2 : ⊥ < Finset.fold max (⊥ : EReal) f Finset.univ :=
    Finset.lt_fold_max ⊥ |>.mpr (Or.inr ⟨i₀, Finset.mem_univ _, bot_lt_iff_ne_bot.mpr h₀⟩)
  exact ⟨_, (EReal.coe_toReal h1.ne h2.ne').symm⟩

/-- A running maximum `m` and an accumulator `acc` that stand for the number `A`. -/
def Stands (m acc : EReal) (A : ℝ) : Prop :=
  (m = ⊥ ∧ acc = 0 ∧ A = 0) ∨ ∃ μ : ℝ, m = (μ : EReal) ∧ acc = ((A * Real.exp (-μ) : ℝ) : EReal)

/-- One step of the online softmax adds the block's sum. -/
theorem Stands.step {ι : Type} [Fintype ι] {m acc : EReal} {A : ℝ} (h : Stands m acc A) (st v : ι → EReal) (vr : ι → ℝ) (hv : ∀ i, v i = (vr i : EReal))
    (hs : ∀ i, st i ≠ ⊤) (i₀ : ι) (h₀ : st i₀ ≠ ⊥) :
    Stands (max m (Finset.fold max ⊥ st Finset.univ))
        (Ideal.exp (m - max m (Finset.fold max ⊥ st Finset.univ)) * acc
          + ∑ i, v i * Ideal.exp (st i - max m (Finset.fold max ⊥ st Finset.univ)))
        (A + ∑ i, vr i * ex (st i))
      ∧ max m (Finset.fold max ⊥ st Finset.univ) ≠ ⊥ := by
  obtain ⟨M, hM⟩ := fold_max_real st hs i₀ h₀
  have hsum : ∀ M' : ℝ, ∑ i, v i * Ideal.exp (st i - (M' : EReal)) = (((∑ i, vr i * ex (st i)) * Real.exp (-M') : ℝ) : EReal) := fun M' => by
    rw [Finset.sum_mul, coe_sum]
    refine Finset.sum_congr rfl fun i _ => ?_
    rw [exp_sub (hs i), hv i, ← EReal.coe_mul, mul_assoc]
  rw [hM]
  rcases h with ⟨rfl, rfl, rfl⟩ | ⟨μ, rfl, rfl⟩
  · rw [max_eq_right bot_le]
    refine ⟨Or.inr ⟨M, rfl, ?_⟩, EReal.coe_ne_bot _⟩
    rw [hsum, mul_zero, zero_add, zero_add]
  · have hmax : max (μ : EReal) (M : EReal) = ((max μ M : ℝ) : EReal) := (EReal.coe_strictMono.monotone.map_max (a := μ) (b := M)).symm
    rw [hmax]
    refine ⟨Or.inr ⟨max μ M, rfl, ?_⟩, EReal.coe_ne_bot _⟩
    rw [hsum, exp_sub (EReal.coe_ne_top μ), ex_coe, ← EReal.coe_mul, ← EReal.coe_add, add_mul]
    congr 2
    have e : Real.exp μ * Real.exp (-μ) = 1 := by rw [← Real.exp_add, add_neg_cancel, Real.exp_zero]
    calc Real.exp μ * Real.exp (-max μ M) * (A * Real.exp (-μ)) = A * Real.exp (-max μ M) * (Real.exp μ * Real.exp (-μ)) := by ring
      _ = A * Real.exp (-max μ M) := by rw [e, mul_one]

/-- A quotient of two accumulators under one maximum. -/
theorem Stands.quot {m a d : EReal} {A D : ℝ} (ha : Stands m a A) (hd : Stands m d D) (hm : m ≠ ⊥) (hD : D ≠ 0) :
    a * Ideal.div 1 d = ((A / D : ℝ) : EReal) := by
  rcases ha with ⟨h, _⟩ | ⟨μ, rfl, rfl⟩
  · exact absurd h hm
  rcases hd with ⟨h, _⟩ | ⟨μ', h', rfl⟩
  · exact absurd h hm
  obtain rfl : μ = μ' := EReal.coe_injective h'
  have e : Real.exp (-μ) ≠ 0 := (Real.exp_pos _).ne'
  rw [Ideal.div_coe (mul_ne_zero hD e), one_mul, ← EReal.coe_mul]
  congr 1
  field_simp

/-- The softmax taken at once: a weight is its exponential over the sum. -/
theorem softmax_at {ι : Type} [Fintype ι] (t : ι → EReal) (ht : ∀ i, t i ≠ ⊤) (i₀ : ι) (h₀ : t i₀ ≠ ⊥) (i : ι) :
    Ideal.div (Ideal.exp (t i - max ⊥ (Finset.fold max ⊥ t Finset.univ))) (∑ k, Ideal.exp (t k - max ⊥ (Finset.fold max ⊥ t Finset.univ)))
      = ((ex (t i) / ∑ k, ex (t k) : ℝ) : EReal) := by
  obtain ⟨M, hM⟩ := fold_max_real t ht i₀ h₀
  rw [max_eq_right bot_le, hM]
  have e : Real.exp (-M) ≠ 0 := (Real.exp_pos _).ne'
  have hsum : ∑ k, Ideal.exp (t k - (M : EReal)) = (((∑ k, ex (t k)) * Real.exp (-M) : ℝ) : EReal) := by
    rw [Finset.sum_mul, coe_sum]
    exact Finset.sum_congr rfl fun k _ => exp_sub (ht k) M
  have hpos : 0 < ∑ k, ex (t k) := by
    refine Finset.sum_pos' (fun k _ => ex_nonneg _) ⟨i₀, Finset.mem_univ _, ?_⟩
    rw [← EReal.coe_toReal (ht i₀) h₀, ex_coe]
    exact Real.exp_pos _
  rw [hsum, exp_sub (ht i), Ideal.div_coe (mul_ne_zero hpos.ne' e), ← EReal.coe_mul]
  congr 1
  have := hpos.ne'
  field_simp

end Cert.Softmax

end
-- ==== Proof.Numbers.lean ====
/-
  The attention as real numbers: the scores of one query against every key, those of later keys minus infinity; the
  sums of their exponentials, with the values and alone; the difference of two components' quotients; and the
  normalisation that closes it. The arrays are functions of a row and a column.
-/
module

public import proofs.«01_k».proof.Proof.Softmax
public import Idealize.ShloMosaic.Lib.IdealHost

@[expose] public section

noncomputable section

namespace Cert.Numbers

open Idealize.ShloMosaic Cert.Softmax

/-- The score of query `q` against key `k`: batch entry `b`, head `u`, component `g`. -/
def score (x : ℕ → ℕ → ℝ) (b u g q k : ℕ) : ℝ :=
  (∑ l : Fin 64, x (b * 2048 + q) (u * 128 + g * 64 + l.val) * x (b * 2048 + k) (1024 + (u * 128 + g * 64 + l.val))) * (1 / 8)

/-- The score with later keys masked. -/
def masked (x : ℕ → ℕ → ℝ) (b u g q k : ℕ) : EReal := if k ≤ q then ((score x b u g q k : ℝ) : EReal) else ⊥

theorem masked_ne_top (x : ℕ → ℕ → ℝ) (b u g q k : ℕ) : masked x b u g q k ≠ ⊤ := by
  unfold masked; split_ifs
  · exact EReal.coe_ne_top _
  · exact bot_ne_top

theorem masked_of_le (x : ℕ → ℕ → ℝ) (b u g q k : ℕ) (h : k ≤ q) : masked x b u g q k = ((score x b u g q k : ℝ) : EReal) := if_pos h

theorem masked_of_lt (x : ℕ → ℕ → ℝ) (b u g q k : ℕ) (h : q < k) : masked x b u g q k = ⊥ := if_neg (not_le.mpr h)

/-- The sum of the exponentials times the values `v`. -/
def weighted (x : ℕ → ℕ → ℝ) (b u g q : ℕ) (v : ℕ → ℝ) : ℝ := ∑ k : Fin 2048, v k.val * ex (masked x b u g q k.val)

/-- The sum of the exponentials. -/
def total (x : ℕ → ℕ → ℝ) (b u g q : ℕ) : ℝ := ∑ k : Fin 2048, ex (masked x b u g q k.val)

theorem total_pos (x : ℕ → ℕ → ℝ) (b u g q : ℕ) : 0 < total x b u g q := by
  refine Finset.sum_pos' (fun k _ => ex_nonneg _) ⟨0, Finset.mem_univ _, ?_⟩
  show 0 < ex (masked x b u g q 0)
  rw [masked_of_le x b u g q _ (Nat.zero_le q), ex_coe]
  exact Real.exp_pos _

/-- Column `e` of a head's values, by key. -/
def value (x : ℕ → ℕ → ℝ) (b u e : ℕ) (k : ℕ) : ℝ := x (b * 2048 + k) (2048 + (u * 128 + e))

/-- The difference of the two components' attention. -/
def differ (x : ℕ → ℕ → ℝ) (lam : ℝ) (b u q e : ℕ) : ℝ :=
  weighted x b u 0 q (value x b u e) / total x b u 0 q - lam * (weighted x b u 1 q (value x b u e) / total x b u 1 q)

/-- The factor lambda. -/
def lambda (a b c d : Fin 64 → ℝ) : ℝ :=
  Real.exp (∑ l, a l * b l) - Real.exp (∑ l, c l * d l) + (Ideal.ofBits .f32 0x3E4CCCCD#32).toReal

/-- The normalisation over a head's values, the weights and the last factor. -/
def close (o w : Fin 128 → EReal) (e : Fin 128) : EReal :=
  o e * Ideal.rsqrt (Ideal.div (∑ i, o i * o i) (Ideal.ofBits .f32 0x43000000#32) + Ideal.ofBits .f32 0x3727C5AC#32) * w e * Ideal.ofBits .f32 0x3F4CCCCD#32

/-- The result: batch entry `b`, query `q`, head `u`, column `e`. -/
def result (x : ℕ → ℕ → ℝ) (lam : ℝ) (w : Fin 128 → EReal) (b q u : ℕ) (e : Fin 128) : EReal :=
  close (fun i => ((differ x lam b u q i.val : ℝ) : EReal)) w e

/-! ## Constants -/

theorem eighth_bf16 : Ideal.ofBits .bf16 0x3E00#16 = (((1 : ℝ) / 8 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

theorem least_f32 : Ideal.ofBits .f32 0xFF800000#32 = ⊥ := by
  simp [Ideal.ofBits, Ideal.ieee]

theorem fifth_f32 : Ideal.ofBits .f32 0x3E4CCCCD#32 = (((Ideal.ofBits .f32 0x3E4CCCCD#32).toReal : ℝ) : EReal) := by
  have h : ∃ r : ℝ, Ideal.ofBits .f32 0x3E4CCCCD#32 = (r : EReal) := ⟨_, by simp [Ideal.ofBits, Ideal.ieee, -EReal.coe_mul]; rfl⟩
  obtain ⟨r, hr⟩ := h
  rw [hr, EReal.toReal_coe]

theorem lambda_eq (a b c d : Fin 64 → ℝ) :
    Ideal.exp (∑ l, ((a l : ℝ) : EReal) * ((b l : ℝ) : EReal)) - Ideal.exp (∑ l, ((c l : ℝ) : EReal) * ((d l : ℝ) : EReal)) + Ideal.ofBits .f32 0x3E4CCCCD#32
      = ((lambda a b c d : ℝ) : EReal) := by
  have h : ∀ a b : Fin 64 → ℝ, Ideal.exp (∑ l, ((a l : ℝ) : EReal) * ((b l : ℝ) : EReal)) = ((Real.exp (∑ l, a l * b l) : ℝ) : EReal) := fun a b => by
    rw [Finset.sum_congr rfl fun l _ => (EReal.coe_mul (a l) (b l)).symm, ← coe_sum]; rfl
  rw [h, h, fifth_f32, ← EReal.coe_sub, ← EReal.coe_add]; rfl

/-! ## Sums over blocks of keys -/

theorem sum_blocks (f : ℕ → ℝ) (N : ℕ) : ∑ k ∈ Finset.range (256 * N), f k = ∑ j ∈ Finset.range N, ∑ k : Fin 256, f (256 * j + k.val) := by
  induction N with
  | zero => simp
  | succ N ih =>
    rw [Finset.sum_range_succ, ← ih, Nat.mul_succ, Finset.sum_range_add, Fin.sum_univ_eq_sum_range (fun k => f (256 * N + k))]

/-- Keys past block `n` add nothing. -/
theorem sum_keys (f : ℕ → ℝ) (n : ℕ) (hn : n < 8) (h : ∀ k, 256 * (n + 1) ≤ k → f k = 0) :
    ∑ k : Fin 2048, f k.val = ∑ j ∈ Finset.range (n + 1), ∑ k : Fin 256, f (256 * j + k.val) := by
  rw [← sum_blocks, Fin.sum_univ_eq_sum_range]
  refine (Finset.sum_subset (fun k hk => ?_) fun k _ hk => ?_).symm
  · rw [Finset.mem_range] at hk ⊢; omega
  · rw [Finset.mem_range, not_lt] at hk; exact h k hk

/-- One component's lanes: the queries' other lanes are zero. -/
theorem sum_lanes (Q K : ℕ → ℝ) (u g : ℕ) (hg : g = 0 ∨ g = 1) :
    ∑ l : Fin 128, K (1024 + (128 * u + l.val)) * (if (l.val < 64 ↔ g = 0) then Q (128 * u + l.val) * (1 / 8) else 0)
      = (∑ l : Fin 64, Q (u * 128 + g * 64 + l.val) * K (1024 + (u * 128 + g * 64 + l.val))) * (1 / 8) := by
  have lo : ∀ l : Fin 64, (Fin.castAdd 64 l : Fin (64 + 64)).val = l.val := fun l => rfl
  have hi : ∀ l : Fin 64, (Fin.natAdd 64 l : Fin (64 + 64)).val = 64 + l.val := fun l => rfl
  rw [show (∑ l : Fin 128, K (1024 + (128 * u + l.val)) * (if (l.val < 64 ↔ g = 0) then Q (128 * u + l.val) * (1 / 8) else 0)) = _ from
    Fin.sum_univ_add (a := 64) (b := 64) fun l => K (1024 + (128 * u + l.val)) * (if (l.val < 64 ↔ g = 0) then Q (128 * u + l.val) * (1 / 8) else 0), Finset.sum_mul]
  simp only [lo, hi]
  rcases hg with rfl | rfl
  · rw [Finset.sum_eq_zero (s := Finset.univ) (f := fun l : Fin 64 => K (1024 + (128 * u + (64 + l.val))) * _) fun l _ => by
        rw [if_neg (fun h => absurd (h.mpr rfl) (by omega)), mul_zero], add_zero]
    refine Finset.sum_congr rfl fun l _ => ?_
    rw [if_pos (by constructor <;> intro <;> omega), show u * 128 + 0 * 64 + l.val = 128 * u + l.val by omega]
    ring
  · rw [Finset.sum_eq_zero (s := Finset.univ) (f := fun l : Fin 64 => K (1024 + (128 * u + l.val)) * _) fun l _ => by
        rw [if_neg (fun h => absurd (h.mp l.isLt) (by omega)), mul_zero], zero_add]
    refine Finset.sum_congr rfl fun l _ => ?_
    rw [if_pos (by constructor <;> intro <;> omega), show u * 128 + 1 * 64 + l.val = 128 * u + (64 + l.val) by omega]
    ring

end Cert.Numbers

end
-- ==== Proof.KerRead.lean ====
/-
  The kernel at an index: each step of a head read element by element, then the recursion over key blocks followed in
  real numbers.
-/
module

public import proofs.«01_k».proof.Proof.Whole
public import proofs.«01_k».proof.Proof.Numbers
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe
open Cert.KernelIdeal Cert.KernelIdeal.Facts Cert.KernelIdeal.Facts₀
open Cert.Straight
open VecWindow (window put)
open WordCmp (cmpi_sge_ofNat cmpi_sle_ofNat cmpi_slt_ofNat)

/-! ## Each step at an index -/

theorem score_ix (kb : FVec Ideal S256x128 .bf16) (q : FVec Ideal S1x512x128 .bf16) (r : Fin 256) (c : Fin 512) :
    scoreOf kb q (ix2 r c) = ∑ l : Fin 128, kb (ix2 r l) * q (ix3 0 c l) := by
  pointwise [scoreOf]

theorem low_ix (q : FVec Ideal S256x128 .bf16) (r : Fin 256) (l : Fin 128) :
    qLow q (ix3 0 r l) = if l.val < 64 then q (ix2 r l) * (((1 : ℝ) / 8 : ℝ) : EReal) else 0 := by
  pointwise [qLow, scaledQ]
  rw [show (64#32) = BitVec.ofNat 32 64 from rfl, cmpi_slt_ofNat (by omega) (by omega), Numbers.eighth_bf16]
  by_cases h : l.val < 64
  · rw [if_pos h, decide_eq_true h]; exact ValueIdx.select_one _ _
  · rw [if_neg h, decide_eq_false h]; exact ValueIdx.select_zero _ _

theorem high_ix (q : FVec Ideal S256x128 .bf16) (r : Fin 256) (l : Fin 128) :
    qHigh q (ix3 0 r l) = if 64 ≤ l.val then q (ix2 r l) * (((1 : ℝ) / 8 : ℝ) : EReal) else 0 := by
  pointwise [qHigh, scaledQ]
  rw [show (64#32) = BitVec.ofNat 32 64 from rfl, cmpi_sge_ofNat (by omega) (by omega), Numbers.eighth_bf16]
  by_cases h : 64 ≤ l.val
  · rw [if_pos h, decide_eq_true h]; exact ValueIdx.select_one _ _
  · rw [if_neg h, decide_eq_false h]; exact ValueIdx.select_zero _ _

theorem values_ix (v : FVec Ideal S256x128 .bf16) (r : Fin 128) (k : Fin 256) : vT v (ix4 0 0 r k) = v (ix2 k r) := by
  pointwise [vT]

theorem ones_ix (r : Fin 16) (k : Fin 256) : (vOnes : FVec Ideal S1x1x16x256 .bf16) (ix4 0 0 r k) = 1 := by
  pointwise [vOnes]

theorem mask_ix (st : FVec Ideal S256x512 .f32) (r : Fin 256) (c : Fin 512) :
    maskedOf st (ix2 r c) = if r.val ≤ c.val % 256 then st (ix2 r c) else ⊥ := by
  pointwise [maskedOf, maskC]
  have e : Scalar.select (IntOp.cmpi .sge (BitVec.ofNat 32 c.val) 256#32) (IntOp.subi (BitVec.ofNat 32 c.val) 256#32) (BitVec.ofNat 32 c.val)
      = BitVec.ofNat 32 (c.val % 256) := by
    rw [show (256#32) = BitVec.ofNat 32 256 from rfl, cmpi_sge_ofNat (by omega) (by omega)]
    by_cases h : 256 ≤ c.val
    · rw [decide_eq_true h]
      refine (ValueIdx.select_one _ _).trans ?_
      show BitVec.ofNat 32 c.val - BitVec.ofNat 32 256 = _
      apply BitVec.eq_of_toNat_eq
      simp only [BitVec.toNat_sub, BitVec.toNat_ofNat]
      omega
    · rw [decide_eq_false h]
      refine (ValueIdx.select_zero _ _).trans ?_
      rw [Nat.mod_eq_of_lt (by omega)]
  rw [e, cmpi_sle_ofNat (by omega) (by omega)]
  by_cases h : r.val ≤ c.val % 256
  · rw [if_pos h, decide_eq_true h]; exact ValueIdx.select_one _ _
  · rw [if_neg h, decide_eq_false h]; exact ValueIdx.select_zero _ _

theorem top_ix (st : FVec Ideal S256x512 .f32) (m : FVec Ideal S1x512 .f32) (c : Fin 512) :
    maxOf st m (ix2 0 c) = max (m (ix2 0 c)) (Finset.fold max ⊥ (fun r : Fin 256 => st (ix2 r c)) Finset.univ) := by
  rw [← Numbers.least_f32]
  pointwise [maxOf]

theorem step_top (st : FVec Ideal S256x512 .f32) (vx : FVec Ideal S1x1x144x256 .bf16) (x : FVec Ideal S144x512 .f32 × FVec Ideal S1x512 .f32) (c : Fin 512) :
    (stepOf st vx x).2 (ix2 0 c) = max (x.2 (ix2 0 c)) (Finset.fold max ⊥ (fun r : Fin 256 => st (ix2 r c)) Finset.univ) := by
  rw [← top_ix]
  show shapeCast S1x512 (maxOf st x.2) shapeCasts_S1x512_S1x512 (ix2 0 c) = _
  pointwise

theorem step_acc (st : FVec Ideal S256x512 .f32) (vx : FVec Ideal S1x1x144x256 .bf16) (x : FVec Ideal S144x512 .f32 × FVec Ideal S1x512 .f32) (d : Fin 144) (c : Fin 512) :
    (stepOf st vx x).1 (ix2 d c)
      = Ideal.exp (x.2 (ix2 0 c) - max (x.2 (ix2 0 c)) (Finset.fold max ⊥ (fun r : Fin 256 => st (ix2 r c)) Finset.univ)) * x.1 (ix2 d c)
        + ∑ k : Fin 256, vx (ix4 0 0 d k) * Ideal.exp (st (ix2 k c) - max (x.2 (ix2 0 c)) (Finset.fold max ⊥ (fun r : Fin 256 => st (ix2 r c)) Finset.univ)) := by
  rw [← top_ix]
  show shapeCast S144x512 (accOf st x.2 vx x.1) shapeCasts_S144x512_S144x512 (ix2 d c) = _
  pointwise [accOf]

theorem acc0_ix (d : Fin 144) (c : Fin 512) : (acc0 : FVec Ideal S144x512 .f32) (ix2 d c) = 0 := by
  pointwise [acc0]

theorem mx0_ix (c : Fin 512) : (mx0 : FVec Ideal S1x512 .f32) (ix2 0 c) = ⊥ := by
  pointwise [mx0, maskC]
  rfl

theorem lam_ix (a b c d : FVec Ideal S1x64 .f32) (a' b' c' d' : Fin 64 → ℝ) (ha : ∀ l, a (ix2 0 l) = ((a' l : ℝ) : EReal)) (hb : ∀ l, b (ix2 0 l) = ((b' l : ℝ) : EReal))
    (hc : ∀ l, c (ix2 0 l) = ((c' l : ℝ) : EReal)) (hd : ∀ l, d (ix2 0 l) = ((d' l : ℝ) : EReal)) :
    lamOf a b c d (ix2 0 0) = ((Numbers.lambda a' b' c' d' : ℝ) : EReal) := by
  pointwise [lamOf]
  rw [← Numbers.lambda_eq]
  simp only [ha, hb, hc, hd]

theorem diff_ix (acc : FVec Ideal S144x512 .f32) (lam : FVec Ideal S1x1 .f32) (d : Fin 128) (c : Fin 256) :
    diffOf acc lam (ix2 d c) = acc (ix2 ⟨d.val, by omega⟩ ⟨c.val, by omega⟩) * Ideal.div 1 (acc (ix2 128 ⟨c.val, by omega⟩))
      - lam (ix2 0 0) * (acc (ix2 ⟨d.val, by omega⟩ ⟨256 + c.val, by omega⟩) * Ideal.div 1 (acc (ix2 128 ⟨256 + c.val, by omega⟩))) := by
  pointwise [diffOf, quotOf]

theorem out_ix (acc : FVec Ideal S144x512 .f32) (lam : FVec Ideal S1x1 .f32) (sw : FVec Ideal S1x128 .f32) (c : Fin 256) (d : Fin 128) :
    outOf acc lam sw (ix2 c d) = Numbers.close (fun i => diffOf acc lam (ix2 i c)) (fun i => sw (ix2 0 i)) d := by
  pointwise [outOf, normOf, Numbers.close]

/-! ## A head's queries and values at an index -/

/-- A put read inside its window. -/
theorem put_in {α : Type} {s : Shape} (x : s.Idx → α) (off size : Fin s.rank → ℕ) (w : ((a : Fin s.rank) → Fin (size a)) → α) (y : s.Idx)
    (z : (a : Fin s.rank) → Fin (size a)) (h : ∀ a, (y a).val = off a + (z a).val) : put x off size w y = w z := by
  unfold put
  rw [dif_pos fun a => ⟨by have := h a; omega, by have := h a; have := (z a).isLt; omega⟩]
  refine congrArg w (funext fun a => Fin.ext ?_)
  show (y a).val - off a = (z a).val
  have := h a; omega

/-- And outside it. -/
theorem put_out {α : Type} {s : Shape} (x : s.Idx → α) (off size : Fin s.rank → ℕ) (w : ((a : Fin s.rank) → Fin (size a)) → α) (y : s.Idx) (a : Fin s.rank)
    (h : (y a).val < off a) : put x off size w y = x y := by
  unfold put
  exact dif_neg fun hc => by have := (hc a).1; omega

theorem cols_ix (q : FVec Ideal S256x1024 .bf16) (u : Fin 8) (r : Fin 256) (l : Fin 128) :
    window (s := S256x1024) q ![0, 128 * u.val] S256x128.size (inbCol u) (ix2 r l) = q (ix2 r ⟨128 * u.val + l.val, by omega⟩) := by
  refine congrArg q (funext fun a => Fin.ext ?_)
  fin_cases a
  · show 0 + 1 * r.val = r.val; omega
  · show 128 * u.val + 1 * l.val = 128 * u.val + l.val; omega

theorem rows_ix (k : FVec Ideal S2048x1024 .bf16) (j u : Fin 8) (r : Fin 256) (l : Fin 128) :
    window (s := S2048x1024) k ![256 * j.val, 128 * u.val] S256x128.size (inbRow j u) (ix2 r l)
      = k (ix2 ⟨256 * j.val + r.val, by omega⟩ ⟨128 * u.val + l.val, by omega⟩) := by
  refine congrArg k (funext fun a => Fin.ext ?_)
  fin_cases a
  · show 256 * j.val + 1 * r.val = 256 * j.val + r.val; omega
  · show 128 * u.val + 1 * l.val = 128 * u.val + l.val; omega

/-- A query of a component, scaled, in that component's lanes. -/
theorem queries_ix (q : FVec Ideal S256x1024 .bf16) (u : Fin 8) (c : Fin 512) (l : Fin 128) :
    qH q u (ix3 0 c l) = if (l.val < 64 ↔ c.val / 256 = 0)
      then q (ix2 ⟨c.val % 256, by omega⟩ ⟨128 * u.val + l.val, by omega⟩) * (((1 : ℝ) / 8 : ℝ) : EReal) else 0 := by
  unfold qH
  rcases Nat.lt_or_ge c.val 256 with h | h
  · refine (put_out _ _ _ _ _ (1 : Fin 3) h).trans ((put_in (α := Ideal .bf16) (s := S1x512x128) _ ![0, 0, 0] S1x256x128.size _ (ix3 0 c l) (ix3 0 (⟨c.val, h⟩ : Fin 256) l) fun a => ?_).trans ?_)
    · fin_cases a <;> exact (Nat.zero_add _).symm
    · rw [low_ix, cols_ix]
      have e : (⟨c.val % 256, by omega⟩ : Fin 256) = ⟨c.val, h⟩ := Fin.ext (Nat.mod_eq_of_lt h)
      rw [e]
      by_cases hl : l.val < 64
      · rw [if_pos hl, if_pos ⟨fun _ => by omega, fun _ => hl⟩]
      · rw [if_neg hl, if_neg fun hc => hl (hc.mpr (by omega))]
  · refine (put_in (α := Ideal .bf16) (s := S1x512x128) _ ![0, 256, 0] S1x256x128.size _ (ix3 0 c l) (ix3 0 (⟨c.val - 256, by omega⟩ : Fin 256) l) fun a => ?_).trans ?_
    · fin_cases a
      · exact (Nat.zero_add _).symm
      · show c.val = 256 + (c.val - 256); omega
      · exact (Nat.zero_add _).symm
    · rw [high_ix, cols_ix]
      have e : (⟨c.val % 256, by omega⟩ : Fin 256) = ⟨c.val - 256, by omega⟩ := Fin.ext (by show c.val % 256 = c.val - 256; omega)
      rw [e]
      by_cases hl : 64 ≤ l.val
      · rw [if_pos hl, if_pos ⟨fun _ => by omega, fun _ => by omega⟩]
      · rw [if_neg hl, if_neg fun hc => by have := hc.mp (by omega); omega]

/-- The transposed values, over a row of ones. -/
theorem table_ix (v : FVec Ideal S2048x1024 .bf16) (u j : Fin 8) (d : Fin 144) (k : Fin 256) :
    vX v u j (ix4 0 0 d k) = if h : d.val < 128 then v (ix2 ⟨256 * j.val + k.val, by omega⟩ ⟨128 * u.val + d.val, by omega⟩) else 1 := by
  unfold vX
  by_cases h : d.val < 128
  · rw [dif_pos h]
    refine (put_out _ _ _ _ _ (2 : Fin 4) h).trans ((put_in (α := Ideal .bf16) (s := S1x1x144x256) _ ![0, 0, 0, 0] S1x1x128x256.size _ (ix4 0 0 d k) (ix4 0 0 (⟨d.val, h⟩ : Fin 128) k) fun a => ?_).trans ?_)
    · fin_cases a <;> exact (Nat.zero_add _).symm
    · rw [values_ix, rows_ix]
  · rw [dif_neg h]
    refine (put_in (α := Ideal .bf16) (s := S1x1x144x256) _ ![0, 0, 128, 0] S1x1x16x256.size _ (ix4 0 0 d k) (ix4 0 0 (⟨d.val - 128, by omega⟩ : Fin 16) k) fun a => ?_).trans (ones_ix _ _)
    fin_cases a
    · exact (Nat.zero_add _).symm
    · exact (Nat.zero_add _).symm
    · show d.val = 128 + (d.val - 128); omega
    · exact (Nat.zero_add _).symm

/-! ## In real numbers -/

/-- The blocks at query block `n` of batch entry `b` hold the reals `x`. -/
structure Blocks (B : Ins Ideal) (x : ℕ → ℕ → ℝ) (b n : ℕ) : Prop where
  q : ∀ (r : Fin 256) (c : Fin 1024), B.q (ix2 r c) = ((x (b * 2048 + (256 * n + r.val)) c.val : ℝ) : EReal)
  k : ∀ (r : Fin 2048) (c : Fin 1024), B.k (ix2 r c) = ((x (b * 2048 + r.val) (1024 + c.val) : ℝ) : EReal)
  v : ∀ (r : Fin 2048) (c : Fin 1024), B.v (ix2 r c) = ((x (b * 2048 + r.val) (2048 + c.val) : ℝ) : EReal)

/-- A row of the table of values, by key. -/
def row (x : ℕ → ℕ → ℝ) (b u d : ℕ) (k : ℕ) : ℝ := if d < 128 then Numbers.value x b u d k else 1

variable {B : Ins Ideal} {x : ℕ → ℕ → ℝ} {b : ℕ} {n : Fin 8}

theorem Blocks.score (h : Blocks B x b n.val) (u j : Fin 8) (k : Fin 256) (c : Fin 512) :
    sB B u j (ix2 k c) = ((Numbers.score x b u.val (c.val / 256) (256 * n.val + c.val % 256) (256 * j.val + k.val) : ℝ) : EReal) := by
  unfold sB
  rw [score_ix]
  have e : ∀ l : Fin 128, window (s := S2048x1024) B.k ![256 * j.val, 128 * u.val] S256x128.size (inbRow j u) (ix2 k l) * qH B.q u (ix3 0 c l)
      = ((x (b * 2048 + (256 * j.val + k.val)) (1024 + (128 * u.val + l.val)) * (if (l.val < 64 ↔ c.val / 256 = 0)
          then x (b * 2048 + (256 * n.val + c.val % 256)) (128 * u.val + l.val) * (1 / 8) else 0) : ℝ) : EReal) := fun l => by
    rw [rows_ix, queries_ix, h.k, h.q, EReal.coe_mul]
    congr 1
    split_ifs
    · rw [EReal.coe_mul]
    · rfl
  rw [Finset.sum_congr rfl fun l _ => e l, ← Softmax.coe_sum]
  refine congrArg (fun r : ℝ => (r : EReal)) ?_
  exact Numbers.sum_lanes (x (b * 2048 + (256 * n.val + c.val % 256))) (x (b * 2048 + (256 * j.val + k.val))) u.val (c.val / 256) (by omega)

theorem Blocks.table (h : Blocks B x b n.val) (u j : Fin 8) (d : Fin 144) (k : Fin 256) :
    vX B.v u j (ix4 0 0 d k) = ((row x b u.val d.val (256 * j.val + k.val) : ℝ) : EReal) := by
  rw [table_ix]
  unfold row
  by_cases hd : d.val < 128
  · rw [dif_pos hd, if_pos hd, h.v]
    show ((x (b * 2048 + (256 * j.val + k.val)) (2048 + (128 * u.val + d.val)) : ℝ) : EReal) = ((x (b * 2048 + (256 * j.val + k.val)) (2048 + (u.val * 128 + d.val)) : ℝ) : EReal)
    rw [Nat.mul_comm 128]
  · rw [dif_neg hd, if_neg hd]; rfl

/-- The accumulator after the blocks below the diagonal one. -/
theorem Blocks.stands (h : Blocks B x b n.val) (u : Fin 8) (d : Fin 144) (c : Fin 512) (j : ℕ) (hj : j ≤ n.val) :
    Softmax.Stands ((below B u j).2 (ix2 0 c)) ((below B u j).1 (ix2 d c))
      (∑ i ∈ Finset.range j, ∑ k : Fin 256, row x b u.val d.val (256 * i + k.val)
        * Softmax.ex (Numbers.masked x b u.val (c.val / 256) (256 * n.val + c.val % 256) (256 * i + k.val))) := by
  induction j with
  | zero => exact .inl ⟨mx0_ix c, acc0_ix d c, Finset.sum_range_zero _⟩
  | succ j ih =>
    have hb : (blk j).val = j := Nat.mod_eq_of_lt (by omega)
    have hs : ∀ k : Fin 256, sB B u (blk j) (ix2 k c) = Numbers.masked x b u.val (c.val / 256) (256 * n.val + c.val % 256) (256 * j + k.val) := fun k => by
      rw [h.score, hb, Numbers.masked_of_le _ _ _ _ _ _ (by omega)]
    have st := (ih (by omega)).step (fun k : Fin 256 => Numbers.masked x b u.val (c.val / 256) (256 * n.val + c.val % 256) (256 * j + k.val))
      (fun k => ((row x b u.val d.val (256 * j + k.val) : ℝ) : EReal)) (fun k => row x b u.val d.val (256 * j + k.val)) (fun _ => rfl)
      (fun _ => Numbers.masked_ne_top _ _ _ _ _ _) 0 (by rw [Numbers.masked_of_le _ _ _ _ _ _ (by simp; omega)]; exact EReal.coe_ne_bot _)
    show Softmax.Stands ((stepOf (sB B u (blk j)) (vX B.v u (blk j)) (below B u j)).2 (ix2 0 c)) ((stepOf (sB B u (blk j)) (vX B.v u (blk j)) (below B u j)).1 (ix2 d c)) _
    rw [step_top, step_acc, Finset.sum_range_succ]
    simp only [hs, h.table, hb]
    exact st.1

/-- And after the diagonal one. -/
theorem Blocks.last (h : Blocks B x b n.val) (u : Fin 8) (d : Fin 144) (c : Fin 512) :
    Softmax.Stands ((stepOf (maskedOf (sB B u n)) (vX B.v u n) (below B u n.val)).2 (ix2 0 c)) ((stepOf (maskedOf (sB B u n)) (vX B.v u n) (below B u n.val)).1 (ix2 d c))
        (Numbers.weighted x b u.val (c.val / 256) (256 * n.val + c.val % 256) (row x b u.val d.val))
      ∧ (stepOf (maskedOf (sB B u n)) (vX B.v u n) (below B u n.val)).2 (ix2 0 c) ≠ ⊥ := by
  have hs : ∀ k : Fin 256, maskedOf (sB B u n) (ix2 k c) = Numbers.masked x b u.val (c.val / 256) (256 * n.val + c.val % 256) (256 * n.val + k.val) := fun k => by
    rw [mask_ix]
    by_cases hk : k.val ≤ c.val % 256
    · rw [if_pos hk, h.score, Numbers.masked_of_le _ _ _ _ _ _ (by omega)]
    · rw [if_neg hk, Numbers.masked_of_lt _ _ _ _ _ _ (by omega)]
  have st := (h.stands u d c n.val le_rfl).step (fun k : Fin 256 => Numbers.masked x b u.val (c.val / 256) (256 * n.val + c.val % 256) (256 * n.val + k.val))
    (fun k => ((row x b u.val d.val (256 * n.val + k.val) : ℝ) : EReal)) (fun k => row x b u.val d.val (256 * n.val + k.val)) (fun _ => rfl)
    (fun _ => Numbers.masked_ne_top _ _ _ _ _ _) 0 (by rw [Numbers.masked_of_le _ _ _ _ _ _ (by simp)]; exact EReal.coe_ne_bot _)
  rw [step_top, step_acc]
  simp only [hs, h.table]
  rw [show Numbers.weighted x b u.val (c.val / 256) (256 * n.val + c.val % 256) (row x b u.val d.val) = _ from
    Numbers.sum_keys (fun k => row x b u.val d.val k * Softmax.ex (Numbers.masked x b u.val (c.val / 256) (256 * n.val + c.val % 256) k)) n.val n.isLt fun k hk => by
      rw [Numbers.masked_of_lt _ _ _ _ _ _ (by omega), Softmax.ex_bot, mul_zero], Finset.sum_range_succ]
  exact st

/-- A row over the row of sums. -/
theorem Blocks.quot (h : Blocks B x b n.val) (u : Fin 8) (d : Fin 128) (c : Fin 512) :
    (stepOf (maskedOf (sB B u n)) (vX B.v u n) (below B u n.val)).1 (ix2 ⟨d.val, by omega⟩ c)
        * Ideal.div 1 ((stepOf (maskedOf (sB B u n)) (vX B.v u n) (below B u n.val)).1 (ix2 128 c))
      = ((Numbers.weighted x b u.val (c.val / 256) (256 * n.val + c.val % 256) (Numbers.value x b u.val d.val)
          / Numbers.total x b u.val (c.val / 256) (256 * n.val + c.val % 256) : ℝ) : EReal) := by
  have h1 := h.last u ⟨d.val, by omega⟩ c
  have h2 := h.last u 128 c
  rw [show row x b u.val (⟨d.val, by omega⟩ : Fin 144).val = Numbers.value x b u.val d.val from funext fun k => if_pos d.isLt] at h1
  rw [show Numbers.weighted x b u.val (c.val / 256) (256 * n.val + c.val % 256) (row x b u.val (128 : Fin 144).val)
      = Numbers.total x b u.val (c.val / 256) (256 * n.val + c.val % 256) from
    Finset.sum_congr rfl fun k _ => by rw [show row x b u.val (128 : Fin 144).val k.val = 1 from if_neg (by decide), one_mul]] at h2
  exact Softmax.Stands.quot h1.1 h2.1 h1.2 (Numbers.total_pos ..).ne'

/-- A head's result, in real numbers. -/
theorem Blocks.result (h : Blocks B x b n.val) (a' b' c' d' : Fin 64 → ℝ) (ha : ∀ l, B.lq1 (ix2 0 l) = ((a' l : ℝ) : EReal)) (hb : ∀ l, B.lk1 (ix2 0 l) = ((b' l : ℝ) : EReal))
    (hc : ∀ l, B.lq2 (ix2 0 l) = ((c' l : ℝ) : EReal)) (hd : ∀ l, B.lk2 (ix2 0 l) = ((d' l : ℝ) : EReal)) (u : Fin 8) (r : Fin 256) (e : Fin 128) :
    Attn.result B u n (ix2 r e)
      = Numbers.result x (Numbers.lambda a' b' c' d') (fun i => B.sw (ix2 0 i)) b (256 * n.val + r.val) u.val e := by
  unfold Attn.result Numbers.result
  rw [out_ix]
  congr 1
  funext i
  rw [diff_ix, h.quot, h.quot, lam_ix _ _ _ _ a' b' c' d' ha hb hc hd]
  have e0 : r.val / 256 = 0 := by omega
  have e1 : r.val % 256 = r.val := by omega
  have e2 : (256 + r.val) / 256 = 1 := by omega
  have e3 : (256 + r.val) % 256 = r.val := by omega
  show ((_ / _ : ℝ) : EReal) - ((_ : ℝ) : EReal) * ((_ / _ : ℝ) : EReal) = _
  rw [← EReal.coe_mul, ← EReal.coe_sub]
  unfold Numbers.differ
  simp only [e0, e1, e2, e3]

end Cert.KernelIdeal.Attn

end
-- ==== Proof.Value.lean ====
/-
  The result array. The blocks the kernel reads at a grid point are parts of the arguments, so what it leaves there is
  the attention of those rows in real numbers; the blocks it writes cover the array.
-/
module

public import proofs.«01_k».proof.Proof.KerRead
public import proofs.«01_k».proof.Proof.Run
public import Idealize.ShloMosaic.Lib.Pipeline.ValueKit

@[expose] public section

set_option maxRecDepth 16384

noncomputable section

namespace Cert.KernelIdeal.Attn

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## Where the blocks lie -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, win0_4.index t = ![t.val, 0])
theorem idx5 : ∀ t : Fin cfg0.N, win0_5.index t = ![t.val / 8, 1] := (by decide +kernel : ∀ t : Fin grid0.N, win0_5.index t = ![t.val / 8, 1])
theorem idx6 : ∀ t : Fin cfg0.N, win0_6.index t = ![t.val / 8, 2] := (by decide +kernel : ∀ t : Fin grid0.N, win0_6.index t = ![t.val / 8, 2])
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, win0_8.index t = ![t.val, 0])

theorem points (t : Fin cfg0.N) : t.val < 64 := t.isLt

/-! ## What they hold -/

theorem q_at (c : Dev nD) (t : Fin cfg0.N) (r : Fin 256) (e : Fin 1024) :
    (iblk m c 4 t : FVec Ideal S256x1024 .bf16) (ix2 r e)
      = (m ((c.tc : Thread nD τ).loc main_arg0) : FVec Ideal S16384x3072 .bf16) (ix2 ⟨256 * t.val + r.val, by have := points t; omega⟩ ⟨e.val, by omega⟩) := by
  blk_ext! [iblk, V, idx4 t]

theorem k_at (c : Dev nD) (t : Fin cfg0.N) (r : Fin 2048) (e : Fin 1024) :
    (iblk m c 5 t : FVec Ideal S2048x1024 .bf16) (ix2 r e)
      = (m ((c.tc : Thread nD τ).loc main_arg0) : FVec Ideal S16384x3072 .bf16) (ix2 ⟨t.val / 8 * 2048 + r.val, by have := points t; omega⟩ ⟨1024 + e.val, by omega⟩) := by
  blk_ext! [iblk, V, idx5 t]

theorem v_at (c : Dev nD) (t : Fin cfg0.N) (r : Fin 2048) (e : Fin 1024) :
    (iblk m c 6 t : FVec Ideal S2048x1024 .bf16) (ix2 r e)
      = (m ((c.tc : Thread nD τ).loc main_arg0) : FVec Ideal S16384x3072 .bf16) (ix2 ⟨t.val / 8 * 2048 + r.val, by have := points t; omega⟩ ⟨2048 + e.val, by omega⟩) := by
  blk_ext! [iblk, V, idx6 t]

theorem lq1_at (c : Dev nD) (t : Fin cfg0.N) (l : Fin 64) :
    (iblk m c 0 t : FVec Ideal S1x64 .f32) (ix2 0 l) = (m ((c.tc : Thread nD τ).loc main_arg1) : FVec Ideal S64 .f32) (ix1 l) := by
  blk_ext! [iblk, V, idx0 t]

theorem lk1_at (c : Dev nD) (t : Fin cfg0.N) (l : Fin 64) :
    (iblk m c 1 t : FVec Ideal S1x64 .f32) (ix2 0 l) = (m ((c.tc : Thread nD τ).loc main_arg2) : FVec Ideal S64 .f32) (ix1 l) := by
  blk_ext! [iblk, V, idx1 t]

theorem lq2_at (c : Dev nD) (t : Fin cfg0.N) (l : Fin 64) :
    (iblk m c 2 t : FVec Ideal S1x64 .f32) (ix2 0 l) = (m ((c.tc : Thread nD τ).loc main_arg3) : FVec Ideal S64 .f32) (ix1 l) := by
  blk_ext! [iblk, V, idx2 t]

theorem lk2_at (c : Dev nD) (t : Fin cfg0.N) (l : Fin 64) :
    (iblk m c 3 t : FVec Ideal S1x64 .f32) (ix2 0 l) = (m ((c.tc : Thread nD τ).loc main_arg4) : FVec Ideal S64 .f32) (ix1 l) := by
  blk_ext! [iblk, V, idx3 t]

theorem sw_at (c : Dev nD) (t : Fin cfg0.N) (l : Fin 128) :
    (iblk m c 7 t : FVec Ideal S1x128 .f32) (ix2 0 l) = (m ((c.tc : Thread nD τ).loc main_arg5) : FVec Ideal S128 .f32) (ix1 l) := by
  blk_ext! [iblk, V, idx7 t]

/-! ## The result -/

/-- The attention in real numbers as an array. -/
def target (x : ℕ → ℕ → ℝ) (lam : ℝ) (w : Fin 128 → EReal) : FVec Ideal S16384x1024 .bf16 := fun i =>
  Numbers.result x lam w ((i 0).val / 2048) ((i 0).val % 2048) ((i 1).val / 128) ⟨(i 1).val % 128, Nat.mod_lt _ (by decide)⟩

/-- The arguments hold the reals `x` and the vectors `a`, `b`, `p`, `d`. -/
structure Reals (c : Dev nD) (x : ℕ → ℕ → ℝ) (a b p d : Fin 64 → ℝ) : Prop where
  x : ∀ (r : Fin 16384) (e : Fin 3072), (m ((c.tc : Thread nD τ).loc main_arg0) : FVec Ideal S16384x3072 .bf16) (ix2 r e) = ((x r.val e.val : ℝ) : EReal)
  a : ∀ l : Fin 64, (m ((c.tc : Thread nD τ).loc main_arg1) : FVec Ideal S64 .f32) (ix1 l) = ((a l : ℝ) : EReal)
  b : ∀ l : Fin 64, (m ((c.tc : Thread nD τ).loc main_arg2) : FVec Ideal S64 .f32) (ix1 l) = ((b l : ℝ) : EReal)
  p : ∀ l : Fin 64, (m ((c.tc : Thread nD τ).loc main_arg3) : FVec Ideal S64 .f32) (ix1 l) = ((p l : ℝ) : EReal)
  d : ∀ l : Fin 64, (m ((c.tc : Thread nD τ).loc main_arg4) : FVec Ideal S64 .f32) (ix1 l) = ((d l : ℝ) : EReal)

variable {m} {c : Dev nD} {x : ℕ → ℕ → ℝ} {a b p d : Fin 64 → ℝ}

theorem Reals.blocks (h : Reals m c x a b p d) (t : Fin cfg0.N) : Blocks (insAt m c t) x (t.val / 8) (grid0.coords t 2).val where
  q r e := by
    refine (q_at m c t r e).trans ((h.x _ _).trans ?_)
    have := coords_2 t
    show ((x (256 * t.val + r.val) e.val : ℝ) : EReal) = ((x (t.val / 8 * 2048 + (256 * (grid0.coords t 2).val + r.val)) e.val : ℝ) : EReal)
    rw [show 256 * t.val + r.val = t.val / 8 * 2048 + (256 * (grid0.coords t 2).val + r.val) by omega]
  k r e := (k_at m c t r e).trans (h.x _ _)
  v r e := (v_at m c t r e).trans (h.x _ _)

/-- What the kernel leaves at a point, at an index of its block. -/
theorem Reals.point (h : Reals m c x a b p d) (t : Fin cfg0.N) (y : S256x1024.Idx) :
    outBlock (insAt m c t) (grid0.coords t 2) y
      = Numbers.result x (Numbers.lambda a b p d) (fun i => (m ((c.tc : Thread nD τ).loc main_arg5) : FVec Ideal S128 .f32) (ix1 i)) (t.val / 8)
          (256 * (t.val % 8) + (y 0).val) ((y 1).val / 128) ⟨(y 1).val % 128, Nat.mod_lt _ (by decide)⟩ := by
  have h0 : (y 0).val < 256 := (y 0).isLt
  have h1 : (y 1).val < 1024 := (y 1).isLt
  have e := (h.blocks t).result a b p d (fun l => (lq1_at m c t l).trans (h.a l)) (fun l => (lk1_at m c t l).trans (h.b l))
    (fun l => (lq2_at m c t l).trans (h.p l)) (fun l => (lk2_at m c t l).trans (h.d l)) ⟨(y 1).val / 128, by omega⟩ ⟨(y 0).val, h0⟩ ⟨(y 1).val % 128, Nat.mod_lt _ (by decide)⟩
  rw [coords_2 t, show (fun i => (insAt m c t).sw (ix2 0 i)) = fun i => (m ((c.tc : Thread nD τ).loc main_arg5) : FVec Ideal S128 .f32) (ix1 i) from
    funext fun i => sw_at m c t i] at e
  refine Eq.trans ?_ e
  unfold outBlock
  refine congrArg (result (insAt m c t) _ (grid0.coords t 2)) (funext fun a => ?_)
  match a with
  | ⟨0, _⟩ => rfl
  | ⟨1, _⟩ => rfl

theorem Reals.final (h : Reals m c x a b p d) :
    (dats m 0 c).arrAt 8 cfg0.N
      = target x (Numbers.lambda a b p d) (fun i => (m ((c.tc : Thread nD τ).loc main_arg5) : FVec Ideal S128 .f32) (ix1 i)) := by
  refine (dats m 0 c).arrAt_eq_of_covers 8 _ (by decide +kernel) fun t hf y => ?_
  blk_simp
  rw [after_8]
  refine (h.point t y).trans ?_
  have h0 : (y 0).val < 256 := (y 0).isLt
  have h1 : (y 1).val < 1024 := (y 1).isLt
  have ht := points t
  have e0 : (((win0_8.blk t).view.emb y 0 : Fin _) : ℕ) = 256 * t.val + (y 0).val := by
    blk_simp [idx8 t]; simp; omega
  have e1 : (((win0_8.blk t).view.emb y 1 : Fin _) : ℕ) = (y 1).val := by
    blk_simp [idx8 t]
  unfold target
  have a0 : (256 * t.val + (y 0).val) / 2048 = t.val / 8 := by omega
  have a1 : (256 * t.val + (y 0).val) % 2048 = 256 * (t.val % 8) + (y 0).val := by omega
  simp only [e0, e1, a0, a1]

/-- The kernel's run from arguments that hold reals. -/
theorem value_run (X : Dev nD → ℕ → ℕ → ℝ) (A B P D : Dev nD → Fin 64 → ℝ) (h : ∀ c, Reals m c (X c) (A c) (B c) (P c) (D c)) :
    θ_run defs (onTc (τ := τ) (main (F := Ideal))) ⟨m, fun _ => 0, ρ⟩ (fun r => ∀ c : Dev nD,
      r.2.mem ((c.tc : Thread nD τ).loc main_v5)
        = target (X c) (Numbers.lambda (A c) (B c) (P c) (D c)) (fun i => (m ((c.tc : Thread nD τ).loc main_arg5) : FVec Ideal S128 .f32) (ix1 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h' c => ⟨?_, h'.2.1 c⟩) (θ_run_and (run_all m ρ) (frame m ρ))
  exact ((h'.1.1 c).1 8).trans (h c).final

end Cert.KernelIdeal.Attn

end
-- ==== Proof.RefRead.lean ====
/-
  The reference at an index. Its composed term is cut at the scores, the weights, lambda and the weighted values; each
  piece is read at an index by itself.
-/
module

public import proofs.«01_k».proof.Proof.Gen.ReferenceIdeal.Run
public import proofs.«01_k».proof.Proof.Numbers
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Attn

open Idealize.ShloMosaic Idealize.ShloMosaic.TcCoe
open Cert.ReferenceIdeal Cert.ReferenceIdeal.Gen
open WordCmp (cmpi_sge_ofNat)

/-- The rows by batch entry. -/
def rowsOf (X : FVec Ideal S16384x3072 .bf16) : FVec Ideal S8x2048x3072 .f32 :=
  shapeCast S8x2048x3072 (extf .f32 X bitsLt_bf16_f32) shapeCasts_S16384x3072_S8x2048x3072

def qOf (X : FVec Ideal S16384x3072 .bf16) : FVec Ideal S8x2048x8x2x64 .f32 :=
  shapeCast S8x2048x8x2x64 (extractStridedSlice S8x2048x1024 ![0, 0, 0] (rowsOf X) slices_S8x2048x3072_S8x2048x1024_0_0_0) shapeCasts_S8x2048x1024_S8x2048x8x2x64

def kOf (X : FVec Ideal S16384x3072 .bf16) : FVec Ideal S8x2048x8x2x64 .f32 :=
  shapeCast S8x2048x8x2x64 (extractStridedSlice S8x2048x1024 ![0, 0, 1024] (rowsOf X) slices_S8x2048x3072_S8x2048x1024_0_0_1024) shapeCasts_S8x2048x1024_S8x2048x8x2x64

def vOf (X : FVec Ideal S16384x3072 .bf16) : FVec Ideal S8x2048x8x128 .f32 :=
  shapeCast S8x2048x8x128 (extractStridedSlice S8x2048x1024 ![0, 0, 2048] (rowsOf X) slices_S8x2048x3072_S8x2048x1024_0_0_2048) shapeCasts_S8x2048x1024_S8x2048x8x128

/-- The masked scores. -/
def scoresOf (q k : FVec Ideal S8x2048x8x2x64 .f32) : FVec Ideal S8x8x2x2048x2048 .f32 :=
  select (broadcastInDim S8x8x2x2048x2048 ![3, 4] bcast_S2048x2048_S8x8x2x2048x2048_3_4 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))
    (mulf (Host.dotGeneral dot_S8x2048x8x2x64_S8x2048x8x2x64_S8x8x2x2048x2048_4_4_1_1_023_023 none q k) (broadcastInDim S8x8x2x2048x2048 ![] bcast_S_S8x8x2x2048x2048 (constant S_ .f32 0x3E000000#32)))
    (broadcastInDim S8x8x2x2048x2048 ![] bcast_S_S8x8x2x2048x2048 (id (constant S_ .f32 0xFF800000#32)))

/-- A row's maximum. -/
def topOf (s : FVec Ideal S8x8x2x2048x2048 .f32) : FVec Ideal S8x8x2x2048 .f32 :=
  maximumf (broadcastInDim S8x8x2x2048 ![] bcast_S_S8x8x2x2048 (constant S_ .f32 0xFF800000#32)) (Host.reduce FloatOps.maximumf s (constant S_ .f32 0xFF800000#32) reducesTo_S8x8x2x2048x2048_S8x8x2x2048_d4 h_S_)

/-- The exponentials under a row's maximum. -/
def expsOf (s : FVec Ideal S8x8x2x2048x2048 .f32) : FVec Ideal S8x8x2x2048x2048 .f32 :=
  Host.exp (subf s (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 (topOf s))))

/-- The exponentials over their row's sum. -/
def weightsOf (e : FVec Ideal S8x8x2x2048x2048 .f32) : FVec Ideal S8x8x2x2048x2048 .f32 :=
  Host.divf e (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 (Host.reduceAdd e (constant S_ .f32 0x00000000#32) reducesTo_S8x8x2x2048x2048_S8x8x2x2048_d4 h_S_)))

def lambdaOf (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The difference of the components' weights, applied to the values. -/
def attnOf (v : FVec Ideal S8x2048x8x128 .f32) (p : FVec Ideal S8x8x2x2048x2048 .f32) (lam : FVec Ideal S_ .f32) : FVec Ideal S8x2048x8x128 .f32 :=
  transpose S8x2048x8x128 [0, 3, 1, 2] (Host.dotGeneral dot_S8x2048x8x128_S8x8x2048x2048_S8x8x128x2048_1_3_3_2_02_01 none v (subf (shapeCast S8x8x2048x2048 (extractStridedSlice S8x8x1x2048x2048 ![0, 0, 0, 0, 0] p slices_S8x8x2x2048x2048_S8x8x1x2048x2048_0_0_0_0_0) shapeCasts_S8x8x1x2048x2048_S8x8x2048x2048) (mulf (broadcastInDim S8x8x2048x2048 ![] bcast_S_S8x8x2048x2048 lam) (shapeCast S8x8x2048x2048 (extractStridedSlice S8x8x1x2048x2048 ![0, 0, 1, 0, 0] p slices_S8x8x2x2048x2048_S8x8x1x2048x2048_0_0_1_0_0) shapeCasts_S8x8x1x2048x2048_S8x8x2048x2048)))) transposes_S8x8x128x2048_S8x2048x8x128_0_3_1_2

/-- The normalisation, the weights and the last factor. -/
def closeOf (o : FVec Ideal S8x2048x8x128 .f32) (w : FVec Ideal S128 .f32) : FVec Ideal S16384x1024 .bf16 :=
  shapeCast S16384x1024 (truncf .bf16 (mulf (mulf (mulf o (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf o o) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x3727C5AC#32)))))) (broadcastInDim S8x2048x8x128 ![0, 1, 2, 3] bcast_S1x1x1x128_S8x2048x8x128_0_1_2_3 (broadcastInDim S1x1x1x128 ![3] bcast_S128_S1x1x1x128_3 w))) (broadcastInDim S8x2048x8x128 ![] bcast_S_S8x2048x8x128 (constant S_ .f32 0x3F4CCCCD#32))) bitsLt_bf16_f32) shapeCasts_S8x2048x8x128_S16384x1024

/-- The reference of its arguments. -/
def whole (X : FVec Ideal S16384x3072 .bf16) (a b c d : FVec Ideal S64 .f32) (w : FVec Ideal S128 .f32) : FVec Ideal S16384x1024 .bf16 :=
  closeOf (attnOf (vOf X) (weightsOf (expsOf (scoresOf (qOf X) (kOf X)))) (lambdaOf a b c d)) w

theorem res_eq (m : (ℓ : Loc nD τ sig) → Buf (Elt Ideal) ℓ) (c : Dev nD) :
    Value.res_main_v62 m c = whole (m (c.tc.loc main_arg0)) (m (c.tc.loc main_arg1)) (m (c.tc.loc main_arg2)) (m (c.tc.loc main_arg3)) (m (c.tc.loc main_arg4)) (m (c.tc.loc main_arg5)) := by
  unfold Value.res_main_v62 whole closeOf attnOf lambdaOf weightsOf expsOf topOf scoresOf vOf kOf qOf rowsOf
  rfl

/-! ## At an index -/

/-- `X` holds the reals `x`. -/
def Holds (X : FVec Ideal S16384x3072 .bf16) (x : ℕ → ℕ → ℝ) : Prop :=
  ∀ (r : Fin 16384) (c : Fin 3072), X (ix2 r c) = ((x r.val c.val : ℝ) : EReal)

variable {X : FVec Ideal S16384x3072 .bf16} {x : ℕ → ℕ → ℝ}

theorem scores_at (hX : Holds X x) (b u : Fin 8) (g : Fin 2) (q k : Fin 2048) :
    scoresOf (qOf X) (kOf X) (ix5 b u g q k) = Numbers.masked x b.val u.val g.val q.val k.val := by
  pointwise [scoresOf, qOf, kOf, rowsOf]
  rw [cmpi_sge_ofNat (by omega) (by omega)]
  unfold Numbers.masked
  by_cases h : k.val ≤ q.val
  · rw [if_pos h, decide_eq_true h]
    refine (ValueIdx.select_one _ _).trans ?_
    unfold Numbers.score
    rw [EReal.coe_mul, Softmax.coe_sum, Numbers.eighth_f32]
    congr 1
    refine Finset.sum_congr rfl fun l _ => ?_
    rw [hX, hX, EReal.coe_mul]
  · rw [if_neg h, decide_eq_false h]
    refine (ValueIdx.select_zero _ _).trans ?_
    exact Numbers.least_f32

theorem reduce_top_at (s : FVec Ideal S8x8x2x2048x2048 .f32) (b u : Fin 8) (g : Fin 2) (q : Fin 2048) :
    Host.reduce FloatOps.maximumf s (constant S_ .f32 0xFF800000#32) reducesTo_S8x8x2x2048x2048_S8x8x2x2048_d4 h_S_ (ix4 b u g q)
      = Finset.fold max (Ideal.ofBits .f32 0xFF800000#32) (fun k : Fin 2048 => s (ix5 b u g q k)) Finset.univ := by
  pointwise

theorem least_or_at (r : FVec Ideal S8x8x2x2048 .f32) (b u : Fin 8) (g : Fin 2) (q : Fin 2048) :
    maximumf (broadcastInDim S8x8x2x2048 ![] bcast_S_S8x8x2x2048 (constant S_ .f32 0xFF800000#32)) r (ix4 b u g q) = max (Ideal.ofBits .f32 0xFF800000#32) (r (ix4 b u g q)) := by
  pointwise

theorem top_at (s : FVec Ideal S8x8x2x2048x2048 .f32) (b u : Fin 8) (g : Fin 2) (q : Fin 2048) :
    topOf s (ix4 b u g q) = max ⊥ (Finset.fold max ⊥ (fun k : Fin 2048 => s (ix5 b u g q k)) Finset.univ) := by
  unfold topOf
  rw [least_or_at, reduce_top_at, Numbers.least_f32]

theorem exps_at (s : FVec Ideal S8x8x2x2048x2048 .f32) (b u : Fin 8) (g : Fin 2) (q k : Fin 2048) :
    expsOf s (ix5 b u g q k) = Ideal.exp (s (ix5 b u g q k) - topOf s (ix4 b u g q)) := by
  pointwise [expsOf]

theorem weights_at (e : FVec Ideal S8x8x2x2048x2048 .f32) (b u : Fin 8) (g : Fin 2) (q k : Fin 2048) :
    weightsOf e (ix5 b u g q k) = Ideal.div (e (ix5 b u g q k)) (∑ i : Fin 2048, e (ix5 b u g q i)) := by
  pointwise [weightsOf]

/-- A weight of the softmax. -/
theorem softmax_at (hX : Holds X x) (b u : Fin 8) (g : Fin 2) (q k : Fin 2048) :
    weightsOf (expsOf (scoresOf (qOf X) (kOf X))) (ix5 b u g q k)
      = ((Softmax.ex (Numbers.masked x b.val u.val g.val q.val k.val) / Numbers.total x b.val u.val g.val q.val : ℝ) : EReal) := by
  have e : ∀ k : Fin 2048, expsOf (scoresOf (qOf X) (kOf X)) (ix5 b u g q k)
      = Ideal.exp (Numbers.masked x b.val u.val g.val q.val k.val
          - max ⊥ (Finset.fold max ⊥ (fun k : Fin 2048 => Numbers.masked x b.val u.val g.val q.val k.val) Finset.univ)) := fun k => by
    rw [exps_at, top_at, scores_at hX]
    simp only [scores_at hX]
  rw [weights_at, e, Finset.sum_congr rfl fun i _ => e i]
  exact Softmax.softmax_at (fun k : Fin 2048 => Numbers.masked x b.val u.val g.val q.val k.val) (fun _ => Numbers.masked_ne_top _ _ _ _ _ _) 0
    (by
      show Numbers.masked x b.val u.val g.val q.val 0 ≠ ⊥
      rw [Numbers.masked_of_le _ _ _ _ _ _ (Nat.zero_le _)]; exact EReal.coe_ne_bot _) k

theorem lambda_at (a b c d : FVec Ideal S64 .f32) (a' b' c' d' : Fin 64 → ℝ) (ha : ∀ l, a (ix1 l) = ((a' l : ℝ) : EReal)) (hb : ∀ l, b (ix1 l) = ((b' l : ℝ) : EReal))
    (hc : ∀ l, c (ix1 l) = ((c' l : ℝ) : EReal)) (hd : ∀ l, d (ix1 l) = ((d' l : ℝ) : EReal)) :
    lambdaOf a b c d ix0 = ((Numbers.lambda a' b' c' d' : ℝ) : EReal) := by
  pointwise [lambdaOf]
  rw [← Numbers.lambda_eq]
  simp only [ha, hb, hc, hd]

theorem attn_at (hX : Holds X x) (lam : FVec Ideal S_ .f32) (lam' : ℝ) (hl : lam ix0 = (lam' : EReal)) (b u : Fin 8) (q : Fin 2048) (e : Fin 128) :
    attnOf (vOf X) (weightsOf (expsOf (scoresOf (qOf X) (kOf X)))) lam (ix4 b q u e) = ((Numbers.differ x lam' b.val u.val q.val e.val : ℝ) : EReal) := by
  have h : ∀ p : FVec Ideal S8x8x2x2048x2048 .f32, attnOf (vOf X) p lam (ix4 b q u e)
      = ∑ k : Fin 2048, X (ix2 ⟨b.val * 2048 + k.val, by omega⟩ ⟨2048 + (u.val * 128 + e.val), by omega⟩) * (p (ix5 b u 0 q k) - lam ix0 * p (ix5 b u 1 q k)) := fun p => by
    pointwise [attnOf, vOf, rowsOf]
  rw [h, hl]
  have e : ∀ k : Fin 2048, X (ix2 ⟨b.val * 2048 + k.val, by omega⟩ ⟨2048 + (u.val * 128 + e.val), by omega⟩)
        * (weightsOf (expsOf (scoresOf (qOf X) (kOf X))) (ix5 b u 0 q k) - (lam' : EReal) * weightsOf (expsOf (scoresOf (qOf X) (kOf X))) (ix5 b u 1 q k))
      = ((Numbers.value x b.val u.val e.val k.val * Softmax.ex (Numbers.masked x b.val u.val 0 q.val k.val) / Numbers.total x b.val u.val 0 q.val
          - lam' * (Numbers.value x b.val u.val e.val k.val * Softmax.ex (Numbers.masked x b.val u.val 1 q.val k.val) / Numbers.total x b.val u.val 1 q.val) : ℝ) : EReal) := fun k => by
    rw [softmax_at hX, softmax_at hX, hX, ← EReal.coe_mul, ← EReal.coe_sub, ← EReal.coe_mul]
    congr 1
    show Numbers.value x b.val u.val e.val k.val * (Softmax.ex (Numbers.masked x b.val u.val 0 q.val k.val) / Numbers.total x b.val u.val 0 q.val
      - lam' * (Softmax.ex (Numbers.masked x b.val u.val 1 q.val k.val) / Numbers.total x b.val u.val 1 q.val)) = _
    ring
  rw [Finset.sum_congr rfl fun k _ => e k, ← Softmax.coe_sum, Finset.sum_sub_distrib, ← Finset.sum_div, ← Finset.mul_sum, ← Finset.sum_div]
  rfl

theorem close_at (o : FVec Ideal S8x2048x8x128 .f32) (w : FVec Ideal S128 .f32) (r : Fin 16384) (e : Fin 1024) :
    closeOf o w (ix2 r e) = Numbers.close (fun i => o (ix4 ⟨r.val / 2048, by omega⟩ ⟨r.val % 2048, by omega⟩ ⟨e.val / 128, by omega⟩ i)) (fun i => w (ix1 i)) ⟨e.val % 128, by omega⟩ := by
  pointwise [closeOf, Numbers.close]

/-- The reference is the attention in real numbers. -/
theorem whole_at (hX : Holds X x) (a b c d : FVec Ideal S64 .f32) (w : FVec Ideal S128 .f32) (a' b' c' d' : Fin 64 → ℝ) (ha : ∀ l, a (ix1 l) = ((a' l : ℝ) : EReal))
    (hb : ∀ l, b (ix1 l) = ((b' l : ℝ) : EReal)) (hc : ∀ l, c (ix1 l) = ((c' l : ℝ) : EReal)) (hd : ∀ l, d (ix1 l) = ((d' l : ℝ) : EReal)) (r : Fin 16384) (e : Fin 1024) :
    whole X a b c d w (ix2 r e)
      = Numbers.result x (Numbers.lambda a' b' c' d') (fun i => w (ix1 i)) (r.val / 2048) (r.val % 2048) (e.val / 128) ⟨e.val % 128, by omega⟩ := by
  unfold whole Numbers.result
  rw [close_at]
  simp only [attn_at hX _ _ (lambda_at a b c d a' b' c' d' ha hb hc hd)]

end Cert.ReferenceIdeal.Attn

end
-- ==== Proof.Algebraic.lean ====
/-
  The value claim: from finite arguments the kernel and the reference end with the same array, the attention in real
  numbers.
-/
module

public import proofs.«01_k».proof.Defs
public import proofs.«01_k».proof.Proof.Value
public import proofs.«01_k».proof.Proof.RefRead
public import proofs.«01_k».proof.Proof.Gen.KernelIdeal
public import proofs.«01_k».proof.Proof.Gen.ReferenceIdeal

@[expose] public section

noncomputable section

namespace Cert.Algebraic

open Idealize.ShloMosaic Idealize.ShloMosaic.TcCoe Idealize.SL.Sem
open Cert.Pre_finite_inputs (S16384x3072 S64 S128 S_)

/-- The precondition's side conditions. -/
theorem pre_facts : Cert.Pre_finite_inputs.Facts := ⟨by decide, by decide, by decide⟩

/-! ## Finite is real -/

/-- A number whose absolute value is below infinity is a real. -/
theorem real_of_finite (v : EReal) (h : Ideal.cmp .olt (max v (-v)) (Ideal.ofBits .f32 0x7F800000#32) = 1#1) : v = ((v.toReal : ℝ) : EReal) := by
  have top : Ideal.ofBits .f32 0x7F800000#32 = ⊤ := by simp [Ideal.ofBits, Ideal.ieee]
  rw [top] at h
  have hlt : max v (-v) < ⊤ := by
    by_contra hc
    rw [show Ideal.cmp .olt (max v (-v)) ⊤ = BitVec.ofBool (decide (max v (-v) < ⊤)) from rfl, decide_eq_false hc] at h
    exact absurd h (by decide)
  refine (EReal.coe_toReal (fun e => ?_) fun e => ?_).symm
  · subst e; exact absurd hlt (by simp)
  · subst e; exact absurd hlt (by simp)

theorem real_matrix [Cert.Pre_finite_inputs.Facts] (X : FVec Ideal S16384x3072 .bf16)
    (h : cmpf .olt (Host.absf (extf .f32 X Cert.Pre_finite_inputs.Facts.bitsLt_bf16_f32))
      (broadcastInDim S16384x3072 ![] Cert.Pre_finite_inputs.Facts.bcast_S_S16384x3072 (constant S_ .f32 0x7F800000#32)) = fun _ => 1#1)
    (r : Fin 16384) (c : Fin 3072) : X (ix2 r c) = (((X (ix2 r c)).toReal : ℝ) : EReal) :=
  real_of_finite _ (congrFun h (ix2 r c))

theorem real_vector [Cert.Pre_finite_inputs.Facts] (v : FVec Ideal S64 .f32)
    (h : cmpf .olt (Host.absf v) (broadcastInDim S64 ![] Cert.Pre_finite_inputs.Facts.bcast_S_S64 (constant S_ .f32 0x7F800000#32)) = fun _ => 1#1)
    (l : Fin 64) : v (ix1 l) = (((v (ix1 l)).toReal : ℝ) : EReal) :=
  real_of_finite _ (congrFun h (ix1 l))

/-- A matrix's reals, by row and column. -/
def entries (X : FVec Ideal S16384x3072 .bf16) (r c : ℕ) : ℝ :=
  if h : r < 16384 ∧ c < 3072 then EReal.toReal (X (ix2 ⟨r, h.1⟩ ⟨c, h.2⟩)) else 0

theorem entries_at (X : FVec Ideal S16384x3072 .bf16) (r : Fin 16384) (c : Fin 3072) : entries X r.val c.val = EReal.toReal (X (ix2 r c)) :=
  dif_pos ⟨r.isLt, c.isLt⟩

/-! ## The claim -/

variable [Cert.Pre_finite_inputs.Facts]

/-- Finite arguments hold reals. -/
theorem reals (m : (ℓ : Loc Cert.KernelIdeal.nD Cert.KernelIdeal.τ Cert.KernelIdeal.sig) → Buf (Elt Ideal) ℓ) (h : Cert.Pre_KernelIdeal_finite_inputs m) (c : Dev Cert.KernelIdeal.nD) :
    Cert.KernelIdeal.Attn.Reals m c (entries (m ((c.tc : Thread Cert.KernelIdeal.nD Cert.KernelIdeal.τ).loc Cert.KernelIdeal.main_arg0)))
      (fun l => EReal.toReal ((m ((c.tc : Thread Cert.KernelIdeal.nD Cert.KernelIdeal.τ).loc Cert.KernelIdeal.main_arg1) : FVec Ideal S64 .f32) (ix1 l)))
      (fun l => EReal.toReal ((m ((c.tc : Thread Cert.KernelIdeal.nD Cert.KernelIdeal.τ).loc Cert.KernelIdeal.main_arg2) : FVec Ideal S64 .f32) (ix1 l)))
      (fun l => EReal.toReal ((m ((c.tc : Thread Cert.KernelIdeal.nD Cert.KernelIdeal.τ).loc Cert.KernelIdeal.main_arg3) : FVec Ideal S64 .f32) (ix1 l)))
      (fun l => EReal.toReal ((m ((c.tc : Thread Cert.KernelIdeal.nD Cert.KernelIdeal.τ).loc Cert.KernelIdeal.main_arg4) : FVec Ideal S64 .f32) (ix1 l))) where
  x r e := (real_matrix _ (h c).1 r e).trans (congrArg (fun v : ℝ => (v : EReal)) (entries_at _ r e).symm)
  a l := real_vector _ (h c).2.1 l
  b l := real_vector _ (h c).2.2.1 l
  p l := real_vector _ (h c).2.2.2.1 l
  d l := real_vector _ (h c).2.2.2.2 l

/-- The reference on arguments that hold reals. -/
theorem whole_eq_target (X : FVec Ideal S16384x3072 .bf16) (a b p d : FVec Ideal S64 .f32) (w : FVec Ideal S128 .f32) (x : ℕ → ℕ → ℝ) (a' b' p' d' : Fin 64 → ℝ)
    (hX : Cert.ReferenceIdeal.Attn.Holds X x) (ha : ∀ l, a (ix1 l) = ((a' l : ℝ) : EReal)) (hb : ∀ l, b (ix1 l) = ((b' l : ℝ) : EReal))
    (hp : ∀ l, p (ix1 l) = ((p' l : ℝ) : EReal)) (hd : ∀ l, d (ix1 l) = ((d' l : ℝ) : EReal)) :
    Cert.ReferenceIdeal.Attn.whole X a b p d w = Cert.KernelIdeal.Attn.target x (Cert.Numbers.lambda a' b' p' d') (fun i => w (ix1 i)) := by
  funext i
  have e : i = ix2 (⟨(i 0).val, (i 0).isLt⟩ : Fin 16384) (⟨(i 1).val, (i 1).isLt⟩ : Fin 1024) := by
    funext k
    match k with
    | ⟨0, _⟩ => rfl
    | ⟨1, _⟩ => rfl
  rw [e, Cert.ReferenceIdeal.Attn.whole_at hX a b p d w a' b' p' d' ha hb hp hd]
  rfl

theorem algebraic :
    haveI := Cert.KernelIdeal.Gen.facts
    haveI := Cert.ReferenceIdeal.Gen.facts
    Cert.algebraic_KernelIdeal_ReferenceIdeal_pre_finite_inputs := by
  intro m ρ m' ρ' hpre hagree
  refine ⟨_, Cert.KernelIdeal.Attn.value_run ρ _ _ _ _ _ fun c => reals m hpre c, ?_⟩
  refine (θ_run Cert.ReferenceIdeal.defs _ _).mono (fun _ h c => ⟨(h c).1.trans ?_, (h c).2⟩) (Cert.ReferenceIdeal.Value.run (F := Ideal) m' ρ')
  have hr := reals m hpre c
  obtain ⟨e0, e1, e2, e3, e4, e5⟩ := hagree c
  rw [Cert.ReferenceIdeal.Attn.res_eq, e0, e1, e2, e3, e4, e5]
  exact whole_eq_target _ _ _ _ _ _ _ _ _ _ _ hr.x hr.a hr.b hr.p hr.d

end Cert.Algebraic

end
-- ==== Proof.Proj.Rows.lean ====
/-
  Four blocks of 256 rows. An array of 1024 rows stored block by block is read at an index from the block the row lies
  in.
-/
module

public import Idealize.ShloMosaic.Lib.VecWindow
public import Idealize.ShloMosaic.Lib.Pointwise

@[expose] public section

noncomputable section

namespace Cert.Rows

open Idealize.ShloMosaic
open VecWindow (window put)

variable {α : Type} {n : ℕ}

/-- Rows 256·k to 256·k + 255. -/
def rows (x : (⟨2, ![1024, n]⟩ : Shape).Idx → α) (k : ℕ) : (⟨2, ![256, n]⟩ : Shape).Idx → α := fun z =>
  x (ix2 ⟨(256 * k + (z 0).val) % 1024, Nat.mod_lt _ (by decide)⟩ ⟨(z 1).val, (z 1).isLt⟩)

/-- The array whose block of rows `k` is `g k`. -/
def stack (g : ℕ → (⟨2, ![256, n]⟩ : Shape).Idx → α) : (⟨2, ![1024, n]⟩ : Shape).Idx → α := fun y =>
  g ((y 0).val / 256) (ix2 ⟨(y 0).val % 256, Nat.mod_lt _ (by decide)⟩ ⟨(y 1).val, (y 1).isLt⟩)

/-- A load of a block of rows. -/
theorem window_rows (x : (⟨2, ![1024, n]⟩ : Shape).Idx → α) (r k : ℕ) (hr : r = 256 * k) (hk : k < 4)
    (inb : ∀ a, (![r, 0] : Fin 2 → ℕ) a + (![256, n] : Fin 2 → ℕ) a ≤ (⟨2, ![1024, n]⟩ : Shape).size a) :
    window x ![r, 0] ![256, n] inb = rows x k := by
  funext z
  refine congrArg x (funext fun a => Fin.ext ?_)
  have h0 : (z 0).val < 256 := (z 0).isLt
  match a with
  | ⟨0, _⟩ => show r + 1 * (z 0).val = (256 * k + (z 0).val) % 1024; omega
  | ⟨1, _⟩ => show 0 + 1 * (z 1).val = (z 1).val; omega

/-- A load of the whole array. -/
theorem window_whole {a b : ℕ} (x : (⟨2, ![a, b]⟩ : Shape).Idx → α)
    (inb : ∀ c, (![0, 0] : Fin 2 → ℕ) c + (![a, b] : Fin 2 → ℕ) c ≤ (⟨2, ![a, b]⟩ : Shape).size c) :
    window x ![0, 0] ![a, b] inb = x := by
  funext z
  refine congrArg x (funext fun c => Fin.ext ?_)
  match c with
  | ⟨0, _⟩ => show 0 + 1 * (z 0).val = (z 0).val; omega
  | ⟨1, _⟩ => show 0 + 1 * (z 1).val = (z 1).val; omega

/-- A store of the whole array. -/
theorem put_whole {a b : ℕ} (x w : (⟨2, ![a, b]⟩ : Shape).Idx → α) : put x ![0, 0] ![a, b] w = w := by
  funext y
  have h0 : (y 0).val < a := (y 0).isLt
  have h1 : (y 1).val < b := (y 1).isLt
  unfold put
  rw [dif_pos (fun c => by
    match c with
    | ⟨0, _⟩ => exact ⟨Nat.zero_le _, by show (y 0).val < 0 + a; omega⟩
    | ⟨1, _⟩ => exact ⟨Nat.zero_le _, by show (y 1).val < 0 + b; omega⟩)]
  refine congrArg w (funext fun c => Fin.ext ?_)
  match c with
  | ⟨0, _⟩ => rfl
  | ⟨1, _⟩ => rfl

/-- A store of a block of rows, read at an index. -/
theorem put_at (x : (⟨2, ![1024, n]⟩ : Shape).Idx → α) (r k : ℕ) (hr : r = 256 * k) (w : (⟨2, ![256, n]⟩ : Shape).Idx → α) (y : (⟨2, ![1024, n]⟩ : Shape).Idx) :
    put x ![r, 0] ![256, n] w y
      = if (y 0).val / 256 = k then w (ix2 ⟨(y 0).val % 256, Nat.mod_lt _ (by decide)⟩ ⟨(y 1).val, (y 1).isLt⟩) else x y := by
  have h1 : (y 1).val < n := (y 1).isLt
  unfold put
  by_cases h : (y 0).val / 256 = k
  · rw [if_pos h, dif_pos (fun c => by
      match c with
      | ⟨0, _⟩ => exact ⟨by show r ≤ (y 0).val; omega, by show (y 0).val < r + 256; omega⟩
      | ⟨1, _⟩ => exact ⟨Nat.zero_le _, by show (y 1).val < 0 + n; omega⟩)]
    refine congrArg w (funext fun c => Fin.ext ?_)
    match c with
    | ⟨0, _⟩ => show (y 0).val - r = (y 0).val % 256; omega
    | ⟨1, _⟩ => rfl
  · rw [if_neg h, dif_neg fun hc => h ?_]
    have h0 : r ≤ (y 0).val ∧ (y 0).val < r + 256 := hc 0
    omega

/-- Four stores of the four blocks of rows. -/
theorem put_four (x : (⟨2, ![1024, n]⟩ : Shape).Idx → α) (g : ℕ → (⟨2, ![256, n]⟩ : Shape).Idx → α) :
    put (put (put (put x ![0, 0] ![256, n] (g 0)) ![256, 0] ![256, n] (g 1)) ![512, 0] ![256, n] (g 2)) ![768, 0] ![256, n] (g 3) = stack g := by
  funext y
  have h0 : (y 0).val < 1024 := (y 0).isLt
  rw [put_at _ 768 3 rfl, put_at _ 512 2 rfl, put_at _ 256 1 rfl, put_at _ 0 0 rfl]
  unfold stack
  split
  · rename_i h; rw [h]
  split
  · rename_i h; rw [h]
  split
  · rename_i h; rw [h]
  split
  · rename_i h; rw [h]
  omega

end Cert.Rows

end
-- ==== Proof.Proj.Body.lean ====
/-
  The projection kernel's text at the two kinds of grid points. At the first column block it normalises its rows, 256
  at a time, keeps them, and multiplies them with the weights' block; at the other it multiplies the rows kept.
-/
module

public import proofs.«01_k».proof.Proof.Straight
public import proofs.«01_k».proof.Proof.Proj.Rows
public import proofs.«01_k».proof.Proof.Gen.Kernel2Ideal

@[expose] public section

set_option maxRecDepth 16384

noncomputable section

namespace Cert.Kernel2Ideal.Proj

open Idealize.ShloMosaic Idealize.ShloMosaic.TcCoe
open Idealize.SL Idealize.SL.Sem
open Cert.Kernel2Ideal Cert.Kernel2Ideal.Facts Cert.Kernel2Ideal.Facts₀
open Cert.Straight Cert.Rows
open VecWindow (window put)

variable {F : FTy → Type} [FloatOps F]

/-- The kernel's memrefs: its rows, the norm's weights, the projection's weights, the product, the normalised rows. -/
inductive Cell where
  | x | nw | w | o | u
  deriving DecidableEq

instance : Fintype Cell := ⟨⟨([Cell.x, Cell.nw, Cell.w, Cell.o, Cell.u] : List Cell), by decide⟩, fun b => by cases b <;> decide⟩

@[reducible] def shp : Cell → Shape
  | .x | .u => S1024x2048
  | .nw => S1x2048
  | .w => S2048x1024
  | .o => S1024x1024

@[reducible] def el : Cell → EltTy
  | .x | .nw => .f32
  | .w | .o | .u => .bf16

abbrev Mems : Type := (b : Cell) → Memref sig .tc .vmem (shp b) (el b)

/-- The contents of the kernel's memrefs. -/
abbrev St (F : FTy → Type) : Type := Cont (Elt F) shp el

/-- The kernel's programs. -/
abbrev Pr (F : FTy → Type) (α : Type) : Type 1 := Prog (TpuEff nD τ sig (Elt F) Λ₀ .tc) α

/-! ## Values -/

/-- A row's mean square. -/
def meanOf (x : FVec F S256x2048 .f32) : FVec F S256x1 .f32 :=
  divf (shapeCast S256x1 (multiReduction .add [1] S256 (mulf x x) 0x00000000#32 reduces_S256x2048_S256 (.inl rfl) rfl) shapeCasts_S256_S256x1)
    (broadcast S256x1 (Scalar.ofBits .f32 0x45000000#32))

/-- Rows from their mean squares, normalised. -/
def scaleOf (x : FVec F S256x2048 .f32) (a : FVec F S256x1 .f32) (nw : FVec F S1x2048 .f32) : FVec F S256x2048 .bf16 :=
  truncf .bf16 (mulf (mulf x (broadcastTo S256x2048 (rsqrt (addf a (broadcast S256x1 (Scalar.ofBits .f32 0x358637BD#32)))) broadcasts_S256x1_S256x2048))
    (broadcastTo S256x2048 (shapeCast S1x2048 nw shapeCasts_S1x2048_S1x2048) broadcasts_S1x2048_S256x2048)) bitsLt_bf16_f32

/-- The normalised rows. -/
def normOf (x : FVec F S256x2048 .f32) (nw : FVec F S1x2048 .f32) : FVec F S256x2048 .bf16 := scaleOf x (meanOf x) nw

/-- Normalised rows times a block of the weights' columns: 256 rows, -/
def projOf (u : FVec F S256x2048 .bf16) (w : FVec F S2048x1024 .bf16) : FVec F S256x1024 .bf16 :=
  truncf .bf16 (matmul dot_S256x2048_S2048x1024_S256x1024_1_0_0_1_n_n none u (shapeCast S2048x1024 w shapeCasts_S2048x1024_S2048x1024)
    (constant S256x1024 .f32 0x00000000#32)) bitsLt_bf16_f32

/-- and 1024 rows. -/
def projAll (u : FVec F S1024x2048 .bf16) (w : FVec F S2048x1024 .bf16) : FVec F S1024x1024 .bf16 :=
  truncf .bf16 (matmul dot_S1024x2048_S2048x1024_S1024x1024_1_0_0_1_n_n none (shapeCast S1024x2048 u shapeCasts_S1024x2048_S1024x2048)
    (shapeCast S2048x1024 w shapeCasts_S2048x1024_S2048x1024) (constant S1024x1024 .f32 0x00000000#32)) bitsLt_bf16_f32

/-- A point's normalised rows. -/
def uBlock (x : FVec F S1024x2048 .f32) (nw : FVec F S1x2048 .f32) : FVec F S1024x2048 .bf16 := stack fun k => normOf (rows x k) nw

/-- A point's product at the first column block, -/
def oFirst (x : FVec F S1024x2048 .f32) (nw : FVec F S1x2048 .f32) (w : FVec F S2048x1024 .bf16) : FVec F S1024x1024 .bf16 :=
  stack fun k => projOf (normOf (rows x k) nw) w

/-- and at the other. -/
def oRest (x : FVec F S1024x2048 .f32) (nw : FVec F S1x2048 .f32) (w : FVec F S2048x1024 .bf16) : FVec F S1024x1024 .bf16 :=
  projAll (uBlock x nw) w

/-! ## The text -/

/-- The kernel on a family of memrefs. -/
abbrev kernelOn (M : Mems) (hM : ∀ b, (M b).IsWhole) (i : grid0.Coords) : Pr F PUnit :=
  cc0_norm_inproj i (M .x) (hM .x) (M .nw) (hM .nw) (M .w) (hM .w) (M .o) (hM .o) (M .u) (hM .u)

/-- The contents with a product and normalised rows put in. -/
def leave (σ : St F) (o : FVec F S1024x1024 .bf16) (u : FVec F S1024x2048 .bf16) : St F
  | .x => σ .x
  | .nw => σ .nw
  | .w => σ .w
  | .o => o
  | .u => u

theorem eq_leave (σ σ' : St F) (o : FVec F S1024x1024 .bf16) (u : FVec F S1024x2048 .bf16) (hx : σ' .x = σ .x) (hn : σ' .nw = σ .nw) (hw : σ' .w = σ .w)
    (ho : σ' .o = o) (hu : σ' .u = u) : σ' = leave σ o u := by
  funext b
  cases b with
  | x => exact hx
  | nw => exact hn
  | w => exact hw
  | o => exact ho
  | u => exact hu

variable (M : Mems) (hM : ∀ b, (M b).IsWhole) (i : grid0.Coords) (σ : St F)

set_option maxHeartbeats 4000000 in
/-- At the first column block. -/
theorem runs_first (h1 : k0_cond1 i = 1#1) (h2 : ¬ k0_cond2 i = 1#1) :
    Runs M (kernelOn M hM i : Pr F PUnit) σ fun _ σ' => σ' = leave σ (oFirst (σ .x) (σ .nw) (σ .w)) (uBlock (σ .x) (σ .nw)) := by
  unfold kernelOn cc0_norm_inproj
  rw [dif_pos h1, dif_neg h2]
  unfold k0_part1 k0_part2
  refine Runs.load Cell.x ?_
  refine Runs.load Cell.nw ?_
  refine Runs.load Cell.u ?_
  refine Runs.store Cell.u ?_
  refine Runs.load Cell.w ?_
  refine Runs.load Cell.o ?_
  refine Runs.store Cell.o ?_
  refine Runs.load Cell.x ?_
  refine Runs.load Cell.nw ?_
  refine Runs.load Cell.u ?_
  refine Runs.store Cell.u ?_
  refine Runs.load Cell.w ?_
  refine Runs.load Cell.o ?_
  refine Runs.store Cell.o ?_
  refine Runs.load Cell.x ?_
  refine Runs.load Cell.nw ?_
  refine Runs.load Cell.u ?_
  refine Runs.store Cell.u ?_
  refine Runs.load Cell.w ?_
  refine Runs.load Cell.o ?_
  refine Runs.store Cell.o ?_
  refine Runs.load Cell.x ?_
  refine Runs.load Cell.nw ?_
  refine Runs.load Cell.u ?_
  refine Runs.store Cell.u ?_
  refine Runs.load Cell.w ?_
  refine Runs.load Cell.o ?_
  refine Runs.store Cell.o ?_
  refine Runs.ret ?_
  have x0 : window (σ .x) ![0, 0] S256x2048.size inb_S1024x2048_S256x2048_0_0 = rows (σ .x) 0 := window_rows (σ .x) 0 0 rfl (by decide) _
  have x1 : window (σ .x) ![256, 0] S256x2048.size inb_S1024x2048_S256x2048_256_0 = rows (σ .x) 1 := window_rows (σ .x) 256 1 rfl (by decide) _
  have x2 : window (σ .x) ![512, 0] S256x2048.size inb_S1024x2048_S256x2048_512_0 = rows (σ .x) 2 := window_rows (σ .x) 512 2 rfl (by decide) _
  have x3 : window (σ .x) ![768, 0] S256x2048.size inb_S1024x2048_S256x2048_768_0 = rows (σ .x) 3 := window_rows (σ .x) 768 3 rfl (by decide) _
  have n : window (σ .nw) ![0, 0] S1x2048.size inb_S1x2048_S1x2048_0_0 = σ .nw := window_whole (σ .nw) _
  have w : window (σ .w) ![0, 0] S2048x1024.size inb_S2048x1024_S2048x1024_0_0 = σ .w := window_whole (σ .w) _
  refine eq_leave σ _ _ _ rfl rfl rfl ?_ ?_
  · refine Eq.trans ?_ (put_four (σ .o) fun k => projOf (normOf (rows (σ .x) k) (σ .nw)) (σ .w))
    show put (put (put (put (σ .o) ![0, 0] S256x1024.size (projOf (normOf (window (σ .x) ![0, 0] S256x2048.size inb_S1024x2048_S256x2048_0_0) (window (σ .nw) ![0, 0] S1x2048.size inb_S1x2048_S1x2048_0_0)) (window (σ .w) ![0, 0] S2048x1024.size inb_S2048x1024_S2048x1024_0_0))) ![256, 0] S256x1024.size (projOf (normOf (window (σ .x) ![256, 0] S256x2048.size inb_S1024x2048_S256x2048_256_0) (window (σ .nw) ![0, 0] S1x2048.size inb_S1x2048_S1x2048_0_0)) (window (σ .w) ![0, 0] S2048x1024.size inb_S2048x1024_S2048x1024_0_0))) ![512, 0] S256x1024.size (projOf (normOf (window (σ .x) ![512, 0] S256x2048.size inb_S1024x2048_S256x2048_512_0) (window (σ .nw) ![0, 0] S1x2048.size inb_S1x2048_S1x2048_0_0)) (window (σ .w) ![0, 0] S2048x1024.size inb_S2048x1024_S2048x1024_0_0))) ![768, 0] S256x1024.size (projOf (normOf (window (σ .x) ![768, 0] S256x2048.size inb_S1024x2048_S256x2048_768_0) (window (σ .nw) ![0, 0] S1x2048.size inb_S1x2048_S1x2048_0_0)) (window (σ .w) ![0, 0] S2048x1024.size inb_S2048x1024_S2048x1024_0_0)) = _
    rw [x0, x1, x2, x3, n, w]
  · refine Eq.trans ?_ (put_four (σ .u) fun k => normOf (rows (σ .x) k) (σ .nw))
    show put (put (put (put (σ .u) ![0, 0] S256x2048.size (normOf (window (σ .x) ![0, 0] S256x2048.size inb_S1024x2048_S256x2048_0_0) (window (σ .nw) ![0, 0] S1x2048.size inb_S1x2048_S1x2048_0_0))) ![256, 0] S256x2048.size (normOf (window (σ .x) ![256, 0] S256x2048.size inb_S1024x2048_S256x2048_256_0) (window (σ .nw) ![0, 0] S1x2048.size inb_S1x2048_S1x2048_0_0))) ![512, 0] S256x2048.size (normOf (window (σ .x) ![512, 0] S256x2048.size inb_S1024x2048_S256x2048_512_0) (window (σ .nw) ![0, 0] S1x2048.size inb_S1x2048_S1x2048_0_0))) ![768, 0] S256x2048.size (normOf (window (σ .x) ![768, 0] S256x2048.size inb_S1024x2048_S256x2048_768_0) (window (σ .nw) ![0, 0] S1x2048.size inb_S1x2048_S1x2048_0_0)) = _
    rw [x0, x1, x2, x3, n]

set_option maxHeartbeats 4000000 in
/-- At the other. -/
theorem runs_rest (h1 : ¬ k0_cond1 i = 1#1) (h2 : k0_cond2 i = 1#1) :
    Runs M (kernelOn M hM i : Pr F PUnit) σ fun _ σ' => σ' = leave σ (projAll (σ .u) (σ .w)) (σ .u) := by
  unfold kernelOn cc0_norm_inproj
  rw [dif_neg h1, dif_pos h2]
  refine Runs.load Cell.u ?_
  refine Runs.load Cell.w ?_
  refine Runs.load Cell.o ?_
  refine Runs.store Cell.o ?_
  refine Runs.ret ?_
  refine eq_leave σ _ _ _ rfl rfl rfl ?_ rfl
  refine (put_whole (σ .o) _).trans ?_
  rw [show window (σ .u) ![0, 0] S1024x2048.size inb_S1024x2048_S1024x2048_0_0 = σ .u from window_whole (σ .u) _,
    show window (σ .w) ![0, 0] S2048x1024.size inb_S2048x1024_S2048x1024_0_0 = σ .w from window_whole (σ .w) _]
  rfl

end Cert.Kernel2Ideal.Proj

end
-- ==== Proof.Proj.Run.lean ====
/-
  The projection kernel at a point of the grid and over the whole of it: what its blocks hold there, what it leaves, and
  that the run ends with the arrays those blocks make and everything else as it was.
-/
module

public import proofs.«01_k».proof.Proof.Proj.Body
public import proofs.«01_k».proof.Proof.Gen.Kernel2Ideal.Frame
public import Idealize.ShloMosaic.Lib.Pipeline.BigSepL
public import Idealize.ShloMosaic.Lib.Claim

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen
open Cert.Straight

/-! ## The memrefs at a point -/

/-- The memrefs the kernel is called on at point `t`: each window's current buffer. -/
def mems (t : Fin cfg0.N) : Mems
  | .x => win0_0.stage (cfg0.slots t 0)
  | .nw => win0_1.stage (cfg0.slots t 1)
  | .w => win0_2.stage (cfg0.slots t 2)
  | .o => win0_3.stage (cfg0.slots t 3)
  | .u => win0_4.stage (cfg0.slots t 4)

theorem mems_whole (t : Fin cfg0.N) : ∀ b, (mems t b).IsWhole
  | .x => hstage0_0 ((cfg0.slots t 0).cast nbuf0_0)
  | .nw => hstage0_1 ((cfg0.slots t 1).cast nbuf0_1)
  | .w => hstage0_2 ((cfg0.slots t 2).cast nbuf0_2)
  | .o => hstage0_3 ((cfg0.slots t 3).cast nbuf0_3)
  | .u => hstage0_4 ((cfg0.slots t 4).cast nbuf0_4)

variable {F : FTy → Type} [FloatOps F]

local notation "𝕄" => MT nD τ sig Unit (Elt F) ℕ (UR sig nD τ) ℕ

/-- The body the pipeline calls at point `t` is the kernel on these memrefs. -/
theorem bodyAt0_eq (t : Fin cfg0.N) : (bodyAt0 t : Pr F PUnit) = kernelOn (mems t) (mems_whole t) (grid0.coords t) := rfl

/-- The kernel's memrefs one by one. -/
theorem own_split (c : Dev nD) (t : Fin cfg0.N) (σ : St F) :
    (Own (c : Thread nD τ) (mems t) σ : sProp 𝕄)
      = iprop(owns (c : Thread nD τ) (mems t Cell.x) fullShare (σ Cell.x) ∗ owns (c : Thread nD τ) (mems t Cell.nw) fullShare (σ Cell.nw)
          ∗ owns (c : Thread nD τ) (mems t Cell.w) fullShare (σ Cell.w) ∗ owns (c : Thread nD τ) (mems t Cell.o) fullShare (σ Cell.o)
          ∗ owns (c : Thread nD τ) (mems t Cell.u) fullShare (σ Cell.u)) := by
  unfold Own
  rw [bigSep_univ_eq_bigSepL [Cell.x, Cell.nw, Cell.w, Cell.o, Cell.u] (by decide) (by decide)]
  rfl

/-! ## The two kinds of points -/

theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem rest_iff : ∀ t : Fin cfg0.N, k0_cond2 (grid0.coords t) = 1#1 ↔ t.val % 2 = 1 :=
  (by decide +kernel : ∀ t : Fin grid0.N, k0_cond2 (grid0.coords t) = 1#1 ↔ t.val % 2 = 1)

theorem idle_3 : ∀ t : Fin cfg0.N, cfg0.idle 3 (cfg0.grid.coords t) = false :=
  (by decide +kernel : ∀ t : Fin grid0.N, idle0 3 (grid0.coords t) = false)

theorem idle_4 : ∀ t : Fin cfg0.N, t.val % 2 = 0 → cfg0.idle 4 (cfg0.grid.coords t) = false :=
  (by decide +kernel : ∀ t : Fin grid0.N, t.val % 2 = 0 → idle0 4 (grid0.coords t) = false)

theorem idle_4_rest : ∀ t : Fin cfg0.N, t.val % 2 = 1 → cfg0.idle 4 (cfg0.grid.coords t) = true :=
  (by decide +kernel : ∀ t : Fin grid0.N, t.val % 2 = 1 → idle0 4 (grid0.coords t) = true)

/-! ## What the kernel finds and leaves -/

variable (m : (ℓ : Loc nD τ sig) → Buf (Elt F) ℓ) (ρ : Dev nD → PrngReg)

/-- The normalised rows of a point. -/
def uAt (c : Dev nD) (t : Fin cfg0.N) : FVec F S1024x2048 .bf16 := uBlock (iblk m c 0 t) (iblk m c 1 t)

/-- The product of a point. -/
def oAt (c : Dev nD) (t : Fin cfg0.N) : FVec F S1024x1024 .bf16 :=
  if t.val % 2 = 0 then oFirst (iblk m c 0 t) (iblk m c 1 t) (iblk m c 2 t) else oRest (iblk m c 0 t) (iblk m c 1 t) (iblk m c 2 t)

/-- The pipeline's data: each input block stays, the results are the kernel's functions of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
    | ⟨4, _⟩ => uAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = oAt m c t := by dsimp only [dats]
theorem after_4 (c : Dev nD) (t : Fin cfg0.N) : (dats m 0 c).after 4 t = uAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- At the second column block the rows' block stays, -/
theorem rows_stay (c : Dev nD) (t : Fin cfg0.N) (hn : t.val + 1 < cfg0.N) (h : (t.val + 1) % 2 ≠ 0) :
    iblk m c 0 ⟨t.val + 1, hn⟩ = iblk m c 0 t := by
  have hi : (cfg0.win 0).index ⟨t.val + 1, hn⟩ = (cfg0.win 0).index t := by
    by_contra hne
    exact h ((fetch0_0 ⟨t.val + 1, hn⟩).mp (by
      unfold Window.fetch
      rw [Bool.and_eq_true]
      refine ⟨rfl, ?_⟩
      rw [Bool.or_eq_true]
      exact .inr (decide_eq_true ⟨Nat.succ_pos _, hne⟩)))
  exact (dats m 0 c).fetched_congr 0 hi rfl (iblk m c 0 t)

/-- and so does the norm's weights'. -/
theorem norm_stays (c : Dev nD) (t : Fin cfg0.N) (hn : t.val + 1 < cfg0.N) : iblk m c 1 ⟨t.val + 1, hn⟩ = iblk m c 1 t := by
  have ht : t.val + 1 < 32 := hn
  have hi : (cfg0.win 1).index ⟨t.val + 1, hn⟩ = (cfg0.win 1).index t := by
    by_contra hne
    have := (fetch0_1 ⟨t.val + 1, hn⟩).mp (by
      unfold Window.fetch
      rw [Bool.and_eq_true]
      refine ⟨rfl, ?_⟩
      rw [Bool.or_eq_true]
      exact .inr (decide_eq_true ⟨Nat.succ_pos _, hne⟩))
    have e : (t.val + 1) % 32 = 0 := this
    omega
  exact (dats m 0 c).fetched_congr 1 hi rfl (iblk m c 1 t)

/-- At the second column block the kernel finds the rows it normalised at the first. -/
theorem before_4 (c : Dev nD) (t : Fin cfg0.N) (h : t.val % 2 = 1) (d) : (dats m 0 c).before 4 t d = uAt m c t := by
  obtain ⟨n, hn⟩ := t
  obtain ⟨k, rfl⟩ : ∃ k, n = k + 1 := ⟨n - 1, by have : n % 2 = 1 := h; omega⟩
  have hk : k % 2 = 0 := by have : (k + 1) % 2 = 1 := h; omega
  have hk' : k < cfg0.N := Nat.lt_of_succ_lt hn
  have hf : (cfg0.win 4).flush ⟨k, hk'⟩ = false := by
    by_contra hc
    have := (flush0_4 ⟨k, hk'⟩).mp (by revert hc; cases (cfg0.win 4).flush ⟨k, hk'⟩ <;> simp)
    have e : k % 2 = 1 := this
    omega
  have e : (dats m 0 c).before 4 ⟨k + 1, hn⟩ d = (dats m 0 c).left 4 ⟨k, hk'⟩ d := by
    refine ((dats m 0 c).before_of_pos 4 ⟨k + 1, hn⟩ (Nat.succ_ne_zero k) rfl d).trans ?_
    show (if (cfg0.win 4).flush ⟨k, hk'⟩ then d else (dats m 0 c).left 4 ⟨k, hk'⟩ d) = _
    rw [hf]; rfl
  rw [e]
  unfold Dat.left
  rw [idle_4 ⟨k, hk'⟩ hk]
  have e2 : (dats m 0 c).kept 4 ⟨k, hk'⟩ d = (dats m 0 c).after 4 ⟨k, hk'⟩ := rfl
  refine e2.trans ?_
  rw [after_4]
  unfold uAt
  rw [rows_stay m c ⟨k, hk'⟩ hn (by show (k + 1) % 2 ≠ 0; omega), norm_stays m c ⟨k, hk'⟩ hn]

/-- The kernel's state at point `t` from the results' buffers. -/
def stateAt (c : Dev nD) (t : Fin cfg0.N) (o : FVec F S1024x1024 .bf16) (u : FVec F S1024x2048 .bf16) : St F
  | .x => iblk m c 0 t
  | .nw => iblk m c 1 t
  | .w => iblk m c 2 t
  | .o => o
  | .u => u

/-- The kernel at a point. -/
theorem sound_point (c : Dev nD) (t : Fin cfg0.N) (o : FVec F S1024x1024 .bf16) (u : FVec F S1024x2048 .bf16) (hu : t.val % 2 = 1 → u = uAt m c t) :
    (Own (c : Thread nD τ) (mems t) (stateAt m c t o u) : sProp 𝕄)
      ⊢ wp frame (wpE (defs₀ (F := F)) Variants.none c none) Set.univ (bodyAt0 t) fun _ =>
        iprop(∃ σ' : St F, ⌜σ' = stateAt m c t (oAt m c t) (uAt m c t)⌝ ∗ Own (c : Thread nD τ) (mems t) σ') := by
  rw [bodyAt0_eq]
  have hr : Runs (mems t) (kernelOn (mems t) (mems_whole t) (grid0.coords t) : Pr F PUnit) (stateAt m c t o u)
      fun _ σ' => σ' = stateAt m c t (oAt m c t) (uAt m c t) := by
    rcases Nat.mod_two_eq_zero_or_one t.val with h | h
    · refine (runs_first (mems t) (mems_whole t) (grid0.coords t) _ ((first_iff t).mpr h) fun hc => ?_).mono fun _ σ' e => e.trans ?_
      · have := (rest_iff t).mp hc; omega
      · unfold oAt
        rw [if_pos h]
        funext b
        cases b <;> rfl
    · refine (runs_rest (mems t) (mems_whole t) (grid0.coords t) _ (fun hc => ?_) ((rest_iff t).mpr h)).mono fun _ σ' e => e.trans ?_
      · have := (first_iff t).mp hc; omega
      · unfold oAt
        rw [if_neg (by omega)]
        obtain rfl := hu h
        funext b
        cases b <;> rfl
  exact Runs.sound _ _ _ _ _ hr

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mems t Cell.x) fullShare ((dats m 0 c).before 0 t d))
    ∗ (∃ d, owns (c : Thread nD τ) (mems t Cell.nw) fullShare ((dats m 0 c).before 1 t d))
    ∗ (∃ d, owns (c : Thread nD τ) (mems t Cell.w) fullShare ((dats m 0 c).before 2 t d))
    ∗ (∃ d, owns (c : Thread nD τ) (mems t Cell.o) fullShare ((dats m 0 c).before 3 t d))
    ∗ (∃ d, owns (c : Thread nD τ) (mems t Cell.u) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (mems t Cell.x) fullShare ((dats m 0 c).after 0 t)
    ∗ owns (c : Thread nD τ) (mems t Cell.nw) fullShare ((dats m 0 c).after 1 t)
    ∗ owns (c : Thread nD τ) (mems t Cell.w) fullShare ((dats m 0 c).after 2 t)
    ∗ owns (c : Thread nD τ) (mems t Cell.o) fullShare ((dats m 0 c).after 3 t)
    ∗ owns (c : Thread nD τ) (mems t Cell.u) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl, after_0, after_1, after_2, after_3, after_4,
    show (dats m 0 c).Φ t.succ = (dats m 0 c).Φ t.castSucc from rfl]
  iintro ⟨HS, Ho, ⟨%d0, H0⟩, ⟨%d1, H1⟩, ⟨%d2, H2⟩, ⟨%d3, H3⟩, ⟨%d4, H4⟩⟩
  have hp := sound_point m c t ((dats m 0 c).before 3 t d3) ((dats m 0 c).before 4 t d4) fun h => before_4 m c t h d4
  rw [own_split] at hp
  iapply (wp_wand_r _ _ _)
  isplitl [H0 H1 H2 H3 H4]
  · iapply hp
    isplitl [H0]; · iexact H0
    isplitl [H1]; · iexact H1
    isplitl [H2]; · iexact H2
    isplitl [H3]; · iexact H3
    iexact H4
  iintro %a ⟨%σ', %e, HO⟩
  subst e
  ihave HO := (Entails.of_eq (own_split c t _)) $$ HO
  icases HO with ⟨H0, H1, H2, H3, H4⟩
  isplitl [HS]; · iexact HS
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- What the launch asks of every point. -/
theorem body_obligation (c : Dev nD) : BodyObligation (dats (F := F) m 0 c) (defs₀ (F := F)) Variants.none () Set.univ := fun t => by
  rw [bigSep_W0, bigSep_W0, defs₀_row]
  rcases Nat.mod_two_eq_zero_or_one t.val with h | h
  · rw [idle_3 t, idle_4 t h]
    exact triple_restated (sound_body m c t) rfl .rfl fun _ => .rfl
  · rw [idle_3 t, idle_4_rest t h, (flush0_4 t).mpr h]
    exact triple_restated (sound_body m c t) rfl .rfl fun _ => .rfl

set_option backward.isDefEq.respectTransparency.types false in
/-- The run: every array of the pipeline ends at what its data says, every other buffer as found, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := fun _ => .rfl) (hout := fun _ => .rfl)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Kernel2Ideal.Proj

end
-- ==== Proof.Proj.Value.lean ====
/-
  The projection kernel's arrays in numbers: a row over the root of its mean square plus epsilon, times the norm's
  weights; and the products of those rows with the columns of the weights. The blocks written at the grid's points
  cover both arrays.
-/
module

public import proofs.«01_k».proof.Proof.Proj.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel2Ideal.Proj

open Idealize.ShloMosaic Idealize.ShloMosaic.TcCoe
open Idealize.SL Idealize.SL.Sem
open Idealize.ShloMosaic.Pipeline (Dat Cfg Window)
open Cert.Kernel2Ideal Cert.Kernel2Ideal.Gen
open Cert.Rows

/-! ## Numbers -/

/-- An entry of a normalised row. -/
def unit (x : Fin 2048 → EReal) (w : EReal) (e : Fin 2048) : EReal :=
  x e * Ideal.rsqrt (Ideal.div (∑ k : Fin 2048, x k * x k) (Ideal.ofBits .f32 0x45000000#32) + Ideal.ofBits .f32 0x358637BD#32) * w

/-- The normalised rows of an array. -/
def normed (x : FVec Ideal S16384x2048 .f32) (w : FVec Ideal S2048 .f32) : FVec Ideal S16384x2048 .bf16 := fun i =>
  unit (fun k => x (ix2 ⟨(i 0).val, (i 0).isLt⟩ k)) (w (ix1 ⟨(i 1).val, (i 1).isLt⟩)) ⟨(i 1).val, (i 1).isLt⟩

/-- Their products with the first 2048 columns of the weights. -/
def product (x : FVec Ideal S16384x2048 .f32) (w : FVec Ideal S2048 .f32) (p : FVec Ideal S2048x5120 .f32) : FVec Ideal S16384x2048 .bf16 := fun i =>
  ∑ k : Fin 2048, unit (fun k => x (ix2 ⟨(i 0).val, (i 0).isLt⟩ k)) (w (ix1 k)) k
    * p (ix2 k ⟨(i 1).val, Nat.lt_of_lt_of_le (show (i 1).val < 2048 from (i 1).isLt) (by decide)⟩)

/-! ## The kernel's functions at an index -/

theorem mean_at (x : FVec Ideal S256x2048 .f32) (r : Fin 256) :
    meanOf x (ix2 r 0) = Ideal.div (∑ k : Fin 2048, x (ix2 r k) * x (ix2 r k)) (Ideal.ofBits .f32 0x45000000#32) := by
  pointwise [meanOf]

theorem scale_at (x : FVec Ideal S256x2048 .f32) (a : FVec Ideal S256x1 .f32) (nw : FVec Ideal S1x2048 .f32) (r : Fin 256) (e : Fin 2048) :
    scaleOf x a nw (ix2 r e) = x (ix2 r e) * Ideal.rsqrt (a (ix2 r 0) + Ideal.ofBits .f32 0x358637BD#32) * nw (ix2 0 e) := by
  pointwise [scaleOf]

theorem norm_at (x : FVec Ideal S256x2048 .f32) (nw : FVec Ideal S1x2048 .f32) (r : Fin 256) (e : Fin 2048) :
    normOf x nw (ix2 r e) = unit (fun k => x (ix2 r k)) (nw (ix2 0 e)) e := by
  unfold normOf unit
  rw [scale_at, mean_at]

theorem proj_at (u : FVec Ideal S256x2048 .bf16) (w : FVec Ideal S2048x1024 .bf16) (r : Fin 256) (e : Fin 1024) :
    projOf u w (ix2 r e) = ∑ k : Fin 2048, u (ix2 r k) * w (ix2 k e) := by
  pointwise [projOf]

theorem all_at (u : FVec Ideal S1024x2048 .bf16) (w : FVec Ideal S2048x1024 .bf16) (r : Fin 1024) (e : Fin 1024) :
    projAll u w (ix2 r e) = ∑ k : Fin 2048, u (ix2 r k) * w (ix2 k e) := by
  pointwise [projAll]

/-- A block of rows of the block, at its row. -/
theorem rows_at (x : FVec Ideal S1024x2048 .f32) (r : Fin 1024) (k : Fin 2048) :
    rows x (r.val / 256) (ix2 ⟨r.val % 256, Nat.mod_lt _ (by decide)⟩ k) = x (ix2 r k) := by
  refine congrArg x (funext fun a => Fin.ext ?_)
  match a with
  | ⟨0, _⟩ => show (256 * (r.val / 256) + r.val % 256) % 1024 = r.val; omega
  | ⟨1, _⟩ => rfl

theorem u_at (x : FVec Ideal S1024x2048 .f32) (nw : FVec Ideal S1x2048 .f32) (r : Fin 1024) (e : Fin 2048) :
    uBlock x nw (ix2 r e) = unit (fun k => x (ix2 r k)) (nw (ix2 0 e)) e := by
  refine (norm_at (rows x (r.val / 256)) nw ⟨r.val % 256, Nat.mod_lt _ (by decide)⟩ e).trans ?_
  simp only [rows_at]

theorem first_at (x : FVec Ideal S1024x2048 .f32) (nw : FVec Ideal S1x2048 .f32) (w : FVec Ideal S2048x1024 .bf16) (r : Fin 1024) (e : Fin 1024) :
    oFirst x nw w (ix2 r e) = ∑ k : Fin 2048, unit (fun k => x (ix2 r k)) (nw (ix2 0 k)) k * w (ix2 k e) := by
  refine (proj_at (normOf (rows x (r.val / 256)) nw) w ⟨r.val % 256, Nat.mod_lt _ (by decide)⟩ e).trans ?_
  refine Finset.sum_congr rfl fun k _ => ?_
  rw [norm_at]
  simp only [rows_at]

theorem rest_at (x : FVec Ideal S1024x2048 .f32) (nw : FVec Ideal S1x2048 .f32) (w : FVec Ideal S2048x1024 .bf16) (r : Fin 1024) (e : Fin 1024) :
    oRest x nw w (ix2 r e) = ∑ k : Fin 2048, unit (fun k => x (ix2 r k)) (nw (ix2 0 k)) k * w (ix2 k e) := by
  unfold oRest
  rw [all_at]
  exact Finset.sum_congr rfl fun k _ => by rw [u_at]

/-! ## Where the blocks lie -/

variable (m : (ℓ : Loc nD τ sig) → Buf (Elt Ideal) ℓ) (ρ : Dev nD → PrngReg)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![0, 0] := (by decide +kernel : ∀ t : Fin grid0.N, win0_1.index t = ![0, 0])
theorem idx2 : ∀ t : Fin cfg0.N, win0_2.index t = ![0, t.val % 2] := (by decide +kernel : ∀ t : Fin grid0.N, win0_2.index t = ![0, t.val % 2])
theorem idx3 : ∀ t : Fin cfg0.N, win0_3.index t = ![t.val / 2, t.val % 2] := (by decide +kernel : ∀ t : Fin grid0.N, win0_3.index t = ![t.val / 2, t.val % 2])
theorem idx4 : ∀ t : Fin cfg0.N, win0_4.index t = ![t.val / 2, 0] := (by decide +kernel : ∀ t : Fin grid0.N, win0_4.index t = ![t.val / 2, 0])

theorem points (t : Fin cfg0.N) : t.val < 32 := t.isLt

/-! ## What they hold -/

theorem x_at (c : Dev nD) (t : Fin cfg0.N) (r : Fin 1024) (e : Fin 2048) :
    (iblk m c 0 t : FVec Ideal S1024x2048 .f32) (ix2 r e)
      = (m ((c.tc : Thread nD τ).loc main_arg0) : FVec Ideal S16384x2048 .f32) (ix2 ⟨t.val / 2 * 1024 + r.val, by have := points t; omega⟩ e) := by
  blk_ext! [iblk, V, idx0 t]

theorem nw_at (c : Dev nD) (t : Fin cfg0.N) (e : Fin 2048) :
    (iblk m c 1 t : FVec Ideal S1x2048 .f32) (ix2 0 e) = (m ((c.tc : Thread nD τ).loc main_arg1) : FVec Ideal S2048 .f32) (ix1 e) := by
  blk_ext! [iblk, V, idx1 t]

theorem w_at (c : Dev nD) (t : Fin cfg0.N) (k : Fin 2048) (e : Fin 1024) :
    (iblk m c 2 t : FVec Ideal S2048x1024 .bf16) (ix2 k e)
      = (m ((c.tc : Thread nD τ).loc main_arg2) : FVec Ideal S2048x5120 .f32) (ix2 k ⟨t.val % 2 * 1024 + e.val, by omega⟩) := by
  blk_ext! [iblk, V, idx2 t]

/-! ## The results -/

variable {m}

/-- The arguments. -/
abbrev xArg (m : (ℓ : Loc nD τ sig) → Buf (Elt Ideal) ℓ) (c : Dev nD) : FVec Ideal S16384x2048 .f32 := m ((c.tc : Thread nD τ).loc main_arg0)
abbrev nArg (m : (ℓ : Loc nD τ sig) → Buf (Elt Ideal) ℓ) (c : Dev nD) : FVec Ideal S2048 .f32 := m ((c.tc : Thread nD τ).loc main_arg1)
abbrev wArg (m : (ℓ : Loc nD τ sig) → Buf (Elt Ideal) ℓ) (c : Dev nD) : FVec Ideal S2048x5120 .f32 := m ((c.tc : Thread nD τ).loc main_arg2)

theorem uAt_at (c : Dev nD) (t : Fin cfg0.N) (r : Fin 1024) (e : Fin 2048) :
    uAt m c t (ix2 r e) = normed (xArg m c) (nArg m c) (ix2 ⟨t.val / 2 * 1024 + r.val, by have := points t; omega⟩ e) := by
  unfold uAt
  rw [u_at]
  simp only [x_at, nw_at]
  rfl

theorem oAt_at (c : Dev nD) (t : Fin cfg0.N) (r : Fin 1024) (e : Fin 1024) :
    oAt m c t (ix2 r e)
      = product (xArg m c) (nArg m c) (wArg m c) (ix2 ⟨t.val / 2 * 1024 + r.val, by have := points t; omega⟩ ⟨t.val % 2 * 1024 + e.val, by omega⟩) := by
  unfold oAt
  split
  · rw [first_at]
    simp only [x_at, nw_at, w_at]
    rfl
  · rw [rest_at]
    simp only [x_at, nw_at, w_at]
    rfl

/-- An index by its coordinates. -/
theorem eq_ix2 {a b : ℕ} (y : (⟨2, ![a, b]⟩ : Shape).Idx) : y = ix2 (⟨(y 0).val, (y 0).isLt⟩ : Fin a) (⟨(y 1).val, (y 1).isLt⟩ : Fin b) := by
  funext k
  match k with
  | ⟨0, _⟩ => rfl
  | ⟨1, _⟩ => rfl

theorem final_u (c : Dev nD) : (dats m 0 c).arrAt 4 cfg0.N = normed (xArg m c) (nArg m c) := by
  refine (dats m 0 c).arrAt_eq_of_covers 4 _ (by decide +kernel) fun t hf y => ?_
  blk_simp
  rw [after_4]
  have h0 : (y 0).val < 1024 := (y 0).isLt
  have h1 : (y 1).val < 2048 := (y 1).isLt
  have e0 : (((win0_4.blk t).view.emb y 0 : Fin _) : ℕ) = t.val / 2 * 1024 + (y 0).val := by
    blk_simp [idx4 t]
  have e1 : (((win0_4.blk t).view.emb y 1 : Fin _) : ℕ) = (y 1).val := by
    blk_simp [idx4 t]
  refine ((congrArg (uAt m c t) (eq_ix2 (a := 1024) (b := 2048) y)).trans (uAt_at c t _ _)).trans ?_
  refine congrArg (normed (xArg m c) (nArg m c)) (funext fun k => Fin.ext ?_)
  match k with
  | ⟨0, _⟩ => exact e0.symm
  | ⟨1, _⟩ => exact e1.symm

theorem final_o (c : Dev nD) : (dats m 0 c).arrAt 3 cfg0.N = product (xArg m c) (nArg m c) (wArg m c) := by
  refine (dats m 0 c).arrAt_eq_of_covers 3 _ (by decide +kernel) fun t hf y => ?_
  blk_simp
  rw [after_3]
  have h0 : (y 0).val < 1024 := (y 0).isLt
  have h1 : (y 1).val < 1024 := (y 1).isLt
  have e0 : (((win0_3.blk t).view.emb y 0 : Fin _) : ℕ) = t.val / 2 * 1024 + (y 0).val := by
    blk_simp [idx3 t]
  have e1 : (((win0_3.blk t).view.emb y 1 : Fin _) : ℕ) = t.val % 2 * 1024 + (y 1).val := by
    blk_simp [idx3 t]
  refine ((congrArg (oAt m c t) (eq_ix2 (a := 1024) (b := 1024) y)).trans (oAt_at c t _ _)).trans ?_
  refine congrArg (product (xArg m c) (nArg m c) (wArg m c)) (funext fun k => Fin.ext ?_)
  match k with
  | ⟨0, _⟩ => exact e0.symm
  | ⟨1, _⟩ => exact e1.symm

/-- The kernel's run. -/
theorem value_run :
    θ_run defs (onTc (τ := τ) (main (F := Ideal))) ⟨m, fun _ => 0, ρ⟩ (fun r => ∀ c : Dev nD,
      r.2.mem ((c.tc : Thread nD τ).loc main_v2_0) = product (xArg m c) (nArg m c) (wArg m c)
      ∧ r.2.mem ((c.tc : Thread nD τ).loc main_v2_1) = normed (xArg m c) (nArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h' c => ⟨?_, ?_, h'.2.1 c⟩) (θ_run_and (run_all m ρ) (frame m ρ))
  · exact ((h'.1.1 c).1 3).trans (final_o c)
  · exact ((h'.1.1 c).1 4).trans (final_u c)

end Cert.Kernel2Ideal.Proj

end
-- ==== Proof.Proj.Algebraic.lean ====
/-
  The projection's value claim: the kernel and the reference end with the same two arrays. Nothing is asked of the
  arguments.
-/
module

public import proofs.«01_k».proof.Defs
public import proofs.«01_k».proof.Proof.Proj.Value
public import proofs.«01_k».proof.Proof.Gen.Kernel2Ideal
public import proofs.«01_k».proof.Proof.Gen.Reference2Ideal
public import proofs.«01_k».proof.Proof.Gen.Reference2Ideal.Run

@[expose] public section

set_option maxRecDepth 16384

noncomputable section

namespace Cert.Reference2Ideal.Proj

open Idealize.ShloMosaic Idealize.ShloMosaic.TcCoe
open Cert.Reference2Ideal Cert.Reference2Ideal.Gen

/-! ## The reference at an index -/

/-- A row's mean square, -/
def meanOf (x : FVec Ideal S16384x2048 .f32) : FVec Ideal S16384x1 .f32 :=
  Host.divf (broadcastInDim S16384x1 ![0] bcast_S16384_S16384x1_0 (Host.reduceAdd (mulf x x) (constant S_ .f32 0x00000000#32) reducesTo_S16384x2048_S16384_d1 h_S_))
    (broadcastInDim S16384x1 ![] bcast_S_S16384x1 (constant S_ .f32 0x45000000#32))

/-- rows from their mean squares, -/
def scaleOf (x : FVec Ideal S16384x2048 .f32) (a : FVec Ideal S16384x1 .f32) (w : FVec Ideal S2048 .f32) : FVec Ideal S16384x2048 .f32 :=
  mulf (mulf x (broadcastInDim S16384x2048 ![0, 1] bcast_S16384x1_S16384x2048_0_1 (Host.rsqrt (addf a (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 w))

/-- and the products. -/
def projOf (u : FVec Ideal S16384x2048 .f32) (p : FVec Ideal S2048x5120 .f32) : FVec Ideal S16384x2048 .bf16 :=
  truncf .bf16 (Host.dotGeneral dot_S16384x2048_S2048x2048_S16384x2048_1_0_0_1_n_n none u (extractStridedSlice S2048x2048 ![0, 0] p slices_S2048x5120_S2048x2048_0_0)) bitsLt_bf16_f32

theorem mean_at (x : FVec Ideal S16384x2048 .f32) (r : Fin 16384) :
    meanOf x (ix2 r 0) = Ideal.div (∑ k : Fin 2048, x (ix2 r k) * x (ix2 r k)) (Ideal.ofBits .f32 0x45000000#32) := by
  pointwise [meanOf]

theorem scale_at (x : FVec Ideal S16384x2048 .f32) (a : FVec Ideal S16384x1 .f32) (w : FVec Ideal S2048 .f32) (r : Fin 16384) (e : Fin 2048) :
    scaleOf x a w (ix2 r e) = x (ix2 r e) * Ideal.rsqrt (a (ix2 r 0) + Ideal.ofBits .f32 0x358637BD#32) * w (ix1 e) := by
  pointwise [scaleOf]

theorem proj_at (u : FVec Ideal S16384x2048 .f32) (p : FVec Ideal S2048x5120 .f32) (r : Fin 16384) (e : Fin 2048) :
    projOf u p (ix2 r e) = ∑ k : Fin 2048, u (ix2 r k) * p (ix2 k ⟨e.val, by omega⟩) := by
  pointwise [projOf]

theorem norm_at (x : FVec Ideal S16384x2048 .f32) (w : FVec Ideal S2048 .f32) (r : Fin 16384) (e : Fin 2048) :
    scaleOf x (meanOf x) w (ix2 r e) = Cert.Kernel2Ideal.Proj.unit (fun k => x (ix2 r k)) (w (ix1 e)) e := by
  unfold Cert.Kernel2Ideal.Proj.unit
  rw [scale_at, mean_at]

/-- The reference's normalised rows, -/
theorem norm_eq (x : FVec Ideal S16384x2048 .f32) (w : FVec Ideal S2048 .f32) :
    (truncf .bf16 (scaleOf x (meanOf x) w) bitsLt_bf16_f32 : FVec Ideal S16384x2048 .bf16) = Cert.Kernel2Ideal.Proj.normed x w := by
  funext i
  exact (congrArg (scaleOf x (meanOf x) w) (Cert.Kernel2Ideal.Proj.eq_ix2 (a := 16384) (b := 2048) i)).trans (norm_at x w _ _)

/-- and its products. -/
theorem product_eq (x : FVec Ideal S16384x2048 .f32) (w : FVec Ideal S2048 .f32) (p : FVec Ideal S2048x5120 .f32) :
    projOf (scaleOf x (meanOf x) w) p = Cert.Kernel2Ideal.Proj.product x w p := by
  funext i
  refine ((congrArg (projOf (scaleOf x (meanOf x) w) p) (Cert.Kernel2Ideal.Proj.eq_ix2 (a := 16384) (b := 2048) i)).trans (proj_at _ _ _ _)).trans ?_
  simp only [norm_at]
  rfl

end Cert.Reference2Ideal.Proj

namespace Cert.Proj

open Idealize.ShloMosaic Idealize.ShloMosaic.TcCoe Idealize.SL.Sem

theorem algebraic :
    haveI := Cert.Kernel2Ideal.Gen.facts
    haveI := Cert.Reference2Ideal.Gen.facts
    Cert.algebraic_Kernel2Ideal_Reference2Ideal := by
  intro m ρ m' ρ' _ hagree
  refine ⟨_, _, Cert.Kernel2Ideal.Proj.value_run ρ, ?_⟩
  refine (θ_run Cert.Reference2Ideal.defs _ _).mono (fun _ h c => ⟨(h c).1.trans ?_, (h c).2.1.trans ?_, (h c).2.2⟩) (Cert.Reference2Ideal.Value.run (F := Ideal) m' ρ')
  · obtain ⟨e0, e1, e2⟩ := hagree c
    rw [e0, e1, e2]
    exact Cert.Reference2Ideal.Proj.product_eq _ _ _
  · obtain ⟨e0, e1, e2⟩ := hagree c
    rw [e0, e1]
    exact Cert.Reference2Ideal.Proj.norm_eq _ _

end Cert.Proj

end
-- ==== Proof.Mix.Beside.lean ====
/-
  Straight-line programs over a family of memrefs with one more memref beside them, whose contents nobody asks for: it is
  loaded from and stored to through any rectangles. `Runs` speaks of the family's contents alone, for whatever the loads
  from the other memref give; `Runs.sound` says once what it means for the machine.
-/
module

public import proofs.«01_k».proof.Proof.Straight

@[expose] public section

noncomputable section

namespace Cert.Beside

open Idealize.ShloMosaic
open Idealize.SL Idealize.SL.BI Idealize.SL.RA
open scoped Idealize.SL.BI
open Idealize.SL.BI.BIBase Idealize.SL.BI.Laws Idealize.SL.ProofMode Idealize.SL.Sem
open Cert.Straight (Cont Own own_take own_put)

variable {nD : Nat} {τ : Topo} {sig : RefSig} {Val : EltTy → Type} {Λ : Labels} {κ : Proc τ} {sp : CoreSpace}
variable {B : Type} {shp : B → Shape} {el : B → EltTy} {sj : Shape} {ej : EltTy}

/-- From contents `σ` of the family, the program ends in a result and contents satisfying `Q`, whatever the memref `J`
    beside it holds. -/
inductive Runs [DecidableEq B] (M : (b : B) → Memref sig κ.kind sp (shp b) (el b)) (J : Memref sig κ.kind sp sj ej) :
    {α : Type} → Prog (TpuEff nD τ sig Val Λ κ) α → Cont Val shp el → (α → Cont Val shp el → Prop) → Prop
  | ret {α : Type} {a : α} {σ : Cont Val shp el} {Q : α → Cont Val shp el → Prop} : Q a σ → Runs M J (.ret a) σ Q
  | load {α : Type} (b : B) {off size : Fin (shp b).rank → ℕ} {inb : ∀ a, off a + size a ≤ (shp b).size a}
      {hl : (M b).view.LoadsAt (Rect.unit off size inb).toLoadRect} {k : _ → Prog (TpuEff nD τ sig Val Λ κ) α}
      {σ : Cont Val shp el} {Q : α → Cont Val shp el → Prop} :
      Runs M J (k (VecWindow.window (σ b) off size inb)) σ Q → Runs M J (.op (.load (M b) (Rect.unit off size inb).toLoadRect hl) k) σ Q
  | store {α : Type} (b : B) {off size : Fin (shp b).rank → ℕ} {inb : ∀ a, off a + size a ≤ (shp b).size a}
      {w : (Rect.unit off size inb).shape.Idx → Val (el b)} {hx : ((M b).access (Rect.unit off size inb)).Stores Finset.univ}
      {hm : Finset.univ = Finset.univ ∨ ∀ a, (Rect.unit off size inb).stride a = 1}
      {k : PUnit → Prog (TpuEff nD τ sig Val Λ κ) α}
      {σ : Cont Val shp el} {Q : α → Cont Val shp el → Prop} :
      Runs M J (k ⟨⟩) (Function.update σ b (VecWindow.put (σ b) off size w)) Q
        → Runs M J (.op (.store (M b) (Rect.unit off size inb) w Finset.univ hx hm) k) σ Q
  | loadJ {α : Type} {r : LoadRect sj} {hl : J.view.LoadsAt r} {k : (r.shape.Idx → Val ej) → Prog (TpuEff nD τ sig Val Λ κ) α}
      {σ : Cont Val shp el} {Q : α → Cont Val shp el → Prop} :
      (∀ w, Runs M J (k w) σ Q) → Runs M J (.op (.load J r hl) k) σ Q
  | storeJ {α : Type} {r : Rect sj} {w : r.shape.Idx → Val ej} {hx : (J.access r).Stores Finset.univ}
      {hm : Finset.univ = Finset.univ ∨ ∀ a, r.stride a = 1} {k : PUnit → Prog (TpuEff nD τ sig Val Λ κ) α}
      {σ : Cont Val shp el} {Q : α → Cont Val shp el → Prop} :
      Runs M J (k ⟨⟩) σ Q → Runs M J (.op (.store J r w Finset.univ hx hm) k) σ Q

section Sound

variable {Ix : Type} [DecidableEq Ix] {Name : Type} [DecidableEq Name] {U : Type} [URA U] {Lvl : Type} [Preorder Lvl]

local notation "𝕄" => MT nD τ sig Ix Val Name U Lvl

variable [Fintype B] [DecidableEq B]

/-- Thread `c` owns the memref beside, at some contents. -/
def Some (c : Thread nD τ) (J : Memref sig c.2.kind sp sj ej) : sProp 𝕄 :=
  iprop(∃ f, (J.view.loc c ↦[J.view.set]{fullShare} f))

variable (defs : Defs nD τ sig Val Λ) (𝒱 : Variants) (c : Thread nD τ) (bd : Option 𝒱.V) (E : Set Name)

/-- What a program that `Runs` does to the machine. -/
theorem Runs.sound {Γ : PendingWaitsCtx sig Ix} {M : (b : B) → Memref sig c.2.kind sp (shp b) (el b)} {J : Memref sig c.2.kind sp sj ej} {α : Type}
    {p : Prog (TpuEff nD τ sig Val Λ c.2) α} {σ : Cont Val shp el} {Q : α → Cont Val shp el → Prop} (h : Runs M J p σ Q) :
    (iprop(Own c M σ ∗ Some c J) : sProp 𝕄) ⊢ wp frame (wpE' defs 𝒱 c bd Γ) E p fun a => iprop(∃ σ', ⌜Q a σ'⌝ ∗ Own c M σ' ∗ Some c J) := by
  induction h with
  | ret h =>
    refine .trans ?_ (le_wp_ret _ _ _ _ _)
    iintro H
    iexists _
    isplitr; · ipureintro; exact h
    iexact H
  | load b _ ih =>
    rename_i off size inb hl k σ Q hk
    rw [own_take c M σ b]
    unfold owns
    iintro ⟨⟨⟨%f, %hf, Hf⟩, HR⟩, HJ⟩
    iapply (wp_load 𝒱 c bd E (k := k) (hl := hl) ((M b).view.setOn_subset_set _)) $$ Hf
    iintro Hf
    have e : (M b).view.readAt Val (Rect.unit off size inb).toLoadRect f = VecWindow.window (σ b) off size inb := by
      rw [View.readAt_unit _ f inb rfl inb, hf]
    rw [e]
    iapply ih
    isplitr [HJ]
    · rw [own_take c M σ b]
      unfold owns
      isplitl [Hf]
      · iexists f
        isplitr; · ipureintro; exact hf
        iexact Hf
      iexact HR
    iexact HJ
  | store b _ ih =>
    rename_i off size inb w hx hm k σ Q hk
    rw [own_take c M σ b]
    unfold owns
    iintro ⟨⟨⟨%f, %hf, Hf⟩, HR⟩, HJ⟩
    iapply (wp_store 𝒱 c bd E (m := M b) (w := w) (k := k) (hx := hx) (hm := hm) (S := (M b).view.set) (f := f) (by
      rw [View.setOn_univ, View.set_slice]; exact (M b).view.setOn_subset_set _)) $$ Hf
    iintro Hf
    iapply ih
    isplitr [HJ]
    · rw [own_put c M σ b]
      unfold owns
      isplitl [Hf]
      · iexists (((M b).access (Rect.unit off size inb)).write Val f w Finset.univ)
        isplitr
        · ipureintro
          exact (View.read_writes_cons_put (M b).view f inb w [] rfl).trans (by rw [← hf]; rfl)
        iexact Hf
      iexact HR
    iexact HJ
  | loadJ _ ih =>
    rename_i r hl k σ Q hk
    unfold Some
    iintro ⟨HO, ⟨%f, Hf⟩⟩
    iapply (wp_load 𝒱 c bd E (k := k) (hl := hl) (J.view.setOn_subset_set _)) $$ Hf
    iintro Hf
    iapply ih
    isplitl [HO]; · iexact HO
    unfold Some
    iexists f
    iexact Hf
  | storeJ _ ih =>
    rename_i r w hx hm k σ Q hk
    unfold Some
    iintro ⟨HO, ⟨%f, Hf⟩⟩
    iapply (wp_store 𝒱 c bd E (m := J) (w := w) (k := k) (hx := hx) (hm := hm) (S := J.view.set) (f := f) (by
      rw [View.setOn_univ, View.set_slice]; exact J.view.setOn_subset_set _)) $$ Hf
    iintro Hf
    iapply ih
    isplitl [HO]; · iexact HO
    unfold Some
    iexists ((J.access r).write Val f w Finset.univ)
    iexact Hf

end Sound

end Cert.Beside

end
-- ==== Proof.Mix.Halves.lean ====
/-
  Two halves of 256 rows. An array of 512 rows stored half by half is read at an index from the half the row lies in.
-/
module

public import Idealize.ShloMosaic.Lib.VecWindow
public import Idealize.ShloMosaic.Lib.Pointwise

@[expose] public section

noncomputable section

namespace Cert.Halves

open Idealize.ShloMosaic
open VecWindow (window put)

variable {α : Type} {n : ℕ}

/-- Rows 256·k to 256·k + 255. -/
def half (x : (⟨2, ![512, n]⟩ : Shape).Idx → α) (k : ℕ) : (⟨2, ![256, n]⟩ : Shape).Idx → α := fun z =>
  x (ix2 ⟨(256 * k + (z 0).val) % 512, Nat.mod_lt _ (by decide)⟩ ⟨(z 1).val, (z 1).isLt⟩)

/-- The array whose half `k` is `g k`. -/
def join (g : ℕ → (⟨2, ![256, n]⟩ : Shape).Idx → α) : (⟨2, ![512, n]⟩ : Shape).Idx → α := fun y =>
  g ((y 0).val / 256) (ix2 ⟨(y 0).val % 256, Nat.mod_lt _ (by decide)⟩ ⟨(y 1).val, (y 1).isLt⟩)

/-- A load of a half. -/
theorem window_half (x : (⟨2, ![512, n]⟩ : Shape).Idx → α) (r k : ℕ) (hr : r = 256 * k) (hk : k < 2)
    (inb : ∀ a, (![r, 0] : Fin 2 → ℕ) a + (![256, n] : Fin 2 → ℕ) a ≤ (⟨2, ![512, n]⟩ : Shape).size a) :
    window x ![r, 0] ![256, n] inb = half x k := by
  funext z
  refine congrArg x (funext fun a => Fin.ext ?_)
  have h0 : (z 0).val < 256 := (z 0).isLt
  match a with
  | ⟨0, _⟩ => show r + 1 * (z 0).val = (256 * k + (z 0).val) % 512; omega
  | ⟨1, _⟩ => show 0 + 1 * (z 1).val = (z 1).val; omega

/-- A load of some rows, read at an index. -/
theorem window_at {a b h : ℕ} (x : (⟨2, ![a, b]⟩ : Shape).Idx → α) (r : ℕ)
    (inb : ∀ c, (![r, 0] : Fin 2 → ℕ) c + (![h, b] : Fin 2 → ℕ) c ≤ (⟨2, ![a, b]⟩ : Shape).size c) (k : Fin h) (e : Fin b) (hk : r + k.val < a) :
    (window x ![r, 0] ![h, b] inb : (⟨2, ![h, b]⟩ : Shape).Idx → α) (ix2 k e) = x (ix2 ⟨r + k.val, hk⟩ e) := by
  refine congrArg x (funext fun c => Fin.ext ?_)
  match c with
  | ⟨0, _⟩ => show r + 1 * k.val = r + k.val; omega
  | ⟨1, _⟩ => show 0 + 1 * e.val = e.val; omega

/-- A store of a half, read at an index. -/
theorem put_at (x : (⟨2, ![512, n]⟩ : Shape).Idx → α) (r k : ℕ) (hr : r = 256 * k) (w : (⟨2, ![256, n]⟩ : Shape).Idx → α) (y : (⟨2, ![512, n]⟩ : Shape).Idx) :
    put x ![r, 0] ![256, n] w y
      = if (y 0).val / 256 = k then w (ix2 ⟨(y 0).val % 256, Nat.mod_lt _ (by decide)⟩ ⟨(y 1).val, (y 1).isLt⟩) else x y := by
  have h1 : (y 1).val < n := (y 1).isLt
  unfold put
  by_cases h : (y 0).val / 256 = k
  · rw [if_pos h, dif_pos (fun c => by
      match c with
      | ⟨0, _⟩ => exact ⟨by show r ≤ (y 0).val; omega, by show (y 0).val < r + 256; omega⟩
      | ⟨1, _⟩ => exact ⟨Nat.zero_le _, by show (y 1).val < 0 + n; omega⟩)]
    refine congrArg w (funext fun c => Fin.ext ?_)
    match c with
    | ⟨0, _⟩ => show (y 0).val - r = (y 0).val % 256; omega
    | ⟨1, _⟩ => rfl
  · rw [if_neg h, dif_neg fun hc => h ?_]
    have h0 : r ≤ (y 0).val ∧ (y 0).val < r + 256 := hc 0
    omega

/-- Two stores of the two halves. -/
theorem put_two (x : (⟨2, ![512, n]⟩ : Shape).Idx → α) (g : ℕ → (⟨2, ![256, n]⟩ : Shape).Idx → α) :
    put (put x ![0, 0] ![256, n] (g 0)) ![256, 0] ![256, n] (g 1) = join g := by
  funext y
  have h0 : (y 0).val < 512 := (y 0).isLt
  rw [put_at _ 256 1 rfl, put_at _ 0 0 rfl]
  unfold join
  split
  · rename_i h; rw [h]
  split
  · rename_i h; rw [h]
  omega

end Cert.Halves

end
-- ==== Proof.Mix.Body.lean ====
/-
  The output projection's text at a point of the grid: each half of the point's rows is its input plus the products of
  the convolution's and the attention's rows with the weights' upper and lower halves. What it stores of the logits and
  of the packed rows is left open here.
-/
module

public import proofs.«01_k».proof.Proof.Mix.Beside
public import proofs.«01_k».proof.Proof.Mix.Halves
public import proofs.«01_k».proof.Proof.Gen.Kernel3Ideal

@[expose] public section

set_option maxRecDepth 16384

noncomputable section

namespace Cert.Kernel3Ideal.Mix

open Idealize.ShloMosaic Idealize.ShloMosaic.TcCoe
open Idealize.SL Idealize.SL.Sem
open Cert.Kernel3Ideal Cert.Kernel3Ideal.Facts Cert.Kernel3Ideal.Facts₀
open Cert.Straight (Cont)
open Cert.Beside Cert.Halves
open VecWindow (window put)

variable {F : FTy → Type} [FloatOps F]

/-- The kernel's memrefs but the packed rows': its rows, the convolution's, the attention's, the weights, the norm's
    weights, the router's and their shifts, the sum, the logits. -/
inductive Cell where
  | x | yc | ya | wo | fw | wr | br | h | lg
  deriving DecidableEq

instance : Fintype Cell := ⟨⟨([Cell.x, Cell.yc, Cell.ya, Cell.wo, Cell.fw, Cell.wr, Cell.br, Cell.h, Cell.lg] : List Cell), by decide⟩,
  fun b => by cases b <;> decide⟩

@[reducible] def shp : Cell → Shape
  | .x | .h => S512x2048
  | .yc | .ya => S512x1024
  | .wo => S2048x2048
  | .fw => S1x2048
  | .wr => S2048x256
  | .br => S1x128
  | .lg => S512x128

@[reducible] def el : Cell → EltTy
  | .x | .h | .fw | .br | .lg => .f32
  | .yc | .ya | .wo | .wr => .bf16

abbrev Mems : Type := (b : Cell) → Memref sig .tc .vmem (shp b) (el b)

/-- The contents of the kernel's memrefs. -/
abbrev St (F : FTy → Type) : Type := Cont (Elt F) shp el

/-- The kernel's programs. -/
abbrev Pr (F : FTy → Type) (α : Type) : Type 1 := Prog (TpuEff nD τ sig (Elt F) Λ₀ .tc) α

/-! ## Values -/

/-- Rows plus the products of two blocks of rows with two blocks of weights. -/
def addTwo (x : FVec F S256x2048 .f32) (yc ya : FVec F S256x1024 .bf16) (wc wa : FVec F S1024x2048 .bf16) : FVec F S256x2048 .f32 :=
  addf x (addf
    (matmul dot_S256x1024_S1024x2048_S256x2048_1_0_0_1_n_n none yc (shapeCast S1024x2048 wc shapeCasts_S1024x2048_S1024x2048) (constant S256x2048 .f32 0x00000000#32))
    (matmul dot_S256x1024_S1024x2048_S256x2048_1_0_0_1_n_n none ya (shapeCast S1024x2048 wa shapeCasts_S1024x2048_S1024x2048) (constant S256x2048 .f32 0x00000000#32)))

/-- The weights' upper half, -/
def upper (w : FVec F S2048x2048 .bf16) : FVec F S1024x2048 .bf16 := window w ![0, 0] S1024x2048.size inb_S2048x2048_S1024x2048_0_0

/-- and their lower half. -/
def lower (w : FVec F S2048x2048 .bf16) : FVec F S1024x2048 .bf16 := window w ![1024, 0] S1024x2048.size inb_S2048x2048_S1024x2048_1024_0

/-- A point's sum. -/
def hBlock (x : FVec F S512x2048 .f32) (yc ya : FVec F S512x1024 .bf16) (w : FVec F S2048x2048 .bf16) : FVec F S512x2048 .f32 :=
  join fun k => addTwo (half x k) (half yc k) (half ya k) (upper w) (lower w)

/-! ## The text -/

/-- The kernel on a family of memrefs and the packed rows'. -/
abbrev kernelOn (M : Mems) (hM : ∀ b, (M b).IsWhole) (U : Memref sig .tc .vmem S8192x128 .bf16) (hU : U.IsWhole) (i : grid0.Coords) : Pr F PUnit :=
  cc0_outproj i (M .x) (hM .x) (M .yc) (hM .yc) (M .ya) (hM .ya) (M .wo) (hM .wo) (M .fw) (hM .fw) (M .wr) (hM .wr) (M .br) (hM .br) (M .h) (hM .h)
    (M .lg) (hM .lg) U hU

/-- The packed rows' memref as the kernel reads it. -/
abbrev pairs (U : Memref sig .tc .vmem S8192x128 .bf16) (hU : U.IsWhole) : Memref sig .tc .vmem S4096x2x128 .bf16 :=
  U.reshape S4096x2x128 reshapes_S8192x128_S4096x2x128.1 reshapes_S8192x128_S4096x2x128.2 hU.contiguous

/-- The contents with a sum and logits put in. -/
def leave (σ : St F) (h : FVec F S512x2048 .f32) (lg : FVec F S512x128 .f32) : St F
  | .x => σ .x
  | .yc => σ .yc
  | .ya => σ .ya
  | .wo => σ .wo
  | .fw => σ .fw
  | .wr => σ .wr
  | .br => σ .br
  | .h => h
  | .lg => lg

theorem eq_leave (σ σ' : St F) (h : FVec F S512x2048 .f32) (hx : σ' .x = σ .x) (hc : σ' .yc = σ .yc) (ha : σ' .ya = σ .ya) (hw : σ' .wo = σ .wo)
    (hf : σ' .fw = σ .fw) (hr : σ' .wr = σ .wr) (hb : σ' .br = σ .br) (hh : σ' .h = h) : ∃ lg, σ' = leave σ h lg := by
  refine ⟨σ' .lg, ?_⟩
  funext b
  cases b with
  | x => exact hx
  | yc => exact hc
  | ya => exact ha
  | wo => exact hw
  | fw => exact hf
  | wr => exact hr
  | br => exact hb
  | h => exact hh
  | lg => rfl

variable (M : Mems) (hM : ∀ b, (M b).IsWhole) (U : Memref sig .tc .vmem S8192x128 .bf16) (hU : U.IsWhole) (i : grid0.Coords) (σ : St F)

set_option maxHeartbeats 8000000 in
/-- What the kernel leaves at a point. -/
theorem runs : Runs M (pairs U hU) (kernelOn M hM U hU i : Pr F PUnit) σ fun _ σ' =>
    ∃ lg, σ' = leave σ (hBlock (σ .x) (σ .yc) (σ .ya) (σ .wo)) lg := by
  unfold kernelOn cc0_outproj
  unfold k0_part1 k0_part2 k0_part3 k0_part4
  refine Runs.load Cell.yc ?_
  refine Runs.load Cell.wo ?_
  refine Runs.load Cell.ya ?_
  refine Runs.load Cell.wo ?_
  refine Runs.load Cell.yc ?_
  refine Runs.load Cell.wo ?_
  refine Runs.load Cell.ya ?_
  refine Runs.load Cell.wo ?_
  refine Runs.load Cell.x ?_
  refine Runs.load Cell.h ?_
  refine Runs.store Cell.h ?_
  refine Runs.load Cell.fw ?_
  refine Runs.load Cell.wr ?_
  refine Runs.load Cell.wr ?_
  refine Runs.load Cell.br ?_
  refine Runs.load Cell.lg ?_
  refine Runs.store Cell.lg ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.load Cell.x ?_
  refine Runs.load Cell.h ?_
  refine Runs.store Cell.h ?_
  refine Runs.load Cell.fw ?_
  refine Runs.load Cell.wr ?_
  refine Runs.load Cell.wr ?_
  refine Runs.load Cell.br ?_
  refine Runs.load Cell.lg ?_
  refine Runs.store Cell.lg ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.loadJ fun _ => ?_
  refine Runs.storeJ ?_
  refine Runs.ret ?_
  have x0 : window (σ .x) ![0, 0] S256x2048.size inb_S512x2048_S256x2048_0_0 = half (σ .x) 0 := window_half (σ .x) 0 0 rfl (by decide) _
  have x1 : window (σ .x) ![256, 0] S256x2048.size inb_S512x2048_S256x2048_256_0 = half (σ .x) 1 := window_half (σ .x) 256 1 rfl (by decide) _
  have c0 : window (σ .yc) ![0, 0] S256x1024.size inb_S512x1024_S256x1024_0_0 = half (σ .yc) 0 := window_half (σ .yc) 0 0 rfl (by decide) _
  have c1 : window (σ .yc) ![256, 0] S256x1024.size inb_S512x1024_S256x1024_256_0 = half (σ .yc) 1 := window_half (σ .yc) 256 1 rfl (by decide) _
  have a0 : window (σ .ya) ![0, 0] S256x1024.size inb_S512x1024_S256x1024_0_0 = half (σ .ya) 0 := window_half (σ .ya) 0 0 rfl (by decide) _
  have a1 : window (σ .ya) ![256, 0] S256x1024.size inb_S512x1024_S256x1024_256_0 = half (σ .ya) 1 := window_half (σ .ya) 256 1 rfl (by decide) _
  refine eq_leave σ _ _ rfl rfl rfl rfl rfl rfl rfl ?_
  refine Eq.trans ?_ (put_two (σ .h) fun k => addTwo (half (σ .x) k) (half (σ .yc) k) (half (σ .ya) k) (upper (σ .wo)) (lower (σ .wo)))
  show put (put (σ .h) ![0, 0] S256x2048.size (addTwo (window (σ .x) ![0, 0] S256x2048.size inb_S512x2048_S256x2048_0_0) (window (σ .yc) ![0, 0] S256x1024.size inb_S512x1024_S256x1024_0_0) (window (σ .ya) ![0, 0] S256x1024.size inb_S512x1024_S256x1024_0_0) (upper (σ .wo)) (lower (σ .wo))))
    ![256, 0] S256x2048.size (addTwo (window (σ .x) ![256, 0] S256x2048.size inb_S512x2048_S256x2048_256_0) (window (σ .yc) ![256, 0] S256x1024.size inb_S512x1024_S256x1024_256_0) (window (σ .ya) ![256, 0] S256x1024.size inb_S512x1024_S256x1024_256_0) (upper (σ .wo)) (lower (σ .wo))) = _
  rw [x0, x1, c0, c1, a0, a1]

end Cert.Kernel3Ideal.Mix

end
-- ==== Proof.Mix.Run.lean ====
/-
  The output projection at a point of the grid and over the whole of it: what its blocks hold there, what it leaves, and
  that the run ends with the sum's array made of those blocks and the arguments as they were. The logits' window and the
  packed rows' are forgotten: nothing is said of what they end with.
-/
module

public import proofs.«01_k».proof.Proof.Mix.Body
public import proofs.«01_k».proof.Proof.Gen.Kernel3Ideal.Frame
public import Idealize.ShloMosaic.Lib.Pipeline.BigSepL
public import Idealize.ShloMosaic.Lib.Claim

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel3Ideal Cert.Kernel3Ideal.Gen
open Cert.Straight (Own)
open Cert.Beside

/-! ## The memrefs at a point -/

/-- The memrefs the kernel is called on at point `t`: each window's current buffer, -/
def mems (t : Fin cfg0.N) : Mems
  | .x => win0_0.stage (cfg0.slots t 0)
  | .yc => win0_1.stage (cfg0.slots t 1)
  | .ya => win0_2.stage (cfg0.slots t 2)
  | .wo => win0_3.stage (cfg0.slots t 3)
  | .fw => win0_4.stage (cfg0.slots t 4)
  | .wr => win0_5.stage (cfg0.slots t 5)
  | .br => win0_6.stage (cfg0.slots t 6)
  | .h => win0_7.stage (cfg0.slots t 7)
  | .lg => win0_8.stage (cfg0.slots t 8)

theorem mems_whole (t : Fin cfg0.N) : ∀ b, (mems t b).IsWhole
  | .x => hstage0_0 ((cfg0.slots t 0).cast nbuf0_0)
  | .yc => hstage0_1 ((cfg0.slots t 1).cast nbuf0_1)
  | .ya => hstage0_2 ((cfg0.slots t 2).cast nbuf0_2)
  | .wo => hstage0_3 ((cfg0.slots t 3).cast nbuf0_3)
  | .fw => hstage0_4 ((cfg0.slots t 4).cast nbuf0_4)
  | .wr => hstage0_5 ((cfg0.slots t 5).cast nbuf0_5)
  | .br => hstage0_6 ((cfg0.slots t 6).cast nbuf0_6)
  | .h => hstage0_7 ((cfg0.slots t 7).cast nbuf0_7)
  | .lg => hstage0_8 ((cfg0.slots t 8).cast nbuf0_8)

/-- and the packed rows'. -/
def packed (t : Fin cfg0.N) : Memref sig .tc .vmem S8192x128 .bf16 := win0_9.stage (cfg0.slots t 9)

theorem packed_whole (t : Fin cfg0.N) : (packed t).IsWhole := hstage0_9 ((cfg0.slots t 9).cast nbuf0_9)

variable {F : FTy → Type} [FloatOps F]

local notation "𝕄" => MT nD τ sig Unit (Elt F) ℕ (UR sig nD τ) ℕ

/-- The body the pipeline calls at point `t` is the kernel on these memrefs. -/
theorem bodyAt0_eq (t : Fin cfg0.N) : (bodyAt0 t : Pr F PUnit) = kernelOn (mems t) (mems_whole t) (packed t) (packed_whole t) (grid0.coords t) := rfl

/-- The kernel's memrefs one by one. -/
theorem own_split (c : Dev nD) (t : Fin cfg0.N) (σ : St F) :
    (Own (c : Thread nD τ) (mems t) σ : sProp 𝕄)
      = iprop(owns (c : Thread nD τ) (mems t Cell.x) fullShare (σ Cell.x)
          ∗ owns (c : Thread nD τ) (mems t Cell.yc) fullShare (σ Cell.yc)
          ∗ owns (c : Thread nD τ) (mems t Cell.ya) fullShare (σ Cell.ya)
          ∗ owns (c : Thread nD τ) (mems t Cell.wo) fullShare (σ Cell.wo)
          ∗ owns (c : Thread nD τ) (mems t Cell.fw) fullShare (σ Cell.fw)
          ∗ owns (c : Thread nD τ) (mems t Cell.wr) fullShare (σ Cell.wr)
          ∗ owns (c : Thread nD τ) (mems t Cell.br) fullShare (σ Cell.br)
          ∗ owns (c : Thread nD τ) (mems t Cell.h) fullShare (σ Cell.h)
          ∗ owns (c : Thread nD τ) (mems t Cell.lg) fullShare (σ Cell.lg)) := by
  unfold Own
  rw [bigSep_univ_eq_bigSepL [Cell.x, Cell.yc, Cell.ya, Cell.wo, Cell.fw, Cell.wr, Cell.br, Cell.h, Cell.lg] (by decide) (by decide)]
  rfl

/-- The packed rows' memref at some contents is the kernel's view of it at some contents, -/
theorem some_of_owns (c : Dev nD) (U : Memref sig .tc .vmem S8192x128 .bf16) (hU : U.IsWhole) :
    (iprop(∃ X, owns (c : Thread nD τ) U fullShare X) : sProp 𝕄) ⊢ Some (Val := Elt F) (c : Thread nD τ) (pairs U hU) := by
  unfold Some owns
  iintro ⟨%X, %f, %_, Hf⟩
  iexists f
  have e : (pairs U hU).view.set = U.view.set := View.set_reshape _ _
  rw [e]
  iexact Hf

/-- and back. -/
theorem owns_of_some (c : Dev nD) (U : Memref sig .tc .vmem S8192x128 .bf16) (hU : U.IsWhole) :
    (Some (Val := Elt F) (c : Thread nD τ) (pairs U hU) : sProp 𝕄) ⊢ iprop(∃ X, owns (c : Thread nD τ) U fullShare X) := by
  unfold Some owns
  iintro ⟨%f, Hf⟩
  iexists (U.view.read (Elt F) f)
  iexists f
  isplitr; · ipureintro; rfl
  have e : (pairs U hU).view.set = U.view.set := View.set_reshape _ _
  rw [e]
  iexact Hf

/-! ## What the kernel finds and leaves -/

variable (m : (ℓ : Loc nD τ sig) → Buf (Elt F) ℓ) (ρ : Dev nD → PrngReg)

/-- The sum of a point. -/
def hAt (c : Dev nD) (t : Fin cfg0.N) : FVec F S512x2048 .f32 := hBlock (iblk m c 0 t) (iblk m c 1 t) (iblk m c 2 t) (iblk m c 3 t)

/-- The pipeline's data: each input block stays, the sum is the kernel's function of them; the last two windows are
    forgotten, and any contents do. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hAt m c t
    | ⟨8, _⟩ => iblk m c 8 t
    | ⟨9, _⟩ => iblk m c 9 t
  Φ _ := Pipeline.ΦA spec0 c
  q _ := fullShare
  owed _ := 0

/-- The logits' window and the packed rows'. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = hAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-- The kernel's state at point `t` from the results' buffers. -/
def stateAt (c : Dev nD) (t : Fin cfg0.N) (h : FVec F S512x2048 .f32) (lg : FVec F S512x128 .f32) : St F
  | .x => iblk m c 0 t
  | .yc => iblk m c 1 t
  | .ya => iblk m c 2 t
  | .wo => iblk m c 3 t
  | .fw => iblk m c 4 t
  | .wr => iblk m c 5 t
  | .br => iblk m c 6 t
  | .h => h
  | .lg => lg

/-- The kernel at a point. -/
theorem sound_point (c : Dev nD) (t : Fin cfg0.N) (h : FVec F S512x2048 .f32) (lg : FVec F S512x128 .f32) :
    (iprop(Own (c : Thread nD τ) (mems t) (stateAt m c t h lg) ∗ Some (Val := Elt F) (c : Thread nD τ) (pairs (packed t) (packed_whole t))) : sProp 𝕄)
      ⊢ wp frame (wpE (defs₀ (F := F)) Variants.none c none) Set.univ (bodyAt0 t) fun _ =>
        iprop(∃ σ' : St F, ⌜∃ lg', σ' = stateAt m c t (hAt m c t) lg'⌝ ∗ Own (c : Thread nD τ) (mems t) σ'
          ∗ Some (Val := Elt F) (c : Thread nD τ) (pairs (packed t) (packed_whole t))) := by
  rw [bodyAt0_eq]
  refine (Runs.sound _ _ _ _ _ (runs (mems t) (mems_whole t) (packed t) (packed_whole t) (grid0.coords t) (stateAt m c t h lg))).trans
    (wp_mono _ _ _ fun _ => ?_)
  iintro ⟨%σ', %e, H⟩
  iexists σ'
  isplitr
  · ipureintro
    obtain ⟨lg', e⟩ := e
    refine ⟨lg', e.trans ?_⟩
    funext b
    cases b <;> rfl
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mems t Cell.x) fullShare ((dats m 0 c).before 0 t d))
    ∗ (∃ d, owns (c : Thread nD τ) (mems t Cell.yc) fullShare ((dats m 0 c).before 1 t d))
    ∗ (∃ d, owns (c : Thread nD τ) (mems t Cell.ya) fullShare ((dats m 0 c).before 2 t d))
    ∗ (∃ d, owns (c : Thread nD τ) (mems t Cell.wo) fullShare ((dats m 0 c).before 3 t d))
    ∗ (∃ d, owns (c : Thread nD τ) (mems t Cell.fw) fullShare ((dats m 0 c).before 4 t d))
    ∗ (∃ d, owns (c : Thread nD τ) (mems t Cell.wr) fullShare ((dats m 0 c).before 5 t d))
    ∗ (∃ d, owns (c : Thread nD τ) (mems t Cell.br) fullShare ((dats m 0 c).before 6 t d))
    ∗ (∃ d, owns (c : Thread nD τ) (mems t Cell.h) fullShare ((dats m 0 c).before 7 t d))
    ∗ (∃ X, owns (c : Thread nD τ) (mems t Cell.lg) fullShare X)
    ∗ (∃ X, owns (c : Thread nD τ) (packed t) fullShare X))

/-- and what it returns. -/
def bodyPost (c : Dev nD) (t : Fin cfg0.N) : sProp 𝕄 :=
  iprop((dats m 0 c).Φ t.succ ∗ (dats m 0 c).owesAt () t.succ
    ∗ owns (c : Thread nD τ) (mems t Cell.x) fullShare ((dats m 0 c).after 0 t)
    ∗ owns (c : Thread nD τ) (mems t Cell.yc) fullShare ((dats m 0 c).after 1 t)
    ∗ owns (c : Thread nD τ) (mems t Cell.ya) fullShare ((dats m 0 c).after 2 t)
    ∗ owns (c : Thread nD τ) (mems t Cell.wo) fullShare ((dats m 0 c).after 3 t)
    ∗ owns (c : Thread nD τ) (mems t Cell.fw) fullShare ((dats m 0 c).after 4 t)
    ∗ owns (c : Thread nD τ) (mems t Cell.wr) fullShare ((dats m 0 c).after 5 t)
    ∗ owns (c : Thread nD τ) (mems t Cell.br) fullShare ((dats m 0 c).after 6 t)
    ∗ owns (c : Thread nD τ) (mems t Cell.h) fullShare ((dats m 0 c).after 7 t)
    ∗ (∃ X, owns (c : Thread nD τ) (mems t Cell.lg) fullShare X)
    ∗ (∃ X, owns (c : Thread nD τ) (packed t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).owesAt () t.succ = (dats m 0 c).owesAt () t.castSucc from rfl, after_0, after_1, after_2, after_3, after_4, after_5, after_6, after_7,
    show (dats m 0 c).Φ t.succ = (dats m 0 c).Φ t.castSucc from rfl]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  ihave H9 := (some_of_owns (F := F) c (packed t) (packed_whole t)) $$ H9
  have hp := sound_point m c t ((dats m 0 c).before 7 t d7) d8
  rw [own_split] at hp
  iapply (wp_wand_r _ _ _)
  isplitl [H0 H1 H2 H3 H4 H5 H6 H7 H8 H9]
  · iapply hp
    isplitr [H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact H9
  iintro %a ⟨%σ', %e, HO, HU⟩
  obtain ⟨lg', e⟩ := e
  subst e
  ihave HO := (Entails.of_eq (own_split c t _)) $$ HO
  ihave HU := (owns_of_some (F := F) c (packed t) (packed_whole t)) $$ HU
  icases HO with ⟨H0, H1, H2, H3, H4, H5, H6, H7, H8⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists lg'
    iexact H8
  iexact HU

theorem defs₀_row (t : Fin cfg0.N) : defs₀ (F := F) .tc cfg0.body (cfg0.bodyArgs t (cfg0.slots t)) = bodyAt0 t := by
  unfold defs₀; rw [Defs.onTc_tc]

/-- What the launch asks of every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: the arrays but the forgotten ones end at what the data says, every other buffer as found, every counter at
    zero. -/
theorem run_all : θ_run defs (onTc (τ := τ) (main (F := F))) (s₀ m ρ)
    (fun r => RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := fun c => (body_obligation m c).loose) (hshare := fun c w => by unfold Dat.share; split <;> rfl)
    (howed := fun _ _ => rfl) (V := V m) (hmain := hmain m Variants.none) (hA := A_eq m) (hin := fun _ => .rfl) (hout := fun _ => .rfl)

/-- The arguments end as they were. -/
theorem args_of (r : PUnit × MemSt nD τ sig (Elt F)) (h : RDat.FramePost cfg0 (fun c => (dats m 0 c).toRForget fgt) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The sum's array ends at what the data says. -/
theorem sum_of (r : PUnit × MemSt nD τ sig (Elt F)) (h : RDat.FramePost cfg0 (fun c => (dats m 0 c).toRForget fgt) (V m) r) (c : Dev nD) :
    r.2.mem ((c.tc : Thread nD τ).loc main_v13_0) = (dats m 0 c).arrAt 7 cfg0.N :=
  ((dats m 0 c).toRForget_arrAt_iff (fgt := fgt) (w := 7) rfl cfg0.N _).mp ((h c).1 7)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_of m r h.1 c, h.2⟩) (run_all m ρ)

end Cert.Kernel3Ideal.Mix

end
-- ==== Proof.Mix.Value.lean ====
/-
  The output projection's array in numbers: an entry of the input plus the products of the convolution's row with the
  weights' first 1024 rows and of the attention's row with the others. The blocks written at the grid's points cover the
  array.
-/
module

public import proofs.«01_k».proof.Proof.Mix.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel3Ideal.Mix

open Idealize.ShloMosaic Idealize.ShloMosaic.TcCoe
open Idealize.SL Idealize.SL.Sem
open Idealize.ShloMosaic.Pipeline (Dat Cfg Window)
open Cert.Kernel3Ideal Cert.Kernel3Ideal.Gen
open Cert.Halves

/-! ## Numbers -/

/-- An entry of the sum. -/
def mixed (x : EReal) (yc ya wc wa : Fin 1024 → EReal) : EReal := x + ((∑ k : Fin 1024, yc k * wc k) + ∑ k : Fin 1024, ya k * wa k)

/-- The sum. -/
def mixedAll (x : FVec Ideal S16384x2048 .f32) (yc ya : FVec Ideal S16384x1024 .bf16) (w : FVec Ideal S2048x2048 .f32) : FVec Ideal S16384x2048 .f32 := fun i =>
  mixed (x (ix2 ⟨(i 0).val, (i 0).isLt⟩ ⟨(i 1).val, (i 1).isLt⟩))
    (fun k => yc (ix2 ⟨(i 0).val, (i 0).isLt⟩ k)) (fun k => ya (ix2 ⟨(i 0).val, (i 0).isLt⟩ k))
    (fun k => w (ix2 ⟨0 + k.val, by omega⟩ ⟨(i 1).val, (i 1).isLt⟩)) (fun k => w (ix2 ⟨1024 + k.val, by omega⟩ ⟨(i 1).val, (i 1).isLt⟩))

/-! ## The kernel's function at an index -/

theorem two_at (x : FVec Ideal S256x2048 .f32) (yc ya : FVec Ideal S256x1024 .bf16) (wc wa : FVec Ideal S1024x2048 .bf16) (r : Fin 256) (e : Fin 2048) :
    addTwo x yc ya wc wa (ix2 r e)
      = mixed (x (ix2 r e)) (fun k => yc (ix2 r k)) (fun k => ya (ix2 r k)) (fun k => wc (ix2 k e)) (fun k => wa (ix2 k e)) := by
  pointwise [addTwo, mixed]

/-- A half of the block, at its row. -/
theorem half_at {e : EltTy} {n : ℕ} (x : (⟨2, ![512, n]⟩ : Shape).Idx → Elt Ideal e) (r : Fin 512) (k : Fin n) :
    half x (r.val / 256) (ix2 ⟨r.val % 256, Nat.mod_lt _ (by decide)⟩ k) = x (ix2 r k) := by
  refine congrArg x (funext fun a => Fin.ext ?_)
  match a with
  | ⟨0, _⟩ => show (256 * (r.val / 256) + r.val % 256) % 512 = r.val; omega
  | ⟨1, _⟩ => rfl

theorem upper_at (w : FVec Ideal S2048x2048 .bf16) (k : Fin 1024) (e : Fin 2048) : upper w (ix2 k e) = w (ix2 ⟨0 + k.val, by omega⟩ e) :=
  window_at (a := 2048) (b := 2048) (h := 1024) w 0 _ k e _

theorem lower_at (w : FVec Ideal S2048x2048 .bf16) (k : Fin 1024) (e : Fin 2048) : lower w (ix2 k e) = w (ix2 ⟨1024 + k.val, by omega⟩ e) :=
  window_at (a := 2048) (b := 2048) (h := 1024) w 1024 _ k e _

theorem h_at (x : FVec Ideal S512x2048 .f32) (yc ya : FVec Ideal S512x1024 .bf16) (w : FVec Ideal S2048x2048 .bf16) (r : Fin 512) (e : Fin 2048) :
    hBlock x yc ya w (ix2 r e) = mixed (x (ix2 r e)) (fun k => yc (ix2 r k)) (fun k => ya (ix2 r k))
      (fun k => w (ix2 ⟨0 + k.val, by omega⟩ e)) (fun k => w (ix2 ⟨1024 + k.val, by omega⟩ e)) := by
  refine (two_at (half x (r.val / 256)) (half yc (r.val / 256)) (half ya (r.val / 256)) (upper w) (lower w) ⟨r.val % 256, Nat.mod_lt _ (by decide)⟩ e).trans ?_
  rw [half_at (e := .f32)]
  simp only [half_at (e := .bf16), upper_at, lower_at]

/-! ## Where the blocks lie -/

variable (m : (ℓ : Loc nD τ sig) → Buf (Elt Ideal) ℓ) (ρ : Dev nD → PrngReg)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx7 : ∀ t : Fin cfg0.N, win0_7.index t = ![t.val, 0] := (by decide +kernel : ∀ t : Fin grid0.N, win0_7.index t = ![t.val, 0])

theorem points (t : Fin cfg0.N) : t.val < 32 := t.isLt

/-! ## What they hold -/

theorem x_at (c : Dev nD) (t : Fin cfg0.N) (r : Fin 512) (e : Fin 2048) :
    (iblk m c 0 t : FVec Ideal S512x2048 .f32) (ix2 r e)
      = (m ((c.tc : Thread nD τ).loc main_arg0) : FVec Ideal S16384x2048 .f32) (ix2 ⟨t.val * 512 + r.val, by have := points t; omega⟩ e) := by
  blk_ext! [iblk, V, idx0 t]

theorem yc_at (c : Dev nD) (t : Fin cfg0.N) (r : Fin 512) (e : Fin 1024) :
    (iblk m c 1 t : FVec Ideal S512x1024 .bf16) (ix2 r e)
      = (m ((c.tc : Thread nD τ).loc main_arg1) : FVec Ideal S16384x1024 .bf16) (ix2 ⟨t.val * 512 + r.val, by have := points t; omega⟩ e) := by
  blk_ext! [iblk, V, idx1 t]

theorem ya_at (c : Dev nD) (t : Fin cfg0.N) (r : Fin 512) (e : Fin 1024) :
    (iblk m c 2 t : FVec Ideal S512x1024 .bf16) (ix2 r e)
      = (m ((c.tc : Thread nD τ).loc main_arg2) : FVec Ideal S16384x1024 .bf16) (ix2 ⟨t.val * 512 + r.val, by have := points t; omega⟩ e) := by
  blk_ext! [iblk, V, idx2 t]

theorem wo_at (c : Dev nD) (t : Fin cfg0.N) (k : Fin 2048) (e : Fin 2048) :
    (iblk m c 3 t : FVec Ideal S2048x2048 .bf16) (ix2 k e)
      = (m ((c.tc : Thread nD τ).loc main_arg3) : FVec Ideal S2048x2048 .f32) (ix2 k e) := by
  blk_ext! [iblk, V, idx3 t]

/-! ## The result -/

variable {m}

/-- The arguments. -/
abbrev xArg (m : (ℓ : Loc nD τ sig) → Buf (Elt Ideal) ℓ) (c : Dev nD) : FVec Ideal S16384x2048 .f32 := m ((c.tc : Thread nD τ).loc main_arg0)
abbrev cArg (m : (ℓ : Loc nD τ sig) → Buf (Elt Ideal) ℓ) (c : Dev nD) : FVec Ideal S16384x1024 .bf16 := m ((c.tc : Thread nD τ).loc main_arg1)
abbrev aArg (m : (ℓ : Loc nD τ sig) → Buf (Elt Ideal) ℓ) (c : Dev nD) : FVec Ideal S16384x1024 .bf16 := m ((c.tc : Thread nD τ).loc main_arg2)
abbrev wArg (m : (ℓ : Loc nD τ sig) → Buf (Elt Ideal) ℓ) (c : Dev nD) : FVec Ideal S2048x2048 .f32 := m ((c.tc : Thread nD τ).loc main_arg3)

theorem hAt_at (c : Dev nD) (t : Fin cfg0.N) (r : Fin 512) (e : Fin 2048) :
    hAt m c t (ix2 r e) = mixedAll (xArg m c) (cArg m c) (aArg m c) (wArg m c) (ix2 ⟨t.val * 512 + r.val, by have := points t; omega⟩ e) := by
  unfold hAt
  rw [h_at]
  simp only [x_at, yc_at, ya_at, wo_at]
  rfl

/-- An index by its coordinates. -/
theorem eq_ix2 {a b : ℕ} (y : (⟨2, ![a, b]⟩ : Shape).Idx) : y = ix2 (⟨(y 0).val, (y 0).isLt⟩ : Fin a) (⟨(y 1).val, (y 1).isLt⟩ : Fin b) := by
  funext k
  match k with
  | ⟨0, _⟩ => rfl
  | ⟨1, _⟩ => rfl

theorem final_h (c : Dev nD) : (dats m 0 c).arrAt 7 cfg0.N = mixedAll (xArg m c) (cArg m c) (aArg m c) (wArg m c) := by
  refine (dats m 0 c).arrAt_eq_of_covers 7 _ (by decide +kernel) fun t hf y => ?_
  blk_simp
  rw [after_7]
  have h0 : (y 0).val < 512 := (y 0).isLt
  have h1 : (y 1).val < 2048 := (y 1).isLt
  have e0 : (((win0_7.blk t).view.emb y 0 : Fin _) : ℕ) = t.val * 512 + (y 0).val := by
    blk_simp [idx7 t]
  have e1 : (((win0_7.blk t).view.emb y 1 : Fin _) : ℕ) = (y 1).val := by
    blk_simp [idx7 t]
  refine ((congrArg (hAt m c t) (eq_ix2 (a := 512) (b := 2048) y)).trans (hAt_at c t _ _)).trans ?_
  refine congrArg (mixedAll (xArg m c) (cArg m c) (aArg m c) (wArg m c)) (funext fun k => Fin.ext ?_)
  match k with
  | ⟨0, _⟩ => exact e0.symm
  | ⟨1, _⟩ => exact e1.symm

/-- The kernel's run. -/
theorem value_run :
    θ_run defs (onTc (τ := τ) (main (F := Ideal))) ⟨m, fun _ => 0, ρ⟩ (fun r => ∀ c : Dev nD,
      r.2.mem ((c.tc : Thread nD τ).loc main_v13_0) = mixedAll (xArg m c) (cArg m c) (aArg m c) (wArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(sum_of m r h.1 c).trans (final_h c), args_of m r h.1 c⟩) (run_all m ρ)

end Cert.Kernel3Ideal.Mix

end
-- ==== Proof.Mix.Algebraic.lean ====
/-
  The output projection's value claim: the kernel and the reference end with the same array. The reference multiplies
  the two rows side by side with all the weights; the sum over the 2048 of them is the sum over the first 1024 plus the
  sum over the others. Nothing is asked of the arguments.
-/
module

public import proofs.«01_k».proof.Defs
public import proofs.«01_k».proof.Proof.Mix.Value
public import proofs.«01_k».proof.Proof.Gen.Kernel3Ideal
public import proofs.«01_k».proof.Proof.Gen.Reference3Ideal
public import proofs.«01_k».proof.Proof.Gen.Reference3Ideal.Run

@[expose] public section

set_option maxRecDepth 16384

noncomputable section

namespace Cert.Reference3Ideal.Mix

open Idealize.ShloMosaic Idealize.ShloMosaic.TcCoe
open Cert.Reference3Ideal Cert.Reference3Ideal.Gen

/-! ## The reference at an index -/

/-- Two blocks of columns side by side, -/
def beside (yc ya : FVec Ideal S16384x1024 .bf16) : FVec Ideal S16384x2048 .f32 :=
  concatenate S16384x2048 1 [⟨S16384x1024, (extf .f32 yc bitsLt_bf16_f32 : FVec Ideal S16384x1024 .f32)⟩,
    ⟨S16384x1024, (extf .f32 ya bitsLt_bf16_f32 : FVec Ideal S16384x1024 .f32)⟩] concatenates_S16384x1024_S16384x1024_S16384x2048_d1

/-- and the input plus their product with the weights. -/
def addTo (x u : FVec Ideal S16384x2048 .f32) (w : FVec Ideal S2048x2048 .f32) : FVec Ideal S16384x2048 .f32 :=
  addf x (Host.dotGeneral dot_S16384x2048_S2048x2048_S16384x2048_1_0_0_1_n_n none u w)

theorem add_at (x u : FVec Ideal S16384x2048 .f32) (w : FVec Ideal S2048x2048 .f32) (r : Fin 16384) (e : Fin 2048) :
    addTo x u w (ix2 r e) = x (ix2 r e) + ∑ k : Fin 2048, u (ix2 r k) * w (ix2 k e) := by
  pointwise [addTo]

theorem left_at (yc ya : FVec Ideal S16384x1024 .bf16) (r : Fin 16384) (k : Fin 1024) :
    beside yc ya (ix2 r ⟨k.val, by omega⟩) = yc (ix2 r k) := by
  pointwise [beside]

theorem right_at (yc ya : FVec Ideal S16384x1024 .bf16) (r : Fin 16384) (k : Fin 1024) :
    beside yc ya (ix2 r ⟨1024 + k.val, by omega⟩) = ya (ix2 r k) := by
  pointwise [beside]

/-- A sum over 2048 in two halves. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

/-- The reference's array. -/
theorem mixed_eq (x : FVec Ideal S16384x2048 .f32) (yc ya : FVec Ideal S16384x1024 .bf16) (w : FVec Ideal S2048x2048 .f32) :
    addTo x (beside yc ya) w = Cert.Kernel3Ideal.Mix.mixedAll x yc ya w := by
  funext i
  refine ((congrArg (addTo x (beside yc ya) w) (Cert.Kernel3Ideal.Mix.eq_ix2 (a := 16384) (b := 2048) i)).trans (add_at _ _ _ _ _)).trans ?_
  rw [sum_halves]
  simp only [left_at, right_at]
  unfold Cert.Kernel3Ideal.Mix.mixedAll Cert.Kernel3Ideal.Mix.mixed
  simp only [Nat.zero_add]

end Cert.Reference3Ideal.Mix

namespace Cert.Mix

open Idealize.ShloMosaic Idealize.ShloMosaic.TcCoe Idealize.SL.Sem

theorem algebraic :
    haveI := Cert.Kernel3Ideal.Gen.facts
    haveI := Cert.Reference3Ideal.Gen.facts
    Cert.algebraic_Kernel3Ideal_Reference3Ideal := by
  intro m ρ m' ρ' _ hagree
  refine ⟨_, Cert.Kernel3Ideal.Mix.value_run ρ, ?_⟩
  refine (θ_run Cert.Reference3Ideal.defs _ _).mono (fun _ h c => ⟨(h c).1.trans ?_, (h c).2⟩) (Cert.Reference3Ideal.Value.run (F := Ideal) m' ρ')
  obtain ⟨e0, e1, e2, e3, _⟩ := hagree c
  rw [e0, e1, e2, e3]
  exact Cert.Reference3Ideal.Mix.mixed_eq _ _ _ _

end Cert.Mix

end
-- ==== Proof.Qkv.Around.lean ====
/-
  Straight-line programs over two families of memrefs: one whose contents are known all along, one whose contents nobody
  asks for. `Runs` speaks of the first family's contents alone, for whatever the loads from the second give; `Runs.sound`
  says once what it means for the machine.
-/
module

public import proofs.«01_k».proof.Proof.Straight

@[expose] public section

noncomputable section

namespace Cert.Around

open Idealize.ShloMosaic
open Idealize.SL Idealize.SL.BI Idealize.SL.RA
open scoped Idealize.SL.BI
open Idealize.SL.BI.BIBase Idealize.SL.BI.Laws Idealize.SL.ProofMode Idealize.SL.Sem
open Cert.Straight (Cont Own own_take own_put)

variable {nD : Nat} {τ : Topo} {sig : RefSig} {Val : EltTy → Type} {Λ : Labels} {κ : Proc τ} {sp : CoreSpace}
variable {B : Type} {shp : B → Shape} {el : B → EltTy} {D : Type} {shd : D → Shape} {ed : D → EltTy}

/-- From contents `σ` of the known family, the program ends in a result and contents satisfying `Q`, whatever the memrefs
    `J` hold. -/
inductive Runs [DecidableEq B] (M : (b : B) → Memref sig κ.kind sp (shp b) (el b)) (J : (d : D) → Memref sig κ.kind sp (shd d) (ed d)) :
    {α : Type} → Prog (TpuEff nD τ sig Val Λ κ) α → Cont Val shp el → (α → Cont Val shp el → Prop) → Prop
  | ret {α : Type} {a : α} {σ : Cont Val shp el} {Q : α → Cont Val shp el → Prop} : Q a σ → Runs M J (.ret a) σ Q
  | load {α : Type} (b : B) {off size : Fin (shp b).rank → ℕ} {inb : ∀ a, off a + size a ≤ (shp b).size a}
      {hl : (M b).view.LoadsAt (Rect.unit off size inb).toLoadRect} {k : _ → Prog (TpuEff nD τ sig Val Λ κ) α}
      {σ : Cont Val shp el} {Q : α → Cont Val shp el → Prop} :
      Runs M J (k (VecWindow.window (σ b) off size inb)) σ Q → Runs M J (.op (.load (M b) (Rect.unit off size inb).toLoadRect hl) k) σ Q
  | storeTo {α : Type} (b : B) {off size : Fin (shp b).rank → ℕ} {inb : ∀ a, off a + size a ≤ (shp b).size a}
      {w : (Rect.unit off size inb).shape.Idx → Val (el b)} {hx : ((M b).access (Rect.unit off size inb)).Stores Finset.univ}
      {hm : Finset.univ = Finset.univ ∨ ∀ a, (Rect.unit off size inb).stride a = 1}
      {k : PUnit → Prog (TpuEff nD τ sig Val Λ κ) α}
      {σ σ₁ : Cont Val shp el} {Q : α → Cont Val shp el → Prop} :
      Function.update σ b (VecWindow.put (σ b) off size w) = σ₁ → Runs M J (k ⟨⟩) σ₁ Q
        → Runs M J (.op (.store (M b) (Rect.unit off size inb) w Finset.univ hx hm) k) σ Q
  | loadJ {α : Type} (d : D) {r : LoadRect (shd d)} {hl : (J d).view.LoadsAt r} {k : (r.shape.Idx → Val (ed d)) → Prog (TpuEff nD τ sig Val Λ κ) α}
      {σ : Cont Val shp el} {Q : α → Cont Val shp el → Prop} :
      (∀ w, Runs M J (k w) σ Q) → Runs M J (.op (.load (J d) r hl) k) σ Q
  | storeJ {α : Type} (d : D) {r : Rect (shd d)} {w : r.shape.Idx → Val (ed d)} {hx : ((J d).access r).Stores Finset.univ}
      {hm : Finset.univ = Finset.univ ∨ ∀ a, r.stride a = 1} {k : PUnit → Prog (TpuEff nD τ sig Val Λ κ) α}
      {σ : Cont Val shp el} {Q : α → Cont Val shp el → Prop} :
      Runs M J (k ⟨⟩) σ Q → Runs M J (.op (.store (J d) r w Finset.univ hx hm) k) σ Q

/-- One program after another. -/
theorem Runs.bind [DecidableEq B] {M : (b : B) → Memref sig κ.kind sp (shp b) (el b)} {J : (d : D) → Memref sig κ.kind sp (shd d) (ed d)}
    {α β : Type} {p : Prog (TpuEff nD τ sig Val Λ κ) α} {σ : Cont Val shp el} {P : α → Cont Val shp el → Prop} (h : Runs M J p σ P) :
    ∀ {f : α → Prog (TpuEff nD τ sig Val Λ κ) β} {Q : β → Cont Val shp el → Prop},
      (∀ a σ', P a σ' → Runs M J (f a) σ' Q) → Runs M J (p >>= f) σ Q := by
  induction h with
  | ret h => exact fun g => g _ _ h
  | load b _ ih => exact fun g => Runs.load b (ih g)
  | storeTo b e _ ih => exact fun g => Runs.storeTo b e (ih g)
  | loadJ d _ ih => exact fun g => Runs.loadJ d fun w => ih w g
  | storeJ d _ ih => exact fun g => Runs.storeJ d (ih g)

section Sound

variable {Ix : Type} [DecidableEq Ix] {Name : Type} [DecidableEq Name] {U : Type} [URA U] {Lvl : Type} [Preorder Lvl]

local notation "𝕄" => MT nD τ sig Ix Val Name U Lvl

variable [Fintype B] [DecidableEq B] [Fintype D] [DecidableEq D]

variable (defs : Defs nD τ sig Val Λ) (𝒱 : Variants) (c : Thread nD τ) (bd : Option 𝒱.V) (E : Set Name)

/-- What a program that `Runs` does to the machine. -/
theorem Runs.sound {Γ : PendingWaitsCtx sig Ix} {M : (b : B) → Memref sig c.2.kind sp (shp b) (el b)}
    {J : (d : D) → Memref sig c.2.kind sp (shd d) (ed d)} {α : Type}
    {p : Prog (TpuEff nD τ sig Val Λ c.2) α} {σ : Cont Val shp el} {Q : α → Cont Val shp el → Prop} (h : Runs M J p σ Q) :
    ∀ ψ : Cont Val shd ed, (iprop(Own c M σ ∗ Own c J ψ) : sProp 𝕄)
      ⊢ wp frame (wpE' defs 𝒱 c bd Γ) E p fun a => iprop(∃ σ', ⌜Q a σ'⌝ ∗ Own c M σ' ∗ ∃ ψ', Own c J ψ') := by
  induction h with
  | ret h =>
    intro ψ
    refine .trans ?_ (le_wp_ret _ _ _ _ _)
    iintro ⟨H, HJ⟩
    iexists _
    isplitr; · ipureintro; exact h
    isplitl [H]; · iexact H
    iexists ψ
    iexact HJ
  | load b _ ih =>
    rename_i off size inb hl k σ Q hk
    intro ψ
    rw [own_take c M σ b]
    unfold owns
    iintro ⟨⟨⟨%f, %hf, Hf⟩, HR⟩, HJ⟩
    iapply (wp_load 𝒱 c bd E (k := k) (hl := hl) ((M b).view.setOn_subset_set _)) $$ Hf
    iintro Hf
    have e : (M b).view.readAt Val (Rect.unit off size inb).toLoadRect f = VecWindow.window (σ b) off size inb := by
      rw [View.readAt_unit _ f inb rfl inb, hf]
    rw [e]
    iapply (ih ψ)
    isplitr [HJ]
    · rw [own_take c M σ b]
      unfold owns
      isplitl [Hf]
      · iexists f
        isplitr; · ipureintro; exact hf
        iexact Hf
      iexact HR
    iexact HJ
  | storeTo b e _ ih =>
    rename_i off size inb w hx hm k σ σ₁ Q hk
    intro ψ
    rw [own_take c M σ b]
    unfold owns
    iintro ⟨⟨⟨%f, %hf, Hf⟩, HR⟩, HJ⟩
    iapply (wp_store 𝒱 c bd E (m := M b) (w := w) (k := k) (hx := hx) (hm := hm) (S := (M b).view.set) (f := f) (by
      rw [View.setOn_univ, View.set_slice]; exact (M b).view.setOn_subset_set _)) $$ Hf
    iintro Hf
    iapply (ih ψ)
    isplitr [HJ]
    · rw [← e, own_put c M σ b]
      unfold owns
      isplitl [Hf]
      · iexists (((M b).access (Rect.unit off size inb)).write Val f w Finset.univ)
        isplitr
        · ipureintro
          exact (View.read_writes_cons_put (M b).view f inb w [] rfl).trans (by rw [← hf]; rfl)
        iexact Hf
      iexact HR
    iexact HJ
  | loadJ d _ ih =>
    rename_i r hl k σ Q hk
    intro ψ
    rw [own_take c J ψ d]
    unfold owns
    iintro ⟨HO, ⟨⟨%f, %hf, Hf⟩, HR⟩⟩
    iapply (wp_load 𝒱 c bd E (k := k) (hl := hl) ((J d).view.setOn_subset_set _)) $$ Hf
    iintro Hf
    iapply (ih _ ψ)
    isplitl [HO]; · iexact HO
    rw [own_take c J ψ d]
    unfold owns
    isplitl [Hf]
    · iexists f
      isplitr; · ipureintro; exact hf
      iexact Hf
    iexact HR
  | storeJ d _ ih =>
    rename_i r w hx hm k σ Q hk
    intro ψ
    rw [own_take c J ψ d]
    unfold owns
    iintro ⟨HO, ⟨⟨%f, %hf, Hf⟩, HR⟩⟩
    iapply (wp_store 𝒱 c bd E (m := J d) (w := w) (k := k) (hx := hx) (hm := hm) (S := (J d).view.set) (f := f) (by
      rw [View.setOn_univ, View.set_slice]; exact (J d).view.setOn_subset_set _)) $$ Hf
    iintro Hf
    iapply (ih (Function.update ψ d ((J d).view.read Val (((J d).access r).write Val f w Finset.univ))))
    isplitl [HO]; · iexact HO
    rw [own_put c J ψ d]
    unfold owns
    isplitl [Hf]
    · iexists (((J d).access r).write Val f w Finset.univ)
      isplitr; · ipureintro; rfl
      iexact Hf
    iexact HR

end Sound

end Cert.Around

end
-- ==== Proof.Qkv.Kernel.Cells.lean ====
/-
  The memrefs of the fused convolution and projection as printed: the inputs are followed through the kernel, of its
  results and its buffers nothing is said.
-/
module

public import proofs.«01_k».proof.Proof.Qkv.Around
public import proofs.«01_k».proof.Proof.Gen.Kernel4

@[expose] public section

set_option maxRecDepth 16384

noncomputable section

namespace Cert.Kernel4.Qkv

open Idealize.ShloMosaic Idealize.ShloMosaic.TcCoe
open Idealize.SL Idealize.SL.Sem
open Cert.Kernel4 Cert.Kernel4.Shapes1.Facts₀
open Cert.Straight (Cont)
open Cert.Around
open VecWindow (window put)

/-- The memrefs whose contents are followed: the inputs. -/
inductive Cell where
  | a | g | w | b | lw | lb | u | w0 | w1 | w2
  deriving DecidableEq

instance : Fintype Cell := ⟨⟨([Cell.a, Cell.g, Cell.w, Cell.b, Cell.lw, Cell.lb, Cell.u, Cell.w0, Cell.w1, Cell.w2] : List Cell), by decide⟩, fun b => by cases b <;> decide⟩

/-- The others: the results and the buffers. -/
inductive Out where
  | o | qkv | ub | cb | sh | lhs
  deriving DecidableEq

instance : Fintype Out := ⟨⟨([Out.o, Out.qkv, Out.ub, Out.cb, Out.sh, Out.lhs] : List Out), by decide⟩, fun b => by cases b <;> decide⟩

@[reducible] def shp : Cell → Shape
  | .a => S256x1024
  | .g => S256x1024
  | .w => S31x8x1024
  | .b => S1x1024
  | .lw => S1x1024
  | .lb => S1x1024
  | .u => S256x2048
  | .w0 => S2048x1024
  | .w1 => S2048x1024
  | .w2 => S2048x1024

@[reducible] def el : Cell → EltTy
  | .a => .bf16
  | .g => .bf16
  | .w => .f32
  | .b => .f32
  | .lw => .f32
  | .lb => .f32
  | .u => .bf16
  | .w0 => .bf16
  | .w1 => .bf16
  | .w2 => .bf16

@[reducible] def shd : Out → Shape
  | .o => S256x1024
  | .qkv => S256x3072
  | .ub => S288x1024
  | .cb => S256x1024
  | .sh => S7x280x1024
  | .lhs => S256x2048

@[reducible] def ed : Out → EltTy
  | .o => .bf16
  | .qkv => .bf16
  | .ub => .f32
  | .cb => .f32
  | .sh => .f32
  | .lhs => .bf16

abbrev Mems : Type := (b : Cell) → Memref sig .tc .vmem (shp b) (el b)

abbrev Outs : Type := (d : Out) → Memref sig .tc .vmem (shd d) (ed d)

/-- The contents followed. -/
abbrev St (F : FTy → Type) : Type := Cont (Elt F) shp el

/-- A function of the kernel's memrefs at these. -/
abbrev on {R : Type 1} (M : Mems) (h : ∀ b, (M b).IsWhole) (J : Outs) (hJ : ∀ d, (J d).IsWhole)
    (f : (m2 : Memref sig .tc .vmem S256x1024 .bf16) → m2.IsWhole → (m3 : Memref sig .tc .vmem S256x1024 .bf16) → m3.IsWhole → (m4 : Memref sig .tc .vmem S31x8x1024 .f32) → m4.IsWhole → (m5 : Memref sig .tc .vmem S1x1024 .f32) → m5.IsWhole → (m6 : Memref sig .tc .vmem S1x1024 .f32) → m6.IsWhole → (m7 : Memref sig .tc .vmem S1x1024 .f32) → m7.IsWhole → (m8 : Memref sig .tc .vmem S256x2048 .bf16) → m8.IsWhole → (m9 : Memref sig .tc .vmem S2048x1024 .bf16) → m9.IsWhole → (m10 : Memref sig .tc .vmem S2048x1024 .bf16) → m10.IsWhole → (m11 : Memref sig .tc .vmem S2048x1024 .bf16) → m11.IsWhole → (m12 : Memref sig .tc .vmem S256x1024 .bf16) → m12.IsWhole → (m13 : Memref sig .tc .vmem S256x3072 .bf16) → m13.IsWhole → (m14 : Memref sig .tc .vmem S288x1024 .f32) → m14.IsWhole → (m15 : Memref sig .tc .vmem S256x1024 .f32) → m15.IsWhole → (m16 : Memref sig .tc .vmem S7x280x1024 .f32) → m16.IsWhole → (m17 : Memref sig .tc .vmem S256x2048 .bf16) → m17.IsWhole → R) : R :=
  f (M .a) (h .a) (M .g) (h .g) (M .w) (h .w) (M .b) (h .b) (M .lw) (h .lw) (M .lb) (h .lb) (M .u) (h .u) (M .w0) (h .w0) (M .w1) (h .w1) (M .w2) (h .w2) (J .o) (hJ .o) (J .qkv) (hJ .qkv) (J .ub) (hJ .ub) (J .cb) (hJ .cb) (J .sh) (hJ .sh) (J .lhs) (hJ .lhs)
end Cert.Kernel4.Qkv

end
-- ==== Proof.Qkv.Kernel.Parts1.lean ====
/-
  The run of parts 1 to 27 of the printed program, each over the cells it is given: the stores
  to forgotten memory are passed over, the others change the contents as said.
-/
module

public import proofs.«01_k».proof.Proof.Qkv.Kernel.Cells

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part1 (i : grid0.Coords) (σ : St F) : Runs M J (on M h J hJ (k0_part1 (F := F) i)) (σ) fun _ σ' => σ' = σ := by
  unfold on k0_part1
  dsimp only
  split
  · refine .loadJ Out.ub fun _ => .storeJ Out.ub ?_
    split
    on_goal 1 => refine .loadJ Out.ub fun _ => .loadJ Out.ub fun _ => .storeJ Out.ub ?_
    all_goals
      exact .load Cell.u <| .loadJ Out.lhs fun _ => .storeJ Out.lhs <| .load Cell.a <| .load Cell.g <| .loadJ Out.ub fun _ =>
        .storeJ Out.ub <| .load Cell.a <| .load Cell.g <| .loadJ Out.ub fun _ => .storeJ Out.ub <| .load Cell.a <| .ret
        rfl
  · split
    on_goal 1 => refine .loadJ Out.ub fun _ => .loadJ Out.ub fun _ => .storeJ Out.ub ?_
    all_goals
      exact .load Cell.u <| .loadJ Out.lhs fun _ => .storeJ Out.lhs <| .load Cell.a <| .load Cell.g <| .loadJ Out.ub fun _ =>
        .storeJ Out.ub <| .load Cell.a <| .load Cell.g <| .loadJ Out.ub fun _ => .storeJ Out.ub <| .load Cell.a <| .ret
        rfl

theorem part2 (i : grid0.Coords) (σ : St F) (v29 : FVec F S64x1024 .f32) : Runs M J (on M h J hJ (k0_part2 (F := F) i) v29) (σ) fun _ σ' => σ' = σ := by
  unfold on k0_part2
  exact .load Cell.g <| .loadJ Out.ub fun _ => .storeJ Out.ub <| .load Cell.a <| .load Cell.g <| .loadJ Out.ub fun _
    => .storeJ Out.ub <| .loadJ Out.ub fun _ => .loadJ Out.sh fun _ => .storeJ Out.sh <| .loadJ Out.ub fun _ => .loadJ
    Out.sh fun _ => .storeJ Out.sh <| .loadJ Out.ub fun _ => .loadJ Out.sh fun _ => .storeJ Out.sh <| .loadJ Out.ub
    fun _ => .ret rfl

theorem part3 (i : grid0.Coords) (σ : St F) (v58 : Vec F S64x1024 .f32) : Runs M J (on M h J hJ (k0_part3 (F := F) i) v58) (σ) fun _ σ' => σ' = σ := by
  unfold on k0_part3
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part4 (i : grid0.Coords) (σ : St F) (v82 : Vec F S24x1024 .f32) : Runs M J (on M h J hJ (k0_part4 (F := F) i) v82) (σ) fun _ σ' => σ' = σ := by
  unfold on k0_part4
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part5 (i : grid0.Coords) (σ : St F) (v106 : Vec F S64x1024 .f32) : Runs M J (on M h J hJ (k0_part5 (F := F) i) v106) (σ) fun _ σ' => σ' = σ := by
  unfold on k0_part5
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part6 (i : grid0.Coords) (σ : St F) (v130 : Vec F S64x1024 .f32) : Runs M J (on M h J hJ (k0_part6 (F := F) i) v130) (σ) fun _ σ' => σ' = σ := by
  unfold on k0_part6
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part7 (i : grid0.Coords) (σ : St F) (v154 : Vec F S64x1024 .f32) : Runs M J (on M h J hJ (k0_part7 (F := F) i) v154) (σ) fun _ σ' => σ' = σ := by
  unfold on k0_part7
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part8 (i : grid0.Coords) (σ : St F) (v178 : Vec F S64x1024 .f32) : Runs M J (on M h J hJ (k0_part8 (F := F) i) v178) (σ) fun _ σ' => σ' = σ := by
  unfold on k0_part8
  exact .loadJ Out.sh fun _ => .storeJ Out.sh <| .loadJ Out.ub fun _ => .loadJ Out.sh fun _ => .storeJ Out.sh <| .load
    Cell.b <| .loadJ Out.sh fun _ => .load Cell.w <| .loadJ Out.sh fun _ => .load Cell.w <| .loadJ Out.sh fun _ =>
    .ret rfl

theorem part9 (i : grid0.Coords) (σ : St F) (v207 : FVec F S16x8x128 .f32) (v209 : FVec F S128x128 .f32) : Runs M J (on M h J hJ (k0_part9 (F := F) i) v207 v209) (σ) fun _ σ' => σ' = σ := by
  unfold on k0_part9
  exact .load Cell.w <| .loadJ Out.sh fun _ => .load Cell.w <| .loadJ Out.sh fun _ => .load Cell.w <| .loadJ Out.sh
    fun _ => .load Cell.w <| .loadJ Out.ub fun _ => .load Cell.w <| .ret rfl

theorem part10 (i : grid0.Coords) (σ : St F) (v243 : FVec F S16x8x128 .f32) (v244 : Vec F S128x128 .f32) (v245 : Vec F S1x8x128 .f32) : Runs M J (on M h J hJ (k0_part10 (F := F) i) v243 v244 v245) (σ) fun _ σ' => σ' = σ := by
  unfold on k0_part10
  exact .loadJ Out.sh fun _ => .load Cell.w <| .loadJ Out.sh fun _ => .load Cell.w <| .loadJ Out.sh fun _ => .load
    Cell.w <| .ret rfl

theorem part11 (i : grid0.Coords) (σ : St F) (v278 : FVec F S16x8x128 .f32) (v283 : IVec S16x128 32) (v284 : IVec S16x128 32) : Runs M J (on M h J hJ (k0_part11 (F := F) i) v278 v283 v284) (σ) fun _ σ' => σ' = σ := by
  unfold on k0_part11
  exact .loadJ Out.lhs fun _ => .loadJ Out.lhs fun _ => .storeJ Out.lhs <| .loadJ Out.lhs fun _ => .load Cell.w0 <|
    .loadJ Out.sh fun _ => .load Cell.w <| .loadJ Out.sh fun _ => .load Cell.w <| .loadJ Out.sh fun _ => .ret rfl

theorem part12 (i : grid0.Coords) (σ : St F) (v314 : FVec F S16x8x128 .f32) (v316 : FVec F S128x128 .f32) : Runs M J (on M h J hJ (k0_part12 (F := F) i) v314 v316) (σ) fun _ σ' => σ' = σ := by
  unfold on k0_part12
  exact .load Cell.w <| .loadJ Out.sh fun _ => .load Cell.w <| .loadJ Out.ub fun _ => .load Cell.w <| .loadJ Out.sh
    fun _ => .load Cell.w <| .loadJ Out.sh fun _ => .load Cell.w <| .ret rfl

theorem part13 (i : grid0.Coords) (σ : St F) (v349 : FVec F S16x8x128 .f32) (v351 : FVec F S128x128 .f32) (v353 : FVec F S8x128 .f32) : Runs M J (on M h J hJ (k0_part13 (F := F) i) v349 v351 v353) (σ) fun _ σ' => σ' = σ := by
  unfold on k0_part13
  exact .loadJ Out.sh fun _ => .load Cell.w <| .loadJ Out.sh fun _ => .load Cell.w <| .loadJ Out.sh fun _ => .load
    Cell.w <| .ret rfl

theorem part14 (i : grid0.Coords) (σ : St F) (v296 : FVec F S256x256 .f32) (v385 : FVec F S16x8x128 .f32) (v392 : IVec S16x128 32) : Runs M J (on M h J hJ (k0_part14 (F := F) i) v296 v385 v392) (σ) fun _ σ' => σ' = σ := by
  unfold on k0_part14
  exact .loadJ Out.lhs fun _ => .loadJ Out.lhs fun _ => .storeJ Out.lhs <| .loadJ Out.lhs fun _ => .load Cell.w0 <|
    .loadJ Out.sh fun _ => .load Cell.w <| .loadJ Out.sh fun _ => .load Cell.w <| .loadJ Out.ub fun _ => .load Cell.w
    <| .ret rfl

theorem part15 (i : grid0.Coords) (σ : St F) (v422 : FVec F S16x8x128 .f32) (v423 : Vec F S128x128 .f32) (v425 : FVec F S8x128 .f32) : Runs M J (on M h J hJ (k0_part15 (F := F) i) v422 v423 v425) (σ) fun _ σ' => σ' = σ := by
  unfold on k0_part15
  exact .loadJ Out.sh fun _ => .load Cell.w <| .loadJ Out.sh fun _ => .load Cell.w <| .loadJ Out.sh fun _ => .load
    Cell.w <| .loadJ Out.sh fun _ => .load Cell.w <| .ret rfl

theorem part16 (i : grid0.Coords) (σ : St F) (v457 : FVec F S16x8x128 .f32) (v459 : FVec F S128x128 .f32) (v461 : FVec F S8x128 .f32) : Runs M J (on M h J hJ (k0_part16 (F := F) i) v457 v459 v461) (σ) fun _ σ' => σ' = σ := by
  unfold on k0_part16
  exact .loadJ Out.sh fun _ => .load Cell.w <| .loadJ Out.sh fun _ => .load Cell.w <| .loadJ Out.sh fun _ => .load
    Cell.w <| .ret rfl

theorem part17 (i : grid0.Coords) (σ : St F) (v404 : FVec F S256x256 .f32) (v493 : FVec F S16x8x128 .f32) (v500 : IVec S16x128 32) : Runs M J (on M h J hJ (k0_part17 (F := F) i) v404 v493 v500) (σ) fun _ σ' => σ' = σ := by
  unfold on k0_part17
  exact .loadJ Out.lhs fun _ => .loadJ Out.lhs fun _ => .storeJ Out.lhs <| .loadJ Out.lhs fun _ => .load Cell.w0 <|
    .loadJ Out.ub fun _ => .load Cell.w <| .loadJ Out.cb fun _ => .storeJ Out.cb <| .load Cell.b <| .loadJ Out.sh fun
    _ => .load Cell.w <| .ret rfl

theorem part18 (i : grid0.Coords) (σ : St F) (v528 : FVec F S16x8x128 .f32) (v533 : FVec F S16x8x128 .f32) (v534 : FVec F S1x8x128 .f32) : Runs M J (on M h J hJ (k0_part18 (F := F) i) v528 v533 v534) (σ) fun _ σ' => σ' = σ := by
  unfold on k0_part18
  exact .loadJ Out.sh fun _ => .load Cell.w <| .loadJ Out.sh fun _ => .load Cell.w <| .loadJ Out.sh fun _ => .load
    Cell.w <| .loadJ Out.sh fun _ => .load Cell.w <| .ret rfl

theorem part19 (i : grid0.Coords) (σ : St F) (v564 : FVec F S16x8x128 .f32) (v569 : FVec F S16x8x128 .f32) (v570 : FVec F S1x8x128 .f32) : Runs M J (on M h J hJ (k0_part19 (F := F) i) v564 v569 v570) (σ) fun _ σ' => σ' = σ := by
  unfold on k0_part19
  exact .loadJ Out.sh fun _ => .load Cell.w <| .loadJ Out.ub fun _ => .load Cell.w <| .loadJ Out.sh fun _ => .load
    Cell.w <| .loadJ Out.sh fun _ => .load Cell.w <| .ret rfl

theorem part20 (i : grid0.Coords) (σ : St F) (v512 : FVec F S256x256 .f32) (v599 : FVec F S16x8x128 .f32) (v607 : FVec F S16x8x128 .f32) : Runs M J (on M h J hJ (k0_part20 (F := F) i) v512 v599 v607) (σ) fun _ σ' => σ' = σ := by
  unfold on k0_part20
  exact .loadJ Out.lhs fun _ => .loadJ Out.lhs fun _ => .storeJ Out.lhs <| .loadJ Out.lhs fun _ => .load Cell.w0 <|
    .loadJ Out.qkv fun _ => .storeJ Out.qkv <| .loadJ Out.sh fun _ => .load Cell.w <| .loadJ Out.sh fun _ => .ret rfl

theorem part21 (i : grid0.Coords) (σ : St F) (v638 : FVec F S16x8x128 .f32) (v640 : FVec F S128x128 .f32) : Runs M J (on M h J hJ (k0_part21 (F := F) i) v638 v640) (σ) fun _ σ' => σ' = σ := by
  unfold on k0_part21
  exact .load Cell.w <| .loadJ Out.sh fun _ => .load Cell.w <| .loadJ Out.sh fun _ => .load Cell.w <| .loadJ Out.sh
    fun _ => .load Cell.w <| .loadJ Out.ub fun _ => .load Cell.w <| .ret rfl

theorem part22 (i : grid0.Coords) (σ : St F) (v674 : FVec F S16x8x128 .f32) (v675 : Vec F S128x128 .f32) (v676 : Vec F S1x8x128 .f32) : Runs M J (on M h J hJ (k0_part22 (F := F) i) v674 v675 v676) (σ) fun _ σ' => σ' = σ := by
  unfold on k0_part22
  exact .loadJ Out.sh fun _ => .load Cell.w <| .loadJ Out.sh fun _ => .load Cell.w <| .loadJ Out.sh fun _ => .load
    Cell.w <| .loadJ Out.sh fun _ => .load Cell.w <| .ret rfl

theorem part23 (i : grid0.Coords) (σ : St F) (v709 : FVec F S16x8x128 .f32) (v711 : FVec F S128x128 .f32) (v712 : Vec F S1x8x128 .f32) : Runs M J (on M h J hJ (k0_part23 (F := F) i) v709 v711 v712) (σ) fun _ σ' => σ' = σ := by
  unfold on k0_part23
  exact .loadJ Out.lhs fun _ => .loadJ Out.lhs fun _ => .storeJ Out.lhs <| .loadJ Out.lhs fun _ => .load Cell.w0 <|
    .loadJ Out.sh fun _ => .load Cell.w <| .loadJ Out.sh fun _ => .ret rfl

theorem part24 (i : grid0.Coords) (σ : St F) (v745 : FVec F S16x8x128 .f32) (v747 : FVec F S128x128 .f32) : Runs M J (on M h J hJ (k0_part24 (F := F) i) v745 v747) (σ) fun _ σ' => σ' = σ := by
  unfold on k0_part24
  exact .load Cell.w <| .loadJ Out.sh fun _ => .load Cell.w <| .loadJ Out.ub fun _ => .load Cell.w <| .loadJ Out.sh
    fun _ => .load Cell.w <| .loadJ Out.sh fun _ => .load Cell.w <| .ret rfl

theorem part25 (i : grid0.Coords) (σ : St F) (v780 : FVec F S16x8x128 .f32) (v782 : FVec F S128x128 .f32) (v784 : FVec F S8x128 .f32) : Runs M J (on M h J hJ (k0_part25 (F := F) i) v780 v782 v784) (σ) fun _ σ' => σ' = σ := by
  unfold on k0_part25
  exact .loadJ Out.sh fun _ => .load Cell.w <| .loadJ Out.sh fun _ => .load Cell.w <| .loadJ Out.sh fun _ => .load
    Cell.w <| .loadJ Out.sh fun _ => .load Cell.w <| .ret rfl

theorem part26 (i : grid0.Coords) (σ : St F) (v736 : FVec F S256x256 .f32) (v816 : FVec F S16x8x128 .f32) (v818 : FVec F S128x128 .f32) (v820 : FVec F S8x128 .f32) : Runs M J (on M h J hJ (k0_part26 (F := F) i) v736 v816 v818 v820) (σ) fun _ σ' => σ' = σ := by
  unfold on k0_part26
  exact .loadJ Out.lhs fun _ => .loadJ Out.lhs fun _ => .storeJ Out.lhs <| .loadJ Out.lhs fun _ => .load Cell.w0 <|
    .loadJ Out.sh fun _ => .load Cell.w <| .loadJ Out.ub fun _ => .load Cell.w <| .ret rfl

theorem part27 (i : grid0.Coords) (σ : St F) (v853 : FVec F S16x8x128 .f32) (v854 : Vec F S128x128 .f32) (v856 : FVec F S8x128 .f32) : Runs M J (on M h J hJ (k0_part27 (F := F) i) v853 v854 v856) (σ) fun _ σ' => σ' = σ := by
  unfold on k0_part27
  exact .loadJ Out.cb fun _ => .storeJ Out.cb <| .load Cell.b <| .loadJ Out.sh fun _ => .load Cell.w <| .loadJ Out.sh
    fun _ => .load Cell.w <| .loadJ Out.sh fun _ => .load Cell.w <| .ret rfl

end Cert.Kernel4.Qkv

end
-- ==== Proof.Qkv.Kernel.Parts2.lean ====
/-
  The run of parts 28 to 54 of the printed program, each over the cells it is given: the stores
  to forgotten memory are passed over, the others change the contents as said.
-/
module

public import proofs.«01_k».proof.Proof.Qkv.Kernel.Cells

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part28 (i : grid0.Coords) (σ : St F) (v887 : FVec F S16x8x128 .f32) (v892 : FVec F S16x8x128 .f32) (v893 : FVec F S1x8x128 .f32) : Runs M J (on M h J hJ (k0_part28 (F := F) i) v887 v892 v893) (σ) fun _ σ' => σ' = σ := by
  unfold on k0_part28
  exact .loadJ Out.sh fun _ => .load Cell.w <| .loadJ Out.sh fun _ => .load Cell.w <| .loadJ Out.sh fun _ => .load
    Cell.w <| .loadJ Out.ub fun _ => .load Cell.w <| .ret rfl

theorem part29 (i : grid0.Coords) (σ : St F) (v844 : FVec F S256x256 .f32) (v923 : FVec F S16x8x128 .f32) (v930 : FVec F S16x8x128 .f32) : Runs M J (on M h J hJ (k0_part29 (F := F) i) v844 v923 v930) (σ) fun _ σ' => σ' = σ := by
  unfold on k0_part29
  exact .loadJ Out.sh fun _ => .load Cell.w <| .loadJ Out.lhs fun _ => .loadJ Out.lhs fun _ => .storeJ Out.lhs <|
    .loadJ Out.lhs fun _ => .load Cell.w0 <| .loadJ Out.sh fun _ => .load Cell.w <| .ret rfl

theorem part30 (i : grid0.Coords) (σ : St F) (v940 : FVec F S16x8x128 .f32) (v964 : FVec F S16x8x128 .f32) (v965 : FVec F S1x8x128 .f32) : Runs M J (on M h J hJ (k0_part30 (F := F) i) v940 v964 v965) (σ) fun _ σ' => σ' = σ := by
  unfold on k0_part30
  exact .loadJ Out.sh fun _ => .load Cell.w <| .loadJ Out.sh fun _ => .load Cell.w <| .loadJ Out.sh fun _ => .load
    Cell.w <| .loadJ Out.sh fun _ => .load Cell.w <| .ret rfl

theorem part31 (i : grid0.Coords) (σ : St F) (v995 : FVec F S16x8x128 .f32) (v1000 : FVec F S16x8x128 .f32) (v1001 : FVec F S1x8x128 .f32) : Runs M J (on M h J hJ (k0_part31 (F := F) i) v995 v1000 v1001) (σ) fun _ σ' => σ' = σ := by
  unfold on k0_part31
  exact .loadJ Out.sh fun _ => .load Cell.w <| .loadJ Out.ub fun _ => .load Cell.w <| .loadJ Out.sh fun _ => .load
    Cell.w <| .loadJ Out.sh fun _ => .load Cell.w <| .ret rfl

theorem part32 (i : grid0.Coords) (σ : St F) (v959 : FVec F S256x256 .f32) (v1030 : FVec F S16x8x128 .f32) (v1038 : FVec F S16x8x128 .f32) : Runs M J (on M h J hJ (k0_part32 (F := F) i) v959 v1030 v1038) (σ) fun _ σ' => σ' = σ := by
  unfold on k0_part32
  exact .loadJ Out.sh fun _ => .load Cell.w <| .loadJ Out.lhs fun _ => .loadJ Out.lhs fun _ => .storeJ Out.lhs <|
    .loadJ Out.lhs fun _ => .load Cell.w0 <| .loadJ Out.qkv fun _ => .storeJ Out.qkv <| .loadJ Out.sh fun _ => .ret
    rfl

theorem part33 (i : grid0.Coords) (σ : St F) (v1048 : FVec F S16x8x128 .f32) (v1071 : FVec F S128x128 .f32) : Runs M J (on M h J hJ (k0_part33 (F := F) i) v1048 v1071) (σ) fun _ σ' => σ' = σ := by
  unfold on k0_part33
  exact .load Cell.w <| .loadJ Out.sh fun _ => .load Cell.w <| .loadJ Out.sh fun _ => .load Cell.w <| .loadJ Out.sh
    fun _ => .load Cell.w <| .loadJ Out.ub fun _ => .load Cell.w <| .ret rfl

theorem part34 (i : grid0.Coords) (σ : St F) (v1105 : FVec F S16x8x128 .f32) (v1106 : Vec F S128x128 .f32) (v1107 : Vec F S1x8x128 .f32) : Runs M J (on M h J hJ (k0_part34 (F := F) i) v1105 v1106 v1107) (σ) fun _ σ' => σ' = σ := by
  unfold on k0_part34
  exact .loadJ Out.sh fun _ => .load Cell.w <| .loadJ Out.sh fun _ => .load Cell.w <| .loadJ Out.sh fun _ => .load
    Cell.w <| .loadJ Out.sh fun _ => .load Cell.w <| .ret rfl

theorem part35 (i : grid0.Coords) (σ : St F) (v1140 : FVec F S16x8x128 .f32) (v1142 : FVec F S128x128 .f32) (v1143 : Vec F S1x8x128 .f32) : Runs M J (on M h J hJ (k0_part35 (F := F) i) v1140 v1142 v1143) (σ) fun _ σ' => σ' = σ := by
  unfold on k0_part35
  exact .loadJ Out.sh fun _ => .load Cell.w <| .loadJ Out.lhs fun _ => .loadJ Out.lhs fun _ => .storeJ Out.lhs <|
    .loadJ Out.lhs fun _ => .load Cell.w0 <| .loadJ Out.sh fun _ => .ret rfl

theorem part36 (i : grid0.Coords) (σ : St F) (v1158 : FVec F S16x8x128 .f32) (v1178 : FVec F S128x128 .f32) : Runs M J (on M h J hJ (k0_part36 (F := F) i) v1158 v1178) (σ) fun _ σ' => σ' = σ := by
  unfold on k0_part36
  exact .load Cell.w <| .loadJ Out.sh fun _ => .load Cell.w <| .loadJ Out.ub fun _ => .load Cell.w <| .loadJ Out.cb
    fun _ => .storeJ Out.cb <| .load Cell.b <| .loadJ Out.sh fun _ => .load Cell.w <| .ret rfl

theorem part37 (i : grid0.Coords) (σ : St F) (v1210 : FVec F S16x8x128 .f32) (v1215 : FVec F S16x8x128 .f32) (v1216 : FVec F S1x8x128 .f32) : Runs M J (on M h J hJ (k0_part37 (F := F) i) v1210 v1215 v1216) (σ) fun _ σ' => σ' = σ := by
  unfold on k0_part37
  exact .loadJ Out.sh fun _ => .load Cell.w <| .loadJ Out.sh fun _ => .load Cell.w <| .loadJ Out.sh fun _ => .load
    Cell.w <| .loadJ Out.sh fun _ => .load Cell.w <| .ret rfl

theorem part38 (i : grid0.Coords) (σ : St F) (v1246 : FVec F S16x8x128 .f32) (v1251 : FVec F S16x8x128 .f32) (v1252 : FVec F S1x8x128 .f32) : Runs M J (on M h J hJ (k0_part38 (F := F) i) v1246 v1251 v1252) (σ) fun _ σ' => σ' = σ := by
  unfold on k0_part38
  exact .loadJ Out.sh fun _ => .load Cell.w <| .loadJ Out.ub fun _ => .load Cell.w <| .loadJ Out.lhs fun _ => .loadJ
    Out.lhs fun _ => .storeJ Out.lhs <| .loadJ Out.lhs fun _ => .load Cell.w0 <| .ret rfl

theorem part39 (i : grid0.Coords) (σ : St F) (v1176 : FVec F S256x256 .f32) (v1272 : FVec F S16x8x128 .f32) (v1287 : Vec F S256x512 .bf16) (v1289 : FVec F S512x256 .bf16) : Runs M J (on M h J hJ (k0_part39 (F := F) i) v1176 v1272 v1287 v1289) (σ) fun _ σ' => σ' = σ := by
  unfold on k0_part39
  exact .loadJ Out.sh fun _ => .load Cell.w <| .loadJ Out.sh fun _ => .load Cell.w <| .loadJ Out.sh fun _ => .load
    Cell.w <| .loadJ Out.sh fun _ => .load Cell.w <| .ret rfl

theorem part40 (i : grid0.Coords) (σ : St F) (v1318 : FVec F S16x8x128 .f32) (v1323 : FVec F S16x8x128 .f32) (v1324 : FVec F S1x8x128 .f32) : Runs M J (on M h J hJ (k0_part40 (F := F) i) v1318 v1323 v1324) (σ) fun _ σ' => σ' = σ := by
  unfold on k0_part40
  exact .loadJ Out.sh fun _ => .load Cell.w <| .loadJ Out.sh fun _ => .load Cell.w <| .loadJ Out.sh fun _ => .load
    Cell.w <| .loadJ Out.ub fun _ => .load Cell.w <| .ret rfl

theorem part41 (i : grid0.Coords) (σ : St F) (v1354 : FVec F S16x8x128 .f32) (v1361 : FVec F S16x8x128 .f32) : Runs M J (on M h J hJ (k0_part41 (F := F) i) v1354 v1361) (σ) fun _ σ' => σ' = σ := by
  unfold on k0_part41
  exact .loadJ Out.sh fun _ => .load Cell.w <| .loadJ Out.sh fun _ => .load Cell.w <| .loadJ Out.lhs fun _ => .loadJ
    Out.lhs fun _ => .storeJ Out.lhs <| .loadJ Out.lhs fun _ => .load Cell.w0 <| .ret rfl

theorem part42 (i : grid0.Coords) (σ : St F) (v1291 : FVec F S256x256 .f32) (v1380 : FVec F S16x8x128 .f32) (v1395 : Vec F S256x512 .bf16) (v1397 : FVec F S512x256 .bf16) : Runs M J (on M h J hJ (k0_part42 (F := F) i) v1291 v1380 v1395 v1397) (σ) fun _ σ' => σ' = σ := by
  unfold on k0_part42
  exact .loadJ Out.sh fun _ => .load Cell.w <| .loadJ Out.sh fun _ => .load Cell.w <| .loadJ Out.sh fun _ => .load
    Cell.w <| .loadJ Out.sh fun _ => .load Cell.w <| .ret rfl

theorem part43 (i : grid0.Coords) (σ : St F) (v1426 : FVec F S16x8x128 .f32) (v1431 : FVec F S16x8x128 .f32) (v1432 : FVec F S1x8x128 .f32) : Runs M J (on M h J hJ (k0_part43 (F := F) i) v1426 v1431 v1432) (σ) fun _ σ' => σ' = σ := by
  unfold on k0_part43
  exact .loadJ Out.sh fun _ => .load Cell.w <| .loadJ Out.ub fun _ => .load Cell.w <| .loadJ Out.sh fun _ => .load
    Cell.w <| .loadJ Out.sh fun _ => .load Cell.w <| .ret rfl

theorem part44 (i : grid0.Coords) (σ : St F) (v1461 : FVec F S16x8x128 .f32) (v1469 : FVec F S16x8x128 .f32) : Runs M J (on M h J hJ (k0_part44 (F := F) i) v1461 v1469) (σ) fun _ σ' => σ' = σ := by
  unfold on k0_part44
  exact .loadJ Out.sh fun _ => .load Cell.w <| .loadJ Out.sh fun _ => .load Cell.w <| .loadJ Out.lhs fun _ => .loadJ
    Out.lhs fun _ => .storeJ Out.lhs <| .loadJ Out.lhs fun _ => .load Cell.w0 <| .ret rfl

theorem part45 (i : grid0.Coords) (σ : St F) (v1399 : FVec F S256x256 .f32) (v1488 : FVec F S16x8x128 .f32) (v1503 : Vec F S256x512 .bf16) (v1505 : FVec F S512x256 .bf16) : Runs M J (on M h J hJ (k0_part45 (F := F) i) v1399 v1488 v1503 v1505) (σ) fun _ σ' => σ' = σ := by
  unfold on k0_part45
  exact .loadJ Out.qkv fun _ => .storeJ Out.qkv <| .loadJ Out.sh fun _ => .load Cell.w <| .loadJ Out.sh fun _ => .load
    Cell.w <| .loadJ Out.sh fun _ => .load Cell.w <| .loadJ Out.ub fun _ => .load Cell.w <| .ret rfl

theorem part46 (i : grid0.Coords) (σ : St F) (v1536 : FVec F S16x8x128 .f32) (v1537 : Vec F S128x128 .f32) (v1538 : Vec F S1x8x128 .f32) : Runs M J (on M h J hJ (k0_part46 (F := F) i) v1536 v1537 v1538) (σ) fun _ σ' => σ' = σ := by
  unfold on k0_part46
  exact .loadJ Out.cb fun _ => .storeJ Out.cb <| .load Cell.b <| .loadJ Out.sh fun _ => .load Cell.w <| .loadJ Out.sh
    fun _ => .load Cell.w <| .loadJ Out.sh fun _ => .load Cell.w <| .ret rfl

theorem part47 (i : grid0.Coords) (σ : St F) (v1570 : FVec F S16x8x128 .f32) (v1574 : FVec F S8x128 .f32) (v1575 : FVec F S16x8x128 .f32) : Runs M J (on M h J hJ (k0_part47 (F := F) i) v1570 v1574 v1575) (σ) fun _ σ' => σ' = σ := by
  unfold on k0_part47
  exact .loadJ Out.sh fun _ => .load Cell.w <| .loadJ Out.sh fun _ => .load Cell.w <| .loadJ Out.sh fun _ => .load
    Cell.w <| .ret rfl

theorem part48 (i : grid0.Coords) (σ : St F) (v1606 : FVec F S16x8x128 .f32) (v1614 : FVec F S16x128 .f32) : Runs M J (on M h J hJ (k0_part48 (F := F) i) v1606 v1614) (σ) fun _ σ' => σ' = σ := by
  unfold on k0_part48
  exact .loadJ Out.lhs fun _ => .loadJ Out.lhs fun _ => .storeJ Out.lhs <| .loadJ Out.lhs fun _ => .load Cell.w0 <|
    .loadJ Out.ub fun _ => .load Cell.w <| .loadJ Out.sh fun _ => .load Cell.w <| .loadJ Out.sh fun _ => .load Cell.w
    <| .ret rfl

theorem part49 (i : grid0.Coords) (σ : St F) (v1641 : FVec F S16x8x128 .f32) (v1646 : FVec F S16x8x128 .f32) (v1647 : FVec F S1x8x128 .f32) : Runs M J (on M h J hJ (k0_part49 (F := F) i) v1641 v1646 v1647) (σ) fun _ σ' => σ' = σ := by
  unfold on k0_part49
  exact .loadJ Out.sh fun _ => .load Cell.w <| .loadJ Out.sh fun _ => .load Cell.w <| .loadJ Out.sh fun _ => .load
    Cell.w <| .loadJ Out.sh fun _ => .load Cell.w <| .ret rfl

theorem part50 (i : grid0.Coords) (σ : St F) (v1677 : FVec F S16x8x128 .f32) (v1682 : FVec F S16x8x128 .f32) (v1683 : FVec F S1x8x128 .f32) : Runs M J (on M h J hJ (k0_part50 (F := F) i) v1677 v1682 v1683) (σ) fun _ σ' => σ' = σ := by
  unfold on k0_part50
  exact .loadJ Out.sh fun _ => .load Cell.w <| .loadJ Out.ub fun _ => .load Cell.w <| .loadJ Out.sh fun _ => .load
    Cell.w <| .ret rfl

theorem part51 (i : grid0.Coords) (σ : St F) (v1624 : FVec F S256x256 .f32) (v1712 : FVec F S16x8x128 .f32) (v1721 : FVec F S16x128 .bf16) : Runs M J (on M h J hJ (k0_part51 (F := F) i) v1624 v1712 v1721) (σ) fun _ σ' => σ' = σ := by
  unfold on k0_part51
  exact .loadJ Out.lhs fun _ => .loadJ Out.lhs fun _ => .storeJ Out.lhs <| .loadJ Out.lhs fun _ => .load Cell.w0 <|
    .loadJ Out.sh fun _ => .load Cell.w <| .loadJ Out.sh fun _ => .load Cell.w <| .loadJ Out.sh fun _ => .load Cell.w
    <| .ret rfl

theorem part52 (i : grid0.Coords) (σ : St F) (v1749 : FVec F S16x8x128 .f32) (v1754 : FVec F S16x8x128 .f32) (v1755 : FVec F S1x8x128 .f32) : Runs M J (on M h J hJ (k0_part52 (F := F) i) v1749 v1754 v1755) (σ) fun _ σ' => σ' = σ := by
  unfold on k0_part52
  exact .loadJ Out.sh fun _ => .load Cell.w <| .loadJ Out.sh fun _ => .load Cell.w <| .loadJ Out.sh fun _ => .load
    Cell.w <| .loadJ Out.ub fun _ => .load Cell.w <| .ret rfl

theorem part53 (i : grid0.Coords) (σ : St F) (v1785 : FVec F S16x8x128 .f32) (v1792 : FVec F S16x8x128 .f32) : Runs M J (on M h J hJ (k0_part53 (F := F) i) v1785 v1792) (σ) fun _ σ' => σ' = σ := by
  unfold on k0_part53
  exact .loadJ Out.sh fun _ => .load Cell.w <| .loadJ Out.sh fun _ => .load Cell.w <| .loadJ Out.sh fun _ => .load
    Cell.w <| .ret rfl

theorem part54 (i : grid0.Coords) (σ : St F) (v1731 : FVec F S256x256 .f32) (v1820 : FVec F S16x8x128 .f32) (v1829 : FVec F S16x128 .bf16) : Runs M J (on M h J hJ (k0_part54 (F := F) i) v1731 v1820 v1829) (σ) fun _ σ' => σ' = σ := by
  unfold on k0_part54
  exact .loadJ Out.lhs fun _ => .loadJ Out.lhs fun _ => .storeJ Out.lhs <| .loadJ Out.lhs fun _ => .load Cell.w0 <|
    .loadJ Out.sh fun _ => .load Cell.w <| .loadJ Out.sh fun _ => .load Cell.w <| .loadJ Out.sh fun _ => .load Cell.w
    <| .ret rfl

end Cert.Kernel4.Qkv

end
-- ==== Proof.Qkv.Kernel.Parts3.lean ====
/-
  The run of parts 55 to 81 of the printed program, each over the cells it is given: the stores
  to forgotten memory are passed over, the others change the contents as said.
-/
module

public import proofs.«01_k».proof.Proof.Qkv.Kernel.Cells

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part55 (i : grid0.Coords) (σ : St F) (v1857 : FVec F S16x8x128 .f32) (v1862 : FVec F S16x8x128 .f32) (v1863 : FVec F S1x8x128 .f32) : Runs M J (on M h J hJ (k0_part55 (F := F) i) v1857 v1862 v1863) (σ) fun _ σ' => σ' = σ := by
  unfold on k0_part55
  exact .loadJ Out.sh fun _ => .load Cell.w <| .loadJ Out.ub fun _ => .load Cell.w <| .loadJ Out.cb fun _ => .storeJ
    Out.cb <| .load Cell.b <| .loadJ Out.sh fun _ => .load Cell.w <| .ret rfl

theorem part56 (i : grid0.Coords) (σ : St F) (v1900 : FVec F S16x8x128 .f32) : Runs M J (on M h J hJ (k0_part56 (F := F) i) v1900) (σ) fun _ σ' => σ' = σ := by
  unfold on k0_part56
  exact .loadJ Out.sh fun _ => .load Cell.w <| .loadJ Out.sh fun _ => .load Cell.w <| .loadJ Out.sh fun _ => .load
    Cell.w <| .loadJ Out.sh fun _ => .load Cell.w <| .ret rfl

theorem part57 (i : grid0.Coords) (σ : St F) (v1839 : FVec F S256x256 .f32) (v1936 : FVec F S16x8x128 .f32) : Runs M J (on M h J hJ (k0_part57 (F := F) i) v1839 v1936) (σ) fun _ σ' => σ' = σ := by
  unfold on k0_part57
  exact .loadJ Out.lhs fun _ => .loadJ Out.lhs fun _ => .storeJ Out.lhs <| .loadJ Out.lhs fun _ => .load Cell.w0 <|
    .loadJ Out.qkv fun _ => .storeJ Out.qkv <| .loadJ Out.sh fun _ => .load Cell.w <| .loadJ Out.ub fun _ => .load
    Cell.w <| .ret rfl

theorem part58 (i : grid0.Coords) (σ : St F) (v1966 : FVec F S16x8x128 .f32) (v1969 : FVec F S8x128 .f32) (v1970 : FVec F S16x8x128 .f32) : Runs M J (on M h J hJ (k0_part58 (F := F) i) v1966 v1969 v1970) (σ) fun _ σ' => σ' = σ := by
  unfold on k0_part58
  exact .loadJ Out.sh fun _ => .load Cell.w <| .loadJ Out.sh fun _ => .load Cell.w <| .loadJ Out.sh fun _ => .load
    Cell.w <| .loadJ Out.sh fun _ => .load Cell.w <| .ret rfl

theorem part59 (i : grid0.Coords) (σ : St F) (v2001 : FVec F S16x8x128 .f32) (v2005 : FVec F S8x128 .f32) (v2006 : FVec F S16x8x128 .f32) : Runs M J (on M h J hJ (k0_part59 (F := F) i) v2001 v2005 v2006) (σ) fun _ σ' => σ' = σ := by
  unfold on k0_part59
  exact .loadJ Out.sh fun _ => .load Cell.w <| .loadJ Out.sh fun _ => .load Cell.w <| .loadJ Out.sh fun _ => .load
    Cell.w <| .loadJ Out.ub fun _ => .load Cell.w <| .ret rfl

theorem part60 (i : grid0.Coords) (σ : St F) (v2037 : FVec F S16x8x128 .f32) (v2041 : FVec F S16x8x128 .f32) (v2043 : FVec F S16x8x128 .f32) : Runs M J (on M h J hJ (k0_part60 (F := F) i) v2037 v2041 v2043) (σ) fun _ σ' => σ' = σ := by
  unfold on k0_part60
  exact .loadJ Out.lhs fun _ => .loadJ Out.lhs fun _ => .storeJ Out.lhs <| .loadJ Out.lhs fun _ => .load Cell.w1 <|
    .loadJ Out.sh fun _ => .load Cell.w <| .loadJ Out.sh fun _ => .load Cell.w <| .ret rfl

theorem part61 (i : grid0.Coords) (σ : St F) (v2072 : FVec F S16x8x128 .f32) (v2077 : FVec F S16x8x128 .f32) (v2078 : FVec F S1x8x128 .f32) : Runs M J (on M h J hJ (k0_part61 (F := F) i) v2072 v2077 v2078) (σ) fun _ σ' => σ' = σ := by
  unfold on k0_part61
  exact .loadJ Out.sh fun _ => .load Cell.w <| .loadJ Out.sh fun _ => .load Cell.w <| .loadJ Out.sh fun _ => .load
    Cell.w <| .loadJ Out.sh fun _ => .load Cell.w <| .ret rfl

theorem part62 (i : grid0.Coords) (σ : St F) (v2108 : FVec F S16x8x128 .f32) (v2113 : FVec F S16x8x128 .f32) (v2114 : FVec F S1x8x128 .f32) : Runs M J (on M h J hJ (k0_part62 (F := F) i) v2108 v2113 v2114) (σ) fun _ σ' => σ' = σ := by
  unfold on k0_part62
  exact .loadJ Out.sh fun _ => .load Cell.w <| .loadJ Out.ub fun _ => .load Cell.w <| .loadJ Out.sh fun _ => .load
    Cell.w <| .loadJ Out.sh fun _ => .load Cell.w <| .ret rfl

theorem part63 (i : grid0.Coords) (σ : St F) (v2063 : FVec F S256x256 .f32) (v2143 : FVec F S16x8x128 .f32) (v2151 : FVec F S16x8x128 .f32) : Runs M J (on M h J hJ (k0_part63 (F := F) i) v2063 v2143 v2151) (σ) fun _ σ' => σ' = σ := by
  unfold on k0_part63
  exact .loadJ Out.lhs fun _ => .loadJ Out.lhs fun _ => .storeJ Out.lhs <| .loadJ Out.lhs fun _ => .load Cell.w1 <|
    .loadJ Out.sh fun _ => .load Cell.w <| .loadJ Out.sh fun _ => .load Cell.w <| .ret rfl

theorem part64 (i : grid0.Coords) (σ : St F) (v2180 : FVec F S16x8x128 .f32) (v2185 : FVec F S16x8x128 .f32) (v2186 : FVec F S1x8x128 .f32) : Runs M J (on M h J hJ (k0_part64 (F := F) i) v2180 v2185 v2186) (σ) fun _ σ' => σ' = σ := by
  unfold on k0_part64
  exact .loadJ Out.sh fun _ => .load Cell.w <| .loadJ Out.sh fun _ => .load Cell.w <| .loadJ Out.sh fun _ => .load
    Cell.w <| .loadJ Out.ub fun _ => .load Cell.w <| .ret rfl

theorem part65 (i : grid0.Coords) (σ : St F) (v2216 : FVec F S16x8x128 .f32) (v2223 : FVec F S16x8x128 .f32) : Runs M J (on M h J hJ (k0_part65 (F := F) i) v2216 v2223) (σ) fun _ σ' => σ' = σ := by
  unfold on k0_part65
  exact .loadJ Out.cb fun _ => .storeJ Out.cb <| .load Cell.b <| .loadJ Out.sh fun _ => .load Cell.w <| .loadJ Out.sh
    fun _ => .load Cell.w <| .loadJ Out.sh fun _ => .load Cell.w <| .ret rfl

theorem part66 (i : grid0.Coords) (σ : St F) (v2171 : FVec F S256x256 .f32) (v2259 : FVec F S16x8x128 .f32) : Runs M J (on M h J hJ (k0_part66 (F := F) i) v2171 v2259) (σ) fun _ σ' => σ' = σ := by
  unfold on k0_part66
  exact .loadJ Out.sh fun _ => .load Cell.w <| .loadJ Out.lhs fun _ => .loadJ Out.lhs fun _ => .storeJ Out.lhs <|
    .loadJ Out.lhs fun _ => .load Cell.w1 <| .loadJ Out.sh fun _ => .load Cell.w <| .ret rfl

theorem part67 (i : grid0.Coords) (σ : St F) (v2268 : FVec F S16x8x128 .f32) (v2295 : FVec F S16x8x128 .f32) : Runs M J (on M h J hJ (k0_part67 (F := F) i) v2268 v2295) (σ) fun _ σ' => σ' = σ := by
  unfold on k0_part67
  exact .loadJ Out.sh fun _ => .load Cell.w <| .loadJ Out.ub fun _ => .load Cell.w <| .loadJ Out.sh fun _ => .load
    Cell.w <| .loadJ Out.sh fun _ => .load Cell.w <| .ret rfl

theorem part68 (i : grid0.Coords) (σ : St F) (v2331 : FVec F S16x8x128 .f32) : Runs M J (on M h J hJ (k0_part68 (F := F) i) v2331) (σ) fun _ σ' => σ' = σ := by
  unfold on k0_part68
  exact .loadJ Out.sh fun _ => .load Cell.w <| .loadJ Out.sh fun _ => .load Cell.w <| .loadJ Out.sh fun _ => .load
    Cell.w <| .loadJ Out.sh fun _ => .load Cell.w <| .ret rfl

theorem part69 (i : grid0.Coords) (σ : St F) (v2287 : FVec F S256x256 .f32) (v2367 : FVec F S16x8x128 .f32) : Runs M J (on M h J hJ (k0_part69 (F := F) i) v2287 v2367) (σ) fun _ σ' => σ' = σ := by
  unfold on k0_part69
  exact .loadJ Out.sh fun _ => .load Cell.w <| .loadJ Out.lhs fun _ => .loadJ Out.lhs fun _ => .storeJ Out.lhs <|
    .loadJ Out.lhs fun _ => .load Cell.w1 <| .loadJ Out.qkv fun _ => .storeJ Out.qkv <| .loadJ Out.ub fun _ => .load
    Cell.w <| .ret rfl

theorem part70 (i : grid0.Coords) (σ : St F) (v2376 : FVec F S16x8x128 .f32) (v2400 : FVec F S8x128 .f32) (v2401 : FVec F S16x8x128 .f32) : Runs M J (on M h J hJ (k0_part70 (F := F) i) v2376 v2400 v2401) (σ) fun _ σ' => σ' = σ := by
  unfold on k0_part70
  exact .loadJ Out.sh fun _ => .load Cell.w <| .loadJ Out.sh fun _ => .load Cell.w <| .loadJ Out.sh fun _ => .load
    Cell.w <| .loadJ Out.sh fun _ => .load Cell.w <| .ret rfl

theorem part71 (i : grid0.Coords) (σ : St F) (v2432 : FVec F S16x8x128 .f32) (v2436 : FVec F S8x128 .f32) (v2437 : FVec F S16x8x128 .f32) : Runs M J (on M h J hJ (k0_part71 (F := F) i) v2432 v2436 v2437) (σ) fun _ σ' => σ' = σ := by
  unfold on k0_part71
  exact .loadJ Out.sh fun _ => .load Cell.w <| .loadJ Out.sh fun _ => .load Cell.w <| .loadJ Out.sh fun _ => .load
    Cell.w <| .loadJ Out.ub fun _ => .load Cell.w <| .ret rfl

theorem part72 (i : grid0.Coords) (σ : St F) (v2468 : FVec F S16x8x128 .f32) (v2472 : FVec F S16x8x128 .f32) (v2474 : FVec F S16x8x128 .f32) : Runs M J (on M h J hJ (k0_part72 (F := F) i) v2468 v2472 v2474) (σ) fun _ σ' => σ' = σ := by
  unfold on k0_part72
  exact .loadJ Out.sh fun _ => .load Cell.w <| .loadJ Out.lhs fun _ => .loadJ Out.lhs fun _ => .storeJ Out.lhs <|
    .loadJ Out.lhs fun _ => .load Cell.w1 <| .loadJ Out.sh fun _ => .load Cell.w <| .ret rfl

theorem part73 (i : grid0.Coords) (σ : St F) (v2485 : FVec F S16x8x128 .f32) (v2508 : FVec F S16x8x128 .f32) (v2509 : FVec F S1x8x128 .f32) : Runs M J (on M h J hJ (k0_part73 (F := F) i) v2485 v2508 v2509) (σ) fun _ σ' => σ' = σ := by
  unfold on k0_part73
  exact .loadJ Out.sh fun _ => .load Cell.w <| .loadJ Out.sh fun _ => .load Cell.w <| .loadJ Out.sh fun _ => .load
    Cell.w <| .loadJ Out.sh fun _ => .load Cell.w <| .ret rfl

theorem part74 (i : grid0.Coords) (σ : St F) (v2539 : FVec F S16x8x128 .f32) (v2544 : FVec F S16x8x128 .f32) (v2545 : FVec F S1x8x128 .f32) : Runs M J (on M h J hJ (k0_part74 (F := F) i) v2539 v2544 v2545) (σ) fun _ σ' => σ' = σ := by
  unfold on k0_part74
  exact .loadJ Out.sh fun _ => .load Cell.w <| .loadJ Out.ub fun _ => .load Cell.w <| .loadJ Out.cb fun _ => .storeJ
    Out.cb <| .load Cell.b <| .loadJ Out.sh fun _ => .load Cell.w <| .ret rfl

theorem part75 (i : grid0.Coords) (σ : St F) (v2582 : FVec F S16x8x128 .f32) : Runs M J (on M h J hJ (k0_part75 (F := F) i) v2582) (σ) fun _ σ' => σ' = σ := by
  unfold on k0_part75
  exact .loadJ Out.sh fun _ => .load Cell.w <| .loadJ Out.sh fun _ => .load Cell.w <| .loadJ Out.lhs fun _ => .loadJ
    Out.lhs fun _ => .storeJ Out.lhs <| .loadJ Out.lhs fun _ => .load Cell.w1 <| .ret rfl

theorem part76 (i : grid0.Coords) (σ : St F) (v2503 : FVec F S256x256 .f32) (v2600 : FVec F S16x8x128 .f32) (v2618 : FVec F S256x256 .f32) : Runs M J (on M h J hJ (k0_part76 (F := F) i) v2503 v2600 v2618) (σ) fun _ σ' => σ' = σ := by
  unfold on k0_part76
  exact .loadJ Out.sh fun _ => .load Cell.w <| .loadJ Out.sh fun _ => .load Cell.w <| .loadJ Out.sh fun _ => .load
    Cell.w <| .loadJ Out.ub fun _ => .load Cell.w <| .ret rfl

theorem part77 (i : grid0.Coords) (σ : St F) (v2654 : FVec F S16x8x128 .f32) : Runs M J (on M h J hJ (k0_part77 (F := F) i) v2654) (σ) fun _ σ' => σ' = σ := by
  unfold on k0_part77
  exact .loadJ Out.sh fun _ => .load Cell.w <| .loadJ Out.sh fun _ => .load Cell.w <| .loadJ Out.sh fun _ => .load
    Cell.w <| .loadJ Out.sh fun _ => .load Cell.w <| .ret rfl

theorem part78 (i : grid0.Coords) (σ : St F) (v2690 : FVec F S16x8x128 .f32) : Runs M J (on M h J hJ (k0_part78 (F := F) i) v2690) (σ) fun _ σ' => σ' = σ := by
  unfold on k0_part78
  exact .loadJ Out.sh fun _ => .load Cell.w <| .loadJ Out.sh fun _ => .load Cell.w <| .loadJ Out.lhs fun _ => .loadJ
    Out.lhs fun _ => .storeJ Out.lhs <| .loadJ Out.lhs fun _ => .load Cell.w1 <| .ret rfl

theorem part79 (i : grid0.Coords) (σ : St F) (v2619 : FVec F S256x256 .f32) (v2708 : FVec F S16x8x128 .f32) (v2726 : FVec F S256x256 .f32) : Runs M J (on M h J hJ (k0_part79 (F := F) i) v2619 v2708 v2726) (σ) fun _ σ' => σ' = σ := by
  unfold on k0_part79
  exact .loadJ Out.sh fun _ => .load Cell.w <| .loadJ Out.ub fun _ => .load Cell.w <| .loadJ Out.sh fun _ => .load
    Cell.w <| .loadJ Out.sh fun _ => .load Cell.w <| .ret rfl

theorem part80 (i : grid0.Coords) (σ : St F) (v2762 : FVec F S16x8x128 .f32) : Runs M J (on M h J hJ (k0_part80 (F := F) i) v2762) (σ) fun _ σ' => σ' = σ := by
  unfold on k0_part80
  exact .loadJ Out.sh fun _ => .load Cell.w <| .loadJ Out.sh fun _ => .load Cell.w <| .loadJ Out.sh fun _ => .load
    Cell.w <| .loadJ Out.sh fun _ => .load Cell.w <| .ret rfl

theorem part81 (i : grid0.Coords) (σ : St F) (v2727 : FVec F S256x256 .f32) (v2798 : FVec F S16x8x128 .f32) : Runs M J (on M h J hJ (k0_part81 (F := F) i) v2727 v2798) (σ) fun _ σ' => σ' = σ := by
  unfold on k0_part81
  exact .loadJ Out.sh fun _ => .load Cell.w <| .loadJ Out.ub fun _ => .load Cell.w <| .loadJ Out.lhs fun _ => .loadJ
    Out.lhs fun _ => .storeJ Out.lhs <| .loadJ Out.lhs fun _ => .load Cell.w1 <| .ret rfl

end Cert.Kernel4.Qkv

end
-- ==== Proof.Qkv.Kernel.Parts4.lean ====
/-
  The run of parts 82 to 108 of the printed program, each over the cells it is given: the stores
  to forgotten memory are passed over, the others change the contents as said.
-/
module

public import proofs.«01_k».proof.Proof.Qkv.Kernel.Cells

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part82 (i : grid0.Coords) (σ : St F) (v2815 : FVec F S16x8x128 .f32) (v2835 : FVec F S256x256 .bf16) : Runs M J (on M h J hJ (k0_part82 (F := F) i) v2815 v2835) (σ) fun _ σ' => σ' = σ := by
  unfold on k0_part82
  exact .loadJ Out.qkv fun _ => .storeJ Out.qkv <| .loadJ Out.sh fun _ => .load Cell.w <| .loadJ Out.sh fun _ => .load
    Cell.w <| .loadJ Out.sh fun _ => .load Cell.w <| .loadJ Out.sh fun _ => .load Cell.w <| .ret rfl

theorem part83 (i : grid0.Coords) (σ : St F) (v2863 : FVec F S16x8x128 .f32) (v2867 : FVec F S8x128 .f32) (v2868 : FVec F S16x8x128 .f32) : Runs M J (on M h J hJ (k0_part83 (F := F) i) v2863 v2867 v2868) (σ) fun _ σ' => σ' = σ := by
  unfold on k0_part83
  exact .loadJ Out.sh fun _ => .load Cell.w <| .loadJ Out.sh fun _ => .load Cell.w <| .loadJ Out.sh fun _ => .load
    Cell.w <| .loadJ Out.ub fun _ => .load Cell.w <| .ret rfl

theorem part84 (i : grid0.Coords) (σ : St F) (v2899 : FVec F S16x8x128 .f32) (v2903 : FVec F S16x8x128 .f32) (v2905 : FVec F S16x8x128 .f32) : Runs M J (on M h J hJ (k0_part84 (F := F) i) v2899 v2903 v2905) (σ) fun _ σ' => σ' = σ := by
  unfold on k0_part84
  exact .loadJ Out.cb fun _ => .storeJ Out.cb <| .loadJ Out.cb fun _ => .load Cell.lw <| .load Cell.lb <| .loadJ Out.o
    fun _ => .storeJ Out.o <| .load Cell.b <| .ret rfl

theorem part85 (i : grid0.Coords) (σ : St F) (v2944 : FVec F S16x8x128 .f32) : Runs M J (on M h J hJ (k0_part85 (F := F) i) v2944) (σ) fun _ σ' => σ' = σ := by
  unfold on k0_part85
  exact .loadJ Out.sh fun _ => .load Cell.w <| .loadJ Out.sh fun _ => .load Cell.w <| .loadJ Out.lhs fun _ => .loadJ
    Out.lhs fun _ => .storeJ Out.lhs <| .loadJ Out.lhs fun _ => .load Cell.w1 <| .ret rfl

theorem part86 (i : grid0.Coords) (σ : St F) (v2962 : FVec F S16x8x128 .f32) : Runs M J (on M h J hJ (k0_part86 (F := F) i) v2962) (σ) fun _ σ' => σ' = σ := by
  unfold on k0_part86
  exact .loadJ Out.sh fun _ => .load Cell.w <| .loadJ Out.sh fun _ => .load Cell.w <| .loadJ Out.sh fun _ => .load
    Cell.w <| .loadJ Out.sh fun _ => .load Cell.w <| .ret rfl

theorem part87 (i : grid0.Coords) (σ : St F) (v3016 : FVec F S16x8x128 .f32) : Runs M J (on M h J hJ (k0_part87 (F := F) i) v3016) (σ) fun _ σ' => σ' = σ := by
  unfold on k0_part87
  exact .loadJ Out.ub fun _ => .load Cell.w <| .loadJ Out.sh fun _ => .load Cell.w <| .loadJ Out.sh fun _ => .load
    Cell.w <| .loadJ Out.sh fun _ => .load Cell.w <| .ret rfl

theorem part88 (i : grid0.Coords) (σ : St F) (v2980 : FVec F S256x256 .f32) (v3051 : FVec F S16x8x128 .f32) : Runs M J (on M h J hJ (k0_part88 (F := F) i) v2980 v3051) (σ) fun _ σ' => σ' = σ := by
  unfold on k0_part88
  exact .loadJ Out.sh fun _ => .load Cell.w <| .loadJ Out.sh fun _ => .load Cell.w <| .loadJ Out.lhs fun _ => .loadJ
    Out.lhs fun _ => .storeJ Out.lhs <| .loadJ Out.lhs fun _ => .load Cell.w1 <| .ret rfl

theorem part89 (i : grid0.Coords) (σ : St F) (v3069 : FVec F S16x8x128 .f32) : Runs M J (on M h J hJ (k0_part89 (F := F) i) v3069) (σ) fun _ σ' => σ' = σ := by
  unfold on k0_part89
  exact .loadJ Out.sh fun _ => .load Cell.w <| .loadJ Out.sh fun _ => .load Cell.w <| .loadJ Out.ub fun _ => .load
    Cell.w <| .loadJ Out.sh fun _ => .load Cell.w <| .ret rfl

theorem part90 (i : grid0.Coords) (σ : St F) (v3123 : FVec F S16x8x128 .f32) : Runs M J (on M h J hJ (k0_part90 (F := F) i) v3123) (σ) fun _ σ' => σ' = σ := by
  unfold on k0_part90
  exact .loadJ Out.sh fun _ => .load Cell.w <| .loadJ Out.sh fun _ => .load Cell.w <| .loadJ Out.sh fun _ => .load
    Cell.w <| .loadJ Out.sh fun _ => .load Cell.w <| .ret rfl

theorem part91 (i : grid0.Coords) (σ : St F) (v3088 : FVec F S256x256 .f32) (v3159 : FVec F S16x8x128 .f32) : Runs M J (on M h J hJ (k0_part91 (F := F) i) v3088 v3159) (σ) fun _ σ' => σ' = σ := by
  unfold on k0_part91
  exact .loadJ Out.sh fun _ => .load Cell.w <| .loadJ Out.sh fun _ => .load Cell.w <| .loadJ Out.lhs fun _ => .loadJ
    Out.lhs fun _ => .storeJ Out.lhs <| .loadJ Out.lhs fun _ => .load Cell.w1 <| .ret rfl

theorem part92 (i : grid0.Coords) (σ : St F) (v3177 : FVec F S16x8x128 .f32) : Runs M J (on M h J hJ (k0_part92 (F := F) i) v3177) (σ) fun _ σ' => σ' = σ := by
  unfold on k0_part92
  exact .loadJ Out.ub fun _ => .load Cell.w <| .loadJ Out.sh fun _ => .load Cell.w <| .loadJ Out.sh fun _ => .load
    Cell.w <| .loadJ Out.sh fun _ => .load Cell.w <| .ret rfl

theorem part93 (i : grid0.Coords) (σ : St F) (v3231 : FVec F S16x8x128 .f32) : Runs M J (on M h J hJ (k0_part93 (F := F) i) v3231) (σ) fun _ σ' => σ' = σ := by
  unfold on k0_part93
  exact .loadJ Out.sh fun _ => .load Cell.w <| .loadJ Out.sh fun _ => .load Cell.w <| .loadJ Out.sh fun _ => .load
    Cell.w <| .loadJ Out.sh fun _ => .load Cell.w <| .loadJ Out.ub fun _ => .ret rfl

theorem part94 (i : grid0.Coords) (σ : St F) (v3267 : FVec F S16x8x128 .f32) (v3268 : Vec F S128x128 .f32) : Runs M J (on M h J hJ (k0_part94 (F := F) i) v3267 v3268) (σ) fun _ σ' => σ' = σ := by
  unfold on k0_part94
  exact .load Cell.w <| .loadJ Out.cb fun _ => .storeJ Out.cb <| .load Cell.b <| .loadJ Out.sh fun _ => .load Cell.w
    <| .loadJ Out.lhs fun _ => .loadJ Out.lhs fun _ => .storeJ Out.lhs <| .ret rfl

theorem part95 (i : grid0.Coords) (σ : St F) (v3196 : FVec F S256x256 .f32) (v3292 : FVec F S16x8x128 .f32) : Runs M J (on M h J hJ (k0_part95 (F := F) i) v3196 v3292) (σ) fun _ σ' => σ' = σ := by
  unfold on k0_part95
  exact .loadJ Out.lhs fun _ => .load Cell.w1 <| .loadJ Out.qkv fun _ => .storeJ Out.qkv <| .loadJ Out.sh fun _ =>
    .load Cell.w <| .loadJ Out.sh fun _ => .load Cell.w <| .loadJ Out.sh fun _ => .load Cell.w <| .ret rfl

theorem part96 (i : grid0.Coords) (σ : St F) (v3340 : FVec F S16x8x128 .f32) : Runs M J (on M h J hJ (k0_part96 (F := F) i) v3340) (σ) fun _ σ' => σ' = σ := by
  unfold on k0_part96
  exact .loadJ Out.sh fun _ => .load Cell.w <| .loadJ Out.sh fun _ => .load Cell.w <| .loadJ Out.ub fun _ => .load
    Cell.w <| .loadJ Out.sh fun _ => .load Cell.w <| .ret rfl

theorem part97 (i : grid0.Coords) (σ : St F) (v3375 : FVec F S16x8x128 .f32) : Runs M J (on M h J hJ (k0_part97 (F := F) i) v3375) (σ) fun _ σ' => σ' = σ := by
  unfold on k0_part97
  exact .loadJ Out.sh fun _ => .load Cell.w <| .loadJ Out.sh fun _ => .load Cell.w <| .loadJ Out.sh fun _ => .load
    Cell.w <| .loadJ Out.lhs fun _ => .ret rfl

theorem part98 (i : grid0.Coords) (σ : St F) (v3402 : FVec F S16x8x128 .f32) (v3413 : FVec F S16x128 .bf16) : Runs M J (on M h J hJ (k0_part98 (F := F) i) v3402 v3413) (σ) fun _ σ' => σ' = σ := by
  unfold on k0_part98
  exact .loadJ Out.lhs fun _ => .storeJ Out.lhs <| .loadJ Out.lhs fun _ => .load Cell.w1 <| .loadJ Out.sh fun _ =>
    .load Cell.w <| .loadJ Out.sh fun _ => .load Cell.w <| .loadJ Out.sh fun _ => .load Cell.w <| .ret rfl

theorem part99 (i : grid0.Coords) (σ : St F) (v3447 : FVec F S16x8x128 .f32) : Runs M J (on M h J hJ (k0_part99 (F := F) i) v3447) (σ) fun _ σ' => σ' = σ := by
  unfold on k0_part99
  exact .loadJ Out.ub fun _ => .load Cell.w <| .loadJ Out.sh fun _ => .load Cell.w <| .loadJ Out.sh fun _ => .load
    Cell.w <| .loadJ Out.sh fun _ => .load Cell.w <| .ret rfl

theorem part100 (i : grid0.Coords) (σ : St F) (v3482 : FVec F S16x8x128 .f32) : Runs M J (on M h J hJ (k0_part100 (F := F) i) v3482) (σ) fun _ σ' => σ' = σ := by
  unfold on k0_part100
  exact .loadJ Out.sh fun _ => .load Cell.w <| .loadJ Out.sh fun _ => .load Cell.w <| .loadJ Out.sh fun _ => .load
    Cell.w <| .loadJ Out.lhs fun _ => .ret rfl

theorem part101 (i : grid0.Coords) (σ : St F) (v3420 : FVec F S256x256 .f32) (v3509 : FVec F S16x8x128 .f32) (v3520 : FVec F S16x128 .bf16) : Runs M J (on M h J hJ (k0_part101 (F := F) i) v3420 v3509 v3520) (σ) fun _ σ' => σ' = σ := by
  unfold on k0_part101
  exact .loadJ Out.lhs fun _ => .storeJ Out.lhs <| .loadJ Out.lhs fun _ => .load Cell.w1 <| .loadJ Out.sh fun _ =>
    .load Cell.w <| .loadJ Out.ub fun _ => .load Cell.w <| .loadJ Out.sh fun _ => .load Cell.w <| .ret rfl

theorem part102 (i : grid0.Coords) (σ : St F) (v3554 : FVec F S16x8x128 .f32) : Runs M J (on M h J hJ (k0_part102 (F := F) i) v3554) (σ) fun _ σ' => σ' = σ := by
  unfold on k0_part102
  exact .loadJ Out.sh fun _ => .load Cell.w <| .loadJ Out.sh fun _ => .load Cell.w <| .loadJ Out.sh fun _ => .load
    Cell.w <| .loadJ Out.sh fun _ => .load Cell.w <| .ret rfl

theorem part103 (i : grid0.Coords) (σ : St F) (v3590 : FVec F S16x8x128 .f32) : Runs M J (on M h J hJ (k0_part103 (F := F) i) v3590) (σ) fun _ σ' => σ' = σ := by
  unfold on k0_part103
  exact .loadJ Out.sh fun _ => .load Cell.w <| .loadJ Out.sh fun _ => .load Cell.w <| .loadJ Out.ub fun _ => .load
    Cell.w <| .loadJ Out.lhs fun _ => .loadJ Out.lhs fun _ => .ret rfl

theorem part104 (i : grid0.Coords) (σ : St F) (v3528 : FVec F S256x256 .f32) (v3616 : FVec F S16x8x128 .f32) (v3627 : FVec F S16x128 .bf16) : Runs M J (on M h J hJ (k0_part104 (F := F) i) v3528 v3616 v3627) (σ) fun _ σ' => σ' = σ := by
  unfold on k0_part104
  exact .storeJ Out.lhs <| .loadJ Out.lhs fun _ => .load Cell.w1 <| .loadJ Out.cb fun _ => .storeJ Out.cb <| .load
    Cell.b <| .loadJ Out.sh fun _ => .load Cell.w <| .loadJ Out.sh fun _ => .load Cell.w <| .loadJ Out.sh fun _ =>
    .ret rfl

theorem part105 (i : grid0.Coords) (σ : St F) (v3661 : FVec F S16x8x128 .f32) (v3663 : FVec F S128x128 .f32) : Runs M J (on M h J hJ (k0_part105 (F := F) i) v3661 v3663) (σ) fun _ σ' => σ' = σ := by
  unfold on k0_part105
  exact .load Cell.w <| .loadJ Out.sh fun _ => .load Cell.w <| .loadJ Out.sh fun _ => .load Cell.w <| .loadJ Out.sh
    fun _ => .load Cell.w <| .loadJ Out.ub fun _ => .ret rfl

theorem part106 (i : grid0.Coords) (σ : St F) (v3697 : FVec F S16x8x128 .f32) (v3698 : Vec F S128x128 .f32) : Runs M J (on M h J hJ (k0_part106 (F := F) i) v3697 v3698) (σ) fun _ σ' => σ' = σ := by
  unfold on k0_part106
  exact .load Cell.w <| .loadJ Out.sh fun _ => .load Cell.w <| .loadJ Out.sh fun _ => .load Cell.w <| .loadJ Out.sh
    fun _ => .load Cell.w <| .ret rfl

theorem part107 (i : grid0.Coords) (σ : St F) (v3635 : FVec F S256x256 .f32) (v3732 : FVec F S16x8x128 .f32) (v3737 : IVec S16x128 32) : Runs M J (on M h J hJ (k0_part107 (F := F) i) v3635 v3732 v3737) (σ) fun _ σ' => σ' = σ := by
  unfold on k0_part107
  exact .loadJ Out.lhs fun _ => .loadJ Out.lhs fun _ => .storeJ Out.lhs <| .loadJ Out.lhs fun _ => .load Cell.w1 <|
    .loadJ Out.qkv fun _ => .storeJ Out.qkv <| .loadJ Out.sh fun _ => .load Cell.w <| .loadJ Out.sh fun _ => .load
    Cell.w <| .ret rfl

theorem part108 (i : grid0.Coords) (σ : St F) (v3771 : FVec F S16x8x128 .f32) : Runs M J (on M h J hJ (k0_part108 (F := F) i) v3771) (σ) fun _ σ' => σ' = σ := by
  unfold on k0_part108
  exact .loadJ Out.sh fun _ => .load Cell.w <| .loadJ Out.sh fun _ => .load Cell.w <| .loadJ Out.ub fun _ => .load
    Cell.w <| .loadJ Out.sh fun _ => .load Cell.w <| .ret rfl

end Cert.Kernel4.Qkv

end
-- ==== Proof.Qkv.Kernel.Parts5.lean ====
/-
  The run of parts 109 to 135 of the printed program, each over the cells it is given: the stores
  to forgotten memory are passed over, the others change the contents as said.
-/
module

public import proofs.«01_k».proof.Proof.Qkv.Kernel.Cells

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part109 (i : grid0.Coords) (σ : St F) (v3806 : FVec F S16x8x128 .f32) : Runs M J (on M h J hJ (k0_part109 (F := F) i) v3806) (σ) fun _ σ' => σ' = σ := by
  unfold on k0_part109
  exact .loadJ Out.sh fun _ => .load Cell.w <| .loadJ Out.sh fun _ => .load Cell.w <| .loadJ Out.sh fun _ => .load
    Cell.w <| .loadJ Out.sh fun _ => .load Cell.w <| .ret rfl

theorem part110 (i : grid0.Coords) (σ : St F) (v3842 : FVec F S16x8x128 .f32) (v3843 : FVec F S8x128 .f32) : Runs M J (on M h J hJ (k0_part110 (F := F) i) v3842 v3843) (σ) fun _ σ' => σ' = σ := by
  unfold on k0_part110
  exact .loadJ Out.lhs fun _ => .loadJ Out.lhs fun _ => .storeJ Out.lhs <| .loadJ Out.lhs fun _ => .load Cell.w2 <|
    .loadJ Out.sh fun _ => .load Cell.w <| .loadJ Out.sh fun _ => .load Cell.w <| .ret rfl

theorem part111 (i : grid0.Coords) (σ : St F) (v3878 : FVec F S16x8x128 .f32) : Runs M J (on M h J hJ (k0_part111 (F := F) i) v3878) (σ) fun _ σ' => σ' = σ := by
  unfold on k0_part111
  exact .loadJ Out.ub fun _ => .load Cell.w <| .loadJ Out.sh fun _ => .load Cell.w <| .loadJ Out.sh fun _ => .load
    Cell.w <| .loadJ Out.sh fun _ => .load Cell.w <| .ret rfl

theorem part112 (i : grid0.Coords) (σ : St F) (v3913 : FVec F S16x8x128 .f32) : Runs M J (on M h J hJ (k0_part112 (F := F) i) v3913) (σ) fun _ σ' => σ' = σ := by
  unfold on k0_part112
  exact .loadJ Out.sh fun _ => .load Cell.w <| .loadJ Out.sh fun _ => .load Cell.w <| .loadJ Out.sh fun _ => .load
    Cell.w <| .loadJ Out.sh fun _ => .load Cell.w <| .ret rfl

theorem part113 (i : grid0.Coords) (σ : St F) (v3860 : FVec F S256x256 .f32) (v3949 : FVec F S16x8x128 .f32) (v3951 : FVec F S16x128 .f32) : Runs M J (on M h J hJ (k0_part113 (F := F) i) v3860 v3949 v3951) (σ) fun _ σ' => σ' = σ := by
  unfold on k0_part113
  exact .loadJ Out.lhs fun _ => .loadJ Out.lhs fun _ => .storeJ Out.lhs <| .loadJ Out.lhs fun _ => .load Cell.w2 <|
    .loadJ Out.ub fun _ => .load Cell.w <| .loadJ Out.cb fun _ => .storeJ Out.cb <| .load Cell.b <| .loadJ Out.sh fun
    _ => .ret rfl

theorem part114 (i : grid0.Coords) (σ : St F) (v3984 : FVec F S16x8x128 .f32) (v3986 : FVec F S128x128 .f32) : Runs M J (on M h J hJ (k0_part114 (F := F) i) v3984 v3986) (σ) fun _ σ' => σ' = σ := by
  unfold on k0_part114
  exact .load Cell.w <| .loadJ Out.sh fun _ => .load Cell.w <| .loadJ Out.sh fun _ => .load Cell.w <| .loadJ Out.sh
    fun _ => .load Cell.w <| .loadJ Out.sh fun _ => .ret rfl

theorem part115 (i : grid0.Coords) (σ : St F) (v4020 : FVec F S16x8x128 .f32) (v4022 : FVec F S128x128 .f32) : Runs M J (on M h J hJ (k0_part115 (F := F) i) v4020 v4022) (σ) fun _ σ' => σ' = σ := by
  unfold on k0_part115
  exact .load Cell.w <| .loadJ Out.sh fun _ => .load Cell.w <| .loadJ Out.ub fun _ => .load Cell.w <| .loadJ Out.sh
    fun _ => .load Cell.w <| .loadJ Out.sh fun _ => .ret rfl

theorem part116 (i : grid0.Coords) (σ : St F) (v3968 : FVec F S256x256 .f32) (v4055 : FVec F S16x8x128 .f32) (v4057 : FVec F S128x128 .f32) : Runs M J (on M h J hJ (k0_part116 (F := F) i) v3968 v4055 v4057) (σ) fun _ σ' => σ' = σ := by
  unfold on k0_part116
  exact .load Cell.w <| .loadJ Out.lhs fun _ => .loadJ Out.lhs fun _ => .storeJ Out.lhs <| .loadJ Out.lhs fun _ =>
    .load Cell.w2 <| .loadJ Out.sh fun _ => .load Cell.w <| .loadJ Out.sh fun _ => .ret rfl

theorem part117 (i : grid0.Coords) (σ : St F) (v4092 : FVec F S16x8x128 .f32) (v4094 : FVec F S128x128 .f32) : Runs M J (on M h J hJ (k0_part117 (F := F) i) v4092 v4094) (σ) fun _ σ' => σ' = σ := by
  unfold on k0_part117
  exact .load Cell.w <| .loadJ Out.sh fun _ => .load Cell.w <| .loadJ Out.sh fun _ => .load Cell.w <| .loadJ Out.sh
    fun _ => .load Cell.w <| .loadJ Out.ub fun _ => .ret rfl

theorem part118 (i : grid0.Coords) (σ : St F) (v4128 : FVec F S16x8x128 .f32) (v4129 : Vec F S128x128 .f32) : Runs M J (on M h J hJ (k0_part118 (F := F) i) v4128 v4129) (σ) fun _ σ' => σ' = σ := by
  unfold on k0_part118
  exact .load Cell.w <| .loadJ Out.sh fun _ => .load Cell.w <| .loadJ Out.sh fun _ => .load Cell.w <| .loadJ Out.sh
    fun _ => .load Cell.w <| .loadJ Out.sh fun _ => .ret rfl

theorem part119 (i : grid0.Coords) (σ : St F) (v4083 : FVec F S256x256 .f32) (v4163 : FVec F S16x8x128 .f32) (v4165 : FVec F S128x128 .f32) : Runs M J (on M h J hJ (k0_part119 (F := F) i) v4083 v4163 v4165) (σ) fun _ σ' => σ' = σ := by
  unfold on k0_part119
  exact .load Cell.w <| .loadJ Out.lhs fun _ => .loadJ Out.lhs fun _ => .storeJ Out.lhs <| .loadJ Out.lhs fun _ =>
    .load Cell.w2 <| .loadJ Out.qkv fun _ => .storeJ Out.qkv <| .loadJ Out.sh fun _ => .load Cell.w <| .ret rfl

theorem part120 (i : grid0.Coords) (σ : St F) (v4202 : FVec F S16x8x128 .f32) : Runs M J (on M h J hJ (k0_part120 (F := F) i) v4202) (σ) fun _ σ' => σ' = σ := by
  unfold on k0_part120
  exact .loadJ Out.sh fun _ => .load Cell.w <| .loadJ Out.sh fun _ => .load Cell.w <| .loadJ Out.ub fun _ => .load
    Cell.w <| .loadJ Out.sh fun _ => .load Cell.w <| .ret rfl

theorem part121 (i : grid0.Coords) (σ : St F) (v4237 : FVec F S16x8x128 .f32) : Runs M J (on M h J hJ (k0_part121 (F := F) i) v4237) (σ) fun _ σ' => σ' = σ := by
  unfold on k0_part121
  exact .loadJ Out.sh fun _ => .load Cell.w <| .loadJ Out.sh fun _ => .load Cell.w <| .loadJ Out.sh fun _ => .load
    Cell.w <| .loadJ Out.sh fun _ => .load Cell.w <| .ret rfl

theorem part122 (i : grid0.Coords) (σ : St F) (v4273 : FVec F S16x8x128 .f32) : Runs M J (on M h J hJ (k0_part122 (F := F) i) v4273) (σ) fun _ σ' => σ' = σ := by
  unfold on k0_part122
  exact .loadJ Out.sh fun _ => .load Cell.w <| .loadJ Out.lhs fun _ => .loadJ Out.lhs fun _ => .storeJ Out.lhs <|
    .loadJ Out.lhs fun _ => .load Cell.w2 <| .loadJ Out.sh fun _ => .load Cell.w <| .ret rfl

theorem part123 (i : grid0.Coords) (σ : St F) (v4309 : FVec F S16x8x128 .f32) : Runs M J (on M h J hJ (k0_part123 (F := F) i) v4309) (σ) fun _ σ' => σ' = σ := by
  unfold on k0_part123
  exact .loadJ Out.ub fun _ => .load Cell.w <| .loadJ Out.cb fun _ => .storeJ Out.cb <| .load Cell.b <| .loadJ Out.sh
    fun _ => .load Cell.w <| .loadJ Out.sh fun _ => .load Cell.w <| .loadJ Out.sh fun _ => .ret rfl

theorem part124 (i : grid0.Coords) (σ : St F) (v4343 : FVec F S16x8x128 .f32) (v4345 : FVec F S128x128 .f32) : Runs M J (on M h J hJ (k0_part124 (F := F) i) v4343 v4345) (σ) fun _ σ' => σ' = σ := by
  unfold on k0_part124
  exact .load Cell.w <| .loadJ Out.sh fun _ => .load Cell.w <| .loadJ Out.sh fun _ => .load Cell.w <| .loadJ Out.sh
    fun _ => .load Cell.w <| .loadJ Out.ub fun _ => .ret rfl

theorem part125 (i : grid0.Coords) (σ : St F) (v4300 : FVec F S256x256 .f32) (v4379 : FVec F S16x8x128 .f32) (v4380 : Vec F S128x128 .f32) : Runs M J (on M h J hJ (k0_part125 (F := F) i) v4300 v4379 v4380) (σ) fun _ σ' => σ' = σ := by
  unfold on k0_part125
  exact .load Cell.w <| .loadJ Out.sh fun _ => .load Cell.w <| .loadJ Out.lhs fun _ => .loadJ Out.lhs fun _ => .storeJ
    Out.lhs <| .loadJ Out.lhs fun _ => .load Cell.w2 <| .loadJ Out.sh fun _ => .ret rfl

theorem part126 (i : grid0.Coords) (σ : St F) (v4396 : FVec F S16x8x128 .f32) (v4417 : FVec F S128x128 .f32) : Runs M J (on M h J hJ (k0_part126 (F := F) i) v4396 v4417) (σ) fun _ σ' => σ' = σ := by
  unfold on k0_part126
  exact .load Cell.w <| .loadJ Out.sh fun _ => .load Cell.w <| .loadJ Out.sh fun _ => .load Cell.w <| .loadJ Out.sh
    fun _ => .load Cell.w <| .loadJ Out.sh fun _ => .ret rfl

theorem part127 (i : grid0.Coords) (σ : St F) (v4451 : FVec F S16x8x128 .f32) (v4453 : FVec F S128x128 .f32) : Runs M J (on M h J hJ (k0_part127 (F := F) i) v4451 v4453) (σ) fun _ σ' => σ' = σ := by
  unfold on k0_part127
  exact .load Cell.w <| .loadJ Out.sh fun _ => .load Cell.w <| .loadJ Out.ub fun _ => .load Cell.w <| .loadJ Out.sh
    fun _ => .load Cell.w <| .loadJ Out.sh fun _ => .ret rfl

theorem part128 (i : grid0.Coords) (σ : St F) (v4415 : FVec F S256x256 .f32) (v4486 : FVec F S16x8x128 .f32) (v4488 : FVec F S128x128 .f32) : Runs M J (on M h J hJ (k0_part128 (F := F) i) v4415 v4486 v4488) (σ) fun _ σ' => σ' = σ := by
  unfold on k0_part128
  exact .load Cell.w <| .loadJ Out.sh fun _ => .load Cell.w <| .loadJ Out.lhs fun _ => .loadJ Out.lhs fun _ => .storeJ
    Out.lhs <| .loadJ Out.lhs fun _ => .load Cell.w2 <| .loadJ Out.sh fun _ => .ret rfl

theorem part129 (i : grid0.Coords) (σ : St F) (v4504 : FVec F S16x8x128 .f32) (v4525 : FVec F S128x128 .f32) : Runs M J (on M h J hJ (k0_part129 (F := F) i) v4504 v4525) (σ) fun _ σ' => σ' = σ := by
  unfold on k0_part129
  exact .load Cell.w <| .loadJ Out.sh fun _ => .load Cell.w <| .loadJ Out.sh fun _ => .load Cell.w <| .loadJ Out.sh
    fun _ => .load Cell.w <| .loadJ Out.ub fun _ => .ret rfl

theorem part130 (i : grid0.Coords) (σ : St F) (v4559 : FVec F S16x8x128 .f32) (v4560 : Vec F S128x128 .f32) : Runs M J (on M h J hJ (k0_part130 (F := F) i) v4559 v4560) (σ) fun _ σ' => σ' = σ := by
  unfold on k0_part130
  exact .load Cell.w <| .loadJ Out.sh fun _ => .load Cell.w <| .loadJ Out.sh fun _ => .load Cell.w <| .loadJ Out.sh
    fun _ => .load Cell.w <| .loadJ Out.sh fun _ => .ret rfl

theorem part131 (i : grid0.Coords) (σ : St F) (v4523 : FVec F S256x256 .f32) (v4594 : FVec F S16x8x128 .f32) (v4596 : FVec F S128x128 .f32) : Runs M J (on M h J hJ (k0_part131 (F := F) i) v4523 v4594 v4596) (σ) fun _ σ' => σ' = σ := by
  unfold on k0_part131
  exact .load Cell.w <| .loadJ Out.sh fun _ => .load Cell.w <| .loadJ Out.lhs fun _ => .loadJ Out.lhs fun _ => .storeJ
    Out.lhs <| .loadJ Out.lhs fun _ => .load Cell.w2 <| .loadJ Out.qkv fun _ => .storeJ Out.qkv <| .ret rfl

theorem part132 (i : grid0.Coords) (σ : St F) (v4612 : FVec F S16x8x128 .f32) : Runs M J (on M h J hJ (k0_part132 (F := F) i) v4612) (σ) fun _ σ' => σ' = σ := by
  unfold on k0_part132
  exact .loadJ Out.sh fun _ => .load Cell.w <| .loadJ Out.sh fun _ => .load Cell.w <| .loadJ Out.ub fun _ => .load
    Cell.w <| .loadJ Out.cb fun _ => .storeJ Out.cb <| .load Cell.b <| .loadJ Out.sh fun _ => .ret rfl

theorem part133 (i : grid0.Coords) (σ : St F) (v4667 : FVec F S16x8x128 .f32) (v4668 : Vec F S1x128x128 .f32) : Runs M J (on M h J hJ (k0_part133 (F := F) i) v4667 v4668) (σ) fun _ σ' => σ' = σ := by
  unfold on k0_part133
  exact .load Cell.w <| .loadJ Out.sh fun _ => .load Cell.w <| .loadJ Out.sh fun _ => .load Cell.w <| .loadJ Out.sh
    fun _ => .load Cell.w <| .loadJ Out.sh fun _ => .ret rfl

theorem part134 (i : grid0.Coords) (σ : St F) (v4703 : FVec F S16x8x128 .f32) (v4704 : Vec F S1x128x128 .f32) : Runs M J (on M h J hJ (k0_part134 (F := F) i) v4703 v4704) (σ) fun _ σ' => σ' = σ := by
  unfold on k0_part134
  exact .load Cell.w <| .loadJ Out.sh fun _ => .load Cell.w <| .loadJ Out.ub fun _ => .load Cell.w <| .loadJ Out.lhs
    fun _ => .loadJ Out.lhs fun _ => .ret rfl

theorem part135 (i : grid0.Coords) (σ : St F) (v4729 : FVec F S16x8x128 .f32) (v4743 : FVec F S16x128 .bf16) : Runs M J (on M h J hJ (k0_part135 (F := F) i) v4729 v4743) (σ) fun _ σ' => σ' = σ := by
  unfold on k0_part135
  exact .storeJ Out.lhs <| .loadJ Out.lhs fun _ => .load Cell.w2 <| .loadJ Out.sh fun _ => .load Cell.w <| .loadJ
    Out.sh fun _ => .load Cell.w <| .loadJ Out.sh fun _ => .load Cell.w <| .loadJ Out.sh fun _ => .ret rfl

end Cert.Kernel4.Qkv

end
-- ==== Proof.Qkv.Kernel.Parts6.lean ====
/-
  The run of parts 136 to 160 of the printed program, each over the cells it is given: the stores
  to forgotten memory are passed over, the others change the contents as said.
-/
module

public import proofs.«01_k».proof.Proof.Qkv.Kernel.Cells

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part136 (i : grid0.Coords) (σ : St F) (v4774 : FVec F S16x8x128 .f32) (v4776 : FVec F S128x128 .f32) : Runs M J (on M h J hJ (k0_part136 (F := F) i) v4774 v4776) (σ) fun _ σ' => σ' = σ := by
  unfold on k0_part136
  exact .load Cell.w <| .loadJ Out.sh fun _ => .load Cell.w <| .loadJ Out.sh fun _ => .load Cell.w <| .loadJ Out.sh
    fun _ => .load Cell.w <| .loadJ Out.ub fun _ => .ret rfl

theorem part137 (i : grid0.Coords) (σ : St F) (v4810 : FVec F S16x8x128 .f32) (v4811 : Vec F S128x128 .f32) : Runs M J (on M h J hJ (k0_part137 (F := F) i) v4810 v4811) (σ) fun _ σ' => σ' = σ := by
  unfold on k0_part137
  exact .load Cell.w <| .loadJ Out.sh fun _ => .load Cell.w <| .loadJ Out.sh fun _ => .load Cell.w <| .loadJ Out.lhs
    fun _ => .loadJ Out.lhs fun _ => .storeJ Out.lhs <| .ret rfl

theorem part138 (i : grid0.Coords) (σ : St F) (v4747 : FVec F S256x256 .f32) (v4836 : FVec F S16x8x128 .f32) : Runs M J (on M h J hJ (k0_part138 (F := F) i) v4747 v4836) (σ) fun _ σ' => σ' = σ := by
  unfold on k0_part138
  exact .loadJ Out.lhs fun _ => .load Cell.w2 <| .loadJ Out.sh fun _ => .load Cell.w <| .loadJ Out.sh fun _ => .load
    Cell.w <| .loadJ Out.sh fun _ => .load Cell.w <| .loadJ Out.sh fun _ => .ret rfl

theorem part139 (i : grid0.Coords) (σ : St F) (v4882 : FVec F S16x8x128 .f32) (v4884 : FVec F S128x128 .f32) : Runs M J (on M h J hJ (k0_part139 (F := F) i) v4882 v4884) (σ) fun _ σ' => σ' = σ := by
  unfold on k0_part139
  exact .load Cell.w <| .loadJ Out.sh fun _ => .load Cell.w <| .loadJ Out.ub fun _ => .load Cell.w <| .loadJ Out.sh
    fun _ => .load Cell.w <| .loadJ Out.sh fun _ => .ret rfl

theorem part140 (i : grid0.Coords) (σ : St F) (v4917 : FVec F S16x8x128 .f32) (v4919 : FVec F S128x128 .f32) : Runs M J (on M h J hJ (k0_part140 (F := F) i) v4917 v4919) (σ) fun _ σ' => σ' = σ := by
  unfold on k0_part140
  exact .load Cell.w <| .loadJ Out.sh fun _ => .load Cell.w <| .loadJ Out.sh fun _ => .load Cell.w <| .loadJ Out.lhs
    fun _ => .loadJ Out.lhs fun _ => .storeJ Out.lhs <| .ret rfl

theorem part141 (i : grid0.Coords) (σ : St F) (v4855 : FVec F S256x256 .f32) (v4944 : FVec F S16x8x128 .f32) : Runs M J (on M h J hJ (k0_part141 (F := F) i) v4855 v4944) (σ) fun _ σ' => σ' = σ := by
  unfold on k0_part141
  exact .loadJ Out.lhs fun _ => .load Cell.w2 <| .loadJ Out.sh fun _ => .load Cell.w <| .loadJ Out.sh fun _ => .load
    Cell.w <| .loadJ Out.sh fun _ => .load Cell.w <| .loadJ Out.ub fun _ => .ret rfl

theorem part142 (i : grid0.Coords) (σ : St F) (v4990 : FVec F S16x8x128 .f32) (v4991 : Vec F S128x128 .f32) : Runs M J (on M h J hJ (k0_part142 (F := F) i) v4990 v4991) (σ) fun _ σ' => σ' = σ := by
  unfold on k0_part142
  exact .load Cell.w <| .loadJ Out.cb fun _ => .storeJ Out.cb <| .load Cell.b <| .loadJ Out.sh fun _ => .load Cell.w
    <| .loadJ Out.sh fun _ => .load Cell.w <| .loadJ Out.sh fun _ => .load Cell.w <| .ret rfl

theorem part143 (i : grid0.Coords) (σ : St F) (v5024 : FVec F S16x8x128 .f32) (v5026 : FVec F S128x128 .f32) (v5027 : Vec F S1x8x128 .f32) : Runs M J (on M h J hJ (k0_part143 (F := F) i) v5024 v5026 v5027) (σ) fun _ σ' => σ' = σ := by
  unfold on k0_part143
  exact .loadJ Out.sh fun _ => .load Cell.w <| .loadJ Out.sh fun _ => .load Cell.w <| .loadJ Out.sh fun _ => .load
    Cell.w <| .ret rfl

theorem part144 (i : grid0.Coords) (σ : St F) (v4963 : FVec F S256x256 .f32) (v5060 : FVec F S16x8x128 .f32) (v5065 : IVec S16x128 32) (v5066 : IVec S16x128 32) : Runs M J (on M h J hJ (k0_part144 (F := F) i) v4963 v5060 v5065 v5066) (σ) fun _ σ' => σ' = σ := by
  unfold on k0_part144
  exact .loadJ Out.lhs fun _ => .loadJ Out.lhs fun _ => .storeJ Out.lhs <| .loadJ Out.lhs fun _ => .load Cell.w2 <|
    .loadJ Out.qkv fun _ => .storeJ Out.qkv <| .loadJ Out.ub fun _ => .load Cell.w <| .loadJ Out.sh fun _ => .load
    Cell.w <| .loadJ Out.sh fun _ => .ret rfl

theorem part145 (i : grid0.Coords) (σ : St F) (v5098 : FVec F S16x8x128 .f32) (v5099 : Vec F S1x128x128 .f32) : Runs M J (on M h J hJ (k0_part145 (F := F) i) v5098 v5099) (σ) fun _ σ' => σ' = σ := by
  unfold on k0_part145
  exact .load Cell.w <| .loadJ Out.sh fun _ => .load Cell.w <| .loadJ Out.sh fun _ => .load Cell.w <| .loadJ Out.sh
    fun _ => .load Cell.w <| .loadJ Out.sh fun _ => .ret rfl

theorem part146 (i : grid0.Coords) (σ : St F) (v5134 : FVec F S16x8x128 .f32) (v5135 : Vec F S1x128x128 .f32) : Runs M J (on M h J hJ (k0_part146 (F := F) i) v5134 v5135) (σ) fun _ σ' => σ' = σ := by
  unfold on k0_part146
  exact .load Cell.w <| .loadJ Out.sh fun _ => .load Cell.w <| .loadJ Out.ub fun _ => .load Cell.w <| .loadJ Out.sh
    fun _ => .load Cell.w <| .ret rfl

theorem part147 (i : grid0.Coords) (σ : St F) (v5169 : FVec F S16x8x128 .f32) (v5172 : IVec S16x128 32) (v5173 : IVec S16x128 32) : Runs M J (on M h J hJ (k0_part147 (F := F) i) v5169 v5172 v5173) (σ) fun _ σ' => σ' = σ := by
  unfold on k0_part147
  exact .loadJ Out.lhs fun _ => .loadJ Out.lhs fun _ => .storeJ Out.lhs <| .loadJ Out.lhs fun _ => .load Cell.w2 <|
    .loadJ Out.sh fun _ => .load Cell.w <| .loadJ Out.sh fun _ => .load Cell.w <| .loadJ Out.sh fun _ => .ret rfl

theorem part148 (i : grid0.Coords) (σ : St F) (v5205 : FVec F S16x8x128 .f32) (v5207 : FVec F S128x128 .f32) : Runs M J (on M h J hJ (k0_part148 (F := F) i) v5205 v5207) (σ) fun _ σ' => σ' = σ := by
  unfold on k0_part148
  exact .load Cell.w <| .loadJ Out.sh fun _ => .load Cell.w <| .loadJ Out.sh fun _ => .load Cell.w <| .loadJ Out.sh
    fun _ => .load Cell.w <| .loadJ Out.ub fun _ => .ret rfl

theorem part149 (i : grid0.Coords) (σ : St F) (v5241 : FVec F S16x8x128 .f32) (v5242 : Vec F S128x128 .f32) : Runs M J (on M h J hJ (k0_part149 (F := F) i) v5241 v5242) (σ) fun _ σ' => σ' = σ := by
  unfold on k0_part149
  exact .load Cell.w <| .loadJ Out.sh fun _ => .load Cell.w <| .loadJ Out.sh fun _ => .load Cell.w <| .loadJ Out.sh
    fun _ => .load Cell.w <| .ret rfl

theorem part150 (i : grid0.Coords) (σ : St F) (v5187 : FVec F S256x256 .f32) (v5276 : FVec F S16x8x128 .f32) (v5281 : IVec S16x128 32) : Runs M J (on M h J hJ (k0_part150 (F := F) i) v5187 v5276 v5281) (σ) fun _ σ' => σ' = σ := by
  unfold on k0_part150
  exact .loadJ Out.lhs fun _ => .loadJ Out.lhs fun _ => .storeJ Out.lhs <| .loadJ Out.lhs fun _ => .load Cell.w2 <|
    .loadJ Out.sh fun _ => .load Cell.w <| .loadJ Out.sh fun _ => .load Cell.w <| .loadJ Out.sh fun _ => .ret rfl

theorem part151 (i : grid0.Coords) (σ : St F) (v5313 : FVec F S16x8x128 .f32) (v5315 : FVec F S128x128 .f32) : Runs M J (on M h J hJ (k0_part151 (F := F) i) v5313 v5315) (σ) fun _ σ' => σ' = σ := by
  unfold on k0_part151
  exact .load Cell.w <| .loadJ Out.sh fun _ => .load Cell.w <| .loadJ Out.ub fun _ => .load Cell.w <| .loadJ Out.cb
    fun _ => .storeJ Out.cb <| .load Cell.b <| .loadJ Out.sh fun _ => .load Cell.w <| .ret rfl

theorem part152 (i : grid0.Coords) (σ : St F) (v5347 : FVec F S16x8x128 .f32) (v5349 : FVec F S128x128 .f32) (v5350 : Vec F S1x8x128 .f32) : Runs M J (on M h J hJ (k0_part152 (F := F) i) v5347 v5349 v5350) (σ) fun _ σ' => σ' = σ := by
  unfold on k0_part152
  exact .loadJ Out.sh fun _ => .load Cell.w <| .loadJ Out.sh fun _ => .load Cell.w <| .loadJ Out.sh fun _ => .load
    Cell.w <| .loadJ Out.sh fun _ => .load Cell.w <| .ret rfl

theorem part153 (i : grid0.Coords) (σ : St F) (v5295 : FVec F S256x256 .f32) (v5383 : FVec F S16x8x128 .f32) (v5385 : FVec F S128x128 .f32) (v5386 : Vec F S1x8x128 .f32) : Runs M J (on M h J hJ (k0_part153 (F := F) i) v5295 v5383 v5385 v5386) (σ) fun _ σ' => σ' = σ := by
  unfold on k0_part153
  exact .loadJ Out.lhs fun _ => .loadJ Out.lhs fun _ => .storeJ Out.lhs <| .loadJ Out.lhs fun _ => .load Cell.w2 <|
    .loadJ Out.sh fun _ => .load Cell.w <| .loadJ Out.ub fun _ => .load Cell.w <| .ret rfl

theorem part154 (i : grid0.Coords) (σ : St F) (v5420 : FVec F S16x8x128 .f32) (v5421 : Vec F S128x128 .f32) (v5422 : Vec F S1x8x128 .f32) : Runs M J (on M h J hJ (k0_part154 (F := F) i) v5420 v5421 v5422) (σ) fun _ σ' => σ' = σ := by
  unfold on k0_part154
  exact .loadJ Out.sh fun _ => .load Cell.w <| .loadJ Out.sh fun _ => .load Cell.w <| .loadJ Out.sh fun _ => .load
    Cell.w <| .loadJ Out.sh fun _ => .load Cell.w <| .ret rfl

theorem part155 (i : grid0.Coords) (σ : St F) (v5455 : FVec F S16x8x128 .f32) (v5457 : FVec F S128x128 .f32) (v5458 : Vec F S1x8x128 .f32) : Runs M J (on M h J hJ (k0_part155 (F := F) i) v5455 v5457 v5458) (σ) fun _ σ' => σ' = σ := by
  unfold on k0_part155
  exact .loadJ Out.sh fun _ => .load Cell.w <| .loadJ Out.sh fun _ => .load Cell.w <| .loadJ Out.sh fun _ => .load
    Cell.w <| .loadJ Out.ub fun _ => .load Cell.w <| .ret rfl

theorem part156 (i : grid0.Coords) (σ : St F) (v5411 : FVec F S256x256 .f32) (v5491 : FVec F S16x8x128 .f32) (v5494 : FVec F S8x128 .f32) (v5495 : FVec F S16x8x128 .f32) : Runs M J (on M h J hJ (k0_part156 (F := F) i) v5411 v5491 v5494 v5495) (σ) fun _ σ' => σ' = σ := by
  unfold on k0_part156
  exact .loadJ Out.lhs fun _ => .loadJ Out.lhs fun _ => .storeJ Out.lhs <| .loadJ Out.lhs fun _ => .load Cell.w2 <|
    .loadJ Out.qkv fun _ => .storeJ Out.qkv <| .loadJ Out.sh fun _ => .load Cell.w <| .loadJ Out.sh fun _ => .ret rfl

theorem part157 (i : grid0.Coords) (σ : St F) (v5529 : FVec F S16x8x128 .f32) (v5530 : Vec F S1x128x128 .f32) : Runs M J (on M h J hJ (k0_part157 (F := F) i) v5529 v5530) (σ) fun _ σ' => σ' = σ := by
  unfold on k0_part157
  exact .load Cell.w <| .loadJ Out.sh fun _ => .load Cell.w <| .loadJ Out.sh fun _ => .load Cell.w <| .loadJ Out.sh
    fun _ => .load Cell.w <| .loadJ Out.sh fun _ => .ret rfl

theorem part158 (i : grid0.Coords) (σ : St F) (v5565 : FVec F S16x8x128 .f32) (v5566 : Vec F S1x128x128 .f32) : Runs M J (on M h J hJ (k0_part158 (F := F) i) v5565 v5566) (σ) fun _ σ' => σ' = σ := by
  unfold on k0_part158
  exact .load Cell.w <| .loadJ Out.sh fun _ => .load Cell.w <| .loadJ Out.ub fun _ => .load Cell.w <| .loadJ Out.sh
    fun _ => .load Cell.w <| .loadJ Out.sh fun _ => .ret rfl

theorem part159 (i : grid0.Coords) (σ : St F) (v5600 : FVec F S16x8x128 .f32) (v5602 : FVec F S128x128 .f32) : Runs M J (on M h J hJ (k0_part159 (F := F) i) v5600 v5602) (σ) fun _ σ' => σ' = σ := by
  unfold on k0_part159
  exact .load Cell.w <| .loadJ Out.sh fun _ => .load Cell.w <| .loadJ Out.sh fun _ => .load Cell.w <| .loadJ Out.sh
    fun _ => .load Cell.w <| .loadJ Out.sh fun _ => .ret rfl

theorem part160 (i : grid0.Coords) (σ : St F) (v5636 : FVec F S16x8x128 .f32) (v5638 : FVec F S128x128 .f32) : Runs M J (on M h J hJ (k0_part160 (F := F) i) v5636 v5638) (σ) fun _ σ' => σ' = σ := by
  unfold on k0_part160
  exact .load Cell.w <| .loadJ Out.sh fun _ => .load Cell.w <| .loadJ Out.ub fun _ => .load Cell.w <| .loadJ Out.cb
    fun _ => .storeJ Out.cb <| .loadJ Out.cb fun _ => .ret rfl

end Cert.Kernel4.Qkv

end
-- ==== Proof.Qkv.Kernel.Whole.lean ====
/-
  The whole body of the printed program, from its parts.
-/
module

public import proofs.«01_k».proof.Proof.Qkv.Kernel.Parts1
public import proofs.«01_k».proof.Proof.Qkv.Kernel.Parts2
public import proofs.«01_k».proof.Proof.Qkv.Kernel.Parts3
public import proofs.«01_k».proof.Proof.Qkv.Kernel.Parts4
public import proofs.«01_k».proof.Proof.Qkv.Kernel.Parts5
public import proofs.«01_k».proof.Proof.Qkv.Kernel.Parts6

@[expose] public section

set_option maxRecDepth 16384
set_option maxHeartbeats 4000000

noncomputable section

namespace Cert.Kernel4.Qkv

open Idealize.ShloMosaic Idealize.ShloMosaic.TcCoe
open Idealize.SL Idealize.SL.Sem
open Cert.Kernel4 Cert.Kernel4.Shapes1.Facts₀
open Cert.Around
open VecWindow (window put)

variable {F : FTy → Type} [BitOps F]

variable {M : Mems} {h : ∀ b, (M b).IsWhole} {J : Outs} {hJ : ∀ d, (J d).IsWhole}

theorem part161 (i : grid0.Coords) (σ : St F) : Runs M J (on M h J hJ (k0_part161 (F := F) i)) (σ) fun _ σ' => σ' = σ := by
  unfold on k0_part161
  refine (part1 (h := h) (hJ := hJ) i σ).bind ?_
  rintro r0 σ rfl
  refine (part2 (h := h) (hJ := hJ) i σ _).bind ?_
  rintro r0 σ rfl
  refine (part3 (h := h) (hJ := hJ) i σ _).bind ?_
  rintro r0 σ rfl
  refine (part4 (h := h) (hJ := hJ) i σ _).bind ?_
  rintro r0 σ rfl
  refine (part5 (h := h) (hJ := hJ) i σ _).bind ?_
  rintro r0 σ rfl
  refine (part6 (h := h) (hJ := hJ) i σ _).bind ?_
  rintro r0 σ rfl
  refine (part7 (h := h) (hJ := hJ) i σ _).bind ?_
  rintro r0 σ rfl
  refine (part8 (h := h) (hJ := hJ) i σ _).bind ?_
  rintro ⟨r0, r1⟩ σ rfl
  refine (part9 (h := h) (hJ := hJ) i σ _ _).bind ?_
  rintro ⟨r0, r1, r2⟩ σ rfl
  refine (part10 (h := h) (hJ := hJ) i σ _ _ _).bind ?_
  rintro ⟨r0, r1, r2⟩ σ rfl
  refine (part11 (h := h) (hJ := hJ) i σ _ _ _).bind ?_
  rintro ⟨r0, r1, r2⟩ σ rfl
  refine (part12 (h := h) (hJ := hJ) i σ _ _).bind ?_
  rintro ⟨r0, r1, r2⟩ σ rfl
  refine (part13 (h := h) (hJ := hJ) i σ _ _ _).bind ?_
  rintro ⟨r0, r1⟩ σ rfl
  refine (part14 (h := h) (hJ := hJ) i σ _ _ _).bind ?_
  rintro ⟨r0, r1, r2, r3⟩ σ rfl
  refine (part15 (h := h) (hJ := hJ) i σ _ _ _).bind ?_
  rintro ⟨r0, r1, r2⟩ σ rfl
  refine (part16 (h := h) (hJ := hJ) i σ _ _ _).bind ?_
  rintro ⟨r0, r1⟩ σ rfl
  refine (part17 (h := h) (hJ := hJ) i σ _ _ _).bind ?_
  rintro ⟨r0, r1, r2, r3⟩ σ rfl
  refine (part18 (h := h) (hJ := hJ) i σ _ _ _).bind ?_
  rintro ⟨r0, r1, r2⟩ σ rfl
  refine (part19 (h := h) (hJ := hJ) i σ _ _ _).bind ?_
  rintro ⟨r0, r1⟩ σ rfl
  refine (part20 (h := h) (hJ := hJ) i σ _ _ _).bind ?_
  rintro ⟨r0, r1⟩ σ rfl
  refine (part21 (h := h) (hJ := hJ) i σ _ _).bind ?_
  rintro ⟨r0, r1, r2⟩ σ rfl
  refine (part22 (h := h) (hJ := hJ) i σ _ _ _).bind ?_
  rintro ⟨r0, r1, r2⟩ σ rfl
  refine (part23 (h := h) (hJ := hJ) i σ _ _ _).bind ?_
  rintro ⟨r0, r1, r2⟩ σ rfl
  refine (part24 (h := h) (hJ := hJ) i σ _ _).bind ?_
  rintro ⟨r0, r1, r2⟩ σ rfl
  refine (part25 (h := h) (hJ := hJ) i σ _ _ _).bind ?_
  rintro ⟨r0, r1, r2⟩ σ rfl
  refine (part26 (h := h) (hJ := hJ) i σ _ _ _ _).bind ?_
  rintro ⟨r0, r1, r2, r3⟩ σ rfl
  refine (part27 (h := h) (hJ := hJ) i σ _ _ _).bind ?_
  rintro ⟨r0, r1, r2⟩ σ rfl
  refine (part28 (h := h) (hJ := hJ) i σ _ _ _).bind ?_
  rintro ⟨r0, r1⟩ σ rfl
  refine (part29 (h := h) (hJ := hJ) i σ _ _ _).bind ?_
  rintro ⟨r0, r1, r2, r3⟩ σ rfl
  refine (part30 (h := h) (hJ := hJ) i σ _ _ _).bind ?_
  rintro ⟨r0, r1, r2⟩ σ rfl
  refine (part31 (h := h) (hJ := hJ) i σ _ _ _).bind ?_
  rintro ⟨r0, r1⟩ σ rfl
  refine (part32 (h := h) (hJ := hJ) i σ _ _ _).bind ?_
  rintro ⟨r0, r1⟩ σ rfl
  refine (part33 (h := h) (hJ := hJ) i σ _ _).bind ?_
  rintro ⟨r0, r1, r2⟩ σ rfl
  refine (part34 (h := h) (hJ := hJ) i σ _ _ _).bind ?_
  rintro ⟨r0, r1, r2⟩ σ rfl
  refine (part35 (h := h) (hJ := hJ) i σ _ _ _).bind ?_
  rintro ⟨r0, r1, r2⟩ σ rfl
  refine (part36 (h := h) (hJ := hJ) i σ _ _).bind ?_
  rintro ⟨r0, r1, r2⟩ σ rfl
  refine (part37 (h := h) (hJ := hJ) i σ _ _ _).bind ?_
  rintro ⟨r0, r1, r2⟩ σ rfl
  refine (part38 (h := h) (hJ := hJ) i σ _ _ _).bind ?_
  rintro ⟨r0, r1, r2⟩ σ rfl
  refine (part39 (h := h) (hJ := hJ) i σ _ _ _ _).bind ?_
  rintro ⟨r0, r1, r2, r3⟩ σ rfl
  refine (part40 (h := h) (hJ := hJ) i σ _ _ _).bind ?_
  rintro ⟨r0, r1⟩ σ rfl
  refine (part41 (h := h) (hJ := hJ) i σ _ _).bind ?_
  rintro ⟨r0, r1, r2⟩ σ rfl
  refine (part42 (h := h) (hJ := hJ) i σ _ _ _ _).bind ?_
  rintro ⟨r0, r1, r2, r3⟩ σ rfl
  refine (part43 (h := h) (hJ := hJ) i σ _ _ _).bind ?_
  rintro ⟨r0, r1⟩ σ rfl
  refine (part44 (h := h) (hJ := hJ) i σ _ _).bind ?_
  rintro ⟨r0, r1, r2⟩ σ rfl
  refine (part45 (h := h) (hJ := hJ) i σ _ _ _ _).bind ?_
  rintro ⟨r0, r1, r2⟩ σ rfl
  refine (part46 (h := h) (hJ := hJ) i σ _ _ _).bind ?_
  rintro ⟨r0, r1, r2⟩ σ rfl
  refine (part47 (h := h) (hJ := hJ) i σ _ _ _).bind ?_
  rintro ⟨r0, r1⟩ σ rfl
  refine (part48 (h := h) (hJ := hJ) i σ _ _).bind ?_
  rintro ⟨r0, r1, r2, r3⟩ σ rfl
  refine (part49 (h := h) (hJ := hJ) i σ _ _ _).bind ?_
  rintro ⟨r0, r1, r2⟩ σ rfl
  refine (part50 (h := h) (hJ := hJ) i σ _ _ _).bind ?_
  rintro ⟨r0, r1⟩ σ rfl
  refine (part51 (h := h) (hJ := hJ) i σ _ _ _).bind ?_
  rintro ⟨r0, r1, r2, r3⟩ σ rfl
  refine (part52 (h := h) (hJ := hJ) i σ _ _ _).bind ?_
  rintro ⟨r0, r1⟩ σ rfl
  refine (part53 (h := h) (hJ := hJ) i σ _ _).bind ?_
  rintro ⟨r0, r1⟩ σ rfl
  refine (part54 (h := h) (hJ := hJ) i σ _ _ _).bind ?_
  rintro ⟨r0, r1, r2, r3⟩ σ rfl
  refine (part55 (h := h) (hJ := hJ) i σ _ _ _).bind ?_
  rintro r0 σ rfl
  refine (part56 (h := h) (hJ := hJ) i σ _).bind ?_
  rintro r0 σ rfl
  refine (part57 (h := h) (hJ := hJ) i σ _ _).bind ?_
  rintro ⟨r0, r1, r2⟩ σ rfl
  refine (part58 (h := h) (hJ := hJ) i σ _ _ _).bind ?_
  rintro ⟨r0, r1, r2⟩ σ rfl
  refine (part59 (h := h) (hJ := hJ) i σ _ _ _).bind ?_
  rintro ⟨r0, r1, r2⟩ σ rfl
  refine (part60 (h := h) (hJ := hJ) i σ _ _ _).bind ?_
  rintro ⟨r0, r1, r2, r3⟩ σ rfl
  exact .ret rfl

theorem part162 (i : grid0.Coords) (σ : St F) (v2063 : FVec F S256x256 .f32) (v2072 : FVec F S16x8x128 .f32) (v2077 : FVec F S16x8x128 .f32) (v2078 : FVec F S1x8x128 .f32) : Runs M J (on M h J hJ (k0_part162 (F := F) i) v2063 v2072 v2077 v2078) (σ) fun _ σ' => σ' = σ := by
  unfold on k0_part162
  refine (part61 (h := h) (hJ := hJ) i σ _ _ _).bind ?_
  rintro ⟨r0, r1, r2⟩ σ rfl
  refine (part62 (h := h) (hJ := hJ) i σ _ _ _).bind ?_
  rintro ⟨r0, r1⟩ σ rfl
  refine (part63 (h := h) (hJ := hJ) i σ _ _ _).bind ?_
  rintro ⟨r0, r1, r2, r3⟩ σ rfl
  refine (part64 (h := h) (hJ := hJ) i σ _ _ _).bind ?_
  rintro ⟨r0, r1⟩ σ rfl
  refine (part65 (h := h) (hJ := hJ) i σ _ _).bind ?_
  rintro r0 σ rfl
  refine (part66 (h := h) (hJ := hJ) i σ _ _).bind ?_
  rintro ⟨r0, r1, r2⟩ σ rfl
  refine (part67 (h := h) (hJ := hJ) i σ _ _).bind ?_
  rintro r0 σ rfl
  refine (part68 (h := h) (hJ := hJ) i σ _).bind ?_
  rintro r0 σ rfl
  refine (part69 (h := h) (hJ := hJ) i σ _ _).bind ?_
  rintro ⟨r0, r1, r2⟩ σ rfl
  refine (part70 (h := h) (hJ := hJ) i σ _ _ _).bind ?_
  rintro ⟨r0, r1, r2⟩ σ rfl
  refine (part71 (h := h) (hJ := hJ) i σ _ _ _).bind ?_
  rintro ⟨r0, r1, r2⟩ σ rfl
  refine (part72 (h := h) (hJ := hJ) i σ _ _ _).bind ?_
  rintro ⟨r0, r1, r2, r3⟩ σ rfl
  refine (part73 (h := h) (hJ := hJ) i σ _ _ _).bind ?_
  rintro ⟨r0, r1, r2⟩ σ rfl
  refine (part74 (h := h) (hJ := hJ) i σ _ _ _).bind ?_
  rintro r0 σ rfl
  refine (part75 (h := h) (hJ := hJ) i σ _).bind ?_
  rintro ⟨r0, r1⟩ σ rfl
  refine (part76 (h := h) (hJ := hJ) i σ _ _ _).bind ?_
  rintro ⟨r0, r1⟩ σ rfl
  refine (part77 (h := h) (hJ := hJ) i σ _).bind ?_
  rintro r0 σ rfl
  refine (part78 (h := h) (hJ := hJ) i σ _).bind ?_
  rintro ⟨r0, r1⟩ σ rfl
  refine (part79 (h := h) (hJ := hJ) i σ _ _ _).bind ?_
  rintro ⟨r0, r1⟩ σ rfl
  refine (part80 (h := h) (hJ := hJ) i σ _).bind ?_
  rintro r0 σ rfl
  refine (part81 (h := h) (hJ := hJ) i σ _ _).bind ?_
  rintro ⟨r0, r1⟩ σ rfl
  refine (part82 (h := h) (hJ := hJ) i σ _ _).bind ?_
  rintro ⟨r0, r1, r2⟩ σ rfl
  refine (part83 (h := h) (hJ := hJ) i σ _ _ _).bind ?_
  rintro ⟨r0, r1, r2⟩ σ rfl
  refine (part84 (h := h) (hJ := hJ) i σ _ _ _).bind ?_
  rintro r0 σ rfl
  refine (part85 (h := h) (hJ := hJ) i σ _).bind ?_
  rintro ⟨r0, r1⟩ σ rfl
  refine (part86 (h := h) (hJ := hJ) i σ _).bind ?_
  rintro r0 σ rfl
  refine (part87 (h := h) (hJ := hJ) i σ _).bind ?_
  rintro r0 σ rfl
  refine (part88 (h := h) (hJ := hJ) i σ _ _).bind ?_
  rintro ⟨r0, r1⟩ σ rfl
  refine (part89 (h := h) (hJ := hJ) i σ _).bind ?_
  rintro r0 σ rfl
  refine (part90 (h := h) (hJ := hJ) i σ _).bind ?_
  rintro r0 σ rfl
  refine (part91 (h := h) (hJ := hJ) i σ _ _).bind ?_
  rintro ⟨r0, r1⟩ σ rfl
  refine (part92 (h := h) (hJ := hJ) i σ _).bind ?_
  rintro r0 σ rfl
  refine (part93 (h := h) (hJ := hJ) i σ _).bind ?_
  rintro ⟨r0, r1⟩ σ rfl
  refine (part94 (h := h) (hJ := hJ) i σ _ _).bind ?_
  rintro r0 σ rfl
  refine (part95 (h := h) (hJ := hJ) i σ _ _).bind ?_
  rintro r0 σ rfl
  refine (part96 (h := h) (hJ := hJ) i σ _).bind ?_
  rintro r0 σ rfl
  refine (part97 (h := h) (hJ := hJ) i σ _).bind ?_
  rintro ⟨r0, r1⟩ σ rfl
  refine (part98 (h := h) (hJ := hJ) i σ _ _).bind ?_
  rintro ⟨r0, r1⟩ σ rfl
  refine (part99 (h := h) (hJ := hJ) i σ _).bind ?_
  rintro r0 σ rfl
  refine (part100 (h := h) (hJ := hJ) i σ _).bind ?_
  rintro ⟨r0, r1⟩ σ rfl
  refine (part101 (h := h) (hJ := hJ) i σ _ _ _).bind ?_
  rintro ⟨r0, r1⟩ σ rfl
  refine (part102 (h := h) (hJ := hJ) i σ _).bind ?_
  rintro r0 σ rfl
  refine (part103 (h := h) (hJ := hJ) i σ _).bind ?_
  rintro ⟨r0, r1⟩ σ rfl
  refine (part104 (h := h) (hJ := hJ) i σ _ _ _).bind ?_
  rintro ⟨r0, r1, r2⟩ σ rfl
  refine (part105 (h := h) (hJ := hJ) i σ _ _).bind ?_
  rintro ⟨r0, r1⟩ σ rfl
  refine (part106 (h := h) (hJ := hJ) i σ _ _).bind ?_
  rintro ⟨r0, r1⟩ σ rfl
  refine (part107 (h := h) (hJ := hJ) i σ _ _ _).bind ?_
  rintro r0 σ rfl
  refine (part108 (h := h) (hJ := hJ) i σ _).bind ?_
  rintro r0 σ rfl
  refine (part109 (h := h) (hJ := hJ) i σ _).bind ?_
  rintro ⟨r0, r1⟩ σ rfl
  refine (part110 (h := h) (hJ := hJ) i σ _ _).bind ?_
  rintro ⟨r0, r1⟩ σ rfl
  refine (part111 (h := h) (hJ := hJ) i σ _).bind ?_
  rintro r0 σ rfl
  refine (part112 (h := h) (hJ := hJ) i σ _).bind ?_
  rintro ⟨r0, r1⟩ σ rfl
  refine (part113 (h := h) (hJ := hJ) i σ _ _ _).bind ?_
  rintro ⟨r0, r1, r2⟩ σ rfl
  refine (part114 (h := h) (hJ := hJ) i σ _ _).bind ?_
  rintro ⟨r0, r1⟩ σ rfl
  refine (part115 (h := h) (hJ := hJ) i σ _ _).bind ?_
  rintro ⟨r0, r1⟩ σ rfl
  refine (part116 (h := h) (hJ := hJ) i σ _ _ _).bind ?_
  rintro ⟨r0, r1, r2⟩ σ rfl
  refine (part117 (h := h) (hJ := hJ) i σ _ _).bind ?_
  rintro ⟨r0, r1⟩ σ rfl
  refine (part118 (h := h) (hJ := hJ) i σ _ _).bind ?_
  rintro ⟨r0, r1⟩ σ rfl
  refine (part119 (h := h) (hJ := hJ) i σ _ _ _).bind ?_
  rintro r0 σ rfl
  refine (part120 (h := h) (hJ := hJ) i σ _).bind ?_
  rintro r0 σ rfl
  exact .ret rfl

theorem part163 (i : grid0.Coords) (σ : St F) (v4237 : FVec F S16x8x128 .f32) : Runs M J (on M h J hJ (k0_part163 (F := F) i) v4237) (σ) fun _ σ' => σ' = σ := by
  unfold on k0_part163
  refine (part121 (h := h) (hJ := hJ) i σ _).bind ?_
  rintro r0 σ rfl
  refine (part122 (h := h) (hJ := hJ) i σ _).bind ?_
  rintro ⟨r0, r1⟩ σ rfl
  refine (part123 (h := h) (hJ := hJ) i σ _).bind ?_
  rintro ⟨r0, r1⟩ σ rfl
  refine (part124 (h := h) (hJ := hJ) i σ _ _).bind ?_
  rintro ⟨r0, r1⟩ σ rfl
  refine (part125 (h := h) (hJ := hJ) i σ _ _ _).bind ?_
  rintro ⟨r0, r1, r2⟩ σ rfl
  refine (part126 (h := h) (hJ := hJ) i σ _ _).bind ?_
  rintro ⟨r0, r1⟩ σ rfl
  refine (part127 (h := h) (hJ := hJ) i σ _ _).bind ?_
  rintro ⟨r0, r1⟩ σ rfl
  refine (part128 (h := h) (hJ := hJ) i σ _ _ _).bind ?_
  rintro ⟨r0, r1, r2⟩ σ rfl
  refine (part129 (h := h) (hJ := hJ) i σ _ _).bind ?_
  rintro ⟨r0, r1⟩ σ rfl
  refine (part130 (h := h) (hJ := hJ) i σ _ _).bind ?_
  rintro ⟨r0, r1⟩ σ rfl
  refine (part131 (h := h) (hJ := hJ) i σ _ _ _).bind ?_
  rintro r0 σ rfl
  refine (part132 (h := h) (hJ := hJ) i σ _).bind ?_
  rintro ⟨r0, r1⟩ σ rfl
  refine (part133 (h := h) (hJ := hJ) i σ _ _).bind ?_
  rintro ⟨r0, r1⟩ σ rfl
  refine (part134 (h := h) (hJ := hJ) i σ _ _).bind ?_
  rintro ⟨r0, r1⟩ σ rfl
  refine (part135 (h := h) (hJ := hJ) i σ _ _).bind ?_
  rintro ⟨r0, r1, r2⟩ σ rfl
  refine (part136 (h := h) (hJ := hJ) i σ _ _).bind ?_
  rintro ⟨r0, r1⟩ σ rfl
  refine (part137 (h := h) (hJ := hJ) i σ _ _).bind ?_
  rintro r0 σ rfl
  refine (part138 (h := h) (hJ := hJ) i σ _ _).bind ?_
  rintro ⟨r0, r1, r2⟩ σ rfl
  refine (part139 (h := h) (hJ := hJ) i σ _ _).bind ?_
  rintro ⟨r0, r1⟩ σ rfl
  refine (part140 (h := h) (hJ := hJ) i σ _ _).bind ?_
  rintro r0 σ rfl
  refine (part141 (h := h) (hJ := hJ) i σ _ _).bind ?_
  rintro ⟨r0, r1, r2⟩ σ rfl
  refine (part142 (h := h) (hJ := hJ) i σ _ _).bind ?_
  rintro ⟨r0, r1, r2⟩ σ rfl
  refine (part143 (h := h) (hJ := hJ) i σ _ _ _).bind ?_
  rintro ⟨r0, r1, r2⟩ σ rfl
  refine (part144 (h := h) (hJ := hJ) i σ _ _ _ _).bind ?_
  rintro ⟨r0, r1⟩ σ rfl
  refine (part145 (h := h) (hJ := hJ) i σ _ _).bind ?_
  rintro ⟨r0, r1⟩ σ rfl
  refine (part146 (h := h) (hJ := hJ) i σ _ _).bind ?_
  rintro ⟨r0, r1, r2⟩ σ rfl
  refine (part147 (h := h) (hJ := hJ) i σ _ _ _).bind ?_
  rintro ⟨r0, r1, r2⟩ σ rfl
  refine (part148 (h := h) (hJ := hJ) i σ _ _).bind ?_
  rintro ⟨r0, r1⟩ σ rfl
  refine (part149 (h := h) (hJ := hJ) i σ _ _).bind ?_
  rintro ⟨r0, r1⟩ σ rfl
  refine (part150 (h := h) (hJ := hJ) i σ _ _ _).bind ?_
  rintro ⟨r0, r1, r2⟩ σ rfl
  refine (part151 (h := h) (hJ := hJ) i σ _ _).bind ?_
  rintro ⟨r0, r1, r2⟩ σ rfl
  refine (part152 (h := h) (hJ := hJ) i σ _ _ _).bind ?_
  rintro ⟨r0, r1, r2⟩ σ rfl
  refine (part153 (h := h) (hJ := hJ) i σ _ _ _ _).bind ?_
  rintro ⟨r0, r1, r2, r3⟩ σ rfl
  refine (part154 (h := h) (hJ := hJ) i σ _ _ _).bind ?_
  rintro ⟨r0, r1, r2⟩ σ rfl
  refine (part155 (h := h) (hJ := hJ) i σ _ _ _).bind ?_
  rintro ⟨r0, r1, r2⟩ σ rfl
  refine (part156 (h := h) (hJ := hJ) i σ _ _ _ _).bind ?_
  rintro ⟨r0, r1⟩ σ rfl
  refine (part157 (h := h) (hJ := hJ) i σ _ _).bind ?_
  rintro ⟨r0, r1⟩ σ rfl
  refine (part158 (h := h) (hJ := hJ) i σ _ _).bind ?_
  rintro ⟨r0, r1⟩ σ rfl
  refine (part159 (h := h) (hJ := hJ) i σ _ _).bind ?_
  rintro ⟨r0, r1⟩ σ rfl
  refine (part160 (h := h) (hJ := hJ) i σ _ _).bind ?_
  rintro ⟨r0, r1, r2⟩ σ rfl
  refine .load Cell.lw ?_
  refine .load Cell.lb ?_
  exact .ret rfl

theorem whole (i : grid0.Coords) (σ : St F) : Runs M J (on M h J hJ (cc0_conformer_qkv (F := F) i)) (σ) fun _ σ' => σ' = σ := by
  unfold on cc0_conformer_qkv
  refine (part161 (h := h) (hJ := hJ) i σ).bind ?_
  rintro ⟨r0, r1, r2, r3⟩ σ rfl
  refine (part162 (h := h) (hJ := hJ) i σ _ _ _ _).bind ?_
  rintro r0 σ rfl
  refine (part163 (h := h) (hJ := hJ) i σ _).bind ?_
  rintro r0 σ rfl
  refine .loadJ Out.o fun _ => ?_
  refine .storeJ Out.o ?_
  exact .ret rfl

end Cert.Kernel4.Qkv

end
-- ==== Proof.Qkv.Kernel.Run.lean ====
/-
  The fused convolution and projection as printed, at a point of the grid and over the whole of it: the run ends with
  the arguments as they were. Both results' windows are forgotten.
-/
module

public import proofs.«01_k».proof.Proof.Qkv.Kernel.Whole
public import proofs.«01_k».proof.Proof.Gen.Kernel4.Frame.Runs
public import Idealize.ShloMosaic.Lib.Pipeline.BigSepL
public import Idealize.ShloMosaic.Lib.Claim

@[expose] public section

set_option maxRecDepth 16384

noncomputable section

namespace Cert.Kernel4.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel4 Cert.Kernel4.Gen
open Cert.Straight (Own Cont)
open Cert.Around

/-! ## The memrefs at a point -/

/-- The memrefs followed at point `t`: each window's current buffer, -/
def mems (t : Fin cfg0.N) : Mems
  | .a => ms0_0 t
  | .g => ms0_1 t
  | .w => ms0_2 t
  | .b => ms0_3 t
  | .lw => ms0_4 t
  | .lb => ms0_5 t
  | .u => ms0_6 t
  | .w0 => ms0_7 t
  | .w1 => ms0_8 t
  | .w2 => ms0_9 t

theorem mems_whole (t : Fin cfg0.N) : ∀ b, (mems t b).IsWhole
  | .a => hs0_0 t
  | .g => hs0_1 t
  | .w => hs0_2 t
  | .b => hs0_3 t
  | .lw => hs0_4 t
  | .lb => hs0_5 t
  | .u => hs0_6 t
  | .w0 => hs0_7 t
  | .w1 => hs0_8 t
  | .w2 => hs0_9 t

/-- and the others. -/
def others (t : Fin cfg0.N) : Outs
  | .o => ms0_10 t
  | .qkv => ms0_11 t
  | .ub => scM0_0
  | .cb => scM0_1
  | .sh => scM0_2
  | .lhs => scM0_3

theorem others_whole (t : Fin cfg0.N) : ∀ d, (others t d).IsWhole
  | .o => hs0_10 t
  | .qkv => hs0_11 t
  | .ub => Memref.isWhole_whole _
  | .cb => Memref.isWhole_whole _
  | .sh => Memref.isWhole_whole _
  | .lhs => Memref.isWhole_whole _

variable {F : FTy → Type} [BitOps F]

local notation "𝕄" => MT nD τ sig Unit (Elt F) ℕ (UR sig nD τ) ℕ

/-- The body the pipeline calls at point `t` is the kernel on these memrefs. -/
theorem bodyAt0_eq (t : Fin cfg0.N) : (bodyAt0 t : Prog (TpuEff nD τ sig (Elt F) Λ₀ .tc) PUnit)
    = on (mems t) (mems_whole t) (others t) (others_whole t) (cc0_conformer_qkv (F := F) (grid0.coords t)) := rfl

/-- The memrefs one by one. -/
theorem own_split (c : Dev nD) (t : Fin cfg0.N) (σ : St F) :
    (Own (c : Thread nD τ) (mems t) σ : sProp 𝕄)
      = iprop(owns (c : Thread nD τ) (mems t Cell.a) fullShare (σ Cell.a)
          ∗ owns (c : Thread nD τ) (mems t Cell.g) fullShare (σ Cell.g)
          ∗ owns (c : Thread nD τ) (mems t Cell.w) fullShare (σ Cell.w)
          ∗ owns (c : Thread nD τ) (mems t Cell.b) fullShare (σ Cell.b)
          ∗ owns (c : Thread nD τ) (mems t Cell.lw) fullShare (σ Cell.lw)
          ∗ owns (c : Thread nD τ) (mems t Cell.lb) fullShare (σ Cell.lb)
          ∗ owns (c : Thread nD τ) (mems t Cell.u) fullShare (σ Cell.u)
          ∗ owns (c : Thread nD τ) (mems t Cell.w0) fullShare (σ Cell.w0)
          ∗ owns (c : Thread nD τ) (mems t Cell.w1) fullShare (σ Cell.w1)
          ∗ owns (c : Thread nD τ) (mems t Cell.w2) fullShare (σ Cell.w2)) := by
  unfold Own
  rw [bigSep_univ_eq_bigSepL [Cell.a, Cell.g, Cell.w, Cell.b, Cell.lw, Cell.lb, Cell.u, Cell.w0, Cell.w1, Cell.w2] (by decide) (by decide)]
  rfl

theorem others_split (c : Dev nD) (t : Fin cfg0.N) (ψ : Cont (Elt F) shd ed) :
    (Own (c : Thread nD τ) (others t) ψ : sProp 𝕄)
      = iprop(owns (c : Thread nD τ) (others t Out.o) fullShare (ψ Out.o)
          ∗ owns (c : Thread nD τ) (others t Out.qkv) fullShare (ψ Out.qkv)
          ∗ owns (c : Thread nD τ) (others t Out.ub) fullShare (ψ Out.ub)
          ∗ owns (c : Thread nD τ) (others t Out.cb) fullShare (ψ Out.cb)
          ∗ owns (c : Thread nD τ) (others t Out.sh) fullShare (ψ Out.sh)
          ∗ owns (c : Thread nD τ) (others t Out.lhs) fullShare (ψ Out.lhs)) := by
  unfold Own
  rw [bigSep_univ_eq_bigSepL [Out.o, Out.qkv, Out.ub, Out.cb, Out.sh, Out.lhs] (by decide) (by decide)]
  rfl

/-- Contents of the others. -/
def outsAt (o : FVec F S256x1024 .bf16) (qkv : FVec F S256x3072 .bf16) (ub : FVec F S288x1024 .f32) (cb : FVec F S256x1024 .f32) (sh : FVec F S7x280x1024 .f32) (lhs : FVec F S256x2048 .bf16) : Cont (Elt F) shd ed
  | .o => o
  | .qkv => qkv
  | .ub => ub
  | .cb => cb
  | .sh => sh
  | .lhs => lhs

/-! ## What the kernel finds and leaves -/

variable (m : (ℓ : Loc nD τ sig) → Buf (Elt F) ℓ) (ρ : Dev nD → PrngReg)

/-- The pipeline's data: each input block stays; a forgotten window's contents may be any. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q w := Pipeline.shareOf spec0 w
  owed _ := 0

/-- The windows forgotten. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d

/-- The contents followed at point `t`. -/
def stateAt (c : Dev nD) (t : Fin cfg0.N) : St F
  | .a => iblk m c 0 t
  | .g => iblk m c 1 t
  | .w => iblk m c 2 t
  | .b => iblk m c 3 t
  | .lw => iblk m c 4 t
  | .lb => iblk m c 5 t
  | .u => iblk m c 6 t
  | .w0 => iblk m c 7 t
  | .w1 => iblk m c 8 t
  | .w2 => iblk m c 9 t

/-- The kernel at a point. -/
theorem sound_point (c : Dev nD) (t : Fin cfg0.N) (ψ : Cont (Elt F) shd ed) :
    (iprop(Own (c : Thread nD τ) (mems t) (stateAt m c t) ∗ Own (c : Thread nD τ) (others t) ψ) : sProp 𝕄)
      ⊢ wp frame (wpE (defs₀ (F := F)) Variants.none c none) Set.univ (bodyAt0 t) fun _ =>
        iprop(Own (c : Thread nD τ) (mems t) (stateAt m c t) ∗ ∃ ψ', Own (c : Thread nD τ) (others t) ψ') := by
  rw [bodyAt0_eq]
  refine (Runs.sound _ _ _ _ _ (whole (h := mems_whole t) (hJ := others_whole t) (grid0.coords t) (stateAt m c t)) ψ).trans
    (wp_mono _ _ _ fun _ => ?_)
  iintro ⟨%σ', %e, H⟩
  subst e
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ X, owns (c : Thread nD τ) (ms0_10 t) fullShare X)
    ∗ (∃ X, owns (c : Thread nD τ) (ms0_11 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, owns (c : Thread nD τ) (ms0_10 t) fullShare X)
    ∗ (∃ X, owns (c : Thread nD τ) (ms0_11 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9]
  rw [show (dats m 0 c).owesAt () t.succ = (dats m 0 c).owesAt () t.castSucc from rfl, after_0, after_1, after_2, after_3, after_4, after_5, after_6, after_7, after_8, after_9,
    show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩, ⟨%s2, HS2⟩, ⟨%s3, HS3⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hp := sound_point m c t (outsAt d10 d11 s0 s1 s2 s3)
  rw [own_split, others_split] at hp
  iapply (wp_wand_r _ _ _)
  isplitl [H0 H1 H2 H3 H4 H5 H6 H7 H8 H9 H10 H11 HS0 HS1 HS2 HS3]
  · iapply hp
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · isplitl [H10]; · iexact H10
      isplitl [H11]; · iexact H11
      isplitl [HS0]; · iexact HS0
      isplitl [HS1]; · iexact HS1
      isplitl [HS2]; · iexact HS2
      iexact HS3
  iintro %a ⟨HO, ⟨%ψ, HU⟩⟩
  ihave HU := (Entails.of_eq (others_split c t _)) $$ HU
  icases HO with ⟨H0, H1, H2, H3, H4, H5, H6, H7, H8, H9⟩
  icases HU with ⟨H10, H11, HS0, HS1, HS2, HS3⟩
  isplitl [HS0 HS1 HS2 HS3 HR]
  · isplitr [HR]
    · isplitl [HS0]; · iexists _; iexact HS0
      isplitl [HS1]; · iexists _; iexact HS1
      isplitl [HS2]; · iexists _; iexact HS2
      iexists _; iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexists _; iexact H11

theorem defs₀_row (t : Fin cfg0.N) : defs₀ (F := F) .tc cfg0.body (cfg0.bodyArgs t (cfg0.slots t)) = bodyAt0 t := by
  unfold defs₀; rw [Defs.onTc_tc]

/-- What the launch asks of every point. -/
theorem body_obligation (c : Dev nD) : BodyObligation (dats m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: the arrays but the forgotten ones end at what the data says, every other buffer as found, every counter at
    zero. -/
theorem run_all : θ_run defs (onTc (τ := τ) (main (F := F))) (s₀ m ρ)
    (fun r => RDat.FramePost cfg0 (fun c => (dats m 0 c).toRForget fgt) (V m) r ∧ r.2.sem = fun _ => 0) :=
  Pipeline.θ_run_frame_track_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The arguments end as they were. -/
theorem args_of (r : PUnit × MemSt nD τ sig (Elt F)) (h : RDat.FramePost cfg0 (fun c => (dats m 0 c).toRForget fgt) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h.arr_in c 0 rfl).trans ((A_eq m c 0).trans (V_main_arg0 m c)),
    (h.arr_in c 6 rfl).trans ((A_eq m c 6).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m r h.1 c, h.2⟩) (run_all m ρ)

end Cert.Kernel4.Qkv

end
-- ==== Proof.Qkv.Cells.lean ====
/-
  The memrefs of the fused convolution and projection: which of them are followed through the kernel, and the values
  the projection stores. Of the convolution, its buffers and its result nothing is said.
-/
module

public import proofs.«01_k».proof.Proof.Qkv.Around
public import proofs.«01_k».proof.Proof.Gen.Kernel4Ideal
public import Idealize.ShloMosaic.Lib.Pointwise

@[expose] public section

set_option maxRecDepth 16384

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Straight (Cont)
open Cert.Around
open VecWindow (window put)

/-- The memrefs whose contents are followed: the inputs, the result, the copy of the rows. -/
inductive Cell where
  | a | g | w | b | lw | lb | u | w0 | w1 | w2 | qkv | lhs
  deriving DecidableEq

instance : Fintype Cell := ⟨⟨([Cell.a, Cell.g, Cell.w, Cell.b, Cell.lw, Cell.lb, Cell.u, Cell.w0, Cell.w1, Cell.w2, Cell.qkv, Cell.lhs] : List Cell), by decide⟩, fun b => by cases b <;> decide⟩

/-- The others: the convolution's result and its buffers. -/
inductive Out where
  | o | ub | cb | sh
  deriving DecidableEq

instance : Fintype Out := ⟨⟨([Out.o, Out.ub, Out.cb, Out.sh] : List Out), by decide⟩, fun b => by cases b <;> decide⟩

@[reducible] def shp : Cell → Shape
  | .a => S256x1024
  | .g => S256x1024
  | .w => S31x8x1024
  | .b => S1x1024
  | .lw => S1x1024
  | .lb => S1x1024
  | .u => S256x2048
  | .w0 => S2048x1024
  | .w1 => S2048x1024
  | .w2 => S2048x1024
  | .qkv => S256x3072
  | .lhs => S256x2048

@[reducible] def el : Cell → EltTy
  | .a => .bf16
  | .g => .bf16
  | .w => .f32
  | .b => .f32
  | .lw => .f32
  | .lb => .f32
  | .u => .bf16
  | .w0 => .bf16
  | .w1 => .bf16
  | .w2 => .bf16
  | .qkv => .bf16
  | .lhs => .bf16

@[reducible] def shd : Out → Shape
  | .o => S256x1024
  | .ub => S288x1024
  | .cb => S256x1024
  | .sh => S7x280x1024

@[reducible] def ed : Out → EltTy
  | .o => .bf16
  | .ub => .f32
  | .cb => .f32
  | .sh => .f32

abbrev Mems : Type := (b : Cell) → Memref sig .tc .vmem (shp b) (el b)

abbrev Outs : Type := (d : Out) → Memref sig .tc .vmem (shd d) (ed d)

/-- The contents followed. -/
abbrev St : Type := Cont (Elt Ideal) shp el

/-- A function of the kernel's memrefs at these. -/
abbrev on {R : Type 1} (M : Mems) (h : ∀ b, (M b).IsWhole) (J : Outs) (hJ : ∀ d, (J d).IsWhole)
    (f : (m2 : Memref sig .tc .vmem S256x1024 .bf16) → m2.IsWhole → (m3 : Memref sig .tc .vmem S256x1024 .bf16) → m3.IsWhole → (m4 : Memref sig .tc .vmem S31x8x1024 .f32) → m4.IsWhole → (m5 : Memref sig .tc .vmem S1x1024 .f32) → m5.IsWhole → (m6 : Memref sig .tc .vmem S1x1024 .f32) → m6.IsWhole → (m7 : Memref sig .tc .vmem S1x1024 .f32) → m7.IsWhole → (m8 : Memref sig .tc .vmem S256x2048 .bf16) → m8.IsWhole → (m9 : Memref sig .tc .vmem S2048x1024 .bf16) → m9.IsWhole → (m10 : Memref sig .tc .vmem S2048x1024 .bf16) → m10.IsWhole → (m11 : Memref sig .tc .vmem S2048x1024 .bf16) → m11.IsWhole → (m12 : Memref sig .tc .vmem S256x1024 .bf16) → m12.IsWhole → (m13 : Memref sig .tc .vmem S256x3072 .bf16) → m13.IsWhole → (m14 : Memref sig .tc .vmem S288x1024 .f32) → m14.IsWhole → (m15 : Memref sig .tc .vmem S256x1024 .f32) → m15.IsWhole → (m16 : Memref sig .tc .vmem S7x280x1024 .f32) → m16.IsWhole → (m17 : Memref sig .tc .vmem S256x2048 .bf16) → m17.IsWhole → R) : R :=
  f (M .a) (h .a) (M .g) (h .g) (M .w) (h .w) (M .b) (h .b) (M .lw) (h .lw) (M .lb) (h .lb) (M .u) (h .u) (M .w0) (h .w0) (M .w1) (h .w1) (M .w2) (h .w2) (J .o) (hJ .o) (M .qkv) (h .qkv) (J .ub) (hJ .ub) (J .cb) (hJ .cb) (J .sh) (hJ .sh) (M .lhs) (h .lhs)

/-! ## Values -/

theorem inx (k : Fin 4) : ∀ a, (![0, 512 * k.val] : Fin 2 → ℕ) a + S256x512.size a ≤ S256x2048.size a := by
  revert k; decide

theorem inw (k j : Fin 4) : ∀ a, (![512 * k.val, 256 * j.val] : Fin 2 → ℕ) a + S512x256.size a ≤ S2048x1024.size a := by
  revert k j; decide

/-- The product over one quarter of the contraction: 512 columns of the rows, 512 rows of 256 columns of the weights. -/
def prod (x : FVec Ideal S256x2048 .bf16) (w : FVec Ideal S2048x1024 .bf16) (k j : Fin 4) : FVec Ideal S256x256 .f32 :=
  matmul dot_S256x512_S512x256_S256x256_1_0_0_1_n_n none (window x ![0, 512 * k.val] S256x512.size (inx k))
    (shapeCast S512x256 (window w ![512 * k.val, 256 * j.val] S512x256.size (inw k j)) shapeCasts_S512x256_S512x256)
    (constant S256x256 .f32 0x00000000#32)

/-- The sum of the first quarter's products, of the first two's, -/
def a0 (x : FVec Ideal S256x2048 .bf16) (w : FVec Ideal S2048x1024 .bf16) (j : Fin 4) : FVec Ideal S256x256 .f32 := prod x w 0 j
def a1 (x : FVec Ideal S256x2048 .bf16) (w : FVec Ideal S2048x1024 .bf16) (j : Fin 4) : FVec Ideal S256x256 .f32 := addf (a0 x w j) (prod x w 1 j)

/-- of the first three's, of all. -/
def a2 (x : FVec Ideal S256x2048 .bf16) (w : FVec Ideal S2048x1024 .bf16) (j : Fin 4) : FVec Ideal S256x256 .f32 := addf (a1 x w j) (prod x w 2 j)
def a3 (x : FVec Ideal S256x2048 .bf16) (w : FVec Ideal S2048x1024 .bf16) (j : Fin 4) : FVec Ideal S256x256 .f32 := addf (a2 x w j) (prod x w 3 j)

/-- The weights of the third `n / 4` of the columns. -/
def wts (σ : St) : ℕ → FVec Ideal S2048x1024 .bf16
  | 0 => σ .w0
  | 1 => σ .w1
  | _ => σ .w2

/-- The block of 256 columns stored `n`-th. -/
def piece (σ : St) (n : ℕ) : FVec Ideal S256x256 .bf16 :=
  truncf .bf16 (a3 (σ .u) (wts σ (n / 4)) ⟨n % 4, Nat.mod_lt _ (by decide)⟩) bitsLt_bf16_f32

/-- The result's buffer after `n` blocks. -/
def stored (σ : St) : ℕ → FVec Ideal S256x3072 .bf16
  | 0 => σ .qkv
  | n + 1 => put (stored σ n) ![0, 256 * n] S256x256.size (piece σ n)

/-- The contents after `n` blocks: the rows copied, the blocks stored. -/
def st (σ : St) (n : ℕ) : St
  | .qkv => stored σ n
  | .lhs => σ .u
  | .a => σ .a
  | .g => σ .g
  | .w => σ .w
  | .b => σ .b
  | .lw => σ .lw
  | .lb => σ .lb
  | .u => σ .u
  | .w0 => σ .w0
  | .w1 => σ .w1
  | .w2 => σ .w2

/-- The next block stored. -/
theorem next (σ : St) (n : ℕ) (w : FVec Ideal S256x256 .bf16) (e : w = piece σ n) :
    Function.update (st σ n) Cell.qkv (put (st σ n Cell.qkv) ![0, 256 * n] S256x256.size w) = st σ (n + 1) := by
  subst e
  funext b
  cases b <;> rfl

/-- What is there put back changes nothing. -/
theorem put_window {s : Shape} {α : Type} (x : s.Idx → α) (off size : Fin s.rank → ℕ) (inb : ∀ a, off a + size a ≤ s.size a) :
    put x off size (window x off size inb) = x := by
  funext y
  unfold put
  split
  · rename_i h
    unfold window
    refine congrArg x (funext fun a => Fin.ext ?_)
    have := h a
    show off a + 1 * ((y a).val - off a) = (y a).val
    omega
  · rfl

/-- A word of zeros read as numbers is zeros. -/
theorem zeros_apply (i : S16x128.Idx) :
    (truncf .bf16 (bitcastToFloat .f32 (constantI S16x128 32 0#32) : FVec Ideal S16x128 .f32) bitsLt_bf16_f32 : FVec Ideal S16x128 .bf16) i = (0 : EReal) := by
  pointwise []

/-- Zeros added to the rows' copy leave it. -/
theorem same (σ : St) (n : ℕ) (off : Fin 2 → ℕ) (inb : ∀ a, off a + S16x128.size a ≤ S256x2048.size a) (w : FVec Ideal S16x128 .bf16)
    (e : w = shapeCast S16x128 (addf (window (st σ n Cell.lhs) off S16x128.size inb : FVec Ideal S16x128 .bf16)
      (truncf .bf16 (bitcastToFloat .f32 (constantI S16x128 32 0#32)) bitsLt_bf16_f32)) shapeCasts_S16x128_S16x128) :
    Function.update (st σ n) Cell.lhs (put (st σ n Cell.lhs) off S16x128.size w) = st σ n := by
  have e' : w = window (st σ n Cell.lhs) off S16x128.size inb := by
    rw [e, shapeCast_self]
    funext i
    rw [addf_apply, zeros_apply]
    exact add_zero _
  rw [e']
  refine (congrArg _ (put_window (s := S256x2048) (st σ n Cell.lhs) off S16x128.size inb)).trans (Function.update_eq_self _ _)

/-- The rows copied. -/
theorem first (σ : St) : Function.update σ Cell.lhs (put (σ Cell.lhs) ![0, 0] S256x2048.size
    (shapeCast S256x2048 (window (σ Cell.u) ![0, 0] S256x2048.size inb_S256x2048_S256x2048_0_0) shapeCasts_S256x2048_S256x2048)) = st σ 0 := by
  have e : put (σ Cell.lhs) ![0, 0] S256x2048.size (shapeCast S256x2048 (window (σ Cell.u) ![0, 0] S256x2048.size inb_S256x2048_S256x2048_0_0) shapeCasts_S256x2048_S256x2048)
      = σ Cell.u := by
    have e0 : shapeCast S256x2048 (window (σ Cell.u) ![0, 0] S256x2048.size inb_S256x2048_S256x2048_0_0) shapeCasts_S256x2048_S256x2048
        = window (σ Cell.u) ![0, 0] S256x2048.size inb_S256x2048_S256x2048_0_0 := shapeCast_self _ _
    refine (congrArg (put (σ Cell.lhs) ![0, 0] S256x2048.size) e0).trans ?_
    refine Eq.trans ?_ (put_window (s := S256x2048) (σ Cell.u) ![0, 0] S256x2048.size inb_S256x2048_S256x2048_0_0)
    funext y
    have h : ∀ a : Fin 2, (![0, 0] : Fin 2 → ℕ) a ≤ (y a).val ∧ (y a).val < (![0, 0] : Fin 2 → ℕ) a + S256x2048.size a := fun a => by
      have := (y a).isLt
      fin_cases a <;> exact ⟨Nat.zero_le _, by simpa using this⟩
    unfold put
    rw [dif_pos h, dif_pos h]
  rw [e]
  funext b
  cases b <;> rfl
end Cert.Kernel4Ideal.Qkv

end
-- ==== Proof.Qkv.Parts1.lean ====
/-
  The run of parts 1 to 27 of the idealized program, each over the cells it is given: the stores
  to forgotten memory are passed over, the others change the contents as said.
-/
module

public import proofs.«01_k».proof.Proof.Qkv.Cells

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part1 (i : grid0.Coords) (σ : St) : Runs M J (on M h J hJ (k0_part1 (F := Ideal) i)) (σ) fun _ σ' => σ' = st σ 0 := by
  unfold on k0_part1
  dsimp only
  split
  · refine .loadJ Out.ub fun _ => .storeJ Out.ub ?_
    split
    on_goal 1 => refine .loadJ Out.ub fun _ => .loadJ Out.ub fun _ => .storeJ Out.ub ?_
    all_goals
      exact .load Cell.u <| .load Cell.lhs <| .storeTo Cell.lhs (first σ) <| .load Cell.a <| .load Cell.g <| .loadJ Out.ub fun _ =>
        .storeJ Out.ub <| .load Cell.a <| .load Cell.g <| .loadJ Out.ub fun _ => .storeJ Out.ub <| .load Cell.a <| .ret
        rfl
  · split
    on_goal 1 => refine .loadJ Out.ub fun _ => .loadJ Out.ub fun _ => .storeJ Out.ub ?_
    all_goals
      exact .load Cell.u <| .load Cell.lhs <| .storeTo Cell.lhs (first σ) <| .load Cell.a <| .load Cell.g <| .loadJ Out.ub fun _ =>
        .storeJ Out.ub <| .load Cell.a <| .load Cell.g <| .loadJ Out.ub fun _ => .storeJ Out.ub <| .load Cell.a <| .ret
        rfl

theorem part2 (i : grid0.Coords) (σ : St) (v29 : FVec Ideal S64x1024 .f32) : Runs M J (on M h J hJ (k0_part2 (F := Ideal) i) v29) (st σ 0) fun _ σ' => σ' = st σ 0 := by
  unfold on k0_part2
  exact .load Cell.g <| .loadJ Out.ub fun _ => .storeJ Out.ub <| .load Cell.a <| .load Cell.g <| .loadJ Out.ub fun _
    => .storeJ Out.ub <| .loadJ Out.ub fun _ => .loadJ Out.sh fun _ => .storeJ Out.sh <| .loadJ Out.ub fun _ => .loadJ
    Out.sh fun _ => .storeJ Out.sh <| .loadJ Out.ub fun _ => .loadJ Out.sh fun _ => .storeJ Out.sh <| .loadJ Out.ub
    fun _ => .ret rfl

theorem part3 (i : grid0.Coords) (σ : St) (v58 : Vec Ideal S64x1024 .f32) : Runs M J (on M h J hJ (k0_part3 (F := Ideal) i) v58) (st σ 0) fun _ σ' => σ' = st σ 0 := by
  unfold on k0_part3
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part4 (i : grid0.Coords) (σ : St) (v82 : Vec Ideal S24x1024 .f32) : Runs M J (on M h J hJ (k0_part4 (F := Ideal) i) v82) (st σ 0) fun _ σ' => σ' = st σ 0 := by
  unfold on k0_part4
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part5 (i : grid0.Coords) (σ : St) (v106 : Vec Ideal S64x1024 .f32) : Runs M J (on M h J hJ (k0_part5 (F := Ideal) i) v106) (st σ 0) fun _ σ' => σ' = st σ 0 := by
  unfold on k0_part5
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part6 (i : grid0.Coords) (σ : St) (v130 : Vec Ideal S64x1024 .f32) : Runs M J (on M h J hJ (k0_part6 (F := Ideal) i) v130) (st σ 0) fun _ σ' => σ' = st σ 0 := by
  unfold on k0_part6
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part7 (i : grid0.Coords) (σ : St) (v154 : Vec Ideal S64x1024 .f32) : Runs M J (on M h J hJ (k0_part7 (F := Ideal) i) v154) (st σ 0) fun _ σ' => σ' = st σ 0 := by
  unfold on k0_part7
  exact .loadJ Out.sh fun _ => .storeJ Out.sh <| .loadJ Out.ub fun _ => .loadJ Out.sh fun _ => .storeJ Out.sh <|
    .loadJ Out.ub fun _ => .loadJ Out.sh fun _ => .storeJ Out.sh <| .loadJ Out.ub fun _ => .loadJ Out.sh fun _ =>
    .storeJ Out.sh <| .loadJ Out.ub fun _ => .loadJ Out.sh fun _ => .storeJ Out.sh <| .loadJ Out.ub fun _ => .loadJ
    Out.sh fun _ => .storeJ Out.sh <| .loadJ Out.ub fun _ => .ret rfl

theorem part8 (i : grid0.Coords) (σ : St) (v178 : Vec Ideal S64x1024 .f32) : Runs M J (on M h J hJ (k0_part8 (F := Ideal) i) v178) (st σ 0) fun _ σ' => σ' = st σ 0 := by
  unfold on k0_part8
  exact .loadJ Out.sh fun _ => .storeJ Out.sh <| .loadJ Out.ub fun _ => .loadJ Out.sh fun _ => .storeJ Out.sh <| .load
    Cell.b <| .loadJ Out.sh fun _ => .load Cell.w <| .loadJ Out.sh fun _ => .load Cell.w <| .loadJ Out.sh fun _ =>
    .ret rfl

theorem part9 (i : grid0.Coords) (σ : St) (v207 : FVec Ideal S16x8x128 .f32) (v209 : FVec Ideal S128x128 .f32) : Runs M J (on M h J hJ (k0_part9 (F := Ideal) i) v207 v209) (st σ 0) fun _ σ' => σ' = st σ 0 := by
  unfold on k0_part9
  exact .load Cell.w <| .loadJ Out.sh fun _ => .load Cell.w <| .loadJ Out.sh fun _ => .load Cell.w <| .loadJ Out.sh
    fun _ => .load Cell.w <| .loadJ Out.ub fun _ => .load Cell.w <| .ret rfl

theorem part10 (i : grid0.Coords) (σ : St) (v243 : FVec Ideal S16x8x128 .f32) (v244 : Vec Ideal S128x128 .f32) (v245 : Vec Ideal S1x8x128 .f32) : Runs M J (on M h J hJ (k0_part10 (F := Ideal) i) v243 v244 v245) (st σ 0) fun _ σ' => σ' = st σ 0 := by
  unfold on k0_part10
  exact .loadJ Out.sh fun _ => .load Cell.w <| .loadJ Out.sh fun _ => .load Cell.w <| .loadJ Out.sh fun _ => .load
    Cell.w <| .ret rfl

theorem part11 (i : grid0.Coords) (σ : St) (v278 : FVec Ideal S16x8x128 .f32) : Runs M J (on M h J hJ (k0_part11 (F := Ideal) i) v278) (st σ 0) fun r σ' => r.1 = (a0 (σ .u) (σ .w0) 0) ∧ σ' = st σ 0 := by
  unfold on k0_part11
  exact .load Cell.lhs <| .load Cell.lhs <| .storeTo Cell.lhs (same σ 0 _ _ _ rfl) <| .load Cell.lhs <| .load Cell.w0
    <| .loadJ Out.sh fun _ => .load Cell.w <| .loadJ Out.sh fun _ => .load Cell.w <| .loadJ Out.sh fun _ => .ret ⟨rfl,
    rfl⟩

theorem part12 (i : grid0.Coords) (σ : St) (v314 : FVec Ideal S16x8x128 .f32) (v316 : FVec Ideal S128x128 .f32) : Runs M J (on M h J hJ (k0_part12 (F := Ideal) i) v314 v316) (st σ 0) fun _ σ' => σ' = st σ 0 := by
  unfold on k0_part12
  exact .load Cell.w <| .loadJ Out.sh fun _ => .load Cell.w <| .loadJ Out.ub fun _ => .load Cell.w <| .loadJ Out.sh
    fun _ => .load Cell.w <| .loadJ Out.sh fun _ => .load Cell.w <| .ret rfl

theorem part13 (i : grid0.Coords) (σ : St) (v349 : FVec Ideal S16x8x128 .f32) (v351 : FVec Ideal S128x128 .f32) (v353 : FVec Ideal S8x128 .f32) : Runs M J (on M h J hJ (k0_part13 (F := Ideal) i) v349 v351 v353) (st σ 0) fun r σ' => r.2 = (constantI S16x128 32 0#32 : IVec S16x128 32) ∧ σ' = st σ 0 := by
  unfold on k0_part13
  exact .loadJ Out.sh fun _ => .load Cell.w <| .loadJ Out.sh fun _ => .load Cell.w <| .loadJ Out.sh fun _ => .load
    Cell.w <| .ret ⟨rfl, rfl⟩

theorem part14 (i : grid0.Coords) (σ : St) (v385 : FVec Ideal S16x8x128 .f32) : Runs M J (on M h J hJ (k0_part14 (F := Ideal) i) (a0 (σ .u) (σ .w0) 0) v385 (constantI S16x128 32 0#32 : IVec S16x128 32)) (st σ 0) fun r σ' => r.1 = (a1 (σ .u) (σ .w0) 0) ∧ σ' = st σ 0 := by
  unfold on k0_part14
  exact .load Cell.lhs <| .load Cell.lhs <| .storeTo Cell.lhs (same σ 0 _ _ _ rfl) <| .load Cell.lhs <| .load Cell.w0
    <| .loadJ Out.sh fun _ => .load Cell.w <| .loadJ Out.sh fun _ => .load Cell.w <| .loadJ Out.ub fun _ => .load
    Cell.w <| .ret ⟨rfl, rfl⟩

theorem part15 (i : grid0.Coords) (σ : St) (v422 : FVec Ideal S16x8x128 .f32) (v423 : Vec Ideal S128x128 .f32) (v425 : FVec Ideal S8x128 .f32) : Runs M J (on M h J hJ (k0_part15 (F := Ideal) i) v422 v423 v425) (st σ 0) fun _ σ' => σ' = st σ 0 := by
  unfold on k0_part15
  exact .loadJ Out.sh fun _ => .load Cell.w <| .loadJ Out.sh fun _ => .load Cell.w <| .loadJ Out.sh fun _ => .load
    Cell.w <| .loadJ Out.sh fun _ => .load Cell.w <| .ret rfl

theorem part16 (i : grid0.Coords) (σ : St) (v457 : FVec Ideal S16x8x128 .f32) (v459 : FVec Ideal S128x128 .f32) (v461 : FVec Ideal S8x128 .f32) : Runs M J (on M h J hJ (k0_part16 (F := Ideal) i) v457 v459 v461) (st σ 0) fun r σ' => r.2 = (constantI S16x128 32 0#32 : IVec S16x128 32) ∧ σ' = st σ 0 := by
  unfold on k0_part16
  exact .loadJ Out.sh fun _ => .load Cell.w <| .loadJ Out.sh fun _ => .load Cell.w <| .loadJ Out.sh fun _ => .load
    Cell.w <| .ret ⟨rfl, rfl⟩

theorem part17 (i : grid0.Coords) (σ : St) (v493 : FVec Ideal S16x8x128 .f32) : Runs M J (on M h J hJ (k0_part17 (F := Ideal) i) (a1 (σ .u) (σ .w0) 0) v493 (constantI S16x128 32 0#32 : IVec S16x128 32)) (st σ 0) fun r σ' => r.1 = (a2 (σ .u) (σ .w0) 0) ∧ σ' = st σ 0 := by
  unfold on k0_part17
  exact .load Cell.lhs <| .load Cell.lhs <| .storeTo Cell.lhs (same σ 0 _ _ _ rfl) <| .load Cell.lhs <| .load Cell.w0
    <| .loadJ Out.ub fun _ => .load Cell.w <| .loadJ Out.cb fun _ => .storeJ Out.cb <| .load Cell.b <| .loadJ Out.sh
    fun _ => .load Cell.w <| .ret ⟨rfl, rfl⟩

theorem part18 (i : grid0.Coords) (σ : St) (v528 : FVec Ideal S16x8x128 .f32) (v533 : FVec Ideal S16x8x128 .f32) (v534 : FVec Ideal S1x8x128 .f32) : Runs M J (on M h J hJ (k0_part18 (F := Ideal) i) v528 v533 v534) (st σ 0) fun _ σ' => σ' = st σ 0 := by
  unfold on k0_part18
  exact .loadJ Out.sh fun _ => .load Cell.w <| .loadJ Out.sh fun _ => .load Cell.w <| .loadJ Out.sh fun _ => .load
    Cell.w <| .loadJ Out.sh fun _ => .load Cell.w <| .ret rfl

theorem part19 (i : grid0.Coords) (σ : St) (v564 : FVec Ideal S16x8x128 .f32) (v569 : FVec Ideal S16x8x128 .f32) (v570 : FVec Ideal S1x8x128 .f32) : Runs M J (on M h J hJ (k0_part19 (F := Ideal) i) v564 v569 v570) (st σ 0) fun _ σ' => σ' = st σ 0 := by
  unfold on k0_part19
  exact .loadJ Out.sh fun _ => .load Cell.w <| .loadJ Out.ub fun _ => .load Cell.w <| .loadJ Out.sh fun _ => .load
    Cell.w <| .loadJ Out.sh fun _ => .load Cell.w <| .ret rfl

theorem part20 (i : grid0.Coords) (σ : St) (v599 : FVec Ideal S16x8x128 .f32) (v607 : FVec Ideal S16x8x128 .f32) : Runs M J (on M h J hJ (k0_part20 (F := Ideal) i) (a2 (σ .u) (σ .w0) 0) v599 v607) (st σ 0) fun _ σ' => σ' = st σ 1 := by
  unfold on k0_part20
  exact .load Cell.lhs <| .load Cell.lhs <| .storeTo Cell.lhs (same σ 0 _ _ _ rfl) <| .load Cell.lhs <| .load Cell.w0
    <| .load Cell.qkv <| .storeTo Cell.qkv (next σ 0 _ rfl) <| .loadJ Out.sh fun _ => .load Cell.w <| .loadJ Out.sh
    fun _ => .ret rfl

theorem part21 (i : grid0.Coords) (σ : St) (v638 : FVec Ideal S16x8x128 .f32) (v640 : FVec Ideal S128x128 .f32) : Runs M J (on M h J hJ (k0_part21 (F := Ideal) i) v638 v640) (st σ 1) fun _ σ' => σ' = st σ 1 := by
  unfold on k0_part21
  exact .load Cell.w <| .loadJ Out.sh fun _ => .load Cell.w <| .loadJ Out.sh fun _ => .load Cell.w <| .loadJ Out.sh
    fun _ => .load Cell.w <| .loadJ Out.ub fun _ => .load Cell.w <| .ret rfl

theorem part22 (i : grid0.Coords) (σ : St) (v674 : FVec Ideal S16x8x128 .f32) (v675 : Vec Ideal S128x128 .f32) (v676 : Vec Ideal S1x8x128 .f32) : Runs M J (on M h J hJ (k0_part22 (F := Ideal) i) v674 v675 v676) (st σ 1) fun _ σ' => σ' = st σ 1 := by
  unfold on k0_part22
  exact .loadJ Out.sh fun _ => .load Cell.w <| .loadJ Out.sh fun _ => .load Cell.w <| .loadJ Out.sh fun _ => .load
    Cell.w <| .loadJ Out.sh fun _ => .load Cell.w <| .ret rfl

theorem part23 (i : grid0.Coords) (σ : St) (v709 : FVec Ideal S16x8x128 .f32) (v711 : FVec Ideal S128x128 .f32) (v712 : Vec Ideal S1x8x128 .f32) : Runs M J (on M h J hJ (k0_part23 (F := Ideal) i) v709 v711 v712) (st σ 1) fun r σ' => r.1 = (a0 (σ .u) (σ .w0) 1) ∧ σ' = st σ 1 := by
  unfold on k0_part23
  exact .load Cell.lhs <| .load Cell.lhs <| .storeTo Cell.lhs (same σ 1 _ _ _ rfl) <| .load Cell.lhs <| .load Cell.w0
    <| .loadJ Out.sh fun _ => .load Cell.w <| .loadJ Out.sh fun _ => .ret ⟨rfl, rfl⟩

theorem part24 (i : grid0.Coords) (σ : St) (v745 : FVec Ideal S16x8x128 .f32) (v747 : FVec Ideal S128x128 .f32) : Runs M J (on M h J hJ (k0_part24 (F := Ideal) i) v745 v747) (st σ 1) fun _ σ' => σ' = st σ 1 := by
  unfold on k0_part24
  exact .load Cell.w <| .loadJ Out.sh fun _ => .load Cell.w <| .loadJ Out.ub fun _ => .load Cell.w <| .loadJ Out.sh
    fun _ => .load Cell.w <| .loadJ Out.sh fun _ => .load Cell.w <| .ret rfl

theorem part25 (i : grid0.Coords) (σ : St) (v780 : FVec Ideal S16x8x128 .f32) (v782 : FVec Ideal S128x128 .f32) (v784 : FVec Ideal S8x128 .f32) : Runs M J (on M h J hJ (k0_part25 (F := Ideal) i) v780 v782 v784) (st σ 1) fun _ σ' => σ' = st σ 1 := by
  unfold on k0_part25
  exact .loadJ Out.sh fun _ => .load Cell.w <| .loadJ Out.sh fun _ => .load Cell.w <| .loadJ Out.sh fun _ => .load
    Cell.w <| .loadJ Out.sh fun _ => .load Cell.w <| .ret rfl

theorem part26 (i : grid0.Coords) (σ : St) (v816 : FVec Ideal S16x8x128 .f32) (v818 : FVec Ideal S128x128 .f32) (v820 : FVec Ideal S8x128 .f32) : Runs M J (on M h J hJ (k0_part26 (F := Ideal) i) (a0 (σ .u) (σ .w0) 1) v816 v818 v820) (st σ 1) fun r σ' => r.1 = (a1 (σ .u) (σ .w0) 1) ∧ σ' = st σ 1 := by
  unfold on k0_part26
  exact .load Cell.lhs <| .load Cell.lhs <| .storeTo Cell.lhs (same σ 1 _ _ _ rfl) <| .load Cell.lhs <| .load Cell.w0
    <| .loadJ Out.sh fun _ => .load Cell.w <| .loadJ Out.ub fun _ => .load Cell.w <| .ret ⟨rfl, rfl⟩

theorem part27 (i : grid0.Coords) (σ : St) (v853 : FVec Ideal S16x8x128 .f32) (v854 : Vec Ideal S128x128 .f32) (v856 : FVec Ideal S8x128 .f32) : Runs M J (on M h J hJ (k0_part27 (F := Ideal) i) v853 v854 v856) (st σ 1) fun _ σ' => σ' = st σ 1 := by
  unfold on k0_part27
  exact .loadJ Out.cb fun _ => .storeJ Out.cb <| .load Cell.b <| .loadJ Out.sh fun _ => .load Cell.w <| .loadJ Out.sh
    fun _ => .load Cell.w <| .loadJ Out.sh fun _ => .load Cell.w <| .ret rfl

end Cert.Kernel4Ideal.Qkv

end
-- ==== Proof.Qkv.Parts2.lean ====
/-
  The run of parts 28 to 54 of the idealized program, each over the cells it is given: the stores
  to forgotten memory are passed over, the others change the contents as said.
-/
module

public import proofs.«01_k».proof.Proof.Qkv.Cells

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part28 (i : grid0.Coords) (σ : St) (v887 : FVec Ideal S16x8x128 .f32) (v892 : FVec Ideal S16x8x128 .f32) (v893 : FVec Ideal S1x8x128 .f32) : Runs M J (on M h J hJ (k0_part28 (F := Ideal) i) v887 v892 v893) (st σ 1) fun _ σ' => σ' = st σ 1 := by
  unfold on k0_part28
  exact .loadJ Out.sh fun _ => .load Cell.w <| .loadJ Out.sh fun _ => .load Cell.w <| .loadJ Out.sh fun _ => .load
    Cell.w <| .loadJ Out.ub fun _ => .load Cell.w <| .ret rfl

theorem part29 (i : grid0.Coords) (σ : St) (v923 : FVec Ideal S16x8x128 .f32) (v930 : FVec Ideal S16x8x128 .f32) : Runs M J (on M h J hJ (k0_part29 (F := Ideal) i) (a1 (σ .u) (σ .w0) 1) v923 v930) (st σ 1) fun r σ' => r.2.1 = (a2 (σ .u) (σ .w0) 1) ∧ σ' = st σ 1 := by
  unfold on k0_part29
  exact .loadJ Out.sh fun _ => .load Cell.w <| .load Cell.lhs <| .load Cell.lhs <| .storeTo Cell.lhs (same σ 1 _ _ _
    rfl) <| .load Cell.lhs <| .load Cell.w0 <| .loadJ Out.sh fun _ => .load Cell.w <| .ret ⟨rfl, rfl⟩

theorem part30 (i : grid0.Coords) (σ : St) (v940 : FVec Ideal S16x8x128 .f32) (v964 : FVec Ideal S16x8x128 .f32) (v965 : FVec Ideal S1x8x128 .f32) : Runs M J (on M h J hJ (k0_part30 (F := Ideal) i) v940 v964 v965) (st σ 1) fun _ σ' => σ' = st σ 1 := by
  unfold on k0_part30
  exact .loadJ Out.sh fun _ => .load Cell.w <| .loadJ Out.sh fun _ => .load Cell.w <| .loadJ Out.sh fun _ => .load
    Cell.w <| .loadJ Out.sh fun _ => .load Cell.w <| .ret rfl

theorem part31 (i : grid0.Coords) (σ : St) (v995 : FVec Ideal S16x8x128 .f32) (v1000 : FVec Ideal S16x8x128 .f32) (v1001 : FVec Ideal S1x8x128 .f32) : Runs M J (on M h J hJ (k0_part31 (F := Ideal) i) v995 v1000 v1001) (st σ 1) fun _ σ' => σ' = st σ 1 := by
  unfold on k0_part31
  exact .loadJ Out.sh fun _ => .load Cell.w <| .loadJ Out.ub fun _ => .load Cell.w <| .loadJ Out.sh fun _ => .load
    Cell.w <| .loadJ Out.sh fun _ => .load Cell.w <| .ret rfl

theorem part32 (i : grid0.Coords) (σ : St) (v1030 : FVec Ideal S16x8x128 .f32) (v1038 : FVec Ideal S16x8x128 .f32) : Runs M J (on M h J hJ (k0_part32 (F := Ideal) i) (a2 (σ .u) (σ .w0) 1) v1030 v1038) (st σ 1) fun _ σ' => σ' = st σ 2 := by
  unfold on k0_part32
  exact .loadJ Out.sh fun _ => .load Cell.w <| .load Cell.lhs <| .load Cell.lhs <| .storeTo Cell.lhs (same σ 1 _ _ _
    rfl) <| .load Cell.lhs <| .load Cell.w0 <| .load Cell.qkv <| .storeTo Cell.qkv (next σ 1 _ rfl) <| .loadJ Out.sh
    fun _ => .ret rfl

theorem part33 (i : grid0.Coords) (σ : St) (v1048 : FVec Ideal S16x8x128 .f32) (v1071 : FVec Ideal S128x128 .f32) : Runs M J (on M h J hJ (k0_part33 (F := Ideal) i) v1048 v1071) (st σ 2) fun _ σ' => σ' = st σ 2 := by
  unfold on k0_part33
  exact .load Cell.w <| .loadJ Out.sh fun _ => .load Cell.w <| .loadJ Out.sh fun _ => .load Cell.w <| .loadJ Out.sh
    fun _ => .load Cell.w <| .loadJ Out.ub fun _ => .load Cell.w <| .ret rfl

theorem part34 (i : grid0.Coords) (σ : St) (v1105 : FVec Ideal S16x8x128 .f32) (v1106 : Vec Ideal S128x128 .f32) (v1107 : Vec Ideal S1x8x128 .f32) : Runs M J (on M h J hJ (k0_part34 (F := Ideal) i) v1105 v1106 v1107) (st σ 2) fun _ σ' => σ' = st σ 2 := by
  unfold on k0_part34
  exact .loadJ Out.sh fun _ => .load Cell.w <| .loadJ Out.sh fun _ => .load Cell.w <| .loadJ Out.sh fun _ => .load
    Cell.w <| .loadJ Out.sh fun _ => .load Cell.w <| .ret rfl

theorem part35 (i : grid0.Coords) (σ : St) (v1140 : FVec Ideal S16x8x128 .f32) (v1142 : FVec Ideal S128x128 .f32) (v1143 : Vec Ideal S1x8x128 .f32) : Runs M J (on M h J hJ (k0_part35 (F := Ideal) i) v1140 v1142 v1143) (st σ 2) fun r σ' => r.2.1 = (a0 (σ .u) (σ .w0) 2) ∧ σ' = st σ 2 := by
  unfold on k0_part35
  exact .loadJ Out.sh fun _ => .load Cell.w <| .load Cell.lhs <| .load Cell.lhs <| .storeTo Cell.lhs (same σ 2 _ _ _
    rfl) <| .load Cell.lhs <| .load Cell.w0 <| .loadJ Out.sh fun _ => .ret ⟨rfl, rfl⟩

theorem part36 (i : grid0.Coords) (σ : St) (v1158 : FVec Ideal S16x8x128 .f32) (v1178 : FVec Ideal S128x128 .f32) : Runs M J (on M h J hJ (k0_part36 (F := Ideal) i) v1158 v1178) (st σ 2) fun _ σ' => σ' = st σ 2 := by
  unfold on k0_part36
  exact .load Cell.w <| .loadJ Out.sh fun _ => .load Cell.w <| .loadJ Out.ub fun _ => .load Cell.w <| .loadJ Out.cb
    fun _ => .storeJ Out.cb <| .load Cell.b <| .loadJ Out.sh fun _ => .load Cell.w <| .ret rfl

theorem part37 (i : grid0.Coords) (σ : St) (v1210 : FVec Ideal S16x8x128 .f32) (v1215 : FVec Ideal S16x8x128 .f32) (v1216 : FVec Ideal S1x8x128 .f32) : Runs M J (on M h J hJ (k0_part37 (F := Ideal) i) v1210 v1215 v1216) (st σ 2) fun _ σ' => σ' = st σ 2 := by
  unfold on k0_part37
  exact .loadJ Out.sh fun _ => .load Cell.w <| .loadJ Out.sh fun _ => .load Cell.w <| .loadJ Out.sh fun _ => .load
    Cell.w <| .loadJ Out.sh fun _ => .load Cell.w <| .ret rfl

theorem part38 (i : grid0.Coords) (σ : St) (v1246 : FVec Ideal S16x8x128 .f32) (v1251 : FVec Ideal S16x8x128 .f32) (v1252 : FVec Ideal S1x8x128 .f32) : Runs M J (on M h J hJ (k0_part38 (F := Ideal) i) v1246 v1251 v1252) (st σ 2) fun r σ' => r.2.1 = (window (σ .u) ![0, 512] S256x512.size inb_S256x2048_S256x512_0_512) ∧ r.2.2 = (shapeCast S512x256 (window (σ .w0) ![512, 512] S512x256.size inb_S2048x1024_S512x256_512_512) shapeCasts_S512x256_S512x256 : FVec Ideal S512x256 .bf16) ∧ σ' = st σ 2 := by
  unfold on k0_part38
  exact .loadJ Out.sh fun _ => .load Cell.w <| .loadJ Out.ub fun _ => .load Cell.w <| .load Cell.lhs <| .load Cell.lhs
    <| .storeTo Cell.lhs (same σ 2 _ _ _ rfl) <| .load Cell.lhs <| .load Cell.w0 <| .ret ⟨rfl, rfl, rfl⟩

theorem part39 (i : grid0.Coords) (σ : St) (v1272 : FVec Ideal S16x8x128 .f32) : Runs M J (on M h J hJ (k0_part39 (F := Ideal) i) (a0 (σ .u) (σ .w0) 2) v1272 (window (σ .u) ![0, 512] S256x512.size inb_S256x2048_S256x512_0_512) (shapeCast S512x256 (window (σ .w0) ![512, 512] S512x256.size inb_S2048x1024_S512x256_512_512) shapeCasts_S512x256_S512x256 : FVec Ideal S512x256 .bf16)) (st σ 2) fun r σ' => r.1 = (a1 (σ .u) (σ .w0) 2) ∧ σ' = st σ 2 := by
  unfold on k0_part39
  exact .loadJ Out.sh fun _ => .load Cell.w <| .loadJ Out.sh fun _ => .load Cell.w <| .loadJ Out.sh fun _ => .load
    Cell.w <| .loadJ Out.sh fun _ => .load Cell.w <| .ret ⟨rfl, rfl⟩

theorem part40 (i : grid0.Coords) (σ : St) (v1318 : FVec Ideal S16x8x128 .f32) (v1323 : FVec Ideal S16x8x128 .f32) (v1324 : FVec Ideal S1x8x128 .f32) : Runs M J (on M h J hJ (k0_part40 (F := Ideal) i) v1318 v1323 v1324) (st σ 2) fun _ σ' => σ' = st σ 2 := by
  unfold on k0_part40
  exact .loadJ Out.sh fun _ => .load Cell.w <| .loadJ Out.sh fun _ => .load Cell.w <| .loadJ Out.sh fun _ => .load
    Cell.w <| .loadJ Out.ub fun _ => .load Cell.w <| .ret rfl

theorem part41 (i : grid0.Coords) (σ : St) (v1354 : FVec Ideal S16x8x128 .f32) (v1361 : FVec Ideal S16x8x128 .f32) : Runs M J (on M h J hJ (k0_part41 (F := Ideal) i) v1354 v1361) (st σ 2) fun r σ' => r.2.1 = (window (σ .u) ![0, 1024] S256x512.size inb_S256x2048_S256x512_0_1024) ∧ r.2.2 = (shapeCast S512x256 (window (σ .w0) ![1024, 512] S512x256.size inb_S2048x1024_S512x256_1024_512) shapeCasts_S512x256_S512x256 : FVec Ideal S512x256 .bf16) ∧ σ' = st σ 2 := by
  unfold on k0_part41
  exact .loadJ Out.sh fun _ => .load Cell.w <| .loadJ Out.sh fun _ => .load Cell.w <| .load Cell.lhs <| .load Cell.lhs
    <| .storeTo Cell.lhs (same σ 2 _ _ _ rfl) <| .load Cell.lhs <| .load Cell.w0 <| .ret ⟨rfl, rfl, rfl⟩

theorem part42 (i : grid0.Coords) (σ : St) (v1380 : FVec Ideal S16x8x128 .f32) : Runs M J (on M h J hJ (k0_part42 (F := Ideal) i) (a1 (σ .u) (σ .w0) 2) v1380 (window (σ .u) ![0, 1024] S256x512.size inb_S256x2048_S256x512_0_1024) (shapeCast S512x256 (window (σ .w0) ![1024, 512] S512x256.size inb_S2048x1024_S512x256_1024_512) shapeCasts_S512x256_S512x256 : FVec Ideal S512x256 .bf16)) (st σ 2) fun r σ' => r.1 = (a2 (σ .u) (σ .w0) 2) ∧ σ' = st σ 2 := by
  unfold on k0_part42
  exact .loadJ Out.sh fun _ => .load Cell.w <| .loadJ Out.sh fun _ => .load Cell.w <| .loadJ Out.sh fun _ => .load
    Cell.w <| .loadJ Out.sh fun _ => .load Cell.w <| .ret ⟨rfl, rfl⟩

theorem part43 (i : grid0.Coords) (σ : St) (v1426 : FVec Ideal S16x8x128 .f32) (v1431 : FVec Ideal S16x8x128 .f32) (v1432 : FVec Ideal S1x8x128 .f32) : Runs M J (on M h J hJ (k0_part43 (F := Ideal) i) v1426 v1431 v1432) (st σ 2) fun _ σ' => σ' = st σ 2 := by
  unfold on k0_part43
  exact .loadJ Out.sh fun _ => .load Cell.w <| .loadJ Out.ub fun _ => .load Cell.w <| .loadJ Out.sh fun _ => .load
    Cell.w <| .loadJ Out.sh fun _ => .load Cell.w <| .ret rfl

theorem part44 (i : grid0.Coords) (σ : St) (v1461 : FVec Ideal S16x8x128 .f32) (v1469 : FVec Ideal S16x8x128 .f32) : Runs M J (on M h J hJ (k0_part44 (F := Ideal) i) v1461 v1469) (st σ 2) fun r σ' => r.2.1 = (window (σ .u) ![0, 1536] S256x512.size inb_S256x2048_S256x512_0_1536) ∧ r.2.2 = (shapeCast S512x256 (window (σ .w0) ![1536, 512] S512x256.size inb_S2048x1024_S512x256_1536_512) shapeCasts_S512x256_S512x256 : FVec Ideal S512x256 .bf16) ∧ σ' = st σ 2 := by
  unfold on k0_part44
  exact .loadJ Out.sh fun _ => .load Cell.w <| .loadJ Out.sh fun _ => .load Cell.w <| .load Cell.lhs <| .load Cell.lhs
    <| .storeTo Cell.lhs (same σ 2 _ _ _ rfl) <| .load Cell.lhs <| .load Cell.w0 <| .ret ⟨rfl, rfl, rfl⟩

theorem part45 (i : grid0.Coords) (σ : St) (v1488 : FVec Ideal S16x8x128 .f32) : Runs M J (on M h J hJ (k0_part45 (F := Ideal) i) (a2 (σ .u) (σ .w0) 2) v1488 (window (σ .u) ![0, 1536] S256x512.size inb_S256x2048_S256x512_0_1536) (shapeCast S512x256 (window (σ .w0) ![1536, 512] S512x256.size inb_S2048x1024_S512x256_1536_512) shapeCasts_S512x256_S512x256 : FVec Ideal S512x256 .bf16)) (st σ 2) fun _ σ' => σ' = st σ 3 := by
  unfold on k0_part45
  exact .load Cell.qkv <| .storeTo Cell.qkv (next σ 2 _ rfl) <| .loadJ Out.sh fun _ => .load Cell.w <| .loadJ Out.sh
    fun _ => .load Cell.w <| .loadJ Out.sh fun _ => .load Cell.w <| .loadJ Out.ub fun _ => .load Cell.w <| .ret rfl

theorem part46 (i : grid0.Coords) (σ : St) (v1536 : FVec Ideal S16x8x128 .f32) (v1537 : Vec Ideal S128x128 .f32) (v1538 : Vec Ideal S1x8x128 .f32) : Runs M J (on M h J hJ (k0_part46 (F := Ideal) i) v1536 v1537 v1538) (st σ 3) fun _ σ' => σ' = st σ 3 := by
  unfold on k0_part46
  exact .loadJ Out.cb fun _ => .storeJ Out.cb <| .load Cell.b <| .loadJ Out.sh fun _ => .load Cell.w <| .loadJ Out.sh
    fun _ => .load Cell.w <| .loadJ Out.sh fun _ => .load Cell.w <| .ret rfl

theorem part47 (i : grid0.Coords) (σ : St) (v1570 : FVec Ideal S16x8x128 .f32) (v1574 : FVec Ideal S8x128 .f32) (v1575 : FVec Ideal S16x8x128 .f32) : Runs M J (on M h J hJ (k0_part47 (F := Ideal) i) v1570 v1574 v1575) (st σ 3) fun r σ' => r.2 = (bitcastToFloat .f32 (constantI S16x128 32 0#32 : IVec S16x128 32) : FVec Ideal S16x128 .f32) ∧ σ' = st σ 3 := by
  unfold on k0_part47
  exact .loadJ Out.sh fun _ => .load Cell.w <| .loadJ Out.sh fun _ => .load Cell.w <| .loadJ Out.sh fun _ => .load
    Cell.w <| .ret ⟨rfl, rfl⟩

theorem part48 (i : grid0.Coords) (σ : St) (v1606 : FVec Ideal S16x8x128 .f32) : Runs M J (on M h J hJ (k0_part48 (F := Ideal) i) v1606 (bitcastToFloat .f32 (constantI S16x128 32 0#32 : IVec S16x128 32) : FVec Ideal S16x128 .f32)) (st σ 3) fun r σ' => r.1 = (a0 (σ .u) (σ .w0) 3) ∧ σ' = st σ 3 := by
  unfold on k0_part48
  exact .load Cell.lhs <| .load Cell.lhs <| .storeTo Cell.lhs (same σ 3 _ _ _ rfl) <| .load Cell.lhs <| .load Cell.w0
    <| .loadJ Out.ub fun _ => .load Cell.w <| .loadJ Out.sh fun _ => .load Cell.w <| .loadJ Out.sh fun _ => .load
    Cell.w <| .ret ⟨rfl, rfl⟩

theorem part49 (i : grid0.Coords) (σ : St) (v1641 : FVec Ideal S16x8x128 .f32) (v1646 : FVec Ideal S16x8x128 .f32) (v1647 : FVec Ideal S1x8x128 .f32) : Runs M J (on M h J hJ (k0_part49 (F := Ideal) i) v1641 v1646 v1647) (st σ 3) fun _ σ' => σ' = st σ 3 := by
  unfold on k0_part49
  exact .loadJ Out.sh fun _ => .load Cell.w <| .loadJ Out.sh fun _ => .load Cell.w <| .loadJ Out.sh fun _ => .load
    Cell.w <| .loadJ Out.sh fun _ => .load Cell.w <| .ret rfl

theorem part50 (i : grid0.Coords) (σ : St) (v1677 : FVec Ideal S16x8x128 .f32) (v1682 : FVec Ideal S16x8x128 .f32) (v1683 : FVec Ideal S1x8x128 .f32) : Runs M J (on M h J hJ (k0_part50 (F := Ideal) i) v1677 v1682 v1683) (st σ 3) fun r σ' => r.2 = (truncf .bf16 (bitcastToFloat .f32 (constantI S16x128 32 0#32 : IVec S16x128 32) : FVec Ideal S16x128 .f32) bitsLt_bf16_f32 : FVec Ideal S16x128 .bf16) ∧ σ' = st σ 3 := by
  unfold on k0_part50
  exact .loadJ Out.sh fun _ => .load Cell.w <| .loadJ Out.ub fun _ => .load Cell.w <| .loadJ Out.sh fun _ => .load
    Cell.w <| .ret ⟨rfl, rfl⟩

theorem part51 (i : grid0.Coords) (σ : St) (v1712 : FVec Ideal S16x8x128 .f32) : Runs M J (on M h J hJ (k0_part51 (F := Ideal) i) (a0 (σ .u) (σ .w0) 3) v1712 (truncf .bf16 (bitcastToFloat .f32 (constantI S16x128 32 0#32 : IVec S16x128 32) : FVec Ideal S16x128 .f32) bitsLt_bf16_f32 : FVec Ideal S16x128 .bf16)) (st σ 3) fun r σ' => r.1 = (a1 (σ .u) (σ .w0) 3) ∧ σ' = st σ 3 := by
  unfold on k0_part51
  exact .load Cell.lhs <| .load Cell.lhs <| .storeTo Cell.lhs (same σ 3 _ _ _ rfl) <| .load Cell.lhs <| .load Cell.w0
    <| .loadJ Out.sh fun _ => .load Cell.w <| .loadJ Out.sh fun _ => .load Cell.w <| .loadJ Out.sh fun _ => .load
    Cell.w <| .ret ⟨rfl, rfl⟩

theorem part52 (i : grid0.Coords) (σ : St) (v1749 : FVec Ideal S16x8x128 .f32) (v1754 : FVec Ideal S16x8x128 .f32) (v1755 : FVec Ideal S1x8x128 .f32) : Runs M J (on M h J hJ (k0_part52 (F := Ideal) i) v1749 v1754 v1755) (st σ 3) fun _ σ' => σ' = st σ 3 := by
  unfold on k0_part52
  exact .loadJ Out.sh fun _ => .load Cell.w <| .loadJ Out.sh fun _ => .load Cell.w <| .loadJ Out.sh fun _ => .load
    Cell.w <| .loadJ Out.ub fun _ => .load Cell.w <| .ret rfl

theorem part53 (i : grid0.Coords) (σ : St) (v1785 : FVec Ideal S16x8x128 .f32) (v1792 : FVec Ideal S16x8x128 .f32) : Runs M J (on M h J hJ (k0_part53 (F := Ideal) i) v1785 v1792) (st σ 3) fun r σ' => r.2 = (truncf .bf16 (bitcastToFloat .f32 (constantI S16x128 32 0#32 : IVec S16x128 32) : FVec Ideal S16x128 .f32) bitsLt_bf16_f32 : FVec Ideal S16x128 .bf16) ∧ σ' = st σ 3 := by
  unfold on k0_part53
  exact .loadJ Out.sh fun _ => .load Cell.w <| .loadJ Out.sh fun _ => .load Cell.w <| .loadJ Out.sh fun _ => .load
    Cell.w <| .ret ⟨rfl, rfl⟩

theorem part54 (i : grid0.Coords) (σ : St) (v1820 : FVec Ideal S16x8x128 .f32) : Runs M J (on M h J hJ (k0_part54 (F := Ideal) i) (a1 (σ .u) (σ .w0) 3) v1820 (truncf .bf16 (bitcastToFloat .f32 (constantI S16x128 32 0#32 : IVec S16x128 32) : FVec Ideal S16x128 .f32) bitsLt_bf16_f32 : FVec Ideal S16x128 .bf16)) (st σ 3) fun r σ' => r.1 = (a2 (σ .u) (σ .w0) 3) ∧ σ' = st σ 3 := by
  unfold on k0_part54
  exact .load Cell.lhs <| .load Cell.lhs <| .storeTo Cell.lhs (same σ 3 _ _ _ rfl) <| .load Cell.lhs <| .load Cell.w0
    <| .loadJ Out.sh fun _ => .load Cell.w <| .loadJ Out.sh fun _ => .load Cell.w <| .loadJ Out.sh fun _ => .load
    Cell.w <| .ret ⟨rfl, rfl⟩

end Cert.Kernel4Ideal.Qkv

end
-- ==== Proof.Qkv.Parts3.lean ====
/-
  The run of parts 55 to 81 of the idealized program, each over the cells it is given: the stores
  to forgotten memory are passed over, the others change the contents as said.
-/
module

public import proofs.«01_k».proof.Proof.Qkv.Cells

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part55 (i : grid0.Coords) (σ : St) (v1857 : FVec Ideal S16x8x128 .f32) (v1862 : FVec Ideal S16x8x128 .f32) (v1863 : FVec Ideal S1x8x128 .f32) : Runs M J (on M h J hJ (k0_part55 (F := Ideal) i) v1857 v1862 v1863) (st σ 3) fun _ σ' => σ' = st σ 3 := by
  unfold on k0_part55
  exact .loadJ Out.sh fun _ => .load Cell.w <| .loadJ Out.ub fun _ => .load Cell.w <| .loadJ Out.cb fun _ => .storeJ
    Out.cb <| .load Cell.b <| .loadJ Out.sh fun _ => .load Cell.w <| .ret rfl

theorem part56 (i : grid0.Coords) (σ : St) (v1900 : FVec Ideal S16x8x128 .f32) : Runs M J (on M h J hJ (k0_part56 (F := Ideal) i) v1900) (st σ 3) fun _ σ' => σ' = st σ 3 := by
  unfold on k0_part56
  exact .loadJ Out.sh fun _ => .load Cell.w <| .loadJ Out.sh fun _ => .load Cell.w <| .loadJ Out.sh fun _ => .load
    Cell.w <| .loadJ Out.sh fun _ => .load Cell.w <| .ret rfl

theorem part57 (i : grid0.Coords) (σ : St) (v1936 : FVec Ideal S16x8x128 .f32) : Runs M J (on M h J hJ (k0_part57 (F := Ideal) i) (a2 (σ .u) (σ .w0) 3) v1936) (st σ 3) fun _ σ' => σ' = st σ 4 := by
  unfold on k0_part57
  exact .load Cell.lhs <| .load Cell.lhs <| .storeTo Cell.lhs (same σ 3 _ _ _ rfl) <| .load Cell.lhs <| .load Cell.w0
    <| .load Cell.qkv <| .storeTo Cell.qkv (next σ 3 _ rfl) <| .loadJ Out.sh fun _ => .load Cell.w <| .loadJ Out.ub
    fun _ => .load Cell.w <| .ret rfl

theorem part58 (i : grid0.Coords) (σ : St) (v1966 : FVec Ideal S16x8x128 .f32) (v1969 : FVec Ideal S8x128 .f32) (v1970 : FVec Ideal S16x8x128 .f32) : Runs M J (on M h J hJ (k0_part58 (F := Ideal) i) v1966 v1969 v1970) (st σ 4) fun _ σ' => σ' = st σ 4 := by
  unfold on k0_part58
  exact .loadJ Out.sh fun _ => .load Cell.w <| .loadJ Out.sh fun _ => .load Cell.w <| .loadJ Out.sh fun _ => .load
    Cell.w <| .loadJ Out.sh fun _ => .load Cell.w <| .ret rfl

theorem part59 (i : grid0.Coords) (σ : St) (v2001 : FVec Ideal S16x8x128 .f32) (v2005 : FVec Ideal S8x128 .f32) (v2006 : FVec Ideal S16x8x128 .f32) : Runs M J (on M h J hJ (k0_part59 (F := Ideal) i) v2001 v2005 v2006) (st σ 4) fun _ σ' => σ' = st σ 4 := by
  unfold on k0_part59
  exact .loadJ Out.sh fun _ => .load Cell.w <| .loadJ Out.sh fun _ => .load Cell.w <| .loadJ Out.sh fun _ => .load
    Cell.w <| .loadJ Out.ub fun _ => .load Cell.w <| .ret rfl

theorem part60 (i : grid0.Coords) (σ : St) (v2037 : FVec Ideal S16x8x128 .f32) (v2041 : FVec Ideal S16x8x128 .f32) (v2043 : FVec Ideal S16x8x128 .f32) : Runs M J (on M h J hJ (k0_part60 (F := Ideal) i) v2037 v2041 v2043) (st σ 4) fun r σ' => r.1 = (a0 (σ .u) (σ .w1) 0) ∧ σ' = st σ 4 := by
  unfold on k0_part60
  exact .load Cell.lhs <| .load Cell.lhs <| .storeTo Cell.lhs (same σ 4 _ _ _ rfl) <| .load Cell.lhs <| .load Cell.w1
    <| .loadJ Out.sh fun _ => .load Cell.w <| .loadJ Out.sh fun _ => .load Cell.w <| .ret ⟨rfl, rfl⟩

theorem part61 (i : grid0.Coords) (σ : St) (v2072 : FVec Ideal S16x8x128 .f32) (v2077 : FVec Ideal S16x8x128 .f32) (v2078 : FVec Ideal S1x8x128 .f32) : Runs M J (on M h J hJ (k0_part61 (F := Ideal) i) v2072 v2077 v2078) (st σ 4) fun _ σ' => σ' = st σ 4 := by
  unfold on k0_part61
  exact .loadJ Out.sh fun _ => .load Cell.w <| .loadJ Out.sh fun _ => .load Cell.w <| .loadJ Out.sh fun _ => .load
    Cell.w <| .loadJ Out.sh fun _ => .load Cell.w <| .ret rfl

theorem part62 (i : grid0.Coords) (σ : St) (v2108 : FVec Ideal S16x8x128 .f32) (v2113 : FVec Ideal S16x8x128 .f32) (v2114 : FVec Ideal S1x8x128 .f32) : Runs M J (on M h J hJ (k0_part62 (F := Ideal) i) v2108 v2113 v2114) (st σ 4) fun _ σ' => σ' = st σ 4 := by
  unfold on k0_part62
  exact .loadJ Out.sh fun _ => .load Cell.w <| .loadJ Out.ub fun _ => .load Cell.w <| .loadJ Out.sh fun _ => .load
    Cell.w <| .loadJ Out.sh fun _ => .load Cell.w <| .ret rfl

theorem part63 (i : grid0.Coords) (σ : St) (v2143 : FVec Ideal S16x8x128 .f32) (v2151 : FVec Ideal S16x8x128 .f32) : Runs M J (on M h J hJ (k0_part63 (F := Ideal) i) (a0 (σ .u) (σ .w1) 0) v2143 v2151) (st σ 4) fun r σ' => r.1 = (a1 (σ .u) (σ .w1) 0) ∧ σ' = st σ 4 := by
  unfold on k0_part63
  exact .load Cell.lhs <| .load Cell.lhs <| .storeTo Cell.lhs (same σ 4 _ _ _ rfl) <| .load Cell.lhs <| .load Cell.w1
    <| .loadJ Out.sh fun _ => .load Cell.w <| .loadJ Out.sh fun _ => .load Cell.w <| .ret ⟨rfl, rfl⟩

theorem part64 (i : grid0.Coords) (σ : St) (v2180 : FVec Ideal S16x8x128 .f32) (v2185 : FVec Ideal S16x8x128 .f32) (v2186 : FVec Ideal S1x8x128 .f32) : Runs M J (on M h J hJ (k0_part64 (F := Ideal) i) v2180 v2185 v2186) (st σ 4) fun _ σ' => σ' = st σ 4 := by
  unfold on k0_part64
  exact .loadJ Out.sh fun _ => .load Cell.w <| .loadJ Out.sh fun _ => .load Cell.w <| .loadJ Out.sh fun _ => .load
    Cell.w <| .loadJ Out.ub fun _ => .load Cell.w <| .ret rfl

theorem part65 (i : grid0.Coords) (σ : St) (v2216 : FVec Ideal S16x8x128 .f32) (v2223 : FVec Ideal S16x8x128 .f32) : Runs M J (on M h J hJ (k0_part65 (F := Ideal) i) v2216 v2223) (st σ 4) fun _ σ' => σ' = st σ 4 := by
  unfold on k0_part65
  exact .loadJ Out.cb fun _ => .storeJ Out.cb <| .load Cell.b <| .loadJ Out.sh fun _ => .load Cell.w <| .loadJ Out.sh
    fun _ => .load Cell.w <| .loadJ Out.sh fun _ => .load Cell.w <| .ret rfl

theorem part66 (i : grid0.Coords) (σ : St) (v2259 : FVec Ideal S16x8x128 .f32) : Runs M J (on M h J hJ (k0_part66 (F := Ideal) i) (a1 (σ .u) (σ .w1) 0) v2259) (st σ 4) fun r σ' => r.2.1 = (a2 (σ .u) (σ .w1) 0) ∧ σ' = st σ 4 := by
  unfold on k0_part66
  exact .loadJ Out.sh fun _ => .load Cell.w <| .load Cell.lhs <| .load Cell.lhs <| .storeTo Cell.lhs (same σ 4 _ _ _
    rfl) <| .load Cell.lhs <| .load Cell.w1 <| .loadJ Out.sh fun _ => .load Cell.w <| .ret ⟨rfl, rfl⟩

theorem part67 (i : grid0.Coords) (σ : St) (v2268 : FVec Ideal S16x8x128 .f32) (v2295 : FVec Ideal S16x8x128 .f32) : Runs M J (on M h J hJ (k0_part67 (F := Ideal) i) v2268 v2295) (st σ 4) fun _ σ' => σ' = st σ 4 := by
  unfold on k0_part67
  exact .loadJ Out.sh fun _ => .load Cell.w <| .loadJ Out.ub fun _ => .load Cell.w <| .loadJ Out.sh fun _ => .load
    Cell.w <| .loadJ Out.sh fun _ => .load Cell.w <| .ret rfl

theorem part68 (i : grid0.Coords) (σ : St) (v2331 : FVec Ideal S16x8x128 .f32) : Runs M J (on M h J hJ (k0_part68 (F := Ideal) i) v2331) (st σ 4) fun _ σ' => σ' = st σ 4 := by
  unfold on k0_part68
  exact .loadJ Out.sh fun _ => .load Cell.w <| .loadJ Out.sh fun _ => .load Cell.w <| .loadJ Out.sh fun _ => .load
    Cell.w <| .loadJ Out.sh fun _ => .load Cell.w <| .ret rfl

theorem part69 (i : grid0.Coords) (σ : St) (v2367 : FVec Ideal S16x8x128 .f32) : Runs M J (on M h J hJ (k0_part69 (F := Ideal) i) (a2 (σ .u) (σ .w1) 0) v2367) (st σ 4) fun _ σ' => σ' = st σ 5 := by
  unfold on k0_part69
  exact .loadJ Out.sh fun _ => .load Cell.w <| .load Cell.lhs <| .load Cell.lhs <| .storeTo Cell.lhs (same σ 4 _ _ _
    rfl) <| .load Cell.lhs <| .load Cell.w1 <| .load Cell.qkv <| .storeTo Cell.qkv (next σ 4 _ rfl) <| .loadJ Out.ub
    fun _ => .load Cell.w <| .ret rfl

theorem part70 (i : grid0.Coords) (σ : St) (v2376 : FVec Ideal S16x8x128 .f32) (v2400 : FVec Ideal S8x128 .f32) (v2401 : FVec Ideal S16x8x128 .f32) : Runs M J (on M h J hJ (k0_part70 (F := Ideal) i) v2376 v2400 v2401) (st σ 5) fun _ σ' => σ' = st σ 5 := by
  unfold on k0_part70
  exact .loadJ Out.sh fun _ => .load Cell.w <| .loadJ Out.sh fun _ => .load Cell.w <| .loadJ Out.sh fun _ => .load
    Cell.w <| .loadJ Out.sh fun _ => .load Cell.w <| .ret rfl

theorem part71 (i : grid0.Coords) (σ : St) (v2432 : FVec Ideal S16x8x128 .f32) (v2436 : FVec Ideal S8x128 .f32) (v2437 : FVec Ideal S16x8x128 .f32) : Runs M J (on M h J hJ (k0_part71 (F := Ideal) i) v2432 v2436 v2437) (st σ 5) fun _ σ' => σ' = st σ 5 := by
  unfold on k0_part71
  exact .loadJ Out.sh fun _ => .load Cell.w <| .loadJ Out.sh fun _ => .load Cell.w <| .loadJ Out.sh fun _ => .load
    Cell.w <| .loadJ Out.ub fun _ => .load Cell.w <| .ret rfl

theorem part72 (i : grid0.Coords) (σ : St) (v2468 : FVec Ideal S16x8x128 .f32) (v2472 : FVec Ideal S16x8x128 .f32) (v2474 : FVec Ideal S16x8x128 .f32) : Runs M J (on M h J hJ (k0_part72 (F := Ideal) i) v2468 v2472 v2474) (st σ 5) fun r σ' => r.2.1 = (a0 (σ .u) (σ .w1) 1) ∧ σ' = st σ 5 := by
  unfold on k0_part72
  exact .loadJ Out.sh fun _ => .load Cell.w <| .load Cell.lhs <| .load Cell.lhs <| .storeTo Cell.lhs (same σ 5 _ _ _
    rfl) <| .load Cell.lhs <| .load Cell.w1 <| .loadJ Out.sh fun _ => .load Cell.w <| .ret ⟨rfl, rfl⟩

theorem part73 (i : grid0.Coords) (σ : St) (v2485 : FVec Ideal S16x8x128 .f32) (v2508 : FVec Ideal S16x8x128 .f32) (v2509 : FVec Ideal S1x8x128 .f32) : Runs M J (on M h J hJ (k0_part73 (F := Ideal) i) v2485 v2508 v2509) (st σ 5) fun _ σ' => σ' = st σ 5 := by
  unfold on k0_part73
  exact .loadJ Out.sh fun _ => .load Cell.w <| .loadJ Out.sh fun _ => .load Cell.w <| .loadJ Out.sh fun _ => .load
    Cell.w <| .loadJ Out.sh fun _ => .load Cell.w <| .ret rfl

theorem part74 (i : grid0.Coords) (σ : St) (v2539 : FVec Ideal S16x8x128 .f32) (v2544 : FVec Ideal S16x8x128 .f32) (v2545 : FVec Ideal S1x8x128 .f32) : Runs M J (on M h J hJ (k0_part74 (F := Ideal) i) v2539 v2544 v2545) (st σ 5) fun _ σ' => σ' = st σ 5 := by
  unfold on k0_part74
  exact .loadJ Out.sh fun _ => .load Cell.w <| .loadJ Out.ub fun _ => .load Cell.w <| .loadJ Out.cb fun _ => .storeJ
    Out.cb <| .load Cell.b <| .loadJ Out.sh fun _ => .load Cell.w <| .ret rfl

theorem part75 (i : grid0.Coords) (σ : St) (v2582 : FVec Ideal S16x8x128 .f32) : Runs M J (on M h J hJ (k0_part75 (F := Ideal) i) v2582) (st σ 5) fun r σ' => r.2 = (prod (σ .u) (σ .w1) 1 1) ∧ σ' = st σ 5 := by
  unfold on k0_part75
  exact .loadJ Out.sh fun _ => .load Cell.w <| .loadJ Out.sh fun _ => .load Cell.w <| .load Cell.lhs <| .load Cell.lhs
    <| .storeTo Cell.lhs (same σ 5 _ _ _ rfl) <| .load Cell.lhs <| .load Cell.w1 <| .ret ⟨rfl, rfl⟩

theorem part76 (i : grid0.Coords) (σ : St) (v2600 : FVec Ideal S16x8x128 .f32) : Runs M J (on M h J hJ (k0_part76 (F := Ideal) i) (a0 (σ .u) (σ .w1) 1) v2600 (prod (σ .u) (σ .w1) 1 1)) (st σ 5) fun r σ' => r.1 = (a1 (σ .u) (σ .w1) 1) ∧ σ' = st σ 5 := by
  unfold on k0_part76
  exact .loadJ Out.sh fun _ => .load Cell.w <| .loadJ Out.sh fun _ => .load Cell.w <| .loadJ Out.sh fun _ => .load
    Cell.w <| .loadJ Out.ub fun _ => .load Cell.w <| .ret ⟨rfl, rfl⟩

theorem part77 (i : grid0.Coords) (σ : St) (v2654 : FVec Ideal S16x8x128 .f32) : Runs M J (on M h J hJ (k0_part77 (F := Ideal) i) v2654) (st σ 5) fun _ σ' => σ' = st σ 5 := by
  unfold on k0_part77
  exact .loadJ Out.sh fun _ => .load Cell.w <| .loadJ Out.sh fun _ => .load Cell.w <| .loadJ Out.sh fun _ => .load
    Cell.w <| .loadJ Out.sh fun _ => .load Cell.w <| .ret rfl

theorem part78 (i : grid0.Coords) (σ : St) (v2690 : FVec Ideal S16x8x128 .f32) : Runs M J (on M h J hJ (k0_part78 (F := Ideal) i) v2690) (st σ 5) fun r σ' => r.2 = (prod (σ .u) (σ .w1) 2 1) ∧ σ' = st σ 5 := by
  unfold on k0_part78
  exact .loadJ Out.sh fun _ => .load Cell.w <| .loadJ Out.sh fun _ => .load Cell.w <| .load Cell.lhs <| .load Cell.lhs
    <| .storeTo Cell.lhs (same σ 5 _ _ _ rfl) <| .load Cell.lhs <| .load Cell.w1 <| .ret ⟨rfl, rfl⟩

theorem part79 (i : grid0.Coords) (σ : St) (v2708 : FVec Ideal S16x8x128 .f32) : Runs M J (on M h J hJ (k0_part79 (F := Ideal) i) (a1 (σ .u) (σ .w1) 1) v2708 (prod (σ .u) (σ .w1) 2 1)) (st σ 5) fun r σ' => r.1 = (a2 (σ .u) (σ .w1) 1) ∧ σ' = st σ 5 := by
  unfold on k0_part79
  exact .loadJ Out.sh fun _ => .load Cell.w <| .loadJ Out.ub fun _ => .load Cell.w <| .loadJ Out.sh fun _ => .load
    Cell.w <| .loadJ Out.sh fun _ => .load Cell.w <| .ret ⟨rfl, rfl⟩

theorem part80 (i : grid0.Coords) (σ : St) (v2762 : FVec Ideal S16x8x128 .f32) : Runs M J (on M h J hJ (k0_part80 (F := Ideal) i) v2762) (st σ 5) fun _ σ' => σ' = st σ 5 := by
  unfold on k0_part80
  exact .loadJ Out.sh fun _ => .load Cell.w <| .loadJ Out.sh fun _ => .load Cell.w <| .loadJ Out.sh fun _ => .load
    Cell.w <| .loadJ Out.sh fun _ => .load Cell.w <| .ret rfl

theorem part81 (i : grid0.Coords) (σ : St) (v2798 : FVec Ideal S16x8x128 .f32) : Runs M J (on M h J hJ (k0_part81 (F := Ideal) i) (a2 (σ .u) (σ .w1) 1) v2798) (st σ 5) fun r σ' => r.2 = (truncf .bf16 (a3 (σ .u) (σ .w1) 1) bitsLt_bf16_f32 : FVec Ideal S256x256 .bf16) ∧ σ' = st σ 5 := by
  unfold on k0_part81
  exact .loadJ Out.sh fun _ => .load Cell.w <| .loadJ Out.ub fun _ => .load Cell.w <| .load Cell.lhs <| .load Cell.lhs
    <| .storeTo Cell.lhs (same σ 5 _ _ _ rfl) <| .load Cell.lhs <| .load Cell.w1 <| .ret ⟨rfl, rfl⟩

end Cert.Kernel4Ideal.Qkv

end
-- ==== Proof.Qkv.Parts4.lean ====
/-
  The run of parts 82 to 108 of the idealized program, each over the cells it is given: the stores
  to forgotten memory are passed over, the others change the contents as said.
-/
module

public import proofs.«01_k».proof.Proof.Qkv.Cells

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part82 (i : grid0.Coords) (σ : St) (v2815 : FVec Ideal S16x8x128 .f32) : Runs M J (on M h J hJ (k0_part82 (F := Ideal) i) v2815 (truncf .bf16 (a3 (σ .u) (σ .w1) 1) bitsLt_bf16_f32 : FVec Ideal S256x256 .bf16)) (st σ 5) fun _ σ' => σ' = st σ 6 := by
  unfold on k0_part82
  exact .load Cell.qkv <| .storeTo Cell.qkv (next σ 5 _ rfl) <| .loadJ Out.sh fun _ => .load Cell.w <| .loadJ Out.sh
    fun _ => .load Cell.w <| .loadJ Out.sh fun _ => .load Cell.w <| .loadJ Out.sh fun _ => .load Cell.w <| .ret rfl

theorem part83 (i : grid0.Coords) (σ : St) (v2863 : FVec Ideal S16x8x128 .f32) (v2867 : FVec Ideal S8x128 .f32) (v2868 : FVec Ideal S16x8x128 .f32) : Runs M J (on M h J hJ (k0_part83 (F := Ideal) i) v2863 v2867 v2868) (st σ 6) fun _ σ' => σ' = st σ 6 := by
  unfold on k0_part83
  exact .loadJ Out.sh fun _ => .load Cell.w <| .loadJ Out.sh fun _ => .load Cell.w <| .loadJ Out.sh fun _ => .load
    Cell.w <| .loadJ Out.ub fun _ => .load Cell.w <| .ret rfl

theorem part84 (i : grid0.Coords) (σ : St) (v2899 : FVec Ideal S16x8x128 .f32) (v2903 : FVec Ideal S16x8x128 .f32) (v2905 : FVec Ideal S16x8x128 .f32) : Runs M J (on M h J hJ (k0_part84 (F := Ideal) i) v2899 v2903 v2905) (st σ 6) fun _ σ' => σ' = st σ 6 := by
  unfold on k0_part84
  exact .loadJ Out.cb fun _ => .storeJ Out.cb <| .loadJ Out.cb fun _ => .load Cell.lw <| .load Cell.lb <| .loadJ Out.o
    fun _ => .storeJ Out.o <| .load Cell.b <| .ret rfl

theorem part85 (i : grid0.Coords) (σ : St) (v2944 : FVec Ideal S16x8x128 .f32) : Runs M J (on M h J hJ (k0_part85 (F := Ideal) i) v2944) (st σ 6) fun r σ' => r.2 = (a0 (σ .u) (σ .w1) 2) ∧ σ' = st σ 6 := by
  unfold on k0_part85
  exact .loadJ Out.sh fun _ => .load Cell.w <| .loadJ Out.sh fun _ => .load Cell.w <| .load Cell.lhs <| .load Cell.lhs
    <| .storeTo Cell.lhs (same σ 6 _ _ _ rfl) <| .load Cell.lhs <| .load Cell.w1 <| .ret ⟨rfl, rfl⟩

theorem part86 (i : grid0.Coords) (σ : St) (v2962 : FVec Ideal S16x8x128 .f32) : Runs M J (on M h J hJ (k0_part86 (F := Ideal) i) v2962) (st σ 6) fun _ σ' => σ' = st σ 6 := by
  unfold on k0_part86
  exact .loadJ Out.sh fun _ => .load Cell.w <| .loadJ Out.sh fun _ => .load Cell.w <| .loadJ Out.sh fun _ => .load
    Cell.w <| .loadJ Out.sh fun _ => .load Cell.w <| .ret rfl

theorem part87 (i : grid0.Coords) (σ : St) (v3016 : FVec Ideal S16x8x128 .f32) : Runs M J (on M h J hJ (k0_part87 (F := Ideal) i) v3016) (st σ 6) fun _ σ' => σ' = st σ 6 := by
  unfold on k0_part87
  exact .loadJ Out.ub fun _ => .load Cell.w <| .loadJ Out.sh fun _ => .load Cell.w <| .loadJ Out.sh fun _ => .load
    Cell.w <| .loadJ Out.sh fun _ => .load Cell.w <| .ret rfl

theorem part88 (i : grid0.Coords) (σ : St) (v3051 : FVec Ideal S16x8x128 .f32) : Runs M J (on M h J hJ (k0_part88 (F := Ideal) i) (a0 (σ .u) (σ .w1) 2) v3051) (st σ 6) fun r σ' => r.2 = (a1 (σ .u) (σ .w1) 2) ∧ σ' = st σ 6 := by
  unfold on k0_part88
  exact .loadJ Out.sh fun _ => .load Cell.w <| .loadJ Out.sh fun _ => .load Cell.w <| .load Cell.lhs <| .load Cell.lhs
    <| .storeTo Cell.lhs (same σ 6 _ _ _ rfl) <| .load Cell.lhs <| .load Cell.w1 <| .ret ⟨rfl, rfl⟩

theorem part89 (i : grid0.Coords) (σ : St) (v3069 : FVec Ideal S16x8x128 .f32) : Runs M J (on M h J hJ (k0_part89 (F := Ideal) i) v3069) (st σ 6) fun _ σ' => σ' = st σ 6 := by
  unfold on k0_part89
  exact .loadJ Out.sh fun _ => .load Cell.w <| .loadJ Out.sh fun _ => .load Cell.w <| .loadJ Out.ub fun _ => .load
    Cell.w <| .loadJ Out.sh fun _ => .load Cell.w <| .ret rfl

theorem part90 (i : grid0.Coords) (σ : St) (v3123 : FVec Ideal S16x8x128 .f32) : Runs M J (on M h J hJ (k0_part90 (F := Ideal) i) v3123) (st σ 6) fun _ σ' => σ' = st σ 6 := by
  unfold on k0_part90
  exact .loadJ Out.sh fun _ => .load Cell.w <| .loadJ Out.sh fun _ => .load Cell.w <| .loadJ Out.sh fun _ => .load
    Cell.w <| .loadJ Out.sh fun _ => .load Cell.w <| .ret rfl

theorem part91 (i : grid0.Coords) (σ : St) (v3159 : FVec Ideal S16x8x128 .f32) : Runs M J (on M h J hJ (k0_part91 (F := Ideal) i) (a1 (σ .u) (σ .w1) 2) v3159) (st σ 6) fun r σ' => r.2 = (a2 (σ .u) (σ .w1) 2) ∧ σ' = st σ 6 := by
  unfold on k0_part91
  exact .loadJ Out.sh fun _ => .load Cell.w <| .loadJ Out.sh fun _ => .load Cell.w <| .load Cell.lhs <| .load Cell.lhs
    <| .storeTo Cell.lhs (same σ 6 _ _ _ rfl) <| .load Cell.lhs <| .load Cell.w1 <| .ret ⟨rfl, rfl⟩

theorem part92 (i : grid0.Coords) (σ : St) (v3177 : FVec Ideal S16x8x128 .f32) : Runs M J (on M h J hJ (k0_part92 (F := Ideal) i) v3177) (st σ 6) fun _ σ' => σ' = st σ 6 := by
  unfold on k0_part92
  exact .loadJ Out.ub fun _ => .load Cell.w <| .loadJ Out.sh fun _ => .load Cell.w <| .loadJ Out.sh fun _ => .load
    Cell.w <| .loadJ Out.sh fun _ => .load Cell.w <| .ret rfl

theorem part93 (i : grid0.Coords) (σ : St) (v3231 : FVec Ideal S16x8x128 .f32) : Runs M J (on M h J hJ (k0_part93 (F := Ideal) i) v3231) (st σ 6) fun _ σ' => σ' = st σ 6 := by
  unfold on k0_part93
  exact .loadJ Out.sh fun _ => .load Cell.w <| .loadJ Out.sh fun _ => .load Cell.w <| .loadJ Out.sh fun _ => .load
    Cell.w <| .loadJ Out.sh fun _ => .load Cell.w <| .loadJ Out.ub fun _ => .ret rfl

theorem part94 (i : grid0.Coords) (σ : St) (v3267 : FVec Ideal S16x8x128 .f32) (v3268 : Vec Ideal S128x128 .f32) : Runs M J (on M h J hJ (k0_part94 (F := Ideal) i) v3267 v3268) (st σ 6) fun _ σ' => σ' = st σ 6 := by
  unfold on k0_part94
  exact .load Cell.w <| .loadJ Out.cb fun _ => .storeJ Out.cb <| .load Cell.b <| .loadJ Out.sh fun _ => .load Cell.w
    <| .load Cell.lhs <| .load Cell.lhs <| .storeTo Cell.lhs (same σ 6 _ _ _ rfl) <| .ret rfl

theorem part95 (i : grid0.Coords) (σ : St) (v3292 : FVec Ideal S16x8x128 .f32) : Runs M J (on M h J hJ (k0_part95 (F := Ideal) i) (a2 (σ .u) (σ .w1) 2) v3292) (st σ 6) fun _ σ' => σ' = st σ 7 := by
  unfold on k0_part95
  exact .load Cell.lhs <| .load Cell.w1 <| .load Cell.qkv <| .storeTo Cell.qkv (next σ 6 _ rfl) <| .loadJ Out.sh fun _
    => .load Cell.w <| .loadJ Out.sh fun _ => .load Cell.w <| .loadJ Out.sh fun _ => .load Cell.w <| .ret rfl

theorem part96 (i : grid0.Coords) (σ : St) (v3340 : FVec Ideal S16x8x128 .f32) : Runs M J (on M h J hJ (k0_part96 (F := Ideal) i) v3340) (st σ 7) fun _ σ' => σ' = st σ 7 := by
  unfold on k0_part96
  exact .loadJ Out.sh fun _ => .load Cell.w <| .loadJ Out.sh fun _ => .load Cell.w <| .loadJ Out.ub fun _ => .load
    Cell.w <| .loadJ Out.sh fun _ => .load Cell.w <| .ret rfl

theorem part97 (i : grid0.Coords) (σ : St) (v3375 : FVec Ideal S16x8x128 .f32) : Runs M J (on M h J hJ (k0_part97 (F := Ideal) i) v3375) (st σ 7) fun r σ' => r.2 = (addf (window (σ .u) ![0, 0] S16x128.size inb_S256x2048_S16x128_0_0) (truncf .bf16 (bitcastToFloat .f32 (constantI S16x128 32 0#32 : IVec S16x128 32) : FVec Ideal S16x128 .f32) bitsLt_bf16_f32 : FVec Ideal S16x128 .bf16) : FVec Ideal S16x128 .bf16) ∧ σ' = st σ 7 := by
  unfold on k0_part97
  exact .loadJ Out.sh fun _ => .load Cell.w <| .loadJ Out.sh fun _ => .load Cell.w <| .loadJ Out.sh fun _ => .load
    Cell.w <| .load Cell.lhs <| .ret ⟨rfl, rfl⟩

theorem part98 (i : grid0.Coords) (σ : St) (v3402 : FVec Ideal S16x8x128 .f32) : Runs M J (on M h J hJ (k0_part98 (F := Ideal) i) v3402 (addf (window (σ .u) ![0, 0] S16x128.size inb_S256x2048_S16x128_0_0) (truncf .bf16 (bitcastToFloat .f32 (constantI S16x128 32 0#32 : IVec S16x128 32) : FVec Ideal S16x128 .f32) bitsLt_bf16_f32 : FVec Ideal S16x128 .bf16) : FVec Ideal S16x128 .bf16)) (st σ 7) fun r σ' => r.1 = (a0 (σ .u) (σ .w1) 3) ∧ σ' = st σ 7 := by
  unfold on k0_part98
  exact .load Cell.lhs <| .storeTo Cell.lhs (same σ 7 _ _ _ rfl) <| .load Cell.lhs <| .load Cell.w1 <| .loadJ Out.sh
    fun _ => .load Cell.w <| .loadJ Out.sh fun _ => .load Cell.w <| .loadJ Out.sh fun _ => .load Cell.w <| .ret ⟨rfl,
    rfl⟩

theorem part99 (i : grid0.Coords) (σ : St) (v3447 : FVec Ideal S16x8x128 .f32) : Runs M J (on M h J hJ (k0_part99 (F := Ideal) i) v3447) (st σ 7) fun _ σ' => σ' = st σ 7 := by
  unfold on k0_part99
  exact .loadJ Out.ub fun _ => .load Cell.w <| .loadJ Out.sh fun _ => .load Cell.w <| .loadJ Out.sh fun _ => .load
    Cell.w <| .loadJ Out.sh fun _ => .load Cell.w <| .ret rfl

theorem part100 (i : grid0.Coords) (σ : St) (v3482 : FVec Ideal S16x8x128 .f32) : Runs M J (on M h J hJ (k0_part100 (F := Ideal) i) v3482) (st σ 7) fun r σ' => r.2 = (addf (window (σ .u) ![0, 512] S16x128.size inb_S256x2048_S16x128_0_512) (truncf .bf16 (bitcastToFloat .f32 (constantI S16x128 32 0#32 : IVec S16x128 32) : FVec Ideal S16x128 .f32) bitsLt_bf16_f32 : FVec Ideal S16x128 .bf16) : FVec Ideal S16x128 .bf16) ∧ σ' = st σ 7 := by
  unfold on k0_part100
  exact .loadJ Out.sh fun _ => .load Cell.w <| .loadJ Out.sh fun _ => .load Cell.w <| .loadJ Out.sh fun _ => .load
    Cell.w <| .load Cell.lhs <| .ret ⟨rfl, rfl⟩

theorem part101 (i : grid0.Coords) (σ : St) (v3509 : FVec Ideal S16x8x128 .f32) : Runs M J (on M h J hJ (k0_part101 (F := Ideal) i) (a0 (σ .u) (σ .w1) 3) v3509 (addf (window (σ .u) ![0, 512] S16x128.size inb_S256x2048_S16x128_0_512) (truncf .bf16 (bitcastToFloat .f32 (constantI S16x128 32 0#32 : IVec S16x128 32) : FVec Ideal S16x128 .f32) bitsLt_bf16_f32 : FVec Ideal S16x128 .bf16) : FVec Ideal S16x128 .bf16)) (st σ 7) fun r σ' => r.1 = (a1 (σ .u) (σ .w1) 3) ∧ σ' = st σ 7 := by
  unfold on k0_part101
  exact .load Cell.lhs <| .storeTo Cell.lhs (same σ 7 _ _ _ rfl) <| .load Cell.lhs <| .load Cell.w1 <| .loadJ Out.sh
    fun _ => .load Cell.w <| .loadJ Out.ub fun _ => .load Cell.w <| .loadJ Out.sh fun _ => .load Cell.w <| .ret ⟨rfl,
    rfl⟩

theorem part102 (i : grid0.Coords) (σ : St) (v3554 : FVec Ideal S16x8x128 .f32) : Runs M J (on M h J hJ (k0_part102 (F := Ideal) i) v3554) (st σ 7) fun _ σ' => σ' = st σ 7 := by
  unfold on k0_part102
  exact .loadJ Out.sh fun _ => .load Cell.w <| .loadJ Out.sh fun _ => .load Cell.w <| .loadJ Out.sh fun _ => .load
    Cell.w <| .loadJ Out.sh fun _ => .load Cell.w <| .ret rfl

theorem part103 (i : grid0.Coords) (σ : St) (v3590 : FVec Ideal S16x8x128 .f32) : Runs M J (on M h J hJ (k0_part103 (F := Ideal) i) v3590) (st σ 7) fun r σ' => r.2 = (addf (window (σ .u) ![0, 1024] S16x128.size inb_S256x2048_S16x128_0_1024) (truncf .bf16 (bitcastToFloat .f32 (constantI S16x128 32 0#32 : IVec S16x128 32) : FVec Ideal S16x128 .f32) bitsLt_bf16_f32 : FVec Ideal S16x128 .bf16) : FVec Ideal S16x128 .bf16) ∧ σ' = st σ 7 := by
  unfold on k0_part103
  exact .loadJ Out.sh fun _ => .load Cell.w <| .loadJ Out.sh fun _ => .load Cell.w <| .loadJ Out.ub fun _ => .load
    Cell.w <| .load Cell.lhs <| .load Cell.lhs <| .ret ⟨rfl, rfl⟩

theorem part104 (i : grid0.Coords) (σ : St) (v3616 : FVec Ideal S16x8x128 .f32) : Runs M J (on M h J hJ (k0_part104 (F := Ideal) i) (a1 (σ .u) (σ .w1) 3) v3616 (addf (window (σ .u) ![0, 1024] S16x128.size inb_S256x2048_S16x128_0_1024) (truncf .bf16 (bitcastToFloat .f32 (constantI S16x128 32 0#32 : IVec S16x128 32) : FVec Ideal S16x128 .f32) bitsLt_bf16_f32 : FVec Ideal S16x128 .bf16) : FVec Ideal S16x128 .bf16)) (st σ 7) fun r σ' => r.1 = (a2 (σ .u) (σ .w1) 3) ∧ σ' = st σ 7 := by
  unfold on k0_part104
  exact .storeTo Cell.lhs (same σ 7 _ _ _ rfl) <| .load Cell.lhs <| .load Cell.w1 <| .loadJ Out.cb fun _ => .storeJ
    Out.cb <| .load Cell.b <| .loadJ Out.sh fun _ => .load Cell.w <| .loadJ Out.sh fun _ => .load Cell.w <| .loadJ
    Out.sh fun _ => .ret ⟨rfl, rfl⟩

theorem part105 (i : grid0.Coords) (σ : St) (v3661 : FVec Ideal S16x8x128 .f32) (v3663 : FVec Ideal S128x128 .f32) : Runs M J (on M h J hJ (k0_part105 (F := Ideal) i) v3661 v3663) (st σ 7) fun _ σ' => σ' = st σ 7 := by
  unfold on k0_part105
  exact .load Cell.w <| .loadJ Out.sh fun _ => .load Cell.w <| .loadJ Out.sh fun _ => .load Cell.w <| .loadJ Out.sh
    fun _ => .load Cell.w <| .loadJ Out.ub fun _ => .ret rfl

theorem part106 (i : grid0.Coords) (σ : St) (v3697 : FVec Ideal S16x8x128 .f32) (v3698 : Vec Ideal S128x128 .f32) : Runs M J (on M h J hJ (k0_part106 (F := Ideal) i) v3697 v3698) (st σ 7) fun _ σ' => σ' = st σ 7 := by
  unfold on k0_part106
  exact .load Cell.w <| .loadJ Out.sh fun _ => .load Cell.w <| .loadJ Out.sh fun _ => .load Cell.w <| .loadJ Out.sh
    fun _ => .load Cell.w <| .ret rfl

theorem part107 (i : grid0.Coords) (σ : St) (v3732 : FVec Ideal S16x8x128 .f32) : Runs M J (on M h J hJ (k0_part107 (F := Ideal) i) (a2 (σ .u) (σ .w1) 3) v3732) (st σ 7) fun _ σ' => σ' = st σ 8 := by
  unfold on k0_part107
  exact .load Cell.lhs <| .load Cell.lhs <| .storeTo Cell.lhs (same σ 7 _ _ _ rfl) <| .load Cell.lhs <| .load Cell.w1
    <| .load Cell.qkv <| .storeTo Cell.qkv (next σ 7 _ rfl) <| .loadJ Out.sh fun _ => .load Cell.w <| .loadJ Out.sh
    fun _ => .load Cell.w <| .ret rfl

theorem part108 (i : grid0.Coords) (σ : St) (v3771 : FVec Ideal S16x8x128 .f32) : Runs M J (on M h J hJ (k0_part108 (F := Ideal) i) v3771) (st σ 8) fun _ σ' => σ' = st σ 8 := by
  unfold on k0_part108
  exact .loadJ Out.sh fun _ => .load Cell.w <| .loadJ Out.sh fun _ => .load Cell.w <| .loadJ Out.ub fun _ => .load
    Cell.w <| .loadJ Out.sh fun _ => .load Cell.w <| .ret rfl

end Cert.Kernel4Ideal.Qkv

end
-- ==== Proof.Qkv.Parts5.lean ====
/-
  The run of parts 109 to 135 of the idealized program, each over the cells it is given: the stores
  to forgotten memory are passed over, the others change the contents as said.
-/
module

public import proofs.«01_k».proof.Proof.Qkv.Cells

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part109 (i : grid0.Coords) (σ : St) (v3806 : FVec Ideal S16x8x128 .f32) : Runs M J (on M h J hJ (k0_part109 (F := Ideal) i) v3806) (st σ 8) fun _ σ' => σ' = st σ 8 := by
  unfold on k0_part109
  exact .loadJ Out.sh fun _ => .load Cell.w <| .loadJ Out.sh fun _ => .load Cell.w <| .loadJ Out.sh fun _ => .load
    Cell.w <| .loadJ Out.sh fun _ => .load Cell.w <| .ret rfl

theorem part110 (i : grid0.Coords) (σ : St) (v3842 : FVec Ideal S16x8x128 .f32) (v3843 : FVec Ideal S8x128 .f32) : Runs M J (on M h J hJ (k0_part110 (F := Ideal) i) v3842 v3843) (st σ 8) fun r σ' => r.1 = (a0 (σ .u) (σ .w2) 0) ∧ σ' = st σ 8 := by
  unfold on k0_part110
  exact .load Cell.lhs <| .load Cell.lhs <| .storeTo Cell.lhs (same σ 8 _ _ _ rfl) <| .load Cell.lhs <| .load Cell.w2
    <| .loadJ Out.sh fun _ => .load Cell.w <| .loadJ Out.sh fun _ => .load Cell.w <| .ret ⟨rfl, rfl⟩

theorem part111 (i : grid0.Coords) (σ : St) (v3878 : FVec Ideal S16x8x128 .f32) : Runs M J (on M h J hJ (k0_part111 (F := Ideal) i) v3878) (st σ 8) fun _ σ' => σ' = st σ 8 := by
  unfold on k0_part111
  exact .loadJ Out.ub fun _ => .load Cell.w <| .loadJ Out.sh fun _ => .load Cell.w <| .loadJ Out.sh fun _ => .load
    Cell.w <| .loadJ Out.sh fun _ => .load Cell.w <| .ret rfl

theorem part112 (i : grid0.Coords) (σ : St) (v3913 : FVec Ideal S16x8x128 .f32) : Runs M J (on M h J hJ (k0_part112 (F := Ideal) i) v3913) (st σ 8) fun _ σ' => σ' = st σ 8 := by
  unfold on k0_part112
  exact .loadJ Out.sh fun _ => .load Cell.w <| .loadJ Out.sh fun _ => .load Cell.w <| .loadJ Out.sh fun _ => .load
    Cell.w <| .loadJ Out.sh fun _ => .load Cell.w <| .ret rfl

theorem part113 (i : grid0.Coords) (σ : St) (v3949 : FVec Ideal S16x8x128 .f32) : Runs M J (on M h J hJ (k0_part113 (F := Ideal) i) (a0 (σ .u) (σ .w2) 0) v3949) (st σ 8) fun r σ' => r.1 = (a1 (σ .u) (σ .w2) 0) ∧ σ' = st σ 8 := by
  unfold on k0_part113
  exact .load Cell.lhs <| .load Cell.lhs <| .storeTo Cell.lhs (same σ 8 _ _ _ rfl) <| .load Cell.lhs <| .load Cell.w2
    <| .loadJ Out.ub fun _ => .load Cell.w <| .loadJ Out.cb fun _ => .storeJ Out.cb <| .load Cell.b <| .loadJ Out.sh
    fun _ => .ret ⟨rfl, rfl⟩

theorem part114 (i : grid0.Coords) (σ : St) (v3984 : FVec Ideal S16x8x128 .f32) (v3986 : FVec Ideal S128x128 .f32) : Runs M J (on M h J hJ (k0_part114 (F := Ideal) i) v3984 v3986) (st σ 8) fun _ σ' => σ' = st σ 8 := by
  unfold on k0_part114
  exact .load Cell.w <| .loadJ Out.sh fun _ => .load Cell.w <| .loadJ Out.sh fun _ => .load Cell.w <| .loadJ Out.sh
    fun _ => .load Cell.w <| .loadJ Out.sh fun _ => .ret rfl

theorem part115 (i : grid0.Coords) (σ : St) (v4020 : FVec Ideal S16x8x128 .f32) (v4022 : FVec Ideal S128x128 .f32) : Runs M J (on M h J hJ (k0_part115 (F := Ideal) i) v4020 v4022) (st σ 8) fun _ σ' => σ' = st σ 8 := by
  unfold on k0_part115
  exact .load Cell.w <| .loadJ Out.sh fun _ => .load Cell.w <| .loadJ Out.ub fun _ => .load Cell.w <| .loadJ Out.sh
    fun _ => .load Cell.w <| .loadJ Out.sh fun _ => .ret rfl

theorem part116 (i : grid0.Coords) (σ : St) (v4055 : FVec Ideal S16x8x128 .f32) (v4057 : FVec Ideal S128x128 .f32) : Runs M J (on M h J hJ (k0_part116 (F := Ideal) i) (a1 (σ .u) (σ .w2) 0) v4055 v4057) (st σ 8) fun r σ' => r.1 = (a2 (σ .u) (σ .w2) 0) ∧ σ' = st σ 8 := by
  unfold on k0_part116
  exact .load Cell.w <| .load Cell.lhs <| .load Cell.lhs <| .storeTo Cell.lhs (same σ 8 _ _ _ rfl) <| .load Cell.lhs
    <| .load Cell.w2 <| .loadJ Out.sh fun _ => .load Cell.w <| .loadJ Out.sh fun _ => .ret ⟨rfl, rfl⟩

theorem part117 (i : grid0.Coords) (σ : St) (v4092 : FVec Ideal S16x8x128 .f32) (v4094 : FVec Ideal S128x128 .f32) : Runs M J (on M h J hJ (k0_part117 (F := Ideal) i) v4092 v4094) (st σ 8) fun _ σ' => σ' = st σ 8 := by
  unfold on k0_part117
  exact .load Cell.w <| .loadJ Out.sh fun _ => .load Cell.w <| .loadJ Out.sh fun _ => .load Cell.w <| .loadJ Out.sh
    fun _ => .load Cell.w <| .loadJ Out.ub fun _ => .ret rfl

theorem part118 (i : grid0.Coords) (σ : St) (v4128 : FVec Ideal S16x8x128 .f32) (v4129 : Vec Ideal S128x128 .f32) : Runs M J (on M h J hJ (k0_part118 (F := Ideal) i) v4128 v4129) (st σ 8) fun _ σ' => σ' = st σ 8 := by
  unfold on k0_part118
  exact .load Cell.w <| .loadJ Out.sh fun _ => .load Cell.w <| .loadJ Out.sh fun _ => .load Cell.w <| .loadJ Out.sh
    fun _ => .load Cell.w <| .loadJ Out.sh fun _ => .ret rfl

theorem part119 (i : grid0.Coords) (σ : St) (v4163 : FVec Ideal S16x8x128 .f32) (v4165 : FVec Ideal S128x128 .f32) : Runs M J (on M h J hJ (k0_part119 (F := Ideal) i) (a2 (σ .u) (σ .w2) 0) v4163 v4165) (st σ 8) fun _ σ' => σ' = st σ 9 := by
  unfold on k0_part119
  exact .load Cell.w <| .load Cell.lhs <| .load Cell.lhs <| .storeTo Cell.lhs (same σ 8 _ _ _ rfl) <| .load Cell.lhs
    <| .load Cell.w2 <| .load Cell.qkv <| .storeTo Cell.qkv (next σ 8 _ rfl) <| .loadJ Out.sh fun _ => .load Cell.w <|
    .ret rfl

theorem part120 (i : grid0.Coords) (σ : St) (v4202 : FVec Ideal S16x8x128 .f32) : Runs M J (on M h J hJ (k0_part120 (F := Ideal) i) v4202) (st σ 9) fun _ σ' => σ' = st σ 9 := by
  unfold on k0_part120
  exact .loadJ Out.sh fun _ => .load Cell.w <| .loadJ Out.sh fun _ => .load Cell.w <| .loadJ Out.ub fun _ => .load
    Cell.w <| .loadJ Out.sh fun _ => .load Cell.w <| .ret rfl

theorem part121 (i : grid0.Coords) (σ : St) (v4237 : FVec Ideal S16x8x128 .f32) : Runs M J (on M h J hJ (k0_part121 (F := Ideal) i) v4237) (st σ 9) fun _ σ' => σ' = st σ 9 := by
  unfold on k0_part121
  exact .loadJ Out.sh fun _ => .load Cell.w <| .loadJ Out.sh fun _ => .load Cell.w <| .loadJ Out.sh fun _ => .load
    Cell.w <| .loadJ Out.sh fun _ => .load Cell.w <| .ret rfl

theorem part122 (i : grid0.Coords) (σ : St) (v4273 : FVec Ideal S16x8x128 .f32) : Runs M J (on M h J hJ (k0_part122 (F := Ideal) i) v4273) (st σ 9) fun r σ' => r.1 = (a0 (σ .u) (σ .w2) 1) ∧ σ' = st σ 9 := by
  unfold on k0_part122
  exact .loadJ Out.sh fun _ => .load Cell.w <| .load Cell.lhs <| .load Cell.lhs <| .storeTo Cell.lhs (same σ 9 _ _ _
    rfl) <| .load Cell.lhs <| .load Cell.w2 <| .loadJ Out.sh fun _ => .load Cell.w <| .ret ⟨rfl, rfl⟩

theorem part123 (i : grid0.Coords) (σ : St) (v4309 : FVec Ideal S16x8x128 .f32) : Runs M J (on M h J hJ (k0_part123 (F := Ideal) i) v4309) (st σ 9) fun _ σ' => σ' = st σ 9 := by
  unfold on k0_part123
  exact .loadJ Out.ub fun _ => .load Cell.w <| .loadJ Out.cb fun _ => .storeJ Out.cb <| .load Cell.b <| .loadJ Out.sh
    fun _ => .load Cell.w <| .loadJ Out.sh fun _ => .load Cell.w <| .loadJ Out.sh fun _ => .ret rfl

theorem part124 (i : grid0.Coords) (σ : St) (v4343 : FVec Ideal S16x8x128 .f32) (v4345 : FVec Ideal S128x128 .f32) : Runs M J (on M h J hJ (k0_part124 (F := Ideal) i) v4343 v4345) (st σ 9) fun _ σ' => σ' = st σ 9 := by
  unfold on k0_part124
  exact .load Cell.w <| .loadJ Out.sh fun _ => .load Cell.w <| .loadJ Out.sh fun _ => .load Cell.w <| .loadJ Out.sh
    fun _ => .load Cell.w <| .loadJ Out.ub fun _ => .ret rfl

theorem part125 (i : grid0.Coords) (σ : St) (v4379 : FVec Ideal S16x8x128 .f32) (v4380 : Vec Ideal S128x128 .f32) : Runs M J (on M h J hJ (k0_part125 (F := Ideal) i) (a0 (σ .u) (σ .w2) 1) v4379 v4380) (st σ 9) fun r σ' => r.2.1 = (a1 (σ .u) (σ .w2) 1) ∧ σ' = st σ 9 := by
  unfold on k0_part125
  exact .load Cell.w <| .loadJ Out.sh fun _ => .load Cell.w <| .load Cell.lhs <| .load Cell.lhs <| .storeTo Cell.lhs
    (same σ 9 _ _ _ rfl) <| .load Cell.lhs <| .load Cell.w2 <| .loadJ Out.sh fun _ => .ret ⟨rfl, rfl⟩

theorem part126 (i : grid0.Coords) (σ : St) (v4396 : FVec Ideal S16x8x128 .f32) (v4417 : FVec Ideal S128x128 .f32) : Runs M J (on M h J hJ (k0_part126 (F := Ideal) i) v4396 v4417) (st σ 9) fun _ σ' => σ' = st σ 9 := by
  unfold on k0_part126
  exact .load Cell.w <| .loadJ Out.sh fun _ => .load Cell.w <| .loadJ Out.sh fun _ => .load Cell.w <| .loadJ Out.sh
    fun _ => .load Cell.w <| .loadJ Out.sh fun _ => .ret rfl

theorem part127 (i : grid0.Coords) (σ : St) (v4451 : FVec Ideal S16x8x128 .f32) (v4453 : FVec Ideal S128x128 .f32) : Runs M J (on M h J hJ (k0_part127 (F := Ideal) i) v4451 v4453) (st σ 9) fun _ σ' => σ' = st σ 9 := by
  unfold on k0_part127
  exact .load Cell.w <| .loadJ Out.sh fun _ => .load Cell.w <| .loadJ Out.ub fun _ => .load Cell.w <| .loadJ Out.sh
    fun _ => .load Cell.w <| .loadJ Out.sh fun _ => .ret rfl

theorem part128 (i : grid0.Coords) (σ : St) (v4486 : FVec Ideal S16x8x128 .f32) (v4488 : FVec Ideal S128x128 .f32) : Runs M J (on M h J hJ (k0_part128 (F := Ideal) i) (a1 (σ .u) (σ .w2) 1) v4486 v4488) (st σ 9) fun r σ' => r.2.1 = (a2 (σ .u) (σ .w2) 1) ∧ σ' = st σ 9 := by
  unfold on k0_part128
  exact .load Cell.w <| .loadJ Out.sh fun _ => .load Cell.w <| .load Cell.lhs <| .load Cell.lhs <| .storeTo Cell.lhs
    (same σ 9 _ _ _ rfl) <| .load Cell.lhs <| .load Cell.w2 <| .loadJ Out.sh fun _ => .ret ⟨rfl, rfl⟩

theorem part129 (i : grid0.Coords) (σ : St) (v4504 : FVec Ideal S16x8x128 .f32) (v4525 : FVec Ideal S128x128 .f32) : Runs M J (on M h J hJ (k0_part129 (F := Ideal) i) v4504 v4525) (st σ 9) fun _ σ' => σ' = st σ 9 := by
  unfold on k0_part129
  exact .load Cell.w <| .loadJ Out.sh fun _ => .load Cell.w <| .loadJ Out.sh fun _ => .load Cell.w <| .loadJ Out.sh
    fun _ => .load Cell.w <| .loadJ Out.ub fun _ => .ret rfl

theorem part130 (i : grid0.Coords) (σ : St) (v4559 : FVec Ideal S16x8x128 .f32) (v4560 : Vec Ideal S128x128 .f32) : Runs M J (on M h J hJ (k0_part130 (F := Ideal) i) v4559 v4560) (st σ 9) fun _ σ' => σ' = st σ 9 := by
  unfold on k0_part130
  exact .load Cell.w <| .loadJ Out.sh fun _ => .load Cell.w <| .loadJ Out.sh fun _ => .load Cell.w <| .loadJ Out.sh
    fun _ => .load Cell.w <| .loadJ Out.sh fun _ => .ret rfl

theorem part131 (i : grid0.Coords) (σ : St) (v4594 : FVec Ideal S16x8x128 .f32) (v4596 : FVec Ideal S128x128 .f32) : Runs M J (on M h J hJ (k0_part131 (F := Ideal) i) (a2 (σ .u) (σ .w2) 1) v4594 v4596) (st σ 9) fun _ σ' => σ' = st σ 10 := by
  unfold on k0_part131
  exact .load Cell.w <| .loadJ Out.sh fun _ => .load Cell.w <| .load Cell.lhs <| .load Cell.lhs <| .storeTo Cell.lhs
    (same σ 9 _ _ _ rfl) <| .load Cell.lhs <| .load Cell.w2 <| .load Cell.qkv <| .storeTo Cell.qkv (next σ 9 _ rfl) <|
    .ret rfl

theorem part132 (i : grid0.Coords) (σ : St) (v4612 : FVec Ideal S16x8x128 .f32) : Runs M J (on M h J hJ (k0_part132 (F := Ideal) i) v4612) (st σ 10) fun _ σ' => σ' = st σ 10 := by
  unfold on k0_part132
  exact .loadJ Out.sh fun _ => .load Cell.w <| .loadJ Out.sh fun _ => .load Cell.w <| .loadJ Out.ub fun _ => .load
    Cell.w <| .loadJ Out.cb fun _ => .storeJ Out.cb <| .load Cell.b <| .loadJ Out.sh fun _ => .ret rfl

theorem part133 (i : grid0.Coords) (σ : St) (v4667 : FVec Ideal S16x8x128 .f32) (v4668 : Vec Ideal S1x128x128 .f32) : Runs M J (on M h J hJ (k0_part133 (F := Ideal) i) v4667 v4668) (st σ 10) fun _ σ' => σ' = st σ 10 := by
  unfold on k0_part133
  exact .load Cell.w <| .loadJ Out.sh fun _ => .load Cell.w <| .loadJ Out.sh fun _ => .load Cell.w <| .loadJ Out.sh
    fun _ => .load Cell.w <| .loadJ Out.sh fun _ => .ret rfl

theorem part134 (i : grid0.Coords) (σ : St) (v4703 : FVec Ideal S16x8x128 .f32) (v4704 : Vec Ideal S1x128x128 .f32) : Runs M J (on M h J hJ (k0_part134 (F := Ideal) i) v4703 v4704) (st σ 10) fun r σ' => r.2 = (shapeCast S16x128 (addf (window (σ .u) ![0, 0] S16x128.size inb_S256x2048_S16x128_0_0) (truncf .bf16 (bitcastToFloat .f32 (constantI S16x128 32 0#32 : IVec S16x128 32) : FVec Ideal S16x128 .f32) bitsLt_bf16_f32 : FVec Ideal S16x128 .bf16) : FVec Ideal S16x128 .bf16) shapeCasts_S16x128_S16x128 : FVec Ideal S16x128 .bf16) ∧ σ' = st σ 10 := by
  unfold on k0_part134
  exact .load Cell.w <| .loadJ Out.sh fun _ => .load Cell.w <| .loadJ Out.ub fun _ => .load Cell.w <| .load Cell.lhs
    <| .load Cell.lhs <| .ret ⟨rfl, rfl⟩

theorem part135 (i : grid0.Coords) (σ : St) (v4729 : FVec Ideal S16x8x128 .f32) : Runs M J (on M h J hJ (k0_part135 (F := Ideal) i) v4729 (shapeCast S16x128 (addf (window (σ .u) ![0, 0] S16x128.size inb_S256x2048_S16x128_0_0) (truncf .bf16 (bitcastToFloat .f32 (constantI S16x128 32 0#32 : IVec S16x128 32) : FVec Ideal S16x128 .f32) bitsLt_bf16_f32 : FVec Ideal S16x128 .bf16) : FVec Ideal S16x128 .bf16) shapeCasts_S16x128_S16x128 : FVec Ideal S16x128 .bf16)) (st σ 10) fun r σ' => r.1 = (a0 (σ .u) (σ .w2) 2) ∧ σ' = st σ 10 := by
  unfold on k0_part135
  exact .storeTo Cell.lhs (same σ 10 _ _ _ rfl) <| .load Cell.lhs <| .load Cell.w2 <| .loadJ Out.sh fun _ => .load
    Cell.w <| .loadJ Out.sh fun _ => .load Cell.w <| .loadJ Out.sh fun _ => .load Cell.w <| .loadJ Out.sh fun _ =>
    .ret ⟨rfl, rfl⟩

end Cert.Kernel4Ideal.Qkv

end
-- ==== Proof.Qkv.Parts6.lean ====
/-
  The run of parts 136 to 160 of the idealized program, each over the cells it is given: the stores
  to forgotten memory are passed over, the others change the contents as said.
-/
module

public import proofs.«01_k».proof.Proof.Qkv.Cells

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part136 (i : grid0.Coords) (σ : St) (v4774 : FVec Ideal S16x8x128 .f32) (v4776 : FVec Ideal S128x128 .f32) : Runs M J (on M h J hJ (k0_part136 (F := Ideal) i) v4774 v4776) (st σ 10) fun _ σ' => σ' = st σ 10 := by
  unfold on k0_part136
  exact .load Cell.w <| .loadJ Out.sh fun _ => .load Cell.w <| .loadJ Out.sh fun _ => .load Cell.w <| .loadJ Out.sh
    fun _ => .load Cell.w <| .loadJ Out.ub fun _ => .ret rfl

theorem part137 (i : grid0.Coords) (σ : St) (v4810 : FVec Ideal S16x8x128 .f32) (v4811 : Vec Ideal S128x128 .f32) : Runs M J (on M h J hJ (k0_part137 (F := Ideal) i) v4810 v4811) (st σ 10) fun _ σ' => σ' = st σ 10 := by
  unfold on k0_part137
  exact .load Cell.w <| .loadJ Out.sh fun _ => .load Cell.w <| .loadJ Out.sh fun _ => .load Cell.w <| .load Cell.lhs
    <| .load Cell.lhs <| .storeTo Cell.lhs (same σ 10 _ _ _ rfl) <| .ret rfl

theorem part138 (i : grid0.Coords) (σ : St) (v4836 : FVec Ideal S16x8x128 .f32) : Runs M J (on M h J hJ (k0_part138 (F := Ideal) i) (a0 (σ .u) (σ .w2) 2) v4836) (st σ 10) fun r σ' => r.1 = (a1 (σ .u) (σ .w2) 2) ∧ σ' = st σ 10 := by
  unfold on k0_part138
  exact .load Cell.lhs <| .load Cell.w2 <| .loadJ Out.sh fun _ => .load Cell.w <| .loadJ Out.sh fun _ => .load Cell.w
    <| .loadJ Out.sh fun _ => .load Cell.w <| .loadJ Out.sh fun _ => .ret ⟨rfl, rfl⟩

theorem part139 (i : grid0.Coords) (σ : St) (v4882 : FVec Ideal S16x8x128 .f32) (v4884 : FVec Ideal S128x128 .f32) : Runs M J (on M h J hJ (k0_part139 (F := Ideal) i) v4882 v4884) (st σ 10) fun _ σ' => σ' = st σ 10 := by
  unfold on k0_part139
  exact .load Cell.w <| .loadJ Out.sh fun _ => .load Cell.w <| .loadJ Out.ub fun _ => .load Cell.w <| .loadJ Out.sh
    fun _ => .load Cell.w <| .loadJ Out.sh fun _ => .ret rfl

theorem part140 (i : grid0.Coords) (σ : St) (v4917 : FVec Ideal S16x8x128 .f32) (v4919 : FVec Ideal S128x128 .f32) : Runs M J (on M h J hJ (k0_part140 (F := Ideal) i) v4917 v4919) (st σ 10) fun _ σ' => σ' = st σ 10 := by
  unfold on k0_part140
  exact .load Cell.w <| .loadJ Out.sh fun _ => .load Cell.w <| .loadJ Out.sh fun _ => .load Cell.w <| .load Cell.lhs
    <| .load Cell.lhs <| .storeTo Cell.lhs (same σ 10 _ _ _ rfl) <| .ret rfl

theorem part141 (i : grid0.Coords) (σ : St) (v4944 : FVec Ideal S16x8x128 .f32) : Runs M J (on M h J hJ (k0_part141 (F := Ideal) i) (a1 (σ .u) (σ .w2) 2) v4944) (st σ 10) fun r σ' => r.1 = (a2 (σ .u) (σ .w2) 2) ∧ σ' = st σ 10 := by
  unfold on k0_part141
  exact .load Cell.lhs <| .load Cell.w2 <| .loadJ Out.sh fun _ => .load Cell.w <| .loadJ Out.sh fun _ => .load Cell.w
    <| .loadJ Out.sh fun _ => .load Cell.w <| .loadJ Out.ub fun _ => .ret ⟨rfl, rfl⟩

theorem part142 (i : grid0.Coords) (σ : St) (v4990 : FVec Ideal S16x8x128 .f32) (v4991 : Vec Ideal S128x128 .f32) : Runs M J (on M h J hJ (k0_part142 (F := Ideal) i) v4990 v4991) (st σ 10) fun _ σ' => σ' = st σ 10 := by
  unfold on k0_part142
  exact .load Cell.w <| .loadJ Out.cb fun _ => .storeJ Out.cb <| .load Cell.b <| .loadJ Out.sh fun _ => .load Cell.w
    <| .loadJ Out.sh fun _ => .load Cell.w <| .loadJ Out.sh fun _ => .load Cell.w <| .ret rfl

theorem part143 (i : grid0.Coords) (σ : St) (v5024 : FVec Ideal S16x8x128 .f32) (v5026 : FVec Ideal S128x128 .f32) (v5027 : Vec Ideal S1x8x128 .f32) : Runs M J (on M h J hJ (k0_part143 (F := Ideal) i) v5024 v5026 v5027) (st σ 10) fun _ σ' => σ' = st σ 10 := by
  unfold on k0_part143
  exact .loadJ Out.sh fun _ => .load Cell.w <| .loadJ Out.sh fun _ => .load Cell.w <| .loadJ Out.sh fun _ => .load
    Cell.w <| .ret rfl

theorem part144 (i : grid0.Coords) (σ : St) (v5060 : FVec Ideal S16x8x128 .f32) : Runs M J (on M h J hJ (k0_part144 (F := Ideal) i) (a2 (σ .u) (σ .w2) 2) v5060) (st σ 10) fun _ σ' => σ' = st σ 11 := by
  unfold on k0_part144
  exact .load Cell.lhs <| .load Cell.lhs <| .storeTo Cell.lhs (same σ 10 _ _ _ rfl) <| .load Cell.lhs <| .load Cell.w2
    <| .load Cell.qkv <| .storeTo Cell.qkv (next σ 10 _ rfl) <| .loadJ Out.ub fun _ => .load Cell.w <| .loadJ Out.sh
    fun _ => .load Cell.w <| .loadJ Out.sh fun _ => .ret rfl

theorem part145 (i : grid0.Coords) (σ : St) (v5098 : FVec Ideal S16x8x128 .f32) (v5099 : Vec Ideal S1x128x128 .f32) : Runs M J (on M h J hJ (k0_part145 (F := Ideal) i) v5098 v5099) (st σ 11) fun _ σ' => σ' = st σ 11 := by
  unfold on k0_part145
  exact .load Cell.w <| .loadJ Out.sh fun _ => .load Cell.w <| .loadJ Out.sh fun _ => .load Cell.w <| .loadJ Out.sh
    fun _ => .load Cell.w <| .loadJ Out.sh fun _ => .ret rfl

theorem part146 (i : grid0.Coords) (σ : St) (v5134 : FVec Ideal S16x8x128 .f32) (v5135 : Vec Ideal S1x128x128 .f32) : Runs M J (on M h J hJ (k0_part146 (F := Ideal) i) v5134 v5135) (st σ 11) fun _ σ' => σ' = st σ 11 := by
  unfold on k0_part146
  exact .load Cell.w <| .loadJ Out.sh fun _ => .load Cell.w <| .loadJ Out.ub fun _ => .load Cell.w <| .loadJ Out.sh
    fun _ => .load Cell.w <| .ret rfl

theorem part147 (i : grid0.Coords) (σ : St) (v5169 : FVec Ideal S16x8x128 .f32) : Runs M J (on M h J hJ (k0_part147 (F := Ideal) i) v5169) (st σ 11) fun r σ' => r.1 = (a0 (σ .u) (σ .w2) 3) ∧ σ' = st σ 11 := by
  unfold on k0_part147
  exact .load Cell.lhs <| .load Cell.lhs <| .storeTo Cell.lhs (same σ 11 _ _ _ rfl) <| .load Cell.lhs <| .load Cell.w2
    <| .loadJ Out.sh fun _ => .load Cell.w <| .loadJ Out.sh fun _ => .load Cell.w <| .loadJ Out.sh fun _ => .ret ⟨rfl,
    rfl⟩

theorem part148 (i : grid0.Coords) (σ : St) (v5205 : FVec Ideal S16x8x128 .f32) (v5207 : FVec Ideal S128x128 .f32) : Runs M J (on M h J hJ (k0_part148 (F := Ideal) i) v5205 v5207) (st σ 11) fun _ σ' => σ' = st σ 11 := by
  unfold on k0_part148
  exact .load Cell.w <| .loadJ Out.sh fun _ => .load Cell.w <| .loadJ Out.sh fun _ => .load Cell.w <| .loadJ Out.sh
    fun _ => .load Cell.w <| .loadJ Out.ub fun _ => .ret rfl

theorem part149 (i : grid0.Coords) (σ : St) (v5241 : FVec Ideal S16x8x128 .f32) (v5242 : Vec Ideal S128x128 .f32) : Runs M J (on M h J hJ (k0_part149 (F := Ideal) i) v5241 v5242) (st σ 11) fun _ σ' => σ' = st σ 11 := by
  unfold on k0_part149
  exact .load Cell.w <| .loadJ Out.sh fun _ => .load Cell.w <| .loadJ Out.sh fun _ => .load Cell.w <| .loadJ Out.sh
    fun _ => .load Cell.w <| .ret rfl

theorem part150 (i : grid0.Coords) (σ : St) (v5276 : FVec Ideal S16x8x128 .f32) : Runs M J (on M h J hJ (k0_part150 (F := Ideal) i) (a0 (σ .u) (σ .w2) 3) v5276) (st σ 11) fun r σ' => r.1 = (a1 (σ .u) (σ .w2) 3) ∧ σ' = st σ 11 := by
  unfold on k0_part150
  exact .load Cell.lhs <| .load Cell.lhs <| .storeTo Cell.lhs (same σ 11 _ _ _ rfl) <| .load Cell.lhs <| .load Cell.w2
    <| .loadJ Out.sh fun _ => .load Cell.w <| .loadJ Out.sh fun _ => .load Cell.w <| .loadJ Out.sh fun _ => .ret ⟨rfl,
    rfl⟩

theorem part151 (i : grid0.Coords) (σ : St) (v5313 : FVec Ideal S16x8x128 .f32) (v5315 : FVec Ideal S128x128 .f32) : Runs M J (on M h J hJ (k0_part151 (F := Ideal) i) v5313 v5315) (st σ 11) fun _ σ' => σ' = st σ 11 := by
  unfold on k0_part151
  exact .load Cell.w <| .loadJ Out.sh fun _ => .load Cell.w <| .loadJ Out.ub fun _ => .load Cell.w <| .loadJ Out.cb
    fun _ => .storeJ Out.cb <| .load Cell.b <| .loadJ Out.sh fun _ => .load Cell.w <| .ret rfl

theorem part152 (i : grid0.Coords) (σ : St) (v5347 : FVec Ideal S16x8x128 .f32) (v5349 : FVec Ideal S128x128 .f32) (v5350 : Vec Ideal S1x8x128 .f32) : Runs M J (on M h J hJ (k0_part152 (F := Ideal) i) v5347 v5349 v5350) (st σ 11) fun _ σ' => σ' = st σ 11 := by
  unfold on k0_part152
  exact .loadJ Out.sh fun _ => .load Cell.w <| .loadJ Out.sh fun _ => .load Cell.w <| .loadJ Out.sh fun _ => .load
    Cell.w <| .loadJ Out.sh fun _ => .load Cell.w <| .ret rfl

theorem part153 (i : grid0.Coords) (σ : St) (v5383 : FVec Ideal S16x8x128 .f32) (v5385 : FVec Ideal S128x128 .f32) (v5386 : Vec Ideal S1x8x128 .f32) : Runs M J (on M h J hJ (k0_part153 (F := Ideal) i) (a1 (σ .u) (σ .w2) 3) v5383 v5385 v5386) (st σ 11) fun r σ' => r.1 = (a2 (σ .u) (σ .w2) 3) ∧ σ' = st σ 11 := by
  unfold on k0_part153
  exact .load Cell.lhs <| .load Cell.lhs <| .storeTo Cell.lhs (same σ 11 _ _ _ rfl) <| .load Cell.lhs <| .load Cell.w2
    <| .loadJ Out.sh fun _ => .load Cell.w <| .loadJ Out.ub fun _ => .load Cell.w <| .ret ⟨rfl, rfl⟩

theorem part154 (i : grid0.Coords) (σ : St) (v5420 : FVec Ideal S16x8x128 .f32) (v5421 : Vec Ideal S128x128 .f32) (v5422 : Vec Ideal S1x8x128 .f32) : Runs M J (on M h J hJ (k0_part154 (F := Ideal) i) v5420 v5421 v5422) (st σ 11) fun _ σ' => σ' = st σ 11 := by
  unfold on k0_part154
  exact .loadJ Out.sh fun _ => .load Cell.w <| .loadJ Out.sh fun _ => .load Cell.w <| .loadJ Out.sh fun _ => .load
    Cell.w <| .loadJ Out.sh fun _ => .load Cell.w <| .ret rfl

theorem part155 (i : grid0.Coords) (σ : St) (v5455 : FVec Ideal S16x8x128 .f32) (v5457 : FVec Ideal S128x128 .f32) (v5458 : Vec Ideal S1x8x128 .f32) : Runs M J (on M h J hJ (k0_part155 (F := Ideal) i) v5455 v5457 v5458) (st σ 11) fun _ σ' => σ' = st σ 11 := by
  unfold on k0_part155
  exact .loadJ Out.sh fun _ => .load Cell.w <| .loadJ Out.sh fun _ => .load Cell.w <| .loadJ Out.sh fun _ => .load
    Cell.w <| .loadJ Out.ub fun _ => .load Cell.w <| .ret rfl

theorem part156 (i : grid0.Coords) (σ : St) (v5491 : FVec Ideal S16x8x128 .f32) (v5494 : FVec Ideal S8x128 .f32) (v5495 : FVec Ideal S16x8x128 .f32) : Runs M J (on M h J hJ (k0_part156 (F := Ideal) i) (a2 (σ .u) (σ .w2) 3) v5491 v5494 v5495) (st σ 11) fun _ σ' => σ' = st σ 12 := by
  unfold on k0_part156
  exact .load Cell.lhs <| .load Cell.lhs <| .storeTo Cell.lhs (same σ 11 _ _ _ rfl) <| .load Cell.lhs <| .load Cell.w2
    <| .load Cell.qkv <| .storeTo Cell.qkv (next σ 11 _ rfl) <| .loadJ Out.sh fun _ => .load Cell.w <| .loadJ Out.sh
    fun _ => .ret rfl

theorem part157 (i : grid0.Coords) (σ : St) (v5529 : FVec Ideal S16x8x128 .f32) (v5530 : Vec Ideal S1x128x128 .f32) : Runs M J (on M h J hJ (k0_part157 (F := Ideal) i) v5529 v5530) (st σ 12) fun _ σ' => σ' = st σ 12 := by
  unfold on k0_part157
  exact .load Cell.w <| .loadJ Out.sh fun _ => .load Cell.w <| .loadJ Out.sh fun _ => .load Cell.w <| .loadJ Out.sh
    fun _ => .load Cell.w <| .loadJ Out.sh fun _ => .ret rfl

theorem part158 (i : grid0.Coords) (σ : St) (v5565 : FVec Ideal S16x8x128 .f32) (v5566 : Vec Ideal S1x128x128 .f32) : Runs M J (on M h J hJ (k0_part158 (F := Ideal) i) v5565 v5566) (st σ 12) fun _ σ' => σ' = st σ 12 := by
  unfold on k0_part158
  exact .load Cell.w <| .loadJ Out.sh fun _ => .load Cell.w <| .loadJ Out.ub fun _ => .load Cell.w <| .loadJ Out.sh
    fun _ => .load Cell.w <| .loadJ Out.sh fun _ => .ret rfl

theorem part159 (i : grid0.Coords) (σ : St) (v5600 : FVec Ideal S16x8x128 .f32) (v5602 : FVec Ideal S128x128 .f32) : Runs M J (on M h J hJ (k0_part159 (F := Ideal) i) v5600 v5602) (st σ 12) fun _ σ' => σ' = st σ 12 := by
  unfold on k0_part159
  exact .load Cell.w <| .loadJ Out.sh fun _ => .load Cell.w <| .loadJ Out.sh fun _ => .load Cell.w <| .loadJ Out.sh
    fun _ => .load Cell.w <| .loadJ Out.sh fun _ => .ret rfl

theorem part160 (i : grid0.Coords) (σ : St) (v5636 : FVec Ideal S16x8x128 .f32) (v5638 : FVec Ideal S128x128 .f32) : Runs M J (on M h J hJ (k0_part160 (F := Ideal) i) v5636 v5638) (st σ 12) fun _ σ' => σ' = st σ 12 := by
  unfold on k0_part160
  exact .load Cell.w <| .loadJ Out.sh fun _ => .load Cell.w <| .loadJ Out.ub fun _ => .load Cell.w <| .loadJ Out.cb
    fun _ => .storeJ Out.cb <| .loadJ Out.cb fun _ => .ret rfl

end Cert.Kernel4Ideal.Qkv

end
-- ==== Proof.Qkv.Whole.lean ====
/-
  The whole body of the idealized program, from its parts.
-/
module

public import proofs.«01_k».proof.Proof.Qkv.Parts1
public import proofs.«01_k».proof.Proof.Qkv.Parts2
public import proofs.«01_k».proof.Proof.Qkv.Parts3
public import proofs.«01_k».proof.Proof.Qkv.Parts4
public import proofs.«01_k».proof.Proof.Qkv.Parts5
public import proofs.«01_k».proof.Proof.Qkv.Parts6

@[expose] public section

set_option maxRecDepth 16384
set_option maxHeartbeats 4000000

noncomputable section

namespace Cert.Kernel4Ideal.Qkv

open Idealize.ShloMosaic Idealize.ShloMosaic.TcCoe
open Idealize.SL Idealize.SL.Sem
open Cert.Kernel4Ideal Cert.Kernel4Ideal.Shapes1.Facts₀
open Cert.Around
open VecWindow (window put)

variable {M : Mems} {h : ∀ b, (M b).IsWhole} {J : Outs} {hJ : ∀ d, (J d).IsWhole}

theorem part161 (i : grid0.Coords) (σ : St) : Runs M J (on M h J hJ (k0_part161 (F := Ideal) i)) (σ) fun r σ' => r.1 = (a0 (σ .u) (σ .w1) 0) ∧ σ' = st σ 4 := by
  unfold on k0_part161
  refine (part1 (h := h) (hJ := hJ) i σ).bind ?_
  rintro r0 _ rfl
  refine (part2 (h := h) (hJ := hJ) i σ _).bind ?_
  rintro r0 _ rfl
  refine (part3 (h := h) (hJ := hJ) i σ _).bind ?_
  rintro r0 _ rfl
  refine (part4 (h := h) (hJ := hJ) i σ _).bind ?_
  rintro r0 _ rfl
  refine (part5 (h := h) (hJ := hJ) i σ _).bind ?_
  rintro r0 _ rfl
  refine (part6 (h := h) (hJ := hJ) i σ _).bind ?_
  rintro r0 _ rfl
  refine (part7 (h := h) (hJ := hJ) i σ _).bind ?_
  rintro r0 _ rfl
  refine (part8 (h := h) (hJ := hJ) i σ _).bind ?_
  rintro ⟨r0, r1⟩ _ rfl
  refine (part9 (h := h) (hJ := hJ) i σ _ _).bind ?_
  rintro ⟨r0, r1, r2⟩ _ rfl
  refine (part10 (h := h) (hJ := hJ) i σ _ _ _).bind ?_
  rintro r0 _ rfl
  refine (part11 (h := h) (hJ := hJ) i σ _).bind ?_
  rintro ⟨r0, r1, r2⟩ _ ⟨h0, rfl⟩
  cases h0
  refine (part12 (h := h) (hJ := hJ) i σ _ _).bind ?_
  rintro ⟨r0, r1, r2⟩ _ rfl
  refine (part13 (h := h) (hJ := hJ) i σ _ _ _).bind ?_
  rintro ⟨r0, r1⟩ _ ⟨h1, rfl⟩
  cases h1
  refine (part14 (h := h) (hJ := hJ) i σ _).bind ?_
  rintro ⟨r0, r1, r2, r3⟩ _ ⟨h0, rfl⟩
  cases h0
  refine (part15 (h := h) (hJ := hJ) i σ _ _ _).bind ?_
  rintro ⟨r0, r1, r2⟩ _ rfl
  refine (part16 (h := h) (hJ := hJ) i σ _ _ _).bind ?_
  rintro ⟨r0, r1⟩ _ ⟨h1, rfl⟩
  cases h1
  refine (part17 (h := h) (hJ := hJ) i σ _).bind ?_
  rintro ⟨r0, r1, r2, r3⟩ _ ⟨h0, rfl⟩
  cases h0
  refine (part18 (h := h) (hJ := hJ) i σ _ _ _).bind ?_
  rintro ⟨r0, r1, r2⟩ _ rfl
  refine (part19 (h := h) (hJ := hJ) i σ _ _ _).bind ?_
  rintro ⟨r0, r1⟩ _ rfl
  refine (part20 (h := h) (hJ := hJ) i σ _ _).bind ?_
  rintro ⟨r0, r1⟩ _ rfl
  refine (part21 (h := h) (hJ := hJ) i σ _ _).bind ?_
  rintro ⟨r0, r1, r2⟩ _ rfl
  refine (part22 (h := h) (hJ := hJ) i σ _ _ _).bind ?_
  rintro ⟨r0, r1, r2⟩ _ rfl
  refine (part23 (h := h) (hJ := hJ) i σ _ _ _).bind ?_
  rintro ⟨r0, r1, r2⟩ _ ⟨h0, rfl⟩
  cases h0
  refine (part24 (h := h) (hJ := hJ) i σ _ _).bind ?_
  rintro ⟨r0, r1, r2⟩ _ rfl
  refine (part25 (h := h) (hJ := hJ) i σ _ _ _).bind ?_
  rintro ⟨r0, r1, r2⟩ _ rfl
  refine (part26 (h := h) (hJ := hJ) i σ _ _ _).bind ?_
  rintro ⟨r0, r1, r2, r3⟩ _ ⟨h0, rfl⟩
  cases h0
  refine (part27 (h := h) (hJ := hJ) i σ _ _ _).bind ?_
  rintro ⟨r0, r1, r2⟩ _ rfl
  refine (part28 (h := h) (hJ := hJ) i σ _ _ _).bind ?_
  rintro ⟨r0, r1⟩ _ rfl
  refine (part29 (h := h) (hJ := hJ) i σ _ _).bind ?_
  rintro ⟨r0, r1, r2, r3⟩ _ ⟨h1, rfl⟩
  cases h1
  refine (part30 (h := h) (hJ := hJ) i σ _ _ _).bind ?_
  rintro ⟨r0, r1, r2⟩ _ rfl
  refine (part31 (h := h) (hJ := hJ) i σ _ _ _).bind ?_
  rintro ⟨r0, r1⟩ _ rfl
  refine (part32 (h := h) (hJ := hJ) i σ _ _).bind ?_
  rintro ⟨r0, r1⟩ _ rfl
  refine (part33 (h := h) (hJ := hJ) i σ _ _).bind ?_
  rintro ⟨r0, r1, r2⟩ _ rfl
  refine (part34 (h := h) (hJ := hJ) i σ _ _ _).bind ?_
  rintro ⟨r0, r1, r2⟩ _ rfl
  refine (part35 (h := h) (hJ := hJ) i σ _ _ _).bind ?_
  rintro ⟨r0, r1, r2⟩ _ ⟨h1, rfl⟩
  cases h1
  refine (part36 (h := h) (hJ := hJ) i σ _ _).bind ?_
  rintro ⟨r0, r1, r2⟩ _ rfl
  refine (part37 (h := h) (hJ := hJ) i σ _ _ _).bind ?_
  rintro ⟨r0, r1, r2⟩ _ rfl
  refine (part38 (h := h) (hJ := hJ) i σ _ _ _).bind ?_
  rintro ⟨r0, r1, r2⟩ _ ⟨h1, h2, rfl⟩
  cases h1
  cases h2
  refine (part39 (h := h) (hJ := hJ) i σ _).bind ?_
  rintro ⟨r0, r1, r2, r3⟩ _ ⟨h0, rfl⟩
  cases h0
  refine (part40 (h := h) (hJ := hJ) i σ _ _ _).bind ?_
  rintro ⟨r0, r1⟩ _ rfl
  refine (part41 (h := h) (hJ := hJ) i σ _ _).bind ?_
  rintro ⟨r0, r1, r2⟩ _ ⟨h1, h2, rfl⟩
  cases h1
  cases h2
  refine (part42 (h := h) (hJ := hJ) i σ _).bind ?_
  rintro ⟨r0, r1, r2, r3⟩ _ ⟨h0, rfl⟩
  cases h0
  refine (part43 (h := h) (hJ := hJ) i σ _ _ _).bind ?_
  rintro ⟨r0, r1⟩ _ rfl
  refine (part44 (h := h) (hJ := hJ) i σ _ _).bind ?_
  rintro ⟨r0, r1, r2⟩ _ ⟨h1, h2, rfl⟩
  cases h1
  cases h2
  refine (part45 (h := h) (hJ := hJ) i σ _).bind ?_
  rintro ⟨r0, r1, r2⟩ _ rfl
  refine (part46 (h := h) (hJ := hJ) i σ _ _ _).bind ?_
  rintro ⟨r0, r1, r2⟩ _ rfl
  refine (part47 (h := h) (hJ := hJ) i σ _ _ _).bind ?_
  rintro ⟨r0, r1⟩ _ ⟨h1, rfl⟩
  cases h1
  refine (part48 (h := h) (hJ := hJ) i σ _).bind ?_
  rintro ⟨r0, r1, r2, r3⟩ _ ⟨h0, rfl⟩
  cases h0
  refine (part49 (h := h) (hJ := hJ) i σ _ _ _).bind ?_
  rintro ⟨r0, r1, r2⟩ _ rfl
  refine (part50 (h := h) (hJ := hJ) i σ _ _ _).bind ?_
  rintro ⟨r0, r1⟩ _ ⟨h1, rfl⟩
  cases h1
  refine (part51 (h := h) (hJ := hJ) i σ _).bind ?_
  rintro ⟨r0, r1, r2, r3⟩ _ ⟨h0, rfl⟩
  cases h0
  refine (part52 (h := h) (hJ := hJ) i σ _ _ _).bind ?_
  rintro ⟨r0, r1⟩ _ rfl
  refine (part53 (h := h) (hJ := hJ) i σ _ _).bind ?_
  rintro ⟨r0, r1⟩ _ ⟨h1, rfl⟩
  cases h1
  refine (part54 (h := h) (hJ := hJ) i σ _).bind ?_
  rintro ⟨r0, r1, r2, r3⟩ _ ⟨h0, rfl⟩
  cases h0
  refine (part55 (h := h) (hJ := hJ) i σ _ _ _).bind ?_
  rintro r0 _ rfl
  refine (part56 (h := h) (hJ := hJ) i σ _).bind ?_
  rintro r0 _ rfl
  refine (part57 (h := h) (hJ := hJ) i σ _).bind ?_
  rintro ⟨r0, r1, r2⟩ _ rfl
  refine (part58 (h := h) (hJ := hJ) i σ _ _ _).bind ?_
  rintro ⟨r0, r1, r2⟩ _ rfl
  refine (part59 (h := h) (hJ := hJ) i σ _ _ _).bind ?_
  rintro ⟨r0, r1, r2⟩ _ rfl
  refine (part60 (h := h) (hJ := hJ) i σ _ _ _).bind ?_
  rintro ⟨r0, r1, r2, r3⟩ _ ⟨h0, rfl⟩
  cases h0
  exact .ret ⟨rfl, rfl⟩

theorem part162 (i : grid0.Coords) (σ : St) (v2072 : FVec Ideal S16x8x128 .f32) (v2077 : FVec Ideal S16x8x128 .f32) (v2078 : FVec Ideal S1x8x128 .f32) : Runs M J (on M h J hJ (k0_part162 (F := Ideal) i) (a0 (σ .u) (σ .w1) 0) v2072 v2077 v2078) (st σ 4) fun _ σ' => σ' = st σ 9 := by
  unfold on k0_part162
  refine (part61 (h := h) (hJ := hJ) i σ _ _ _).bind ?_
  rintro ⟨r0, r1, r2⟩ _ rfl
  refine (part62 (h := h) (hJ := hJ) i σ _ _ _).bind ?_
  rintro ⟨r0, r1⟩ _ rfl
  refine (part63 (h := h) (hJ := hJ) i σ _ _).bind ?_
  rintro ⟨r0, r1, r2, r3⟩ _ ⟨h0, rfl⟩
  cases h0
  refine (part64 (h := h) (hJ := hJ) i σ _ _ _).bind ?_
  rintro ⟨r0, r1⟩ _ rfl
  refine (part65 (h := h) (hJ := hJ) i σ _ _).bind ?_
  rintro r0 _ rfl
  refine (part66 (h := h) (hJ := hJ) i σ _).bind ?_
  rintro ⟨r0, r1, r2⟩ _ ⟨h1, rfl⟩
  cases h1
  refine (part67 (h := h) (hJ := hJ) i σ _ _).bind ?_
  rintro r0 _ rfl
  refine (part68 (h := h) (hJ := hJ) i σ _).bind ?_
  rintro r0 _ rfl
  refine (part69 (h := h) (hJ := hJ) i σ _).bind ?_
  rintro ⟨r0, r1, r2⟩ _ rfl
  refine (part70 (h := h) (hJ := hJ) i σ _ _ _).bind ?_
  rintro ⟨r0, r1, r2⟩ _ rfl
  refine (part71 (h := h) (hJ := hJ) i σ _ _ _).bind ?_
  rintro ⟨r0, r1, r2⟩ _ rfl
  refine (part72 (h := h) (hJ := hJ) i σ _ _ _).bind ?_
  rintro ⟨r0, r1, r2, r3⟩ _ ⟨h1, rfl⟩
  cases h1
  refine (part73 (h := h) (hJ := hJ) i σ _ _ _).bind ?_
  rintro ⟨r0, r1, r2⟩ _ rfl
  refine (part74 (h := h) (hJ := hJ) i σ _ _ _).bind ?_
  rintro r0 _ rfl
  refine (part75 (h := h) (hJ := hJ) i σ _).bind ?_
  rintro ⟨r0, r1⟩ _ ⟨h1, rfl⟩
  cases h1
  refine (part76 (h := h) (hJ := hJ) i σ _).bind ?_
  rintro ⟨r0, r1⟩ _ ⟨h0, rfl⟩
  cases h0
  refine (part77 (h := h) (hJ := hJ) i σ _).bind ?_
  rintro r0 _ rfl
  refine (part78 (h := h) (hJ := hJ) i σ _).bind ?_
  rintro ⟨r0, r1⟩ _ ⟨h1, rfl⟩
  cases h1
  refine (part79 (h := h) (hJ := hJ) i σ _).bind ?_
  rintro ⟨r0, r1⟩ _ ⟨h0, rfl⟩
  cases h0
  refine (part80 (h := h) (hJ := hJ) i σ _).bind ?_
  rintro r0 _ rfl
  refine (part81 (h := h) (hJ := hJ) i σ _).bind ?_
  rintro ⟨r0, r1⟩ _ ⟨h1, rfl⟩
  cases h1
  refine (part82 (h := h) (hJ := hJ) i σ _).bind ?_
  rintro ⟨r0, r1, r2⟩ _ rfl
  refine (part83 (h := h) (hJ := hJ) i σ _ _ _).bind ?_
  rintro ⟨r0, r1, r2⟩ _ rfl
  refine (part84 (h := h) (hJ := hJ) i σ _ _ _).bind ?_
  rintro r0 _ rfl
  refine (part85 (h := h) (hJ := hJ) i σ _).bind ?_
  rintro ⟨r0, r1⟩ _ ⟨h1, rfl⟩
  cases h1
  refine (part86 (h := h) (hJ := hJ) i σ _).bind ?_
  rintro r0 _ rfl
  refine (part87 (h := h) (hJ := hJ) i σ _).bind ?_
  rintro r0 _ rfl
  refine (part88 (h := h) (hJ := hJ) i σ _).bind ?_
  rintro ⟨r0, r1⟩ _ ⟨h1, rfl⟩
  cases h1
  refine (part89 (h := h) (hJ := hJ) i σ _).bind ?_
  rintro r0 _ rfl
  refine (part90 (h := h) (hJ := hJ) i σ _).bind ?_
  rintro r0 _ rfl
  refine (part91 (h := h) (hJ := hJ) i σ _).bind ?_
  rintro ⟨r0, r1⟩ _ ⟨h1, rfl⟩
  cases h1
  refine (part92 (h := h) (hJ := hJ) i σ _).bind ?_
  rintro r0 _ rfl
  refine (part93 (h := h) (hJ := hJ) i σ _).bind ?_
  rintro ⟨r0, r1⟩ _ rfl
  refine (part94 (h := h) (hJ := hJ) i σ _ _).bind ?_
  rintro r0 _ rfl
  refine (part95 (h := h) (hJ := hJ) i σ _).bind ?_
  rintro r0 _ rfl
  refine (part96 (h := h) (hJ := hJ) i σ _).bind ?_
  rintro r0 _ rfl
  refine (part97 (h := h) (hJ := hJ) i σ _).bind ?_
  rintro ⟨r0, r1⟩ _ ⟨h1, rfl⟩
  cases h1
  refine (part98 (h := h) (hJ := hJ) i σ _).bind ?_
  rintro ⟨r0, r1⟩ _ ⟨h0, rfl⟩
  cases h0
  refine (part99 (h := h) (hJ := hJ) i σ _).bind ?_
  rintro r0 _ rfl
  refine (part100 (h := h) (hJ := hJ) i σ _).bind ?_
  rintro ⟨r0, r1⟩ _ ⟨h1, rfl⟩
  cases h1
  refine (part101 (h := h) (hJ := hJ) i σ _).bind ?_
  rintro ⟨r0, r1⟩ _ ⟨h0, rfl⟩
  cases h0
  refine (part102 (h := h) (hJ := hJ) i σ _).bind ?_
  rintro r0 _ rfl
  refine (part103 (h := h) (hJ := hJ) i σ _).bind ?_
  rintro ⟨r0, r1⟩ _ ⟨h1, rfl⟩
  cases h1
  refine (part104 (h := h) (hJ := hJ) i σ _).bind ?_
  rintro ⟨r0, r1, r2⟩ _ ⟨h0, rfl⟩
  cases h0
  refine (part105 (h := h) (hJ := hJ) i σ _ _).bind ?_
  rintro ⟨r0, r1⟩ _ rfl
  refine (part106 (h := h) (hJ := hJ) i σ _ _).bind ?_
  rintro r0 _ rfl
  refine (part107 (h := h) (hJ := hJ) i σ _).bind ?_
  rintro r0 _ rfl
  refine (part108 (h := h) (hJ := hJ) i σ _).bind ?_
  rintro r0 _ rfl
  refine (part109 (h := h) (hJ := hJ) i σ _).bind ?_
  rintro ⟨r0, r1⟩ _ rfl
  refine (part110 (h := h) (hJ := hJ) i σ _ _).bind ?_
  rintro ⟨r0, r1⟩ _ ⟨h0, rfl⟩
  cases h0
  refine (part111 (h := h) (hJ := hJ) i σ _).bind ?_
  rintro r0 _ rfl
  refine (part112 (h := h) (hJ := hJ) i σ _).bind ?_
  rintro r0 _ rfl
  refine (part113 (h := h) (hJ := hJ) i σ _).bind ?_
  rintro ⟨r0, r1, r2⟩ _ ⟨h0, rfl⟩
  cases h0
  refine (part114 (h := h) (hJ := hJ) i σ _ _).bind ?_
  rintro ⟨r0, r1⟩ _ rfl
  refine (part115 (h := h) (hJ := hJ) i σ _ _).bind ?_
  rintro ⟨r0, r1⟩ _ rfl
  refine (part116 (h := h) (hJ := hJ) i σ _ _).bind ?_
  rintro ⟨r0, r1, r2⟩ _ ⟨h0, rfl⟩
  cases h0
  refine (part117 (h := h) (hJ := hJ) i σ _ _).bind ?_
  rintro ⟨r0, r1⟩ _ rfl
  refine (part118 (h := h) (hJ := hJ) i σ _ _).bind ?_
  rintro ⟨r0, r1⟩ _ rfl
  refine (part119 (h := h) (hJ := hJ) i σ _ _).bind ?_
  rintro r0 _ rfl
  refine (part120 (h := h) (hJ := hJ) i σ _).bind ?_
  rintro r0 _ rfl
  exact .ret rfl

theorem part163 (i : grid0.Coords) (σ : St) (v4237 : FVec Ideal S16x8x128 .f32) : Runs M J (on M h J hJ (k0_part163 (F := Ideal) i) v4237) (st σ 9) fun _ σ' => σ' = st σ 12 := by
  unfold on k0_part163
  refine (part121 (h := h) (hJ := hJ) i σ _).bind ?_
  rintro r0 _ rfl
  refine (part122 (h := h) (hJ := hJ) i σ _).bind ?_
  rintro ⟨r0, r1⟩ _ ⟨h0, rfl⟩
  cases h0
  refine (part123 (h := h) (hJ := hJ) i σ _).bind ?_
  rintro ⟨r0, r1⟩ _ rfl
  refine (part124 (h := h) (hJ := hJ) i σ _ _).bind ?_
  rintro ⟨r0, r1⟩ _ rfl
  refine (part125 (h := h) (hJ := hJ) i σ _ _).bind ?_
  rintro ⟨r0, r1, r2⟩ _ ⟨h1, rfl⟩
  cases h1
  refine (part126 (h := h) (hJ := hJ) i σ _ _).bind ?_
  rintro ⟨r0, r1⟩ _ rfl
  refine (part127 (h := h) (hJ := hJ) i σ _ _).bind ?_
  rintro ⟨r0, r1⟩ _ rfl
  refine (part128 (h := h) (hJ := hJ) i σ _ _).bind ?_
  rintro ⟨r0, r1, r2⟩ _ ⟨h1, rfl⟩
  cases h1
  refine (part129 (h := h) (hJ := hJ) i σ _ _).bind ?_
  rintro ⟨r0, r1⟩ _ rfl
  refine (part130 (h := h) (hJ := hJ) i σ _ _).bind ?_
  rintro ⟨r0, r1⟩ _ rfl
  refine (part131 (h := h) (hJ := hJ) i σ _ _).bind ?_
  rintro r0 _ rfl
  refine (part132 (h := h) (hJ := hJ) i σ _).bind ?_
  rintro ⟨r0, r1⟩ _ rfl
  refine (part133 (h := h) (hJ := hJ) i σ _ _).bind ?_
  rintro ⟨r0, r1⟩ _ rfl
  refine (part134 (h := h) (hJ := hJ) i σ _ _).bind ?_
  rintro ⟨r0, r1⟩ _ ⟨h1, rfl⟩
  cases h1
  refine (part135 (h := h) (hJ := hJ) i σ _).bind ?_
  rintro ⟨r0, r1, r2⟩ _ ⟨h0, rfl⟩
  cases h0
  refine (part136 (h := h) (hJ := hJ) i σ _ _).bind ?_
  rintro ⟨r0, r1⟩ _ rfl
  refine (part137 (h := h) (hJ := hJ) i σ _ _).bind ?_
  rintro r0 _ rfl
  refine (part138 (h := h) (hJ := hJ) i σ _).bind ?_
  rintro ⟨r0, r1, r2⟩ _ ⟨h0, rfl⟩
  cases h0
  refine (part139 (h := h) (hJ := hJ) i σ _ _).bind ?_
  rintro ⟨r0, r1⟩ _ rfl
  refine (part140 (h := h) (hJ := hJ) i σ _ _).bind ?_
  rintro r0 _ rfl
  refine (part141 (h := h) (hJ := hJ) i σ _).bind ?_
  rintro ⟨r0, r1, r2⟩ _ ⟨h0, rfl⟩
  cases h0
  refine (part142 (h := h) (hJ := hJ) i σ _ _).bind ?_
  rintro ⟨r0, r1, r2⟩ _ rfl
  refine (part143 (h := h) (hJ := hJ) i σ _ _ _).bind ?_
  rintro r0 _ rfl
  refine (part144 (h := h) (hJ := hJ) i σ _).bind ?_
  rintro ⟨r0, r1⟩ _ rfl
  refine (part145 (h := h) (hJ := hJ) i σ _ _).bind ?_
  rintro ⟨r0, r1⟩ _ rfl
  refine (part146 (h := h) (hJ := hJ) i σ _ _).bind ?_
  rintro r0 _ rfl
  refine (part147 (h := h) (hJ := hJ) i σ _).bind ?_
  rintro ⟨r0, r1, r2⟩ _ ⟨h0, rfl⟩
  cases h0
  refine (part148 (h := h) (hJ := hJ) i σ _ _).bind ?_
  rintro ⟨r0, r1⟩ _ rfl
  refine (part149 (h := h) (hJ := hJ) i σ _ _).bind ?_
  rintro r0 _ rfl
  refine (part150 (h := h) (hJ := hJ) i σ _).bind ?_
  rintro ⟨r0, r1, r2⟩ _ ⟨h0, rfl⟩
  cases h0
  refine (part151 (h := h) (hJ := hJ) i σ _ _).bind ?_
  rintro ⟨r0, r1, r2⟩ _ rfl
  refine (part152 (h := h) (hJ := hJ) i σ _ _ _).bind ?_
  rintro ⟨r0, r1, r2⟩ _ rfl
  refine (part153 (h := h) (hJ := hJ) i σ _ _ _).bind ?_
  rintro ⟨r0, r1, r2, r3⟩ _ ⟨h0, rfl⟩
  cases h0
  refine (part154 (h := h) (hJ := hJ) i σ _ _ _).bind ?_
  rintro ⟨r0, r1, r2⟩ _ rfl
  refine (part155 (h := h) (hJ := hJ) i σ _ _ _).bind ?_
  rintro ⟨r0, r1, r2⟩ _ rfl
  refine (part156 (h := h) (hJ := hJ) i σ _ _ _).bind ?_
  rintro ⟨r0, r1⟩ _ rfl
  refine (part157 (h := h) (hJ := hJ) i σ _ _).bind ?_
  rintro ⟨r0, r1⟩ _ rfl
  refine (part158 (h := h) (hJ := hJ) i σ _ _).bind ?_
  rintro ⟨r0, r1⟩ _ rfl
  refine (part159 (h := h) (hJ := hJ) i σ _ _).bind ?_
  rintro ⟨r0, r1⟩ _ rfl
  refine (part160 (h := h) (hJ := hJ) i σ _ _).bind ?_
  rintro ⟨r0, r1, r2⟩ _ rfl
  refine .load Cell.lw ?_
  refine .load Cell.lb ?_
  exact .ret rfl

theorem whole (i : grid0.Coords) (σ : St) : Runs M J (on M h J hJ (cc0_conformer_qkv (F := Ideal) i)) (σ) fun _ σ' => σ' = st σ 12 := by
  unfold on cc0_conformer_qkv
  refine (part161 (h := h) (hJ := hJ) i σ).bind ?_
  rintro ⟨r0, r1, r2, r3⟩ _ ⟨h0, rfl⟩
  cases h0
  refine (part162 (h := h) (hJ := hJ) i σ _ _ _).bind ?_
  rintro r0 _ rfl
  refine (part163 (h := h) (hJ := hJ) i σ _).bind ?_
  rintro r0 _ rfl
  refine .loadJ Out.o fun _ => ?_
  refine .storeJ Out.o ?_
  exact .ret rfl

end Cert.Kernel4Ideal.Qkv

end
-- ==== Proof.Qkv.Block.lean ====
/-
  The projection's buffer once all twelve blocks of columns are stored: each column is of the block it lies in, and
  nothing of what the buffer held before is left.
-/
module

public import proofs.«01_k».proof.Proof.Qkv.Cells

@[expose] public section

set_option maxRecDepth 16384

noncomputable section

namespace Cert.Kernel4Ideal.Qkv

open Idealize.ShloMosaic Idealize.ShloMosaic.TcCoe
open Cert.Kernel4Ideal Cert.Kernel4Ideal.Shapes1.Facts₀
open VecWindow (window put)

/-- Where a column lies within its block. -/
def within (y : S256x3072.Idx) : S256x256.Idx := ix2 ⟨(y 0).val, (y 0).isLt⟩ ⟨(y 1).val % 256, Nat.mod_lt _ (by decide)⟩

/-- The weights of a third of the columns. -/
def third (w0 w1 w2 : FVec Ideal S2048x1024 .bf16) : ℕ → FVec Ideal S2048x1024 .bf16
  | 0 => w0
  | 1 => w1
  | _ => w2

/-- The projection of the rows. -/
def qkvBlock (x : FVec Ideal S256x2048 .bf16) (w0 w1 w2 : FVec Ideal S2048x1024 .bf16) : FVec Ideal S256x3072 .bf16 := fun y =>
  truncf .bf16 (a3 x (third w0 w1 w2 ((y 1).val / 256 / 4)) ⟨(y 1).val / 256 % 4, Nat.mod_lt _ (by decide)⟩) bitsLt_bf16_f32 (within y)

theorem wts_eq (σ : St) (n : ℕ) : wts σ n = third (σ .w0) (σ .w1) (σ .w2) n := by
  match n with
  | 0 => rfl
  | 1 => rfl
  | _ + 2 => rfl

/-- After `n` blocks the first `256 n` columns are the projection's. -/
theorem stored_at (σ : St) (n : ℕ) (y : S256x3072.Idx) (h : (y 1).val < 256 * n) :
    stored σ n y = qkvBlock (σ .u) (σ .w0) (σ .w1) (σ .w2) y := by
  induction n with
  | zero => exact absurd h (by omega)
  | succ n ih =>
    unfold stored put
    split
    · rename_i hh
      have h1 : 256 * n ≤ (y 1).val ∧ (y 1).val < 256 * n + 256 := hh (1 : Fin 2)
      have hd : (y 1).val / 256 = n := by omega
      subst hd
      unfold qkvBlock piece
      rw [wts_eq]
      refine congrArg (truncf .bf16 (a3 (σ .u) (third (σ .w0) (σ .w1) (σ .w2) ((y 1).val / 256 / 4)) ⟨(y 1).val / 256 % 4, Nat.mod_lt _ (by decide)⟩) bitsLt_bf16_f32) (funext fun a => Fin.ext ?_)
      match a with
      | ⟨0, _⟩ => show (y 0).val - 0 = (y 0).val; omega
      | ⟨1, _⟩ => show (y 1).val - 256 * ((y 1).val / 256) = (y 1).val % 256; omega
    · rename_i hh
      refine ih ?_
      by_contra hc
      refine hh fun a => ?_
      match a with
      | ⟨0, _⟩ => exact ⟨Nat.zero_le _, by have : (y 0).val < 256 := (y 0).isLt; show (y 0).val < 0 + 256; omega⟩
      | ⟨1, _⟩ => exact ⟨by show 256 * n ≤ (y 1).val; omega, by show (y 1).val < 256 * n + 256; omega⟩

/-- After all twelve, all are. -/
theorem stored_all (σ : St) : stored σ 12 = qkvBlock (σ .u) (σ .w0) (σ .w1) (σ .w2) :=
  funext fun y => stored_at σ 12 y (by have : (y 1).val < 3072 := (y 1).isLt; omega)

end Cert.Kernel4Ideal.Qkv

end
-- ==== Proof.Qkv.Run.lean ====
/-
  The fused convolution and projection at a point of the grid and over the whole of it: what its blocks hold there, what
  it leaves, and that the run ends with the projection's array made of those blocks and the arguments as they were. The
  convolution's window is forgotten: nothing is said of what it ends with.
-/
module

public import proofs.«01_k».proof.Proof.Qkv.Whole
public import proofs.«01_k».proof.Proof.Qkv.Block
public import proofs.«01_k».proof.Proof.Gen.Kernel4Ideal.Frame.Runs
public import Idealize.ShloMosaic.Lib.Pipeline.BigSepL
public import Idealize.ShloMosaic.Lib.Claim

@[expose] public section

set_option maxRecDepth 16384

noncomputable section

namespace Cert.Kernel4Ideal.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel4Ideal Cert.Kernel4Ideal.Gen
open Cert.Straight (Own Cont)
open Cert.Around

/-! ## The memrefs at a point -/

/-- The memrefs followed at point `t`: each window's current buffer, and the rows' copy, -/
def mems (t : Fin cfg0.N) : Mems
  | .a => ms0_0 t
  | .g => ms0_1 t
  | .w => ms0_2 t
  | .b => ms0_3 t
  | .lw => ms0_4 t
  | .lb => ms0_5 t
  | .u => ms0_6 t
  | .w0 => ms0_7 t
  | .w1 => ms0_8 t
  | .w2 => ms0_9 t
  | .qkv => ms0_11 t
  | .lhs => scM0_3

theorem mems_whole (t : Fin cfg0.N) : ∀ b, (mems t b).IsWhole
  | .a => hs0_0 t
  | .g => hs0_1 t
  | .w => hs0_2 t
  | .b => hs0_3 t
  | .lw => hs0_4 t
  | .lb => hs0_5 t
  | .u => hs0_6 t
  | .w0 => hs0_7 t
  | .w1 => hs0_8 t
  | .w2 => hs0_9 t
  | .qkv => hs0_11 t
  | .lhs => Memref.isWhole_whole _

/-- and the others. -/
def others (t : Fin cfg0.N) : Outs
  | .o => ms0_10 t
  | .ub => scM0_0
  | .cb => scM0_1
  | .sh => scM0_2

theorem others_whole (t : Fin cfg0.N) : ∀ d, (others t d).IsWhole
  | .o => hs0_10 t
  | .ub => Memref.isWhole_whole _
  | .cb => Memref.isWhole_whole _
  | .sh => Memref.isWhole_whole _

local notation "𝕄" => MT nD τ sig Unit (Elt Ideal) ℕ (UR sig nD τ) ℕ

/-- The body the pipeline calls at point `t` is the kernel on these memrefs. -/
theorem bodyAt0_eq (t : Fin cfg0.N) : (bodyAt0 t : Prog (TpuEff nD τ sig (Elt Ideal) Λ₀ .tc) PUnit)
    = on (mems t) (mems_whole t) (others t) (others_whole t) (cc0_conformer_qkv (F := Ideal) (grid0.coords t)) := rfl

/-- The memrefs one by one. -/
theorem own_split (c : Dev nD) (t : Fin cfg0.N) (σ : St) :
    (Own (c : Thread nD τ) (mems t) σ : sProp 𝕄)
      = iprop(owns (c : Thread nD τ) (mems t Cell.a) fullShare (σ Cell.a)
          ∗ owns (c : Thread nD τ) (mems t Cell.g) fullShare (σ Cell.g)
          ∗ owns (c : Thread nD τ) (mems t Cell.w) fullShare (σ Cell.w)
          ∗ owns (c : Thread nD τ) (mems t Cell.b) fullShare (σ Cell.b)
          ∗ owns (c : Thread nD τ) (mems t Cell.lw) fullShare (σ Cell.lw)
          ∗ owns (c : Thread nD τ) (mems t Cell.lb) fullShare (σ Cell.lb)
          ∗ owns (c : Thread nD τ) (mems t Cell.u) fullShare (σ Cell.u)
          ∗ owns (c : Thread nD τ) (mems t Cell.w0) fullShare (σ Cell.w0)
          ∗ owns (c : Thread nD τ) (mems t Cell.w1) fullShare (σ Cell.w1)
          ∗ owns (c : Thread nD τ) (mems t Cell.w2) fullShare (σ Cell.w2)
          ∗ owns (c : Thread nD τ) (mems t Cell.qkv) fullShare (σ Cell.qkv)
          ∗ owns (c : Thread nD τ) (mems t Cell.lhs) fullShare (σ Cell.lhs)) := by
  unfold Own
  rw [bigSep_univ_eq_bigSepL [Cell.a, Cell.g, Cell.w, Cell.b, Cell.lw, Cell.lb, Cell.u, Cell.w0, Cell.w1, Cell.w2, Cell.qkv, Cell.lhs] (by decide) (by decide)]
  rfl

theorem others_split (c : Dev nD) (t : Fin cfg0.N) (ψ : Cont (Elt Ideal) shd ed) :
    (Own (c : Thread nD τ) (others t) ψ : sProp 𝕄)
      = iprop(owns (c : Thread nD τ) (others t Out.o) fullShare (ψ Out.o)
          ∗ owns (c : Thread nD τ) (others t Out.ub) fullShare (ψ Out.ub)
          ∗ owns (c : Thread nD τ) (others t Out.cb) fullShare (ψ Out.cb)
          ∗ owns (c : Thread nD τ) (others t Out.sh) fullShare (ψ Out.sh)) := by
  unfold Own
  rw [bigSep_univ_eq_bigSepL [Out.o, Out.ub, Out.cb, Out.sh] (by decide) (by decide)]
  rfl

/-- Contents of the others. -/
def outsAt (o : FVec Ideal S256x1024 .bf16) (ub : FVec Ideal S288x1024 .f32) (cb : FVec Ideal S256x1024 .f32) (sh : FVec Ideal S7x280x1024 .f32) : Cont (Elt Ideal) shd ed
  | .o => o
  | .ub => ub
  | .cb => cb
  | .sh => sh

/-! ## What the kernel finds and leaves -/

variable (m : (ℓ : Loc nD τ sig) → Buf (Elt Ideal) ℓ) (ρ : Dev nD → PrngReg)

/-- The projection's block at a point. -/
def qkvAt (c : Dev nD) (t : Fin cfg0.N) : FVec Ideal S256x3072 .bf16 := qkvBlock (iblk m c 6 t) (iblk m c 7 t) (iblk m c 8 t) (iblk m c 9 t)

/-- The pipeline's data: each input block stays, the projection's is the kernel's function of them; a forgotten window's contents may be any. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => qkvAt m c t
  Φ _ := Pipeline.ΦA spec0 c
  q w := Pipeline.shareOf spec0 w
  owed _ := 0

/-- The windows forgotten. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => false

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_11 (c : Dev nD) (t : Fin cfg0.N) : (dats m 0 c).after 11 t = qkvAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d

/-- The contents followed at point `t`. -/
def stateAt (c : Dev nD) (t : Fin cfg0.N) (q : FVec Ideal S256x3072 .bf16) (l : FVec Ideal S256x2048 .bf16) : St
  | .a => iblk m c 0 t
  | .g => iblk m c 1 t
  | .w => iblk m c 2 t
  | .b => iblk m c 3 t
  | .lw => iblk m c 4 t
  | .lb => iblk m c 5 t
  | .u => iblk m c 6 t
  | .w0 => iblk m c 7 t
  | .w1 => iblk m c 8 t
  | .w2 => iblk m c 9 t
  | .qkv => q
  | .lhs => l

/-- The kernel at a point. -/
theorem sound_point (c : Dev nD) (t : Fin cfg0.N) (q : FVec Ideal S256x3072 .bf16) (l : FVec Ideal S256x2048 .bf16) (ψ : Cont (Elt Ideal) shd ed) :
    (iprop(Own (c : Thread nD τ) (mems t) (stateAt m c t q l) ∗ Own (c : Thread nD τ) (others t) ψ) : sProp 𝕄)
      ⊢ wp frame (wpE (defs₀ (F := Ideal)) Variants.none c none) Set.univ (bodyAt0 t) fun _ =>
        iprop(Own (c : Thread nD τ) (mems t) (stateAt m c t (qkvAt m c t) (iblk m c 6 t)) ∗ ∃ ψ', Own (c : Thread nD τ) (others t) ψ') := by
  rw [bodyAt0_eq]
  refine (Runs.sound _ _ _ _ _ (whole (h := mems_whole t) (hJ := others_whole t) (grid0.coords t) (stateAt m c t q l)) ψ).trans
    (wp_mono _ _ _ fun _ => ?_)
  iintro ⟨%σ', %e, H⟩
  have e' : σ' = stateAt m c t (qkvAt m c t) (iblk m c 6 t) := by
    rw [e]
    funext b
    cases b
    case qkv => exact stored_all _
    all_goals rfl
  subst e'
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ X, owns (c : Thread nD τ) (ms0_10 t) fullShare X)
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, owns (c : Thread nD τ) (ms0_10 t) fullShare X)
    ∗ owns (c : Thread nD τ) (ms0_11 t) fullShare ((dats m 0 c).after 11 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6, before_7, before_8, before_9]
  rw [show (dats m 0 c).owesAt () t.succ = (dats m 0 c).owesAt () t.castSucc from rfl, after_0, after_1, after_2, after_3, after_4, after_5, after_6, after_7, after_8, after_9, after_11,
    show (dats m 0 c).Φ t.succ = Pipeline.ΦA spec0 c from rfl, show (dats m 0 c).Φ t.castSucc = Pipeline.ΦA spec0 c from rfl, PhiA0_eq]
  iintro ⟨⟨⟨⟨%s0, HS0⟩, ⟨%s1, HS1⟩, ⟨%s2, HS2⟩, ⟨%s3, HS3⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hp := sound_point m c t ((dats m 0 c).before 11 t d11) s3 (outsAt d10 s0 s1 s2)
  rw [own_split, others_split] at hp
  iapply (wp_wand_r _ _ _)
  isplitl [H0 H1 H2 H3 H4 H5 H6 H7 H8 H9 H10 H11 HS0 HS1 HS2 HS3]
  · iapply hp
    isplitl [H0 H1 H2 H3 H4 H5 H6 H7 H8 H9 H11 HS3]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      iexact HS3
    · isplitl [H10]; · iexact H10
      isplitl [HS0]; · iexact HS0
      isplitl [HS1]; · iexact HS1
      iexact HS2
  iintro %a ⟨HO, ⟨%ψ, HU⟩⟩
  ihave HO := (Entails.of_eq (own_split c t _)) $$ HO
  ihave HU := (Entails.of_eq (others_split c t _)) $$ HU
  icases HO with ⟨H0, H1, H2, H3, H4, H5, H6, H7, H8, H9, H11, HS3⟩
  icases HU with ⟨H10, HS0, HS1, HS2⟩
  isplitl [HS0 HS1 HS2 HS3 HR]
  · isplitr [HR]
    · isplitl [HS0]; · iexists _; iexact HS0
      isplitl [HS1]; · iexists _; iexact HS1
      isplitl [HS2]; · iexists _; iexact HS2
      iexists _; iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iexact H11

theorem defs₀_row (t : Fin cfg0.N) : defs₀ (F := Ideal) .tc cfg0.body (cfg0.bodyArgs t (cfg0.slots t)) = bodyAt0 t := by
  unfold defs₀; rw [Defs.onTc_tc]

/-- What the launch asks of every point. -/
theorem body_obligation (c : Dev nD) : BodyObligation (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
/-- The run: the arrays but the forgotten ones end at what the data says, every other buffer as found, every counter at
    zero. -/
theorem run_all : θ_run defs (onTc (τ := τ) (main (F := Ideal))) (s₀ m ρ)
    (fun r => RDat.FramePost cfg0 (fun c => (dats m 0 c).toRForget fgt) (V m) r ∧ r.2.sem = fun _ => 0) :=
  Pipeline.θ_run_frame_track_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The arguments end as they were. -/
theorem args_of (r : PUnit × MemSt nD τ sig (Elt Ideal)) (h : RDat.FramePost cfg0 (fun c => (dats m 0 c).toRForget fgt) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h.arr_in c 0 rfl).trans ((A_eq m c 0).trans (V_main_arg0 m c)),
    (h.arr_in c 6 rfl).trans ((A_eq m c 6).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The projection's array ends at what the data says. -/
theorem proj_of (r : PUnit × MemSt nD τ sig (Elt Ideal)) (h : RDat.FramePost cfg0 (fun c => (dats m 0 c).toRForget fgt) (V m) r) (c : Dev nD) :
    r.2.mem ((c.tc : Thread nD τ).loc main_v6_1) = (dats m 0 c).arrAt 11 cfg0.N :=
  ((dats m 0 c).toRForget_arrAt_iff (fgt := fgt) (w := 11) rfl cfg0.N _).mp ((h c).1 11)

/-- The frame: the arguments end as they were, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m r h.1 c, h.2⟩) (run_all m ρ)

end Cert.Kernel4Ideal.Qkv

end
-- ==== Proof.Qkv.Value.lean ====
/-
  The projection's array in numbers: an entry is the product of a row with a column of the weights, the columns from
  2048 on. The kernel adds four quarters of that sum one after the other. The blocks written at the grid's points cover
  the array.
-/
module

public import proofs.«01_k».proof.Proof.Qkv.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel4Ideal.Qkv

open Idealize.ShloMosaic Idealize.ShloMosaic.TcCoe
open Idealize.SL Idealize.SL.Sem
open Idealize.ShloMosaic.Pipeline (Dat Cfg Window)
open Cert.Kernel4Ideal Cert.Kernel4Ideal.Gen
open VecWindow (window put)

/-! ## Numbers -/

/-- The projection. -/
def projected (u : FVec Ideal S16384x2048 .bf16) (w : FVec Ideal S2048x5120 .f32) : FVec Ideal S16384x3072 .bf16 := fun i =>
  ∑ k : Fin 2048, (u (ix2 ⟨(i 0).val, (i 0).isLt⟩ k) : EReal) * w (ix2 k ⟨2048 + (i 1).val, by have : (i 1).val < 3072 := (i 1).isLt; omega⟩)

/-- A sum over 2048 in four quarters. -/
theorem sum_quarters (f : Fin 2048 → EReal) :
    ∑ k : Fin 2048, f k = (((∑ n : Fin 512, f ⟨512 * 0 + n.val, by omega⟩) + ∑ n : Fin 512, f ⟨512 * 1 + n.val, by omega⟩)
      + ∑ n : Fin 512, f ⟨512 * 2 + n.val, by omega⟩) + ∑ n : Fin 512, f ⟨512 * 3 + n.val, by omega⟩ := by
  refine (Fin.sum_univ_add (a := 1536) (b := 512) f).trans (congrArg₂ (· + ·)
    ((Fin.sum_univ_add (a := 1024) (b := 512) _).trans (congrArg₂ (· + ·)
      ((Fin.sum_univ_add (a := 512) (b := 512) _).trans (congrArg₂ (· + ·) ?_ ?_)) ?_)) ?_)
  · exact Finset.sum_congr rfl fun n _ => congrArg f (Fin.ext (by show n.val = 512 * 0 + n.val; omega))
  all_goals exact Finset.sum_congr rfl fun n _ => congrArg f (Fin.ext rfl)

/-! ## The kernel's function at an index -/

theorem product_at (x : FVec Ideal S256x512 .bf16) (w : FVec Ideal S512x256 .bf16) (r e : Fin 256) :
    (matmul dot_S256x512_S512x256_S256x256_1_0_0_1_n_n none x w (constant S256x256 .f32 0x00000000#32) : FVec Ideal S256x256 .f32) (ix2 r e)
      = ∑ n : Fin 512, (x (ix2 r n) : EReal) * w (ix2 n e) := by
  pointwise []

theorem prod_at (x : FVec Ideal S256x2048 .bf16) (w : FVec Ideal S2048x1024 .bf16) (k j : Fin 4) (r e : Fin 256) :
    prod x w k j (ix2 r e) = ∑ n : Fin 512, (x (ix2 r ⟨512 * k.val + n.val, by omega⟩) : EReal)
      * w (ix2 ⟨512 * k.val + n.val, by omega⟩ ⟨256 * j.val + e.val, by omega⟩) := by
  unfold prod
  refine (product_at _ _ r e).trans (Finset.sum_congr rfl fun n _ => congrArg₂ (· * ·) ?_ ?_)
  · refine congrArg x (funext fun a => Fin.ext ?_)
    match a with
    | ⟨0, _⟩ => show 0 + 1 * r.val = r.val; omega
    | ⟨1, _⟩ => show 512 * k.val + 1 * n.val = 512 * k.val + n.val; omega
  · have e0 : shapeCast S512x256 (window w ![512 * k.val, 256 * j.val] S512x256.size (inw k j)) shapeCasts_S512x256_S512x256
        = window w ![512 * k.val, 256 * j.val] S512x256.size (inw k j) := shapeCast_self _ _
    refine (congrFun e0 (ix2 n e)).trans (congrArg w (funext fun a => Fin.ext ?_))
    match a with
    | ⟨0, _⟩ => show 512 * k.val + 1 * n.val = 512 * k.val + n.val; omega
    | ⟨1, _⟩ => show 256 * j.val + 1 * e.val = 256 * j.val + e.val; omega

theorem all_at (x : FVec Ideal S256x2048 .bf16) (w : FVec Ideal S2048x1024 .bf16) (j : Fin 4) (r e : Fin 256) :
    a3 x w j (ix2 r e) = ∑ k : Fin 2048, (x (ix2 r k) : EReal) * w (ix2 k ⟨256 * j.val + e.val, by omega⟩) := by
  rw [sum_quarters]
  have p0 := prod_at x w 0 j r e
  have p1 := prod_at x w 1 j r e
  have p2 := prod_at x w 2 j r e
  have p3 := prod_at x w 3 j r e
  exact congrArg₂ (· + ·) (congrArg₂ (· + ·) (congrArg₂ (· + ·) p0 p1) p2) p3

theorem block_at (x : FVec Ideal S256x2048 .bf16) (w0 w1 w2 : FVec Ideal S2048x1024 .bf16) (r : Fin 256) (e : Fin 3072) :
    qkvBlock x w0 w1 w2 (ix2 r e)
      = ∑ k : Fin 2048, (x (ix2 r k) : EReal) * third w0 w1 w2 (e.val / 1024) (ix2 k ⟨e.val % 1024, Nat.mod_lt _ (by decide)⟩) := by
  refine (all_at x (third w0 w1 w2 (e.val / 256 / 4)) ⟨e.val / 256 % 4, Nat.mod_lt _ (by decide)⟩ r ⟨e.val % 256, Nat.mod_lt _ (by decide)⟩).trans ?_
  refine Finset.sum_congr rfl fun k _ => congrArg (x (ix2 r k) * ·) ?_
  rw [show e.val / 256 / 4 = e.val / 1024 by omega]
  refine congrArg (fun q => third w0 w1 w2 (e.val / 1024) (ix2 k q)) (Fin.ext ?_)
  show 256 * (e.val / 256 % 4) + e.val % 256 = e.val % 1024
  omega

/-! ## Where the blocks lie -/

variable (m : (ℓ : Loc nD τ sig) → Buf (Elt Ideal) ℓ) (ρ : Dev nD → PrngReg)

theorem idx6 : ∀ t : Fin cfg0.N, win0_6.index t = ![t.val, 0] := (by decide +kernel : ∀ t : Fin grid0.N, win0_6.index t = ![t.val, 0])
theorem idx7 : ∀ t : Fin cfg0.N, win0_7.index t = ![0, 2] := (by decide +kernel : ∀ t : Fin grid0.N, win0_7.index t = ![0, 2])
theorem idx8 : ∀ t : Fin cfg0.N, win0_8.index t = ![0, 3] := (by decide +kernel : ∀ t : Fin grid0.N, win0_8.index t = ![0, 3])
theorem idx9 : ∀ t : Fin cfg0.N, win0_9.index t = ![0, 4] := (by decide +kernel : ∀ t : Fin grid0.N, win0_9.index t = ![0, 4])
theorem idx11 : ∀ t : Fin cfg0.N, win0_11.index t = ![t.val, 0] := (by decide +kernel : ∀ t : Fin grid0.N, win0_11.index t = ![t.val, 0])

theorem points (t : Fin cfg0.N) : t.val < 64 := t.isLt

/-! ## What they hold -/

theorem u_at (c : Dev nD) (t : Fin cfg0.N) (r : Fin 256) (e : Fin 2048) :
    (iblk m c 6 t : FVec Ideal S256x2048 .bf16) (ix2 r e)
      = (m ((c.tc : Thread nD τ).loc main_arg1) : FVec Ideal S16384x2048 .bf16) (ix2 ⟨t.val * 256 + r.val, by have := points t; omega⟩ e) := by
  blk_ext! [iblk, V, idx6 t]

theorem w0_at (c : Dev nD) (t : Fin cfg0.N) (k : Fin 2048) (e : Fin 1024) :
    (iblk m c 7 t : FVec Ideal S2048x1024 .bf16) (ix2 k e)
      = (m ((c.tc : Thread nD τ).loc main_arg2) : FVec Ideal S2048x5120 .f32) (ix2 k ⟨2 * 1024 + e.val, by omega⟩) := by
  blk_ext! [iblk, V, idx7 t]

theorem w1_at (c : Dev nD) (t : Fin cfg0.N) (k : Fin 2048) (e : Fin 1024) :
    (iblk m c 8 t : FVec Ideal S2048x1024 .bf16) (ix2 k e)
      = (m ((c.tc : Thread nD τ).loc main_arg2) : FVec Ideal S2048x5120 .f32) (ix2 k ⟨3 * 1024 + e.val, by omega⟩) := by
  blk_ext! [iblk, V, idx8 t]

theorem w2_at (c : Dev nD) (t : Fin cfg0.N) (k : Fin 2048) (e : Fin 1024) :
    (iblk m c 9 t : FVec Ideal S2048x1024 .bf16) (ix2 k e)
      = (m ((c.tc : Thread nD τ).loc main_arg2) : FVec Ideal S2048x5120 .f32) (ix2 k ⟨4 * 1024 + e.val, by omega⟩) := by
  blk_ext! [iblk, V, idx9 t]

/-! ## The result -/

variable {m}

/-- The arguments. -/
abbrev uArg (m : (ℓ : Loc nD τ sig) → Buf (Elt Ideal) ℓ) (c : Dev nD) : FVec Ideal S16384x2048 .bf16 := m ((c.tc : Thread nD τ).loc main_arg1)
abbrev wArg (m : (ℓ : Loc nD τ sig) → Buf (Elt Ideal) ℓ) (c : Dev nD) : FVec Ideal S2048x5120 .f32 := m ((c.tc : Thread nD τ).loc main_arg2)

theorem third_at (c : Dev nD) (t : Fin cfg0.N) (k : Fin 2048) (e : Fin 3072) :
    third (iblk m c 7 t) (iblk m c 8 t) (iblk m c 9 t) (e.val / 1024) (ix2 k ⟨e.val % 1024, Nat.mod_lt _ (by decide)⟩)
      = wArg m c (ix2 k ⟨2048 + e.val, by omega⟩) := by
  have h : e.val / 1024 = 0 ∨ e.val / 1024 = 1 ∨ e.val / 1024 = 2 := by omega
  have go : ∀ q (hq : q * 1024 + e.val % 1024 < 5120), q * 1024 + e.val % 1024 = 2048 + e.val →
      wArg m c (ix2 k ⟨q * 1024 + e.val % 1024, hq⟩) = wArg m c (ix2 k ⟨2048 + e.val, by omega⟩) := fun q hq hh =>
    congrArg (fun z => wArg m c (ix2 k z)) (Fin.ext hh)
  rcases h with h | h | h
  · rw [h]; exact (w0_at m c t k _).trans (go 2 (by omega) (by omega))
  · rw [h]; exact (w1_at m c t k _).trans (go 3 (by omega) (by omega))
  · rw [h]; exact (w2_at m c t k _).trans (go 4 (by omega) (by omega))

theorem qkvAt_at (c : Dev nD) (t : Fin cfg0.N) (r : Fin 256) (e : Fin 3072) :
    qkvAt m c t (ix2 r e) = projected (uArg m c) (wArg m c) (ix2 ⟨t.val * 256 + r.val, by have := points t; omega⟩ e) := by
  unfold qkvAt
  refine (block_at _ _ _ _ r e).trans (Finset.sum_congr rfl fun k _ => ?_)
  rw [third_at, u_at]
  rfl

/-- An index by its coordinates. -/
theorem eq_ix2 {a b : ℕ} (y : (⟨2, ![a, b]⟩ : Shape).Idx) : y = ix2 (⟨(y 0).val, (y 0).isLt⟩ : Fin a) (⟨(y 1).val, (y 1).isLt⟩ : Fin b) := by
  funext k
  match k with
  | ⟨0, _⟩ => rfl
  | ⟨1, _⟩ => rfl

theorem final_qkv (c : Dev nD) : (dats m 0 c).arrAt 11 cfg0.N = projected (uArg m c) (wArg m c) := by
  refine (dats m 0 c).arrAt_eq_of_covers 11 _ (by decide +kernel) fun t hf y => ?_
  blk_simp
  rw [after_11]
  have h0 : (y 0).val < 256 := (y 0).isLt
  have h1 : (y 1).val < 3072 := (y 1).isLt
  have e0 : (((win0_11.blk t).view.emb y 0 : Fin _) : ℕ) = t.val * 256 + (y 0).val := by
    blk_simp [idx11 t]
  have e1 : (((win0_11.blk t).view.emb y 1 : Fin _) : ℕ) = (y 1).val := by
    blk_simp [idx11 t]
  refine ((congrArg (qkvAt m c t) (eq_ix2 (a := 256) (b := 3072) y)).trans (qkvAt_at c t _ _)).trans ?_
  refine congrArg (projected (uArg m c) (wArg m c)) (funext fun k => Fin.ext ?_)
  match k with
  | ⟨0, _⟩ => exact e0.symm
  | ⟨1, _⟩ => exact e1.symm

/-- The kernel's run. -/
theorem value_run :
    θ_run defs (onTc (τ := τ) (main (F := Ideal))) ⟨m, fun _ => 0, ρ⟩ (fun r => ∀ c : Dev nD,
      r.2.mem ((c.tc : Thread nD τ).loc main_v6_1) = projected (uArg m c) (wArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(proj_of m r h.1 c).trans (final_qkv c), args_of m r h.1 c⟩) (run_all m ρ)

end Cert.Kernel4Ideal.Qkv

end
-- ==== Proof.Qkv.Algebraic.lean ====
/-
  The projection's value claim: the kernel and the reference end with the same array. Nothing is asked of the
  arguments.
-/
module

public import proofs.«01_k».proof.Defs
public import proofs.«01_k».proof.Proof.Qkv.Value
public import proofs.«01_k».proof.Proof.Gen.Kernel4Ideal
public import proofs.«01_k».proof.Proof.Gen.Reference4Ideal
public import proofs.«01_k».proof.Proof.Gen.Reference4Ideal.Run

@[expose] public section

set_option maxRecDepth 16384

noncomputable section

namespace Cert.Reference4Ideal.Qkv

open Idealize.ShloMosaic Idealize.ShloMosaic.TcCoe
open Cert.Reference4Ideal Cert.Reference4Ideal.Gen

/-! ## The reference at an index -/

/-- The product with the columns from 2048 on. -/
def product (u : FVec Ideal S16384x2048 .bf16) (w : FVec Ideal S2048x5120 .f32) : FVec Ideal S16384x3072 .bf16 :=
  truncf .bf16 (Host.dotGeneral dot_S16384x2048_S2048x3072_S16384x3072_1_0_0_1_n_n none (extf .f32 u bitsLt_bf16_f32 : FVec Ideal S16384x2048 .f32)
    (extractStridedSlice S2048x3072 ![0, 2048] w slices_S2048x5120_S2048x3072_0_2048) : FVec Ideal S16384x3072 .f32) bitsLt_bf16_f32

theorem product_at (u : FVec Ideal S16384x2048 .bf16) (w : FVec Ideal S2048x5120 .f32) (r : Fin 16384) (e : Fin 3072) :
    product u w (ix2 r e) = ∑ k : Fin 2048, (u (ix2 r k) : EReal) * w (ix2 k ⟨2048 + e.val, by omega⟩) := by
  pointwise [product]

/-- The reference's array. -/
theorem product_eq (u : FVec Ideal S16384x2048 .bf16) (w : FVec Ideal S2048x5120 .f32) : product u w = Cert.Kernel4Ideal.Qkv.projected u w := by
  funext i
  exact (congrArg (product u w) (Cert.Kernel4Ideal.Qkv.eq_ix2 (a := 16384) (b := 3072) i)).trans (product_at _ _ _ _)

end Cert.Reference4Ideal.Qkv

namespace Cert.Qkv

open Idealize.ShloMosaic Idealize.ShloMosaic.TcCoe Idealize.SL.Sem

theorem algebraic :
    haveI := Cert.Kernel4Ideal.Gen.facts
    haveI := Cert.Reference4Ideal.Gen.facts
    Cert.algebraic_Kernel4Ideal_Reference4Ideal := by
  intro m ρ m' ρ' _ hagree
  refine ⟨_, Cert.Kernel4Ideal.Qkv.value_run ρ, ?_⟩
  refine (θ_run Cert.Reference4Ideal.defs _ _).mono (fun _ h c => ⟨(h c).1.trans ?_, (h c).2⟩) (Cert.Reference4Ideal.Value.run (F := Ideal) m' ρ')
  obtain ⟨_, e1, e2, _⟩ := hagree c
  rw [e1, e2]
  exact Cert.Reference4Ideal.Qkv.product_eq _ _

end Cert.Qkv

end
-- ==== Proof.lean ====
/-
  The proof of `Cert.Claim`: for the attention, the frames of the kernel as printed and idealized (`Proof/Run.lean` and
  its twin `Proof/Kernel/Run.lean`), the frame of the reference, that the named mask is minus infinity, and that kernel
  and reference end with the same array (`Proof/Algebraic.lean`); the same for the normalised input and its projection
  (`Proof/Proj/`), for the sum after the output projection (`Proof/Mix/`) and for the projection to queries, keys and
  values beside the convolution (`Proof/Qkv/`).
-/
module

public import proofs.«01_k».proof.Defs
public import proofs.«01_k».proof.Proof.Run
public import proofs.«01_k».proof.Proof.Algebraic
public import proofs.«01_k».proof.Proof.Kernel.Run
public import proofs.«01_k».proof.Proof.Proj.Run
public import proofs.«01_k».proof.Proof.Proj.Algebraic
public import proofs.«01_k».proof.Proof.Proj.Kernel.Run
public import proofs.«01_k».proof.Proof.Mix.Kernel.Run
public import proofs.«01_k».proof.Proof.Mix.Algebraic
public import proofs.«01_k».proof.Proof.Qkv.Kernel.Run
public import proofs.«01_k».proof.Proof.Qkv.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame.Runs
public import proofs.«01_k».proof.Proof.Gen.Kernel4Ideal
public import proofs.«01_k».proof.Proof.Gen.Kernel4Ideal.Frame.Runs
public import proofs.«01_k».proof.Proof.Gen.Reference4Ideal
public import proofs.«01_k».proof.Proof.Gen.Reference4Ideal.Run
public import Idealize.ShloMosaic.Lib.Bf16Pair
public import Idealize.ShloMosaic.Adequacy
public import Idealize.ShloMosaic.Init

@[expose] public section

noncomputable section

namespace Cert.Proof

open Idealize.ShloMosaic Idealize.SL.Sem

/-- The reference's frame holds of every memory. -/
theorem reference_frame : haveI := Cert.ReferenceIdeal.Gen.facts; Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- and so does the projection's reference's. -/
theorem reference2_frame : haveI := Cert.Reference2Ideal.Gen.facts; Cert.quiescent_Reference2Ideal := fun m ρ _ =>
  (θ_run Cert.Reference2Ideal.defs _ _).mono
    (fun r h => ⟨fun c => (h c).2.2, Idealize.ShloMosaic.sem_eq_zero_of_no_sems (by decide) r.2⟩) (Cert.Reference2Ideal.Value.run (F := Ideal) m ρ)

/-- and the output projection's. -/
theorem reference3_frame : haveI := Cert.Reference3Ideal.Gen.facts; Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

/-- and the one to queries, keys and values. -/
theorem reference4_frame : haveI := Cert.Reference4Ideal.Gen.facts; Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

theorem claim : Cert.Claim :=
  haveI := Cert.Algebraic.pre_facts
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Algebraic.pre_facts,
    fun m ρ _ => Cert.Kernel.Attn.frame m ρ, fun m ρ _ => Cert.KernelIdeal.Attn.frame m ρ, fun m ρ _ => Cert.KernelIdeal.Attn.frame m ρ,
    reference_frame, fun m ρ _ => reference_frame m ρ trivial,
    fun m ρ _ => Cert.Kernel2.Proj.frame m ρ, fun m ρ _ => Cert.Kernel2Ideal.Proj.frame m ρ, reference2_frame,
    fun m ρ _ => Cert.Kernel3.Mix.frame m ρ, fun m ρ _ => Cert.Kernel3Ideal.Mix.frame m ρ, reference3_frame,
    fun m ρ _ => Cert.Kernel4.Qkv.frame m ρ, fun m ρ _ => Cert.Kernel4Ideal.Qkv.frame m ρ, reference4_frame,
    IdealRules.named_const.statement Cert.KernelIdeal.κ "mask" .f32 0xF149F2CA#32 ⊥ rfl,
    Cert.Algebraic.algebraic, trivial, Cert.Proj.algebraic,
    ⟨IdealRules.bf16_pair.packStatement _, IdealRules.bf16_pair.statement _ _⟩, Cert.Mix.algebraic,
    IdealRules.shift_out.by16TwiceStatement _, Cert.Qkv.algebraic⟩

end Cert.Proof

end
